-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dp_finite [hPre_dp_finite : Cert.Pre_dp_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_dp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dp_finite [hPre_dp_finite : Cert.Pre_dp_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_dp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def Pre_AttnInputs (m : (ℓ : Loc Cert.AttnInputs.nD Cert.AttnInputs.τ Cert.AttnInputs.sig) → Buf (Elt Bits) ℓ) : Prop :=
  True

def Pre_AttnInputsIdeal (m : (ℓ : Loc Cert.AttnInputsIdeal.nD Cert.AttnInputsIdeal.τ Cert.AttnInputsIdeal.sig) → Buf (Elt Ideal) ℓ) : Prop :=
  True

def Pre_AttnInputsReferenceIdeal (m : (ℓ : Loc Cert.AttnInputsReferenceIdeal.nD Cert.AttnInputsReferenceIdeal.τ Cert.AttnInputsReferenceIdeal.sig) → Buf (Elt Ideal) ℓ) : Prop :=
  True

def Pre_AttnWeights (m : (ℓ : Loc Cert.AttnWeights.nD Cert.AttnWeights.τ Cert.AttnWeights.sig) → Buf (Elt Bits) ℓ) : Prop :=
  True

def Pre_AttnWeightsIdeal (m : (ℓ : Loc Cert.AttnWeightsIdeal.nD Cert.AttnWeightsIdeal.τ Cert.AttnWeightsIdeal.sig) → Buf (Elt Ideal) ℓ) : Prop :=
  True

def Pre_AttnWeightsReferenceIdeal (m : (ℓ : Loc Cert.AttnWeightsReferenceIdeal.nD Cert.AttnWeightsReferenceIdeal.τ Cert.AttnWeightsReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_all_finite [hPre_all_finite : Cert.Pre_all_finite.Facts] (m : (ℓ : Loc Cert.MixIdeal.nD Cert.MixIdeal.τ Cert.MixIdeal.sig) → Buf (Elt Ideal) ℓ) : Prop :=
  ∀ c : Dev Cert.MixIdeal.nD,
    (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.2.2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.2.2.2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.2.2.2.2.1 = (fun _ => 1#1)
    ∧ (Cert.Pre_all_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.2.2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_all_finite [hPre_all_finite : Cert.Pre_all_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.2.2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.2.2.2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.2.2.2.2.1 = (fun _ => 1#1)
    ∧ (Cert.Pre_all_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))).2.2.2.2.2.2.2.2.2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_weights_finite [hPre_weights_finite : Cert.Pre_weights_finite.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_weights_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5))).1 = (fun _ => 1#1)
    ∧ (Cert.Pre_weights_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5))).2.1 = (fun _ => 1#1)
    ∧ (Cert.Pre_weights_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5))).2.2.1 = (fun _ => 1#1)
    ∧ (Cert.Pre_weights_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5))).2.2.2 = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_weights_finite [hPre_weights_finite : Cert.Pre_weights_finite.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_weights_finite.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4)) (m ((c.tc : Thread Cert.ForwardReferenceIdeal.nD Cert.ForwardReferenceIdeal.τ).loc Cert.ForwardReferenceIdeal.main_arg5))).1 = (fun _ => 1#1)
    ∧ (Cert.Pre_weights_finite.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4)) (m ((c.tc : Thread Cert.ForwardReferenceIdeal.nD Cert.ForwardReferenceIdeal.τ).loc Cert.ForwardReferenceIdeal.main_arg5))).2.1 = (fun _ => 1#1)
    ∧ (Cert.Pre_weights_finite.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4)) (m ((c.tc : Thread Cert.ForwardReferenceIdeal.nD Cert.ForwardReferenceIdeal.τ).loc Cert.ForwardReferenceIdeal.main_arg5))).2.2.1 = (fun _ => 1#1)
    ∧ (Cert.Pre_weights_finite.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2)) (m ((c.tc : Thread Cert.ForwardReferenceIdeal.nD Cert.ForwardReferenceIdeal.τ).loc Cert.ForwardReferenceIdeal.main_arg3)) (m ((c.tc : Thread Cert.ForwardReferenceIdeal.nD Cert.ForwardReferenceIdeal.τ).loc Cert.ForwardReferenceIdeal.main_arg4)) (m ((c.tc : Thread Cert.ForwardReferenceIdeal.nD Cert.ForwardReferenceIdeal.τ).loc Cert.ForwardReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_dp_finite [hKernelIdeal : Cert.KernelIdeal.Facts] [hPre_dp_finite : Cert.Pre_dp_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dp_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_dp_finite [hReferenceIdeal : Cert.ReferenceIdeal.Facts] [hPre_dp_finite : Cert.Pre_dp_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dp_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def quiescent_AttnInputs [hAttnInputs : Cert.AttnInputs.Facts] : Prop :=
  ∀ (m : (ℓ : Loc Cert.AttnInputs.nD Cert.AttnInputs.τ Cert.AttnInputs.sig) → Buf (Elt Bits) ℓ) (g : Dev Cert.AttnInputs.nD → PrngReg), Pre_AttnInputs m →
    θ_run (Cert.AttnInputs.defs (F := Bits)) (onTc (τ := Cert.AttnInputs.τ) (Cert.AttnInputs.main (F := Bits))) ⟨m, fun _ => 0, g⟩ (fun r => (∀ c : Dev Cert.AttnInputs.nD,
      r.2.mem ((c.tc : Thread Cert.AttnInputs.nD Cert.AttnInputs.τ).loc Cert.AttnInputs.main_arg0) = m ((c.tc : Thread Cert.AttnInputs.nD Cert.AttnInputs.τ).loc Cert.AttnInputs.main_arg0)
      ∧ r.2.mem ((c.tc : Thread Cert.AttnInputs.nD Cert.AttnInputs.τ).loc Cert.AttnInputs.main_arg1) = m ((c.tc : Thread Cert.AttnInputs.nD Cert.AttnInputs.τ).loc Cert.AttnInputs.main_arg1)
      ∧ r.2.mem ((c.tc : Thread Cert.AttnInputs.nD Cert.AttnInputs.τ).loc Cert.AttnInputs.main_arg2) = m ((c.tc : Thread Cert.AttnInputs.nD Cert.AttnInputs.τ).loc Cert.AttnInputs.main_arg2)
      ∧ r.2.mem ((c.tc : Thread Cert.AttnInputs.nD Cert.AttnInputs.τ).loc Cert.AttnInputs.main_arg3) = m ((c.tc : Thread Cert.AttnInputs.nD Cert.AttnInputs.τ).loc Cert.AttnInputs.main_arg3)
      ∧ r.2.mem ((c.tc : Thread Cert.AttnInputs.nD Cert.AttnInputs.τ).loc Cert.AttnInputs.main_arg4) = m ((c.tc : Thread Cert.AttnInputs.nD Cert.AttnInputs.τ).loc Cert.AttnInputs.main_arg4)
      ∧ r.2.mem ((c.tc : Thread Cert.AttnInputs.nD Cert.AttnInputs.τ).loc Cert.AttnInputs.main_arg5) = m ((c.tc : Thread Cert.AttnInputs.nD Cert.AttnInputs.τ).loc Cert.AttnInputs.main_arg5)
      ∧ r.2.mem ((c.tc : Thread Cert.AttnInputs.nD Cert.AttnInputs.τ).loc Cert.AttnInputs.main_arg6) = m ((c.tc : Thread Cert.AttnInputs.nD Cert.AttnInputs.τ).loc Cert.AttnInputs.main_arg6)
      ∧ r.2.mem ((c.tc : Thread Cert.AttnInputs.nD Cert.AttnInputs.τ).loc Cert.AttnInputs.main_arg7) = m ((c.tc : Thread Cert.AttnInputs.nD Cert.AttnInputs.τ).loc Cert.AttnInputs.main_arg7))
      ∧ r.2.sem = fun _ => 0)

def quiescent_AttnInputsIdeal [hAttnInputsIdeal : Cert.AttnInputsIdeal.Facts] : Prop :=
  ∀ (m : (ℓ : Loc Cert.AttnInputsIdeal.nD Cert.AttnInputsIdeal.τ Cert.AttnInputsIdeal.sig) → Buf (Elt Ideal) ℓ) (g : Dev Cert.AttnInputsIdeal.nD → PrngReg), Pre_AttnInputsIdeal m →
    θ_run (Cert.AttnInputsIdeal.defs (F := Ideal)) (onTc (τ := Cert.AttnInputsIdeal.τ) (Cert.AttnInputsIdeal.main (F := Ideal))) ⟨m, fun _ => 0, g⟩ (fun r => (∀ c : Dev Cert.AttnInputsIdeal.nD,
      r.2.mem ((c.tc : Thread Cert.AttnInputsIdeal.nD Cert.AttnInputsIdeal.τ).loc Cert.AttnInputsIdeal.main_arg0) = m ((c.tc : Thread Cert.AttnInputsIdeal.nD Cert.AttnInputsIdeal.τ).loc Cert.AttnInputsIdeal.main_arg0)
      ∧ r.2.mem ((c.tc : Thread Cert.AttnInputsIdeal.nD Cert.AttnInputsIdeal.τ).loc Cert.AttnInputsIdeal.main_arg1) = m ((c.tc : Thread Cert.AttnInputsIdeal.nD Cert.AttnInputsIdeal.τ).loc Cert.AttnInputsIdeal.main_arg1)
      ∧ r.2.mem ((c.tc : Thread Cert.AttnInputsIdeal.nD Cert.AttnInputsIdeal.τ).loc Cert.AttnInputsIdeal.main_arg2) = m ((c.tc : Thread Cert.AttnInputsIdeal.nD Cert.AttnInputsIdeal.τ).loc Cert.AttnInputsIdeal.main_arg2)
      ∧ r.2.mem ((c.tc : Thread Cert.AttnInputsIdeal.nD Cert.AttnInputsIdeal.τ).loc Cert.AttnInputsIdeal.main_arg3) = m ((c.tc : Thread Cert.AttnInputsIdeal.nD Cert.AttnInputsIdeal.τ).loc Cert.AttnInputsIdeal.main_arg3)
      ∧ r.2.mem ((c.tc : Thread Cert.AttnInputsIdeal.nD Cert.AttnInputsIdeal.τ).loc Cert.AttnInputsIdeal.main_arg4) = m ((c.tc : Thread Cert.AttnInputsIdeal.nD Cert.AttnInputsIdeal.τ).loc Cert.AttnInputsIdeal.main_arg4)
      ∧ r.2.mem ((c.tc : Thread Cert.AttnInputsIdeal.nD Cert.AttnInputsIdeal.τ).loc Cert.AttnInputsIdeal.main_arg5) = m ((c.tc : Thread Cert.AttnInputsIdeal.nD Cert.AttnInputsIdeal.τ).loc Cert.AttnInputsIdeal.main_arg5)
      ∧ r.2.mem ((c.tc : Thread Cert.AttnInputsIdeal.nD Cert.AttnInputsIdeal.τ).loc Cert.AttnInputsIdeal.main_arg6) = m ((c.tc : Thread Cert.AttnInputsIdeal.nD Cert.AttnInputsIdeal.τ).loc Cert.AttnInputsIdeal.main_arg6)
      ∧ r.2.mem ((c.tc : Thread Cert.AttnInputsIdeal.nD Cert.AttnInputsIdeal.τ).loc Cert.AttnInputsIdeal.main_arg7) = m ((c.tc : Thread Cert.AttnInputsIdeal.nD Cert.AttnInputsIdeal.τ).loc Cert.AttnInputsIdeal.main_arg7))
      ∧ r.2.sem = fun _ => 0)

def quiescent_AttnInputsReferenceIdeal [hAttnInputsReferenceIdeal : Cert.AttnInputsReferenceIdeal.Facts] : Prop :=
  ∀ (m : (ℓ : Loc Cert.AttnInputsReferenceIdeal.nD Cert.AttnInputsReferenceIdeal.τ Cert.AttnInputsReferenceIdeal.sig) → Buf (Elt Ideal) ℓ) (g : Dev Cert.AttnInputsReferenceIdeal.nD → PrngReg), Pre_AttnInputsReferenceIdeal m →
    θ_run (Cert.AttnInputsReferenceIdeal.defs (F := Ideal)) (onTc (τ := Cert.AttnInputsReferenceIdeal.τ) (Cert.AttnInputsReferenceIdeal.main (F := Ideal))) ⟨m, fun _ => 0, g⟩ (fun r => (∀ c : Dev Cert.AttnInputsReferenceIdeal.nD,
      r.2.mem ((c.tc : Thread Cert.AttnInputsReferenceIdeal.nD Cert.AttnInputsReferenceIdeal.τ).loc Cert.AttnInputsReferenceIdeal.main_arg0) = m ((c.tc : Thread Cert.AttnInputsReferenceIdeal.nD Cert.AttnInputsReferenceIdeal.τ).loc Cert.AttnInputsReferenceIdeal.main_arg0)
      ∧ r.2.mem ((c.tc : Thread Cert.AttnInputsReferenceIdeal.nD Cert.AttnInputsReferenceIdeal.τ).loc Cert.AttnInputsReferenceIdeal.main_arg1) = m ((c.tc : Thread Cert.AttnInputsReferenceIdeal.nD Cert.AttnInputsReferenceIdeal.τ).loc Cert.AttnInputsReferenceIdeal.main_arg1)
      ∧ r.2.mem ((c.tc : Thread Cert.AttnInputsReferenceIdeal.nD Cert.AttnInputsReferenceIdeal.τ).loc Cert.AttnInputsReferenceIdeal.main_arg2) = m ((c.tc : Thread Cert.AttnInputsReferenceIdeal.nD Cert.AttnInputsReferenceIdeal.τ).loc Cert.AttnInputsReferenceIdeal.main_arg2)
      ∧ r.2.mem ((c.tc : Thread Cert.AttnInputsReferenceIdeal.nD Cert.AttnInputsReferenceIdeal.τ).loc Cert.AttnInputsReferenceIdeal.main_arg3) = m ((c.tc : Thread Cert.AttnInputsReferenceIdeal.nD Cert.AttnInputsReferenceIdeal.τ).loc Cert.AttnInputsReferenceIdeal.main_arg3)
      ∧ r.2.mem ((c.tc : Thread Cert.AttnInputsReferenceIdeal.nD Cert.AttnInputsReferenceIdeal.τ).loc Cert.AttnInputsReferenceIdeal.main_arg4) = m ((c.tc : Thread Cert.AttnInputsReferenceIdeal.nD Cert.AttnInputsReferenceIdeal.τ).loc Cert.AttnInputsReferenceIdeal.main_arg4)
      ∧ r.2.mem ((c.tc : Thread Cert.AttnInputsReferenceIdeal.nD Cert.AttnInputsReferenceIdeal.τ).loc Cert.AttnInputsReferenceIdeal.main_arg5) = m ((c.tc : Thread Cert.AttnInputsReferenceIdeal.nD Cert.AttnInputsReferenceIdeal.τ).loc Cert.AttnInputsReferenceIdeal.main_arg5)
      ∧ r.2.mem ((c.tc : Thread Cert.AttnInputsReferenceIdeal.nD Cert.AttnInputsReferenceIdeal.τ).loc Cert.AttnInputsReferenceIdeal.main_arg6) = m ((c.tc : Thread Cert.AttnInputsReferenceIdeal.nD Cert.AttnInputsReferenceIdeal.τ).loc Cert.AttnInputsReferenceIdeal.main_arg6)
      ∧ r.2.mem ((c.tc : Thread Cert.AttnInputsReferenceIdeal.nD Cert.AttnInputsReferenceIdeal.τ).loc Cert.AttnInputsReferenceIdeal.main_arg7) = m ((c.tc : Thread Cert.AttnInputsReferenceIdeal.nD Cert.AttnInputsReferenceIdeal.τ).loc Cert.AttnInputsReferenceIdeal.main_arg7))
      ∧ r.2.sem = fun _ => 0)

def quiescent_AttnWeights [hAttnWeights : Cert.AttnWeights.Facts] : Prop :=
  ∀ (m : (ℓ : Loc Cert.AttnWeights.nD Cert.AttnWeights.τ Cert.AttnWeights.sig) → Buf (Elt Bits) ℓ) (g : Dev Cert.AttnWeights.nD → PrngReg), Pre_AttnWeights m →
    θ_run (Cert.AttnWeights.defs (F := Bits)) (onTc (τ := Cert.AttnWeights.τ) (Cert.AttnWeights.main (F := Bits))) ⟨m, fun _ => 0, g⟩ (fun r => (∀ c : Dev Cert.AttnWeights.nD,
      r.2.mem ((c.tc : Thread Cert.AttnWeights.nD Cert.AttnWeights.τ).loc Cert.AttnWeights.main_arg0) = m ((c.tc : Thread Cert.AttnWeights.nD Cert.AttnWeights.τ).loc Cert.AttnWeights.main_arg0)
      ∧ r.2.mem ((c.tc : Thread Cert.AttnWeights.nD Cert.AttnWeights.τ).loc Cert.AttnWeights.main_arg1) = m ((c.tc : Thread Cert.AttnWeights.nD Cert.AttnWeights.τ).loc Cert.AttnWeights.main_arg1)
      ∧ r.2.mem ((c.tc : Thread Cert.AttnWeights.nD Cert.AttnWeights.τ).loc Cert.AttnWeights.main_arg2) = m ((c.tc : Thread Cert.AttnWeights.nD Cert.AttnWeights.τ).loc Cert.AttnWeights.main_arg2)
      ∧ r.2.mem ((c.tc : Thread Cert.AttnWeights.nD Cert.AttnWeights.τ).loc Cert.AttnWeights.main_arg3) = m ((c.tc : Thread Cert.AttnWeights.nD Cert.AttnWeights.τ).loc Cert.AttnWeights.main_arg3)
      ∧ r.2.mem ((c.tc : Thread Cert.AttnWeights.nD Cert.AttnWeights.τ).loc Cert.AttnWeights.main_arg4) = m ((c.tc : Thread Cert.AttnWeights.nD Cert.AttnWeights.τ).loc Cert.AttnWeights.main_arg4)
      ∧ r.2.mem ((c.tc : Thread Cert.AttnWeights.nD Cert.AttnWeights.τ).loc Cert.AttnWeights.main_arg5) = m ((c.tc : Thread Cert.AttnWeights.nD Cert.AttnWeights.τ).loc Cert.AttnWeights.main_arg5)
      ∧ r.2.mem ((c.tc : Thread Cert.AttnWeights.nD Cert.AttnWeights.τ).loc Cert.AttnWeights.main_arg6) = m ((c.tc : Thread Cert.AttnWeights.nD Cert.AttnWeights.τ).loc Cert.AttnWeights.main_arg6)
      ∧ r.2.mem ((c.tc : Thread Cert.AttnWeights.nD Cert.AttnWeights.τ).loc Cert.AttnWeights.main_arg7) = m ((c.tc : Thread Cert.AttnWeights.nD Cert.AttnWeights.τ).loc Cert.AttnWeights.main_arg7))
      ∧ r.2.sem = fun _ => 0)

def quiescent_AttnWeightsIdeal [hAttnWeightsIdeal : Cert.AttnWeightsIdeal.Facts] : Prop :=
  ∀ (m : (ℓ : Loc Cert.AttnWeightsIdeal.nD Cert.AttnWeightsIdeal.τ Cert.AttnWeightsIdeal.sig) → Buf (Elt Ideal) ℓ) (g : Dev Cert.AttnWeightsIdeal.nD → PrngReg), Pre_AttnWeightsIdeal m →
    θ_run (Cert.AttnWeightsIdeal.defs (F := Ideal)) (onTc (τ := Cert.AttnWeightsIdeal.τ) (Cert.AttnWeightsIdeal.main (F := Ideal))) ⟨m, fun _ => 0, g⟩ (fun r => (∀ c : Dev Cert.AttnWeightsIdeal.nD,
      r.2.mem ((c.tc : Thread Cert.AttnWeightsIdeal.nD Cert.AttnWeightsIdeal.τ).loc Cert.AttnWeightsIdeal.main_arg0) = m ((c.tc : Thread Cert.AttnWeightsIdeal.nD Cert.AttnWeightsIdeal.τ).loc Cert.AttnWeightsIdeal.main_arg0)
      ∧ r.2.mem ((c.tc : Thread Cert.AttnWeightsIdeal.nD Cert.AttnWeightsIdeal.τ).loc Cert.AttnWeightsIdeal.main_arg1) = m ((c.tc : Thread Cert.AttnWeightsIdeal.nD Cert.AttnWeightsIdeal.τ).loc Cert.AttnWeightsIdeal.main_arg1)
      ∧ r.2.mem ((c.tc : Thread Cert.AttnWeightsIdeal.nD Cert.AttnWeightsIdeal.τ).loc Cert.AttnWeightsIdeal.main_arg2) = m ((c.tc : Thread Cert.AttnWeightsIdeal.nD Cert.AttnWeightsIdeal.τ).loc Cert.AttnWeightsIdeal.main_arg2)
      ∧ r.2.mem ((c.tc : Thread Cert.AttnWeightsIdeal.nD Cert.AttnWeightsIdeal.τ).loc Cert.AttnWeightsIdeal.main_arg3) = m ((c.tc : Thread Cert.AttnWeightsIdeal.nD Cert.AttnWeightsIdeal.τ).loc Cert.AttnWeightsIdeal.main_arg3)
      ∧ r.2.mem ((c.tc : Thread Cert.AttnWeightsIdeal.nD Cert.AttnWeightsIdeal.τ).loc Cert.AttnWeightsIdeal.main_arg4) = m ((c.tc : Thread Cert.AttnWeightsIdeal.nD Cert.AttnWeightsIdeal.τ).loc Cert.AttnWeightsIdeal.main_arg4)
      ∧ r.2.mem ((c.tc : Thread Cert.AttnWeightsIdeal.nD Cert.AttnWeightsIdeal.τ).loc Cert.AttnWeightsIdeal.main_arg5) = m ((c.tc : Thread Cert.AttnWeightsIdeal.nD Cert.AttnWeightsIdeal.τ).loc Cert.AttnWeightsIdeal.main_arg5)
      ∧ r.2.mem ((c.tc : Thread Cert.AttnWeightsIdeal.nD Cert.AttnWeightsIdeal.τ).loc Cert.AttnWeightsIdeal.main_arg6) = m ((c.tc : Thread Cert.AttnWeightsIdeal.nD Cert.AttnWeightsIdeal.τ).loc Cert.AttnWeightsIdeal.main_arg6)
      ∧ r.2.mem ((c.tc : Thread Cert.AttnWeightsIdeal.nD Cert.AttnWeightsIdeal.τ).loc Cert.AttnWeightsIdeal.main_arg7) = m ((c.tc : Thread Cert.AttnWeightsIdeal.nD Cert.AttnWeightsIdeal.τ).loc Cert.AttnWeightsIdeal.main_arg7))
      ∧ r.2.sem = fun _ => 0)

def quiescent_AttnWeightsReferenceIdeal [hAttnWeightsReferenceIdeal : Cert.AttnWeightsReferenceIdeal.Facts] : Prop :=
  ∀ (m : (ℓ : Loc Cert.AttnWeightsReferenceIdeal.nD Cert.AttnWeightsReferenceIdeal.τ Cert.AttnWeightsReferenceIdeal.sig) → Buf (Elt Ideal) ℓ) (g : Dev Cert.AttnWeightsReferenceIdeal.nD → PrngReg), Pre_AttnWeightsReferenceIdeal m →
    θ_run (Cert.AttnWeightsReferenceIdeal.defs (F := Ideal)) (onTc (τ := Cert.AttnWeightsReferenceIdeal.τ) (Cert.AttnWeightsReferenceIdeal.main (F := Ideal))) ⟨m, fun _ => 0, g⟩ (fun r => (∀ c : Dev Cert.AttnWeightsReferenceIdeal.nD,
      r.2.mem ((c.tc : Thread Cert.AttnWeightsReferenceIdeal.nD Cert.AttnWeightsReferenceIdeal.τ).loc Cert.AttnWeightsReferenceIdeal.main_arg0) = m ((c.tc : Thread Cert.AttnWeightsReferenceIdeal.nD Cert.AttnWeightsReferenceIdeal.τ).loc Cert.AttnWeightsReferenceIdeal.main_arg0)
      ∧ r.2.mem ((c.tc : Thread Cert.AttnWeightsReferenceIdeal.nD Cert.AttnWeightsReferenceIdeal.τ).loc Cert.AttnWeightsReferenceIdeal.main_arg1) = m ((c.tc : Thread Cert.AttnWeightsReferenceIdeal.nD Cert.AttnWeightsReferenceIdeal.τ).loc Cert.AttnWeightsReferenceIdeal.main_arg1)
      ∧ r.2.mem ((c.tc : Thread Cert.AttnWeightsReferenceIdeal.nD Cert.AttnWeightsReferenceIdeal.τ).loc Cert.AttnWeightsReferenceIdeal.main_arg2) = m ((c.tc : Thread Cert.AttnWeightsReferenceIdeal.nD Cert.AttnWeightsReferenceIdeal.τ).loc Cert.AttnWeightsReferenceIdeal.main_arg2)
      ∧ r.2.mem ((c.tc : Thread Cert.AttnWeightsReferenceIdeal.nD Cert.AttnWeightsReferenceIdeal.τ).loc Cert.AttnWeightsReferenceIdeal.main_arg3) = m ((c.tc : Thread Cert.AttnWeightsReferenceIdeal.nD Cert.AttnWeightsReferenceIdeal.τ).loc Cert.AttnWeightsReferenceIdeal.main_arg3)
      ∧ r.2.mem ((c.tc : Thread Cert.AttnWeightsReferenceIdeal.nD Cert.AttnWeightsReferenceIdeal.τ).loc Cert.AttnWeightsReferenceIdeal.main_arg4) = m ((c.tc : Thread Cert.AttnWeightsReferenceIdeal.nD Cert.AttnWeightsReferenceIdeal.τ).loc Cert.AttnWeightsReferenceIdeal.main_arg4)
      ∧ r.2.mem ((c.tc : Thread Cert.AttnWeightsReferenceIdeal.nD Cert.AttnWeightsReferenceIdeal.τ).loc Cert.AttnWeightsReferenceIdeal.main_arg5) = m ((c.tc : Thread Cert.AttnWeightsReferenceIdeal.nD Cert.AttnWeightsReferenceIdeal.τ).loc Cert.AttnWeightsReferenceIdeal.main_arg5)
      ∧ r.2.mem ((c.tc : Thread Cert.AttnWeightsReferenceIdeal.nD Cert.AttnWeightsReferenceIdeal.τ).loc Cert.AttnWeightsReferenceIdeal.main_arg6) = m ((c.tc : Thread Cert.AttnWeightsReferenceIdeal.nD Cert.AttnWeightsReferenceIdeal.τ).loc Cert.AttnWeightsReferenceIdeal.main_arg6)
      ∧ r.2.mem ((c.tc : Thread Cert.AttnWeightsReferenceIdeal.nD Cert.AttnWeightsReferenceIdeal.τ).loc Cert.AttnWeightsReferenceIdeal.main_arg7) = m ((c.tc : Thread Cert.AttnWeightsReferenceIdeal.nD Cert.AttnWeightsReferenceIdeal.τ).loc Cert.AttnWeightsReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_all_finite [hMixIdeal : Cert.MixIdeal.Facts] [hPre_all_finite : Cert.Pre_all_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_all_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_MixReferenceIdeal_pre_all_finite [hMixReferenceIdeal : Cert.MixReferenceIdeal.Facts] [hPre_all_finite : Cert.Pre_all_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_all_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5))
      ∧ r.2.sem = fun _ => 0)

def quiescent_ForwardIdeal_pre_weights_finite [hForwardIdeal : Cert.ForwardIdeal.Facts] [hPre_weights_finite : Cert.Pre_weights_finite.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_weights_finite m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5))
      ∧ r.2.sem = fun _ => 0)

def quiescent_ForwardReferenceIdeal_pre_weights_finite [hForwardReferenceIdeal : Cert.ForwardReferenceIdeal.Facts] [hPre_weights_finite : Cert.Pre_weights_finite.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_weights_finite m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5))
      ∧ r.2.sem = fun _ => 0)

def preserves_Kernel_KernelIdeal : Prop :=
  True

def algebraic_KernelIdeal_ReferenceIdeal_pre_dp_finite [hKernelIdeal : Cert.KernelIdeal.Facts] [hReferenceIdeal : Cert.ReferenceIdeal.Facts] [hPre_dp_finite : Cert.Pre_dp_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dp_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v212) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attn_AttnIdeal : Prop :=
  True

def algebraic_AttnIdeal_AttnReferenceIdeal [hAttnIdeal : Cert.AttnIdeal.Facts] [hAttnReferenceIdeal : Cert.AttnReferenceIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v3_0)) (v1 : (c : Dev Cert.AttnIdeal.nD) → Buf (Elt Ideal) ((c.tc : Thread Cert.AttnIdeal.nD Cert.AttnIdeal.τ).loc Cert.AttnIdeal.main_v3_1)) (v2 : (c : Dev Cert.AttnIdeal.nD) → Buf (Elt Ideal) ((c.tc : Thread Cert.AttnIdeal.nD Cert.AttnIdeal.τ).loc Cert.AttnIdeal.main_v3_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3_0) = v0 c
          ∧ r.2.mem ((c.tc : Thread Cert.AttnIdeal.nD Cert.AttnIdeal.τ).loc Cert.AttnIdeal.main_v3_1) = v1 c
          ∧ r.2.mem ((c.tc : Thread Cert.AttnIdeal.nD Cert.AttnIdeal.τ).loc Cert.AttnIdeal.main_v3_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v55) = v0 c
          ∧ r.2.mem ((c.tc : Thread Cert.AttnReferenceIdeal.nD Cert.AttnReferenceIdeal.τ).loc Cert.AttnReferenceIdeal.main_v56) = v1 c
          ∧ r.2.mem ((c.tc : Thread Cert.AttnReferenceIdeal.nD Cert.AttnReferenceIdeal.τ).loc Cert.AttnReferenceIdeal.main_v58) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7))

def preserves_AttnInputs_AttnInputsIdeal : Prop :=
  True

def algebraic_AttnInputsIdeal_AttnInputsReferenceIdeal [hAttnInputsIdeal : Cert.AttnInputsIdeal.Facts] [hAttnInputsReferenceIdeal : Cert.AttnInputsReferenceIdeal.Facts] : Prop :=
  ∀ (m : (ℓ : Loc Cert.AttnInputsIdeal.nD Cert.AttnInputsIdeal.τ Cert.AttnInputsIdeal.sig) → Buf (Elt Ideal) ℓ) (g : Dev Cert.AttnInputsIdeal.nD → PrngReg)
    (m' : (ℓ : Loc Cert.AttnInputsReferenceIdeal.nD Cert.AttnInputsReferenceIdeal.τ Cert.AttnInputsReferenceIdeal.sig) → Buf (Elt Ideal) ℓ) (g' : Dev Cert.AttnInputsReferenceIdeal.nD → PrngReg), Pre_AttnInputsIdeal m →
    (∀ c : Dev Cert.AttnInputsIdeal.nD,
      m' ((c.tc : Thread Cert.AttnInputsReferenceIdeal.nD Cert.AttnInputsReferenceIdeal.τ).loc Cert.AttnInputsReferenceIdeal.main_arg0) = m ((c.tc : Thread Cert.AttnInputsIdeal.nD Cert.AttnInputsIdeal.τ).loc Cert.AttnInputsIdeal.main_arg0)
      ∧ m' ((c.tc : Thread Cert.AttnInputsReferenceIdeal.nD Cert.AttnInputsReferenceIdeal.τ).loc Cert.AttnInputsReferenceIdeal.main_arg1) = m ((c.tc : Thread Cert.AttnInputsIdeal.nD Cert.AttnInputsIdeal.τ).loc Cert.AttnInputsIdeal.main_arg1)
      ∧ m' ((c.tc : Thread Cert.AttnInputsReferenceIdeal.nD Cert.AttnInputsReferenceIdeal.τ).loc Cert.AttnInputsReferenceIdeal.main_arg2) = m ((c.tc : Thread Cert.AttnInputsIdeal.nD Cert.AttnInputsIdeal.τ).loc Cert.AttnInputsIdeal.main_arg2)
      ∧ m' ((c.tc : Thread Cert.AttnInputsReferenceIdeal.nD Cert.AttnInputsReferenceIdeal.τ).loc Cert.AttnInputsReferenceIdeal.main_arg3) = m ((c.tc : Thread Cert.AttnInputsIdeal.nD Cert.AttnInputsIdeal.τ).loc Cert.AttnInputsIdeal.main_arg3)
      ∧ m' ((c.tc : Thread Cert.AttnInputsReferenceIdeal.nD Cert.AttnInputsReferenceIdeal.τ).loc Cert.AttnInputsReferenceIdeal.main_arg4) = m ((c.tc : Thread Cert.AttnInputsIdeal.nD Cert.AttnInputsIdeal.τ).loc Cert.AttnInputsIdeal.main_arg4)
      ∧ m' ((c.tc : Thread Cert.AttnInputsReferenceIdeal.nD Cert.AttnInputsReferenceIdeal.τ).loc Cert.AttnInputsReferenceIdeal.main_arg5) = m ((c.tc : Thread Cert.AttnInputsIdeal.nD Cert.AttnInputsIdeal.τ).loc Cert.AttnInputsIdeal.main_arg5)
      ∧ m' ((c.tc : Thread Cert.AttnInputsReferenceIdeal.nD Cert.AttnInputsReferenceIdeal.τ).loc Cert.AttnInputsReferenceIdeal.main_arg6) = m ((c.tc : Thread Cert.AttnInputsIdeal.nD Cert.AttnInputsIdeal.τ).loc Cert.AttnInputsIdeal.main_arg6)
      ∧ m' ((c.tc : Thread Cert.AttnInputsReferenceIdeal.nD Cert.AttnInputsReferenceIdeal.τ).loc Cert.AttnInputsReferenceIdeal.main_arg7) = m ((c.tc : Thread Cert.AttnInputsIdeal.nD Cert.AttnInputsIdeal.τ).loc Cert.AttnInputsIdeal.main_arg7)) →
    ∃ (v0 : (c : Dev Cert.AttnInputsIdeal.nD) → Buf (Elt Ideal) ((c.tc : Thread Cert.AttnInputsIdeal.nD Cert.AttnInputsIdeal.τ).loc Cert.AttnInputsIdeal.main_v3_0)) (v1 : (c : Dev Cert.AttnInputsIdeal.nD) → Buf (Elt Ideal) ((c.tc : Thread Cert.AttnInputsIdeal.nD Cert.AttnInputsIdeal.τ).loc Cert.AttnInputsIdeal.main_v3_1)),
      θ_run (Cert.AttnInputsIdeal.defs (F := Ideal)) (onTc (τ := Cert.AttnInputsIdeal.τ) (Cert.AttnInputsIdeal.main (F := Ideal))) ⟨m, fun _ => 0, g⟩ (fun r => ∀ c : Dev Cert.AttnInputsIdeal.nD,
          r.2.mem ((c.tc : Thread Cert.AttnInputsIdeal.nD Cert.AttnInputsIdeal.τ).loc Cert.AttnInputsIdeal.main_v3_0) = v0 c
          ∧ r.2.mem ((c.tc : Thread Cert.AttnInputsIdeal.nD Cert.AttnInputsIdeal.τ).loc Cert.AttnInputsIdeal.main_v3_1) = v1 c
          ∧ r.2.mem ((c.tc : Thread Cert.AttnInputsIdeal.nD Cert.AttnInputsIdeal.τ).loc Cert.AttnInputsIdeal.main_arg0) = m ((c.tc : Thread Cert.AttnInputsIdeal.nD Cert.AttnInputsIdeal.τ).loc Cert.AttnInputsIdeal.main_arg0)
          ∧ r.2.mem ((c.tc : Thread Cert.AttnInputsIdeal.nD Cert.AttnInputsIdeal.τ).loc Cert.AttnInputsIdeal.main_arg1) = m ((c.tc : Thread Cert.AttnInputsIdeal.nD Cert.AttnInputsIdeal.τ).loc Cert.AttnInputsIdeal.main_arg1)
          ∧ r.2.mem ((c.tc : Thread Cert.AttnInputsIdeal.nD Cert.AttnInputsIdeal.τ).loc Cert.AttnInputsIdeal.main_arg2) = m ((c.tc : Thread Cert.AttnInputsIdeal.nD Cert.AttnInputsIdeal.τ).loc Cert.AttnInputsIdeal.main_arg2)
          ∧ r.2.mem ((c.tc : Thread Cert.AttnInputsIdeal.nD Cert.AttnInputsIdeal.τ).loc Cert.AttnInputsIdeal.main_arg3) = m ((c.tc : Thread Cert.AttnInputsIdeal.nD Cert.AttnInputsIdeal.τ).loc Cert.AttnInputsIdeal.main_arg3)
          ∧ r.2.mem ((c.tc : Thread Cert.AttnInputsIdeal.nD Cert.AttnInputsIdeal.τ).loc Cert.AttnInputsIdeal.main_arg4) = m ((c.tc : Thread Cert.AttnInputsIdeal.nD Cert.AttnInputsIdeal.τ).loc Cert.AttnInputsIdeal.main_arg4)
          ∧ r.2.mem ((c.tc : Thread Cert.AttnInputsIdeal.nD Cert.AttnInputsIdeal.τ).loc Cert.AttnInputsIdeal.main_arg5) = m ((c.tc : Thread Cert.AttnInputsIdeal.nD Cert.AttnInputsIdeal.τ).loc Cert.AttnInputsIdeal.main_arg5)
          ∧ r.2.mem ((c.tc : Thread Cert.AttnInputsIdeal.nD Cert.AttnInputsIdeal.τ).loc Cert.AttnInputsIdeal.main_arg6) = m ((c.tc : Thread Cert.AttnInputsIdeal.nD Cert.AttnInputsIdeal.τ).loc Cert.AttnInputsIdeal.main_arg6)
          ∧ r.2.mem ((c.tc : Thread Cert.AttnInputsIdeal.nD Cert.AttnInputsIdeal.τ).loc Cert.AttnInputsIdeal.main_arg7) = m ((c.tc : Thread Cert.AttnInputsIdeal.nD Cert.AttnInputsIdeal.τ).loc Cert.AttnInputsIdeal.main_arg7))
      ∧ θ_run (Cert.AttnInputsReferenceIdeal.defs (F := Ideal)) (onTc (τ := Cert.AttnInputsReferenceIdeal.τ) (Cert.AttnInputsReferenceIdeal.main (F := Ideal))) ⟨m', fun _ => 0, g'⟩ (fun r => ∀ c : Dev Cert.AttnInputsReferenceIdeal.nD,
          r.2.mem ((c.tc : Thread Cert.AttnInputsReferenceIdeal.nD Cert.AttnInputsReferenceIdeal.τ).loc Cert.AttnInputsReferenceIdeal.main_v55) = v0 c
          ∧ r.2.mem ((c.tc : Thread Cert.AttnInputsReferenceIdeal.nD Cert.AttnInputsReferenceIdeal.τ).loc Cert.AttnInputsReferenceIdeal.main_v56) = v1 c
          ∧ r.2.mem ((c.tc : Thread Cert.AttnInputsReferenceIdeal.nD Cert.AttnInputsReferenceIdeal.τ).loc Cert.AttnInputsReferenceIdeal.main_arg0) = m' ((c.tc : Thread Cert.AttnInputsReferenceIdeal.nD Cert.AttnInputsReferenceIdeal.τ).loc Cert.AttnInputsReferenceIdeal.main_arg0)
          ∧ r.2.mem ((c.tc : Thread Cert.AttnInputsReferenceIdeal.nD Cert.AttnInputsReferenceIdeal.τ).loc Cert.AttnInputsReferenceIdeal.main_arg1) = m' ((c.tc : Thread Cert.AttnInputsReferenceIdeal.nD Cert.AttnInputsReferenceIdeal.τ).loc Cert.AttnInputsReferenceIdeal.main_arg1)
          ∧ r.2.mem ((c.tc : Thread Cert.AttnInputsReferenceIdeal.nD Cert.AttnInputsReferenceIdeal.τ).loc Cert.AttnInputsReferenceIdeal.main_arg2) = m' ((c.tc : Thread Cert.AttnInputsReferenceIdeal.nD Cert.AttnInputsReferenceIdeal.τ).loc Cert.AttnInputsReferenceIdeal.main_arg2)
          ∧ r.2.mem ((c.tc : Thread Cert.AttnInputsReferenceIdeal.nD Cert.AttnInputsReferenceIdeal.τ).loc Cert.AttnInputsReferenceIdeal.main_arg3) = m' ((c.tc : Thread Cert.AttnInputsReferenceIdeal.nD Cert.AttnInputsReferenceIdeal.τ).loc Cert.AttnInputsReferenceIdeal.main_arg3)
          ∧ r.2.mem ((c.tc : Thread Cert.AttnInputsReferenceIdeal.nD Cert.AttnInputsReferenceIdeal.τ).loc Cert.AttnInputsReferenceIdeal.main_arg4) = m' ((c.tc : Thread Cert.AttnInputsReferenceIdeal.nD Cert.AttnInputsReferenceIdeal.τ).loc Cert.AttnInputsReferenceIdeal.main_arg4)
          ∧ r.2.mem ((c.tc : Thread Cert.AttnInputsReferenceIdeal.nD Cert.AttnInputsReferenceIdeal.τ).loc Cert.AttnInputsReferenceIdeal.main_arg5) = m' ((c.tc : Thread Cert.AttnInputsReferenceIdeal.nD Cert.AttnInputsReferenceIdeal.τ).loc Cert.AttnInputsReferenceIdeal.main_arg5)
          ∧ r.2.mem ((c.tc : Thread Cert.AttnInputsReferenceIdeal.nD Cert.AttnInputsReferenceIdeal.τ).loc Cert.AttnInputsReferenceIdeal.main_arg6) = m' ((c.tc : Thread Cert.AttnInputsReferenceIdeal.nD Cert.AttnInputsReferenceIdeal.τ).loc Cert.AttnInputsReferenceIdeal.main_arg6)
          ∧ r.2.mem ((c.tc : Thread Cert.AttnInputsReferenceIdeal.nD Cert.AttnInputsReferenceIdeal.τ).loc Cert.AttnInputsReferenceIdeal.main_arg7) = m' ((c.tc : Thread Cert.AttnInputsReferenceIdeal.nD Cert.AttnInputsReferenceIdeal.τ).loc Cert.AttnInputsReferenceIdeal.main_arg7))

def preserves_AttnWeights_AttnWeightsIdeal : Prop :=
  True

def algebraic_AttnWeightsIdeal_AttnWeightsReferenceIdeal [hAttnWeightsIdeal : Cert.AttnWeightsIdeal.Facts] [hAttnWeightsReferenceIdeal : Cert.AttnWeightsReferenceIdeal.Facts] : Prop :=
  ∀ (m : (ℓ : Loc Cert.AttnWeightsIdeal.nD Cert.AttnWeightsIdeal.τ Cert.AttnWeightsIdeal.sig) → Buf (Elt Ideal) ℓ) (g : Dev Cert.AttnWeightsIdeal.nD → PrngReg)
    (m' : (ℓ : Loc Cert.AttnWeightsReferenceIdeal.nD Cert.AttnWeightsReferenceIdeal.τ Cert.AttnWeightsReferenceIdeal.sig) → Buf (Elt Ideal) ℓ) (g' : Dev Cert.AttnWeightsReferenceIdeal.nD → PrngReg), Pre_AttnWeightsIdeal m →
    (∀ c : Dev Cert.AttnWeightsIdeal.nD,
      m' ((c.tc : Thread Cert.AttnWeightsReferenceIdeal.nD Cert.AttnWeightsReferenceIdeal.τ).loc Cert.AttnWeightsReferenceIdeal.main_arg0) = m ((c.tc : Thread Cert.AttnWeightsIdeal.nD Cert.AttnWeightsIdeal.τ).loc Cert.AttnWeightsIdeal.main_arg0)
      ∧ m' ((c.tc : Thread Cert.AttnWeightsReferenceIdeal.nD Cert.AttnWeightsReferenceIdeal.τ).loc Cert.AttnWeightsReferenceIdeal.main_arg1) = m ((c.tc : Thread Cert.AttnWeightsIdeal.nD Cert.AttnWeightsIdeal.τ).loc Cert.AttnWeightsIdeal.main_arg1)
      ∧ m' ((c.tc : Thread Cert.AttnWeightsReferenceIdeal.nD Cert.AttnWeightsReferenceIdeal.τ).loc Cert.AttnWeightsReferenceIdeal.main_arg2) = m ((c.tc : Thread Cert.AttnWeightsIdeal.nD Cert.AttnWeightsIdeal.τ).loc Cert.AttnWeightsIdeal.main_arg2)
      ∧ m' ((c.tc : Thread Cert.AttnWeightsReferenceIdeal.nD Cert.AttnWeightsReferenceIdeal.τ).loc Cert.AttnWeightsReferenceIdeal.main_arg3) = m ((c.tc : Thread Cert.AttnWeightsIdeal.nD Cert.AttnWeightsIdeal.τ).loc Cert.AttnWeightsIdeal.main_arg3)
      ∧ m' ((c.tc : Thread Cert.AttnWeightsReferenceIdeal.nD Cert.AttnWeightsReferenceIdeal.τ).loc Cert.AttnWeightsReferenceIdeal.main_arg4) = m ((c.tc : Thread Cert.AttnWeightsIdeal.nD Cert.AttnWeightsIdeal.τ).loc Cert.AttnWeightsIdeal.main_arg4)
      ∧ m' ((c.tc : Thread Cert.AttnWeightsReferenceIdeal.nD Cert.AttnWeightsReferenceIdeal.τ).loc Cert.AttnWeightsReferenceIdeal.main_arg5) = m ((c.tc : Thread Cert.AttnWeightsIdeal.nD Cert.AttnWeightsIdeal.τ).loc Cert.AttnWeightsIdeal.main_arg5)
      ∧ m' ((c.tc : Thread Cert.AttnWeightsReferenceIdeal.nD Cert.AttnWeightsReferenceIdeal.τ).loc Cert.AttnWeightsReferenceIdeal.main_arg6) = m ((c.tc : Thread Cert.AttnWeightsIdeal.nD Cert.AttnWeightsIdeal.τ).loc Cert.AttnWeightsIdeal.main_arg6)
      ∧ m' ((c.tc : Thread Cert.AttnWeightsReferenceIdeal.nD Cert.AttnWeightsReferenceIdeal.τ).loc Cert.AttnWeightsReferenceIdeal.main_arg7) = m ((c.tc : Thread Cert.AttnWeightsIdeal.nD Cert.AttnWeightsIdeal.τ).loc Cert.AttnWeightsIdeal.main_arg7)) →
    ∃ (v0 : (c : Dev Cert.AttnWeightsIdeal.nD) → Buf (Elt Ideal) ((c.tc : Thread Cert.AttnWeightsIdeal.nD Cert.AttnWeightsIdeal.τ).loc Cert.AttnWeightsIdeal.main_v3)),
      θ_run (Cert.AttnWeightsIdeal.defs (F := Ideal)) (onTc (τ := Cert.AttnWeightsIdeal.τ) (Cert.AttnWeightsIdeal.main (F := Ideal))) ⟨m, fun _ => 0, g⟩ (fun r => ∀ c : Dev Cert.AttnWeightsIdeal.nD,
          r.2.mem ((c.tc : Thread Cert.AttnWeightsIdeal.nD Cert.AttnWeightsIdeal.τ).loc Cert.AttnWeightsIdeal.main_v3) = v0 c
          ∧ r.2.mem ((c.tc : Thread Cert.AttnWeightsIdeal.nD Cert.AttnWeightsIdeal.τ).loc Cert.AttnWeightsIdeal.main_arg0) = m ((c.tc : Thread Cert.AttnWeightsIdeal.nD Cert.AttnWeightsIdeal.τ).loc Cert.AttnWeightsIdeal.main_arg0)
          ∧ r.2.mem ((c.tc : Thread Cert.AttnWeightsIdeal.nD Cert.AttnWeightsIdeal.τ).loc Cert.AttnWeightsIdeal.main_arg1) = m ((c.tc : Thread Cert.AttnWeightsIdeal.nD Cert.AttnWeightsIdeal.τ).loc Cert.AttnWeightsIdeal.main_arg1)
          ∧ r.2.mem ((c.tc : Thread Cert.AttnWeightsIdeal.nD Cert.AttnWeightsIdeal.τ).loc Cert.AttnWeightsIdeal.main_arg2) = m ((c.tc : Thread Cert.AttnWeightsIdeal.nD Cert.AttnWeightsIdeal.τ).loc Cert.AttnWeightsIdeal.main_arg2)
          ∧ r.2.mem ((c.tc : Thread Cert.AttnWeightsIdeal.nD Cert.AttnWeightsIdeal.τ).loc Cert.AttnWeightsIdeal.main_arg3) = m ((c.tc : Thread Cert.AttnWeightsIdeal.nD Cert.AttnWeightsIdeal.τ).loc Cert.AttnWeightsIdeal.main_arg3)
          ∧ r.2.mem ((c.tc : Thread Cert.AttnWeightsIdeal.nD Cert.AttnWeightsIdeal.τ).loc Cert.AttnWeightsIdeal.main_arg4) = m ((c.tc : Thread Cert.AttnWeightsIdeal.nD Cert.AttnWeightsIdeal.τ).loc Cert.AttnWeightsIdeal.main_arg4)
          ∧ r.2.mem ((c.tc : Thread Cert.AttnWeightsIdeal.nD Cert.AttnWeightsIdeal.τ).loc Cert.AttnWeightsIdeal.main_arg5) = m ((c.tc : Thread Cert.AttnWeightsIdeal.nD Cert.AttnWeightsIdeal.τ).loc Cert.AttnWeightsIdeal.main_arg5)
          ∧ r.2.mem ((c.tc : Thread Cert.AttnWeightsIdeal.nD Cert.AttnWeightsIdeal.τ).loc Cert.AttnWeightsIdeal.main_arg6) = m ((c.tc : Thread Cert.AttnWeightsIdeal.nD Cert.AttnWeightsIdeal.τ).loc Cert.AttnWeightsIdeal.main_arg6)
          ∧ r.2.mem ((c.tc : Thread Cert.AttnWeightsIdeal.nD Cert.AttnWeightsIdeal.τ).loc Cert.AttnWeightsIdeal.main_arg7) = m ((c.tc : Thread Cert.AttnWeightsIdeal.nD Cert.AttnWeightsIdeal.τ).loc Cert.AttnWeightsIdeal.main_arg7))
      ∧ θ_run (Cert.AttnWeightsReferenceIdeal.defs (F := Ideal)) (onTc (τ := Cert.AttnWeightsReferenceIdeal.τ) (Cert.AttnWeightsReferenceIdeal.main (F := Ideal))) ⟨m', fun _ => 0, g'⟩ (fun r => ∀ c : Dev Cert.AttnWeightsReferenceIdeal.nD,
          r.2.mem ((c.tc : Thread Cert.AttnWeightsReferenceIdeal.nD Cert.AttnWeightsReferenceIdeal.τ).loc Cert.AttnWeightsReferenceIdeal.main_v58) = v0 c
          ∧ r.2.mem ((c.tc : Thread Cert.AttnWeightsReferenceIdeal.nD Cert.AttnWeightsReferenceIdeal.τ).loc Cert.AttnWeightsReferenceIdeal.main_arg0) = m' ((c.tc : Thread Cert.AttnWeightsReferenceIdeal.nD Cert.AttnWeightsReferenceIdeal.τ).loc Cert.AttnWeightsReferenceIdeal.main_arg0)
          ∧ r.2.mem ((c.tc : Thread Cert.AttnWeightsReferenceIdeal.nD Cert.AttnWeightsReferenceIdeal.τ).loc Cert.AttnWeightsReferenceIdeal.main_arg1) = m' ((c.tc : Thread Cert.AttnWeightsReferenceIdeal.nD Cert.AttnWeightsReferenceIdeal.τ).loc Cert.AttnWeightsReferenceIdeal.main_arg1)
          ∧ r.2.mem ((c.tc : Thread Cert.AttnWeightsReferenceIdeal.nD Cert.AttnWeightsReferenceIdeal.τ).loc Cert.AttnWeightsReferenceIdeal.main_arg2) = m' ((c.tc : Thread Cert.AttnWeightsReferenceIdeal.nD Cert.AttnWeightsReferenceIdeal.τ).loc Cert.AttnWeightsReferenceIdeal.main_arg2)
          ∧ r.2.mem ((c.tc : Thread Cert.AttnWeightsReferenceIdeal.nD Cert.AttnWeightsReferenceIdeal.τ).loc Cert.AttnWeightsReferenceIdeal.main_arg3) = m' ((c.tc : Thread Cert.AttnWeightsReferenceIdeal.nD Cert.AttnWeightsReferenceIdeal.τ).loc Cert.AttnWeightsReferenceIdeal.main_arg3)
          ∧ r.2.mem ((c.tc : Thread Cert.AttnWeightsReferenceIdeal.nD Cert.AttnWeightsReferenceIdeal.τ).loc Cert.AttnWeightsReferenceIdeal.main_arg4) = m' ((c.tc : Thread Cert.AttnWeightsReferenceIdeal.nD Cert.AttnWeightsReferenceIdeal.τ).loc Cert.AttnWeightsReferenceIdeal.main_arg4)
          ∧ r.2.mem ((c.tc : Thread Cert.AttnWeightsReferenceIdeal.nD Cert.AttnWeightsReferenceIdeal.τ).loc Cert.AttnWeightsReferenceIdeal.main_arg5) = m' ((c.tc : Thread Cert.AttnWeightsReferenceIdeal.nD Cert.AttnWeightsReferenceIdeal.τ).loc Cert.AttnWeightsReferenceIdeal.main_arg5)
          ∧ r.2.mem ((c.tc : Thread Cert.AttnWeightsReferenceIdeal.nD Cert.AttnWeightsReferenceIdeal.τ).loc Cert.AttnWeightsReferenceIdeal.main_arg6) = m' ((c.tc : Thread Cert.AttnWeightsReferenceIdeal.nD Cert.AttnWeightsReferenceIdeal.τ).loc Cert.AttnWeightsReferenceIdeal.main_arg6)
          ∧ r.2.mem ((c.tc : Thread Cert.AttnWeightsReferenceIdeal.nD Cert.AttnWeightsReferenceIdeal.τ).loc Cert.AttnWeightsReferenceIdeal.main_arg7) = m' ((c.tc : Thread Cert.AttnWeightsReferenceIdeal.nD Cert.AttnWeightsReferenceIdeal.τ).loc Cert.AttnWeightsReferenceIdeal.main_arg7))

def preserves_Mix_MixIdeal : Prop :=
  True

def algebraic_MixIdeal_MixReferenceIdeal_pre_all_finite [hMixIdeal : Cert.MixIdeal.Facts] [hMixReferenceIdeal : Cert.MixReferenceIdeal.Facts] [hPre_all_finite : Cert.Pre_all_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_all_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v6_0)) (v1 : (c : Dev Cert.MixIdeal.nD) → Buf (Elt Ideal) ((c.tc : Thread Cert.MixIdeal.nD Cert.MixIdeal.τ).loc Cert.MixIdeal.main_v6_1)) (v2 : (c : Dev Cert.MixIdeal.nD) → Buf (Elt Ideal) ((c.tc : Thread Cert.MixIdeal.nD Cert.MixIdeal.τ).loc Cert.MixIdeal.main_v6_2)) (v3 : (c : Dev Cert.MixIdeal.nD) → Buf (Elt Ideal) ((c.tc : Thread Cert.MixIdeal.nD Cert.MixIdeal.τ).loc Cert.MixIdeal.main_v6_3)) (v4 : (c : Dev Cert.MixIdeal.nD) → Buf (Elt Ideal) ((c.tc : Thread Cert.MixIdeal.nD Cert.MixIdeal.τ).loc Cert.MixIdeal.main_v6_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6_0) = v0 c
          ∧ r.2.mem ((c.tc : Thread Cert.MixIdeal.nD Cert.MixIdeal.τ).loc Cert.MixIdeal.main_v6_1) = v1 c
          ∧ r.2.mem ((c.tc : Thread Cert.MixIdeal.nD Cert.MixIdeal.τ).loc Cert.MixIdeal.main_v6_2) = v2 c
          ∧ r.2.mem ((c.tc : Thread Cert.MixIdeal.nD Cert.MixIdeal.τ).loc Cert.MixIdeal.main_v6_3) = v3 c
          ∧ r.2.mem ((c.tc : Thread Cert.MixIdeal.nD Cert.MixIdeal.τ).loc Cert.MixIdeal.main_v6_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v34) = v0 c
          ∧ r.2.mem ((c.tc : Thread Cert.MixReferenceIdeal.nD Cert.MixReferenceIdeal.τ).loc Cert.MixReferenceIdeal.main_v35) = v1 c
          ∧ r.2.mem ((c.tc : Thread Cert.MixReferenceIdeal.nD Cert.MixReferenceIdeal.τ).loc Cert.MixReferenceIdeal.main_v36) = v2 c
          ∧ r.2.mem ((c.tc : Thread Cert.MixReferenceIdeal.nD Cert.MixReferenceIdeal.τ).loc Cert.MixReferenceIdeal.main_v37) = v3 c
          ∧ r.2.mem ((c.tc : Thread Cert.MixReferenceIdeal.nD Cert.MixReferenceIdeal.τ).loc Cert.MixReferenceIdeal.main_v38) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v3_0)) (v1 : (c : Dev Cert.ProjectIdeal.nD) → Buf (Elt Ideal) ((c.tc : Thread Cert.ProjectIdeal.nD Cert.ProjectIdeal.τ).loc Cert.ProjectIdeal.main_v3_1)) (v2 : (c : Dev Cert.ProjectIdeal.nD) → Buf (Elt Ideal) ((c.tc : Thread Cert.ProjectIdeal.nD Cert.ProjectIdeal.τ).loc Cert.ProjectIdeal.main_v3_2)) (v3 : (c : Dev Cert.ProjectIdeal.nD) → Buf (Elt Ideal) ((c.tc : Thread Cert.ProjectIdeal.nD Cert.ProjectIdeal.τ).loc Cert.ProjectIdeal.main_v3_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3_0) = v0 c
          ∧ r.2.mem ((c.tc : Thread Cert.ProjectIdeal.nD Cert.ProjectIdeal.τ).loc Cert.ProjectIdeal.main_v3_1) = v1 c
          ∧ r.2.mem ((c.tc : Thread Cert.ProjectIdeal.nD Cert.ProjectIdeal.τ).loc Cert.ProjectIdeal.main_v3_2) = v2 c
          ∧ r.2.mem ((c.tc : Thread Cert.ProjectIdeal.nD Cert.ProjectIdeal.τ).loc Cert.ProjectIdeal.main_v3_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v20) = v0 c
          ∧ r.2.mem ((c.tc : Thread Cert.ProjectReferenceIdeal.nD Cert.ProjectReferenceIdeal.τ).loc Cert.ProjectReferenceIdeal.main_v21) = v1 c
          ∧ r.2.mem ((c.tc : Thread Cert.ProjectReferenceIdeal.nD Cert.ProjectReferenceIdeal.τ).loc Cert.ProjectReferenceIdeal.main_v23) = v2 c
          ∧ r.2.mem ((c.tc : Thread Cert.ProjectReferenceIdeal.nD Cert.ProjectReferenceIdeal.τ).loc Cert.ProjectReferenceIdeal.main_v25) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Forward_ForwardIdeal : Prop :=
  True

def algebraic_ForwardIdeal_ForwardReferenceIdeal_pre_weights_finite [hForwardIdeal : Cert.ForwardIdeal.Facts] [hForwardReferenceIdeal : Cert.ForwardReferenceIdeal.Facts] [hPre_weights_finite : Cert.Pre_weights_finite.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_weights_finite m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)
      ∧ m' ((c.tc : Thread Cert.ForwardReferenceIdeal.nD Cert.ForwardReferenceIdeal.τ).loc Cert.ForwardReferenceIdeal.main_arg5) = m ((c.tc : Thread Cert.ForwardIdeal.nD Cert.ForwardIdeal.τ).loc Cert.ForwardIdeal.main_arg5)) →
    ∃ (v0 : (c : Dev Cert.ForwardIdeal.nD) → Buf (Elt Ideal) ((c.tc : Thread Cert.ForwardIdeal.nD Cert.ForwardIdeal.τ).loc Cert.ForwardIdeal.main_v10_0)) (v1 : (c : Dev Cert.ForwardIdeal.nD) → Buf (Elt Ideal) ((c.tc : Thread Cert.ForwardIdeal.nD Cert.ForwardIdeal.τ).loc Cert.ForwardIdeal.main_v10_1)) (v2 : (c : Dev Cert.ForwardIdeal.nD) → Buf (Elt Ideal) ((c.tc : Thread Cert.ForwardIdeal.nD Cert.ForwardIdeal.τ).loc Cert.ForwardIdeal.main_v10_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v10_0) = v0 c
          ∧ r.2.mem ((c.tc : Thread Cert.ForwardIdeal.nD Cert.ForwardIdeal.τ).loc Cert.ForwardIdeal.main_v10_1) = v1 c
          ∧ r.2.mem ((c.tc : Thread Cert.ForwardIdeal.nD Cert.ForwardIdeal.τ).loc Cert.ForwardIdeal.main_v10_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v110) = v0 c
          ∧ r.2.mem ((c.tc : Thread Cert.ForwardReferenceIdeal.nD Cert.ForwardReferenceIdeal.τ).loc Cert.ForwardReferenceIdeal.main_v112) = v1 c
          ∧ r.2.mem ((c.tc : Thread Cert.ForwardReferenceIdeal.nD Cert.ForwardReferenceIdeal.τ).loc Cert.ForwardReferenceIdeal.main_v113) = v2 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4)
          ∧ r.2.mem ((c.tc : Thread Cert.ForwardReferenceIdeal.nD Cert.ForwardReferenceIdeal.τ).loc Cert.ForwardReferenceIdeal.main_arg5) = m' ((c.tc : Thread Cert.ForwardReferenceIdeal.nD Cert.ForwardReferenceIdeal.τ).loc Cert.ForwardReferenceIdeal.main_arg5))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hAttnInputs : Cert.AttnInputs.Facts) (hAttnInputsIdeal : Cert.AttnInputsIdeal.Facts) (hAttnInputsReferenceIdeal : Cert.AttnInputsReferenceIdeal.Facts) (hAttnWeights : Cert.AttnWeights.Facts) (hAttnWeightsIdeal : Cert.AttnWeightsIdeal.Facts) (hAttnWeightsReferenceIdeal : Cert.AttnWeightsReferenceIdeal.Facts) (hMix : Cert.Mix.Facts) (hMixIdeal : Cert.MixIdeal.Facts) (hMixReferenceIdeal : Cert.MixReferenceIdeal.Facts) (hProject : Cert.Project.Facts) (hProjectIdeal : Cert.ProjectIdeal.Facts) (hProjectReferenceIdeal : Cert.ProjectReferenceIdeal.Facts) (hForward : Cert.Forward.Facts) (hForwardIdeal : Cert.ForwardIdeal.Facts) (hForwardReferenceIdeal : Cert.ForwardReferenceIdeal.Facts) (hPre_dp_finite : Cert.Pre_dp_finite.Facts) (hPre_all_finite : Cert.Pre_all_finite.Facts) (hPre_weights_finite : Cert.Pre_weights_finite.Facts),
    quiescent_Kernel (hKernel := hKernel)
    ∧ quiescent_KernelIdeal (hKernelIdeal := hKernelIdeal)
    ∧ quiescent_KernelIdeal_pre_dp_finite (hKernelIdeal := hKernelIdeal) (hPre_dp_finite := hPre_dp_finite)
    ∧ quiescent_ReferenceIdeal (hReferenceIdeal := hReferenceIdeal)
    ∧ quiescent_ReferenceIdeal_pre_dp_finite (hReferenceIdeal := hReferenceIdeal) (hPre_dp_finite := hPre_dp_finite)
    ∧ quiescent_Attn (hAttn := hAttn)
    ∧ quiescent_AttnIdeal (hAttnIdeal := hAttnIdeal)
    ∧ quiescent_AttnReferenceIdeal (hAttnReferenceIdeal := hAttnReferenceIdeal)
    ∧ quiescent_AttnInputs (hAttnInputs := hAttnInputs)
    ∧ quiescent_AttnInputsIdeal (hAttnInputsIdeal := hAttnInputsIdeal)
    ∧ quiescent_AttnInputsReferenceIdeal (hAttnInputsReferenceIdeal := hAttnInputsReferenceIdeal)
    ∧ quiescent_AttnWeights (hAttnWeights := hAttnWeights)
    ∧ quiescent_AttnWeightsIdeal (hAttnWeightsIdeal := hAttnWeightsIdeal)
    ∧ quiescent_AttnWeightsReferenceIdeal (hAttnWeightsReferenceIdeal := hAttnWeightsReferenceIdeal)
    ∧ quiescent_Mix (hMix := hMix)
    ∧ quiescent_MixIdeal (hMixIdeal := hMixIdeal)
    ∧ quiescent_MixIdeal_pre_all_finite (hMixIdeal := hMixIdeal) (hPre_all_finite := hPre_all_finite)
    ∧ quiescent_MixReferenceIdeal (hMixReferenceIdeal := hMixReferenceIdeal)
    ∧ quiescent_MixReferenceIdeal_pre_all_finite (hMixReferenceIdeal := hMixReferenceIdeal) (hPre_all_finite := hPre_all_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_Forward (hForward := hForward)
    ∧ quiescent_ForwardIdeal (hForwardIdeal := hForwardIdeal)
    ∧ quiescent_ForwardIdeal_pre_weights_finite (hForwardIdeal := hForwardIdeal) (hPre_weights_finite := hPre_weights_finite)
    ∧ quiescent_ForwardReferenceIdeal (hForwardReferenceIdeal := hForwardReferenceIdeal)
    ∧ quiescent_ForwardReferenceIdeal_pre_weights_finite (hForwardReferenceIdeal := hForwardReferenceIdeal) (hPre_weights_finite := hPre_weights_finite)
    ∧ preserves_Kernel_KernelIdeal
    ∧ algebraic_KernelIdeal_ReferenceIdeal_pre_dp_finite (hKernelIdeal := hKernelIdeal) (hReferenceIdeal := hReferenceIdeal) (hPre_dp_finite := hPre_dp_finite)
    ∧ preserves_Attn_AttnIdeal
    ∧ algebraic_AttnIdeal_AttnReferenceIdeal (hAttnIdeal := hAttnIdeal) (hAttnReferenceIdeal := hAttnReferenceIdeal)
    ∧ preserves_AttnInputs_AttnInputsIdeal
    ∧ algebraic_AttnInputsIdeal_AttnInputsReferenceIdeal (hAttnInputsIdeal := hAttnInputsIdeal) (hAttnInputsReferenceIdeal := hAttnInputsReferenceIdeal)
    ∧ preserves_AttnWeights_AttnWeightsIdeal
    ∧ algebraic_AttnWeightsIdeal_AttnWeightsReferenceIdeal (hAttnWeightsIdeal := hAttnWeightsIdeal) (hAttnWeightsReferenceIdeal := hAttnWeightsReferenceIdeal)
    ∧ preserves_Mix_MixIdeal
    ∧ algebraic_MixIdeal_MixReferenceIdeal_pre_all_finite (hMixIdeal := hMixIdeal) (hMixReferenceIdeal := hMixReferenceIdeal) (hPre_all_finite := hPre_all_finite)
    ∧ preserves_Project_ProjectIdeal
    ∧ algebraic_ProjectIdeal_ProjectReferenceIdeal (hProjectIdeal := hProjectIdeal) (hProjectReferenceIdeal := hProjectReferenceIdeal)
    ∧ preserves_Forward_ForwardIdeal
    ∧ algebraic_ForwardIdeal_ForwardReferenceIdeal_pre_weights_finite (hForwardIdeal := hForwardIdeal) (hForwardReferenceIdeal := hForwardReferenceIdeal) (hPre_weights_finite := hPre_weights_finite)
-- ==== Pre_all_finite.lean ====
abbrev S8192x1024 : Shape := ⟨2, ![8192, 1024]⟩
abbrev S4x256x256 : Shape := ⟨3, ![4, 256, 256]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S4x256x256 : S_.BroadcastsInDim S4x256x256 (![] : Fin 0 → Fin S4x256x256.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg5 : FVec F S1024x1024 .f32) (main_v1 : IVec S8192x1024 1) (main_v3 : IVec S8192x1024 1) (main_v5 : IVec S8192x1024 1) (main_v7 : IVec S8192x1024 1) (main_v9 : IVec S4x256x256 1) (main_v11 : IVec S4x256x256 1) (main_v13 : IVec S1024 1) (main_v15 : IVec S1024 1) : IVec S8192x1024 1 × IVec S8192x1024 1 × IVec S8192x1024 1 × IVec S8192x1024 1 × IVec S4x256x256 1 × IVec S4x256x256 1 × IVec S1024 1 × IVec S1024 1 × IVec S1024x1024 1 × IVec S1024x1024 1 :=
  let main_cst_7 : FVec F S_ .f32 := constant S_ .f32 0x7F800000#32
  let main_v16 : FVec F S1024x1024 .f32 := broadcastInDim S1024x1024 ![] bcast_S_S1024x1024 main_cst_7
  let main_v17 : IVec S1024x1024 1 := cmpf .olt main_arg5 main_v16
  let main_cst_8 : FVec F S_ .f32 := constant S_ .f32 0xFF800000#32
  let main_v18 : FVec F S1024x1024 .f32 := broadcastInDim S1024x1024 ![] bcast_S_S1024x1024 main_cst_8
  let main_v19 : IVec S1024x1024 1 := cmpf .ogt main_arg5 main_v18
  (main_v1, main_v3, main_v5, main_v7, main_v9, main_v11, main_v13, main_v15, main_v17, main_v19)

def fn {F : FTy → Type} [FloatOps F] (main_arg0 : FVec F S8192x1024 .f32) (main_arg1 : FVec F S8192x1024 .bf16) (main_arg2 : FVec F S8192x1024 .bf16) (main_arg3 : FVec F S4x256x256 .f32) (main_arg4 : FVec F S1024 .f32) (main_arg5 : FVec F S1024x1024 .f32) : IVec S8192x1024 1 × IVec S8192x1024 1 × IVec S8192x1024 1 × IVec S8192x1024 1 × IVec S4x256x256 1 × IVec S4x256x256 1 × IVec S1024 1 × IVec S1024 1 × IVec S1024x1024 1 × IVec S1024x1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_cst_1 : FVec F S_ .bf16 := constant S_ .bf16 0x7F80#16
  let main_v4 : FVec F S8192x1024 .bf16 := broadcastInDim S8192x1024 ![] bcast_S_S8192x1024 main_cst_1
  let main_v5 : IVec S8192x1024 1 := cmpf .olt main_arg1 main_v4
  let main_cst_2 : FVec F S_ .bf16 := constant S_ .bf16 0xFF80#16
  let main_v6 : FVec F S8192x1024 .bf16 := broadcastInDim S8192x1024 ![] bcast_S_S8192x1024 main_cst_2
  let main_v7 : IVec S8192x1024 1 := cmpf .ogt main_arg1 main_v6
  let main_cst_3 : FVec F S_ .f32 := constant S_ .f32 0x7F800000#32
  let main_v8 : FVec F S4x256x256 .f32 := broadcastInDim S4x256x256 ![] bcast_S_S4x256x256 main_cst_3
  let main_v9 : IVec S4x256x256 1 := cmpf .olt main_arg3 main_v8
  let main_cst_4 : FVec F S_ .f32 := constant S_ .f32 0xFF800000#32
  let main_v10 : FVec F S4x256x256 .f32 := broadcastInDim S4x256x256 ![] bcast_S_S4x256x256 main_cst_4
  let main_v11 : IVec S4x256x256 1 := cmpf .ogt main_arg3 main_v10
  let main_cst_5 : FVec F S_ .f32 := constant S_ .f32 0x7F800000#32
  let main_v12 : FVec F S1024 .f32 := broadcastInDim S1024 ![] bcast_S_S1024 main_cst_5
  let main_v13 : IVec S1024 1 := cmpf .olt main_arg4 main_v12
  let main_cst_6 : FVec F S_ .f32 := constant S_ .f32 0xFF800000#32
  let main_v14 : FVec F S1024 .f32 := broadcastInDim S1024 ![] bcast_S_S1024 main_cst_6
  let main_v15 : IVec S1024 1 := cmpf .ogt main_arg4 main_v14
  fn_part1 (F := F) main_arg5 main_v1 main_v3 main_v5 main_v7 main_v9 main_v11 main_v13 main_v15
-- ==== Pre_dp_finite.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x1024 .f32) (main_arg3 : FVec F S8192x1024 .f32) (main_arg4 : FVec F S1024 .f32) (main_arg5 : FVec F S1024x2048 .f32) : IVec S8192x1024 1 × IVec S8192x1024 1 :=
  let main_cst : FVec F S_ .bf16 := constant S_ .bf16 0x7F80#16
  let main_v0 : FVec F S8192x1024 .bf16 := broadcastInDim S8192x1024 ![] bcast_S_S8192x1024 main_cst
  let main_v1 : IVec S8192x1024 1 := cmpf .olt main_arg0 main_v0
  let main_cst_0 : FVec F S_ .bf16 := constant S_ .bf16 0xFF80#16
  let main_v2 : FVec F S8192x1024 .bf16 := broadcastInDim S8192x1024 ![] bcast_S_S8192x1024 main_cst_0
  let main_v3 : IVec S8192x1024 1 := cmpf .ogt main_arg0 main_v2
  (main_v1, main_v3)
-- ==== Pre_weights_finite.lean ====
abbrev S8192x1024 : Shape := ⟨2, ![8192, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S8192x1024 .f32) (main_arg1 : FVec F S1024 .f32) (main_arg2 : FVec F S1024x2048 .f32) (main_arg3 : FVec F S4x256x256 .f32) (main_arg4 : FVec F S1024 .f32) (main_arg5 : FVec F S1024x1024 .f32) : IVec S1024 1 × IVec S1024 1 × IVec S1024x2048 1 × IVec S1024x2048 1 :=
  let main_cst : FVec F S_ .f32 := constant S_ .f32 0x7F800000#32
  let main_v0 : FVec F S1024 .f32 := broadcastInDim S1024 ![] bcast_S_S1024 main_cst
  let main_v1 : IVec S1024 1 := cmpf .olt main_arg1 main_v0
  let main_cst_0 : FVec F S_ .f32 := constant S_ .f32 0xFF800000#32
  let main_v2 : FVec F S1024 .f32 := broadcastInDim S1024 ![] bcast_S_S1024 main_cst_0
  let main_v3 : IVec S1024 1 := cmpf .ogt main_arg1 main_v2
  let main_cst_1 : FVec F S_ .f32 := constant S_ .f32 0x7F800000#32
  let main_v4 : FVec F S1024x2048 .f32 := broadcastInDim S1024x2048 ![] bcast_S_S1024x2048 main_cst_1
  let main_v5 : IVec S1024x2048 1 := cmpf .olt main_arg2 main_v4
  let main_cst_2 : FVec F S_ .f32 := constant S_ .f32 0xFF800000#32
  let main_v6 : FVec F S1024x2048 .f32 := broadcastInDim S1024x2048 ![] bcast_S_S1024x2048 main_cst_2
  let main_v7 : IVec S1024x2048 1 := cmpf .ogt main_arg2 main_v6
  (main_v1, main_v3, main_v5, main_v7)
-- ==== Kernel.lean ====
abbrev S8192x1024 : Shape := ⟨2, ![8192, 1024]⟩
abbrev S1024 : Shape := ⟨1, ![1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S528x1 : Shape := ⟨2, ![528, 1]⟩
abbrev S528x256 : Shape := ⟨2, ![528, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | .hbm, ⟨9, _⟩ => ⟨S1x1024, .f32⟩
  | .hbm, ⟨10, _⟩ => ⟨S8192x1024, .f32⟩
  | .hbm, ⟨11, _⟩ => ⟨S4x1024x512, .bf16⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S4x1024x512, .bf16⟩
  | .local _ .vmem, ⟨12, _⟩ => ⟨S512x1024, .f32⟩
  | .local _ .vmem, ⟨13, _⟩ => ⟨S512x1024, .f32⟩
  | .local _ .vmem, ⟨14, _⟩ => ⟨S4x1024x512, .bf16⟩
  | .local _ .vmem, ⟨15, _⟩ => ⟨S1x1024, .f32⟩
  | .local _ .vmem, ⟨16, _⟩ => ⟨S4x1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v196 : BitVec 1 := Scalar.cmpi .eq arg0 c15_i32
  let v197 : BitVec 32 := Scalar.extui v196
  let c0_i32_83 : BitVec 32 := 0#32
  let v198 : BitVec 1 := Scalar.cmpi .ne v197 c0_i32_83
  v198

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x4x256 : Shape := ⟨3, ![8192, 4, 256]⟩
abbrev S1x4x256 : Shape := ⟨3, ![1, 4, 256]⟩
abbrev S8193x4x256 : Shape := ⟨3, ![8193, 4, 256]⟩
abbrev S8193x1x256 : Shape := ⟨3, ![8193, 1, 256]⟩
abbrev S8193x256 : Shape := ⟨2, ![8193, 256]⟩
abbrev S1x256 : Shape := ⟨2, ![1, 256]⟩
abbrev S8191x256 : Shape := ⟨2, ![8191, 256]⟩
abbrev S8192x256 : Shape := ⟨2, ![8192, 256]⟩
abbrev S8192x1x256 : Shape := ⟨3, ![8192, 1, 256]⟩
abbrev S3x256 : Shape := ⟨2, ![3, 256]⟩
abbrev S8189x256 : Shape := ⟨2, ![8189, 256]⟩
abbrev S7x256 : Shape := ⟨2, ![7, 256]⟩
abbrev S8185x256 : Shape := ⟨2, ![8185, 256]⟩
abbrev S15x256 : Shape := ⟨2, ![15, 256]⟩
abbrev S8177x256 : Shape := ⟨2, ![8177, 256]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 266
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .f32⟩
  | 3 => ⟨S8192x1024, .f32⟩
  | 4 => ⟨S1024, .f32⟩
  | 5 => ⟨S1024x2048, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2048, .f32⟩
  | 27 => ⟨S8192x1024, .f32⟩
  | 28 => ⟨S8192x1024, .f32⟩
  | 29 => ⟨S8192x4x256, .f32⟩
  | 30 => ⟨S_, .f32⟩
  | 31 => ⟨S1x4x256, .f32⟩
  | 32 => ⟨S_, .f32⟩
  | 33 => ⟨S_, .f32⟩
  | 34 => ⟨S8192x4x256, .f32⟩
  | 35 => ⟨S8193x4x256, .f32⟩
  | 36 => ⟨S_, .f32⟩
  | 37 => ⟨S1x4x256, .f32⟩
  | 38 => ⟨S8193x1x256, .f32⟩
  | 39 => ⟨S8193x256, .f32⟩
  | 40 => ⟨S_, .f32⟩
  | 41 => ⟨S1x256, .f32⟩
  | 42 => ⟨S8191x256, .f32⟩
  | 43 => ⟨S8192x256, .f32⟩
  | 44 => ⟨S_, .f32⟩
  | 45 => ⟨S1x256, .f32⟩
  | 46 => ⟨S8192, .i32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192, .f32⟩
  | 54 => ⟨S8192x1, .f32⟩
  | 55 => ⟨S8192x256, .f32⟩
  | 56 => ⟨S8192x256, .f32⟩
  | 57 => ⟨S8192x256, .f32⟩
  | 58 => ⟨S8192x256, .f32⟩
  | 59 => ⟨S8192x1x256, .f32⟩
  | 60 => ⟨S8192x256, .f32⟩
  | 61 => ⟨S8192x256, .f32⟩
  | 62 => ⟨S8193x1x256, .f32⟩
  | 63 => ⟨S8193x256, .f32⟩
  | 64 => ⟨S_, .f32⟩
  | 65 => ⟨S3x256, .f32⟩
  | 66 => ⟨S8189x256, .f32⟩
  | 67 => ⟨S8192x256, .f32⟩
  | 68 => ⟨S_, .f32⟩
  | 69 => ⟨S3x256, .f32⟩
  | 70 => ⟨S8192, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .f32⟩
  | 78 => ⟨S8192x1, .f32⟩
  | 79 => ⟨S8192x256, .f32⟩
  | 80 => ⟨S8192x256, .f32⟩
  | 81 => ⟨S8192x256, .f32⟩
  | 82 => ⟨S8192x256, .f32⟩
  | 83 => ⟨S8192x1x256, .f32⟩
  | 84 => ⟨S8192x256, .f32⟩
  | 85 => ⟨S8192x256, .f32⟩
  | 86 => ⟨S8193x1x256, .f32⟩
  | 87 => ⟨S8193x256, .f32⟩
  | 88 => ⟨S_, .f32⟩
  | 89 => ⟨S7x256, .f32⟩
  | 90 => ⟨S8185x256, .f32⟩
  | 91 => ⟨S8192x256, .f32⟩
  | 92 => ⟨S_, .f32⟩
  | 93 => ⟨S7x256, .f32⟩
  | 94 => ⟨S8192, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .f32⟩
  | 102 => ⟨S8192x1, .f32⟩
  | 103 => ⟨S8192x256, .f32⟩
  | 104 => ⟨S8192x256, .f32⟩
  | 105 => ⟨S8192x256, .f32⟩
  | 106 => ⟨S8192x256, .f32⟩
  | 107 => ⟨S8192x1x256, .f32⟩
  | 108 => ⟨S8192x256, .f32⟩
  | 109 => ⟨S8192x256, .f32⟩
  | 110 => ⟨S8193x1x256, .f32⟩
  | 111 => ⟨S8193x256, .f32⟩
  | 112 => ⟨S_, .f32⟩
  | 113 => ⟨S15x256, .f32⟩
  | 114 => ⟨S8177x256, .f32⟩
  | 115 => ⟨S8192x256, .f32⟩
  | 116 => ⟨S_, .f32⟩
  | 117 => ⟨S15x256, .f32⟩
  | 118 => ⟨S8192, .i32⟩
  | 119 => ⟨S_, .i32⟩
  | 120 => ⟨S8192, .i32⟩
  | 121 => ⟨S8192, .i32⟩
  | 122 => ⟨S_, .i32⟩
  | 123 => ⟨S8192, .i32⟩
  | 124 => ⟨S8192, .i32⟩
  | 125 => ⟨S8192, .f32⟩
  | 126 => ⟨S8192x1, .f32⟩
  | 127 => ⟨S8192x256, .f32⟩
  | _ => ⟨S8192x1024, .bf16⟩

abbrev hbmTy0_1 (i : Nat) : BufTy := match i % 128 with
  | 0 => ⟨S8192x256, .f32⟩
  | 1 => ⟨S8192x256, .f32⟩
  | 2 => ⟨S8192x256, .f32⟩
  | 3 => ⟨S8192x1x256, .f32⟩
  | 4 => ⟨S8192x256, .f32⟩
  | 5 => ⟨S8192x256, .f32⟩
  | 6 => ⟨S8192x1x256, .f32⟩
  | 7 => ⟨S8192x1x256, .f32⟩
  | 8 => ⟨S8192x1x256, .f32⟩
  | 9 => ⟨S8192x1x256, .f32⟩
  | 10 => ⟨S8192x4x256, .f32⟩
  | 11 => ⟨S8192x1024, .f32⟩
  | 12 => ⟨S8192x1024, .f32⟩
  | 13 => ⟨S8192x1024, .f32⟩
  | 14 => ⟨S8192x4x256, .f32⟩
  | 15 => ⟨S8192x1x256, .f32⟩
  | 16 => ⟨S8192x256, .f32⟩
  | 17 => ⟨S8192x1x256, .f32⟩
  | 18 => ⟨S8192x256, .f32⟩
  | 19 => ⟨S8192x1x256, .f32⟩
  | 20 => ⟨S8192x256, .f32⟩
  | 21 => ⟨S8192x1x256, .f32⟩
  | 22 => ⟨S8192x256, .f32⟩
  | 23 => ⟨S8192x256, .f32⟩
  | 24 => ⟨S8192x1x256, .f32⟩
  | 25 => ⟨S_, .f32⟩
  | 26 => ⟨S8192x4x256, .f32⟩
  | 27 => ⟨S8192x256, .f32⟩
  | 28 => ⟨S8192x256, .f32⟩
  | 29 => ⟨S8192x256, .f32⟩
  | 30 => ⟨S_, .f32⟩
  | 31 => ⟨S8193x256, .f32⟩
  | 32 => ⟨S15x256, .f32⟩
  | 33 => ⟨S8177x256, .f32⟩
  | 34 => ⟨S_, .f32⟩
  | 35 => ⟨S8193x256, .f32⟩
  | 36 => ⟨S8193x256, .f32⟩
  | 37 => ⟨S8193x1x256, .f32⟩
  | 38 => ⟨S_, .f32⟩
  | 39 => ⟨S8193x4x256, .f32⟩
  | 40 => ⟨S8192x256, .f32⟩
  | 41 => ⟨S8192x1x256, .f32⟩
  | 42 => ⟨S_, .f32⟩
  | 43 => ⟨S8192x4x256, .f32⟩
  | 44 => ⟨S8192x4x256, .f32⟩
  | 45 => ⟨S8192x256, .f32⟩
  | 46 => ⟨S8192x256, .f32⟩
  | 47 => ⟨S8192x256, .f32⟩
  | 48 => ⟨S_, .f32⟩
  | 49 => ⟨S8193x256, .f32⟩
  | 50 => ⟨S7x256, .f32⟩
  | 51 => ⟨S8185x256, .f32⟩
  | 52 => ⟨S_, .f32⟩
  | 53 => ⟨S8193x256, .f32⟩
  | 54 => ⟨S8193x256, .f32⟩
  | 55 => ⟨S8193x1x256, .f32⟩
  | 56 => ⟨S_, .f32⟩
  | 57 => ⟨S8193x4x256, .f32⟩
  | 58 => ⟨S8193x4x256, .f32⟩
  | 59 => ⟨S8192x256, .f32⟩
  | 60 => ⟨S8192x1x256, .f32⟩
  | 61 => ⟨S_, .f32⟩
  | 62 => ⟨S8192x4x256, .f32⟩
  | 63 => ⟨S8192x4x256, .f32⟩
  | 64 => ⟨S8192x256, .f32⟩
  | 65 => ⟨S8192x256, .f32⟩
  | 66 => ⟨S8192x256, .f32⟩
  | 67 => ⟨S_, .f32⟩
  | 68 => ⟨S8193x256, .f32⟩
  | 69 => ⟨S3x256, .f32⟩
  | 70 => ⟨S8189x256, .f32⟩
  | 71 => ⟨S_, .f32⟩
  | 72 => ⟨S8193x256, .f32⟩
  | 73 => ⟨S8193x256, .f32⟩
  | 74 => ⟨S8193x1x256, .f32⟩
  | 75 => ⟨S_, .f32⟩
  | 76 => ⟨S8193x4x256, .f32⟩
  | 77 => ⟨S8193x4x256, .f32⟩
  | 78 => ⟨S8192x256, .f32⟩
  | 79 => ⟨S8192x1x256, .f32⟩
  | 80 => ⟨S_, .f32⟩
  | 81 => ⟨S8192x4x256, .f32⟩
  | 82 => ⟨S8192x4x256, .f32⟩
  | 83 => ⟨S8192x256, .f32⟩
  | 84 => ⟨S8192x256, .f32⟩
  | 85 => ⟨S8192x256, .f32⟩
  | 86 => ⟨S_, .f32⟩
  | 87 => ⟨S8193x256, .f32⟩
  | 88 => ⟨S1x256, .f32⟩
  | 89 => ⟨S8191x256, .f32⟩
  | 90 => ⟨S_, .f32⟩
  | 91 => ⟨S8193x256, .f32⟩
  | 92 => ⟨S8193x256, .f32⟩
  | 93 => ⟨S8193x1x256, .f32⟩
  | 94 => ⟨S_, .f32⟩
  | 95 => ⟨S8193x4x256, .f32⟩
  | 96 => ⟨S8193x4x256, .f32⟩
  | 97 => ⟨S1x4x256, .f32⟩
  | 98 => ⟨S8192x4x256, .f32⟩
  | 99 => ⟨S_, .f32⟩
  | 100 => ⟨S_, .f32⟩
  | 101 => ⟨S8192x4x256, .f32⟩
  | 102 => ⟨S8192x4x256, .f32⟩
  | 103 => ⟨S8192x1024, .f32⟩
  | 104 => ⟨S8192x2048, .f32⟩
  | 105 => ⟨S2048x1024, .f32⟩
  | 106 => ⟨S1024x2048, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .bf16⟩

abbrev hbmTy0_2 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S1024x4x512, .f32⟩
  | 7 => ⟨S4x1024x512, .f32⟩
  | 8 => ⟨S4x1024x512, .bf16⟩
  | 9 => ⟨S1x1024, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_call0_call0_cst : Ref sig .tc := ⟨.hbm, 32, rfl⟩
abbrev main_call0_call0_v0 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_c_18 : Ref sig .tc := ⟨.hbm, 119, rfl⟩
abbrev main_v91 : Ref sig .tc := ⟨.hbm, 120, rfl⟩
abbrev main_v92 : Ref sig .tc := ⟨.hbm, 121, rfl⟩
abbrev main_c_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_20 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_21 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_22 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_23 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_24 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_25 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_26 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_27 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_28 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_29 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_30 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_31 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_32 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_33 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_34 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_35 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_call1_call0_cst : Ref sig .tc := ⟨.hbm, 227, rfl⟩
abbrev main_call1_call0_v0 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_cst_36 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_cst_37 : Ref sig .tc := ⟨.hbm, 242, rfl⟩
abbrev main_v193 : Ref sig .tc := ⟨.hbm, 243, rfl⟩
abbrev main_v194 : Ref sig .tc := ⟨.hbm, 244, rfl⟩
abbrev main_cst_38 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_cst_39 : Ref sig .tc := ⟨.hbm, 252, rfl⟩
abbrev main_v201 : Ref sig .tc := ⟨.hbm, 253, rfl⟩
abbrev main_v202 : Ref sig .tc := ⟨.hbm, 254, rfl⟩
abbrev main_cst_40 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩

abbrev nD : Nat := 1
abbrev τ : Topo := Topo.v7x

variable {F : FTy → Type} [FloatOps F]
-- ==== Attn.lean ====
abbrev S1024x8192 : Shape := ⟨2, ![1024, 8192]⟩
abbrev S8192x512 : Shape := ⟨2, ![8192, 512]⟩
abbrev S16x128x512 : Shape := ⟨3, ![16, 128, 512]⟩
abbrev S8192x1024 : Shape := ⟨2, ![8192, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S1024x512 : Shape := ⟨2, ![1024, 512]⟩
abbrev S512x512 : Shape := ⟨2, ![512, 512]⟩
abbrev S1x128x512 : Shape := ⟨3, ![1, 128, 512]⟩
abbrev S512x1024 : Shape := ⟨2, ![512, 1024]⟩
abbrev S384x512 : Shape := ⟨2, ![384, 512]⟩
abbrev S128x512 : Shape := ⟨2, ![128, 512]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 19
  | .smem => 0
  | _ => 0

abbrev bufTy : (tb : Table) → Fin (tcTables nBuf tb) → BufTy
  | .hbm, ⟨0, _⟩ => ⟨S1024x8192, .bf16⟩
  | .hbm, ⟨1, _⟩ => ⟨S8192x512, .f32⟩
  | .hbm, ⟨2, _⟩ => ⟨S16x128x512, .f32⟩
  | .hbm, ⟨3, _⟩ => ⟨S1024x8192, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024x2560, .f32⟩
  | .hbm, ⟨8, _⟩ => ⟨S1x1024, .f32⟩
  | .hbm, ⟨9, _⟩ => ⟨S2560x1024, .f32⟩
  | .hbm, ⟨10, _⟩ => ⟨S2560x1024, .bf16⟩
  | .hbm, ⟨11, _⟩ => ⟨S8192x1024, .f32⟩
  | .hbm, ⟨12, _⟩ => ⟨S1x1024, .f32⟩
  | .hbm, ⟨13, _⟩ => ⟨S2560x1024, .bf16⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S1x128x512, .f32⟩
  | .local _ .vmem, ⟨5, _⟩ => ⟨S1x128x512, .f32⟩
  | .local _ .vmem, ⟨6, _⟩ => ⟨S1024x512, .bf16⟩
  | .local _ .vmem, ⟨7, _⟩ => ⟨S1024x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S2560x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S2560x1024, .bf16⟩
  | .local _ .vmem, ⟨18, _⟩ => ⟨S2560x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_49 : BitVec 32 := 15#32
  let v84 : BitVec 1 := Scalar.cmpi .eq arg0 c15_i32_49
  let v85 : BitVec 32 := Scalar.extui v84
  let c0_i32_50 : BitVec 32 := 0#32
  let v86 : BitVec 1 := Scalar.cmpi .ne v85 c0_i32_50
  v86

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2560x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2560x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AttnReferenceIdeal.lean ====
abbrev S1024x8192 : Shape := ⟨2, ![1024, 8192]⟩
abbrev S8192x512 : Shape := ⟨2, ![8192, 512]⟩
abbrev S16x128x512 : Shape := ⟨3, ![16, 128, 512]⟩
abbrev S8192x1024 : Shape := ⟨2, ![8192, 1024]⟩
abbrev S1024 : Shape := ⟨1, ![1024]⟩
abbrev S1024x2560 : Shape := ⟨2, ![1024, 2560]⟩
abbrev S15x128x512 : Shape := ⟨3, ![15, 128, 512]⟩
abbrev S_ : Shape := ⟨0, ![]⟩
abbrev S1x128x512 : Shape := ⟨3, ![1, 128, 512]⟩
abbrev S16x384x512 : Shape := ⟨3, ![16, 384, 512]⟩
abbrev S16x512x512 : Shape := ⟨3, ![16, 512, 512]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S2560x1024 : Shape := ⟨2, ![2560, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x512, .f32⟩
  | .hbm, ⟨2, _⟩ => ⟨S16x128x512, .f32⟩
  | .hbm, ⟨3, _⟩ => ⟨S1024x8192, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024x2560, .f32⟩
  | .hbm, ⟨8, _⟩ => ⟨S15x128x512, .f32⟩
  | .hbm, ⟨9, _⟩ => ⟨S_, .f32⟩
  | .hbm, ⟨10, _⟩ => ⟨S1x128x512, .f32⟩
  | .hbm, ⟨11, _⟩ => ⟨S16x128x512, .f32⟩
  | .hbm, ⟨12, _⟩ => ⟨S_, .f32⟩
  | .hbm, ⟨13, _⟩ => ⟨S16x384x512, .f32⟩
  | .hbm, ⟨14, _⟩ => ⟨S16x512x512, .f32⟩
  | .hbm, ⟨15, _⟩ => ⟨S8192x512, .f32⟩
  | .hbm, ⟨16, _⟩ => ⟨S8192x512, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2560, .f32⟩
  | .hbm, ⟨38, _⟩ => ⟨S8192x1024, .f32⟩
  | .hbm, ⟨39, _⟩ => ⟨S8192x512, .f32⟩
  | .hbm, ⟨40, _⟩ => ⟨S8192x1024, .f32⟩
  | .hbm, ⟨41, _⟩ => ⟨S1024x8192, .f32⟩
  | .hbm, ⟨42, _⟩ => ⟨S8192x1024, .f32⟩
  | .hbm, ⟨43, _⟩ => ⟨S1024x8192, .f32⟩
  | .hbm, ⟨44, _⟩ => ⟨S8192x1024, .f32⟩
  | .hbm, ⟨45, _⟩ => ⟨S8192x2560, .f32⟩
  | .hbm, ⟨46, _⟩ => ⟨S2560x1024, .f32⟩
  | .hbm, ⟨47, _⟩ => ⟨S1024x2560, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S2560x1024, .f32⟩
  | .hbm, ⟨77, _⟩ => ⟨S2560x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== AttnInputs.lean ====
abbrev S1024x8192 : Shape := ⟨2, ![1024, 8192]⟩
abbrev S8192x512 : Shape := ⟨2, ![8192, 512]⟩
abbrev S16x128x512 : Shape := ⟨3, ![16, 128, 512]⟩
abbrev S8192x1024 : Shape := ⟨2, ![8192, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S1024x512 : Shape := ⟨2, ![1024, 512]⟩
abbrev S512x512 : Shape := ⟨2, ![512, 512]⟩
abbrev S1x128x512 : Shape := ⟨3, ![1, 128, 512]⟩
abbrev S512x1024 : Shape := ⟨2, ![512, 1024]⟩
abbrev S384x512 : Shape := ⟨2, ![384, 512]⟩
abbrev S128x512 : Shape := ⟨2, ![128, 512]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 17
  | .smem => 0
  | _ => 0

abbrev bufTy : (tb : Table) → Fin (tcTables nBuf tb) → BufTy
  | .hbm, ⟨0, _⟩ => ⟨S1024x8192, .bf16⟩
  | .hbm, ⟨1, _⟩ => ⟨S8192x512, .f32⟩
  | .hbm, ⟨2, _⟩ => ⟨S16x128x512, .f32⟩
  | .hbm, ⟨3, _⟩ => ⟨S1024x8192, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024x2560, .f32⟩
  | .hbm, ⟨8, _⟩ => ⟨S1x1024, .f32⟩
  | .hbm, ⟨9, _⟩ => ⟨S2560x1024, .f32⟩
  | .hbm, ⟨10, _⟩ => ⟨S2560x1024, .bf16⟩
  | .hbm, ⟨11, _⟩ => ⟨S8192x1024, .f32⟩
  | .hbm, ⟨12, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S1x128x512, .f32⟩
  | .local _ .vmem, ⟨5, _⟩ => ⟨S1x128x512, .f32⟩
  | .local _ .vmem, ⟨6, _⟩ => ⟨S1024x512, .bf16⟩
  | .local _ .vmem, ⟨7, _⟩ => ⟨S1024x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S2560x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2560x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnInputsReferenceIdeal.lean ====
abbrev S1024x8192 : Shape := ⟨2, ![1024, 8192]⟩
abbrev S8192x512 : Shape := ⟨2, ![8192, 512]⟩
abbrev S16x128x512 : Shape := ⟨3, ![16, 128, 512]⟩
abbrev S8192x1024 : Shape := ⟨2, ![8192, 1024]⟩
abbrev S1024 : Shape := ⟨1, ![1024]⟩
abbrev S1024x2560 : Shape := ⟨2, ![1024, 2560]⟩
abbrev S15x128x512 : Shape := ⟨3, ![15, 128, 512]⟩
abbrev S_ : Shape := ⟨0, ![]⟩
abbrev S1x128x512 : Shape := ⟨3, ![1, 128, 512]⟩
abbrev S16x384x512 : Shape := ⟨3, ![16, 384, 512]⟩
abbrev S16x512x512 : Shape := ⟨3, ![16, 512, 512]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S2560x1024 : Shape := ⟨2, ![2560, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x512, .f32⟩
  | .hbm, ⟨2, _⟩ => ⟨S16x128x512, .f32⟩
  | .hbm, ⟨3, _⟩ => ⟨S1024x8192, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024x2560, .f32⟩
  | .hbm, ⟨8, _⟩ => ⟨S15x128x512, .f32⟩
  | .hbm, ⟨9, _⟩ => ⟨S_, .f32⟩
  | .hbm, ⟨10, _⟩ => ⟨S1x128x512, .f32⟩
  | .hbm, ⟨11, _⟩ => ⟨S16x128x512, .f32⟩
  | .hbm, ⟨12, _⟩ => ⟨S_, .f32⟩
  | .hbm, ⟨13, _⟩ => ⟨S16x384x512, .f32⟩
  | .hbm, ⟨14, _⟩ => ⟨S16x512x512, .f32⟩
  | .hbm, ⟨15, _⟩ => ⟨S8192x512, .f32⟩
  | .hbm, ⟨16, _⟩ => ⟨S8192x512, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2560, .f32⟩
  | .hbm, ⟨38, _⟩ => ⟨S8192x1024, .f32⟩
  | .hbm, ⟨39, _⟩ => ⟨S8192x512, .f32⟩
  | .hbm, ⟨40, _⟩ => ⟨S8192x1024, .f32⟩
  | .hbm, ⟨41, _⟩ => ⟨S1024x8192, .f32⟩
  | .hbm, ⟨42, _⟩ => ⟨S8192x1024, .f32⟩
  | .hbm, ⟨43, _⟩ => ⟨S1024x8192, .f32⟩
  | .hbm, ⟨44, _⟩ => ⟨S8192x1024, .f32⟩
  | .hbm, ⟨45, _⟩ => ⟨S8192x2560, .f32⟩
  | .hbm, ⟨46, _⟩ => ⟨S2560x1024, .f32⟩
  | .hbm, ⟨47, _⟩ => ⟨S1024x2560, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S2560x1024, .f32⟩
  | .hbm, ⟨77, _⟩ => ⟨S2560x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== AttnWeights.lean ====
abbrev S1024x8192 : Shape := ⟨2, ![1024, 8192]⟩
abbrev S8192x512 : Shape := ⟨2, ![8192, 512]⟩
abbrev S16x128x512 : Shape := ⟨3, ![16, 128, 512]⟩
abbrev S8192x1024 : Shape := ⟨2, ![8192, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S1024x512 : Shape := ⟨2, ![1024, 512]⟩
abbrev S512x512 : Shape := ⟨2, ![512, 512]⟩
abbrev S1x128x512 : Shape := ⟨3, ![1, 128, 512]⟩
abbrev S512x1024 : Shape := ⟨2, ![512, 1024]⟩
abbrev S384x512 : Shape := ⟨2, ![384, 512]⟩
abbrev S128x512 : Shape := ⟨2, ![128, 512]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1024x8192, .bf16⟩
  | .hbm, ⟨1, _⟩ => ⟨S8192x512, .f32⟩
  | .hbm, ⟨2, _⟩ => ⟨S16x128x512, .f32⟩
  | .hbm, ⟨3, _⟩ => ⟨S1024x8192, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024x2560, .f32⟩
  | .hbm, ⟨8, _⟩ => ⟨S1x1024, .f32⟩
  | .hbm, ⟨9, _⟩ => ⟨S2560x1024, .f32⟩
  | .hbm, ⟨10, _⟩ => ⟨S2560x1024, .bf16⟩
  | .hbm, ⟨11, _⟩ => ⟨S2560x1024, .bf16⟩
  | .local _ .vmem, ⟨0, _⟩ => ⟨S1024x512, .bf16⟩
  | .local _ .vmem, ⟨1, _⟩ => ⟨S1024x512, .bf16⟩
  | .local _ .vmem, ⟨2, _⟩ => ⟨S512x512, .f32⟩
  | .local _ .vmem, ⟨3, _⟩ => ⟨S512x512, .f32⟩
  | .local _ .vmem, ⟨4, _⟩ => ⟨S1x128x512, .f32⟩
  | .local _ .vmem, ⟨5, _⟩ => ⟨S1x128x512, .f32⟩
  | .local _ .vmem, ⟨6, _⟩ => ⟨S1024x512, .bf16⟩
  | .local _ .vmem, ⟨7, _⟩ => ⟨S1024x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S2560x1024, .bf16⟩
  | .local _ .vmem, ⟨14, _⟩ => ⟨S2560x1024, .bf16⟩
  | .local _ .vmem, ⟨15, _⟩ => ⟨S2560x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_29 : BitVec 32 := 15#32
  let v51 : BitVec 1 := Scalar.cmpi .eq arg0 c15_i32_29
  let v52 : BitVec 32 := Scalar.extui v51
  let c0_i32_30 : BitVec 32 := 0#32
  let v53 : BitVec 1 := Scalar.cmpi .ne v52 c0_i32_30
  v53

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2560x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2560x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnWeightsReferenceIdeal.lean ====
abbrev S1024x8192 : Shape := ⟨2, ![1024, 8192]⟩
abbrev S8192x512 : Shape := ⟨2, ![8192, 512]⟩
abbrev S16x128x512 : Shape := ⟨3, ![16, 128, 512]⟩
abbrev S8192x1024 : Shape := ⟨2, ![8192, 1024]⟩
abbrev S1024 : Shape := ⟨1, ![1024]⟩
abbrev S1024x2560 : Shape := ⟨2, ![1024, 2560]⟩
abbrev S15x128x512 : Shape := ⟨3, ![15, 128, 512]⟩
abbrev S_ : Shape := ⟨0, ![]⟩
abbrev S1x128x512 : Shape := ⟨3, ![1, 128, 512]⟩
abbrev S16x384x512 : Shape := ⟨3, ![16, 384, 512]⟩
abbrev S16x512x512 : Shape := ⟨3, ![16, 512, 512]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S2560x1024 : Shape := ⟨2, ![2560, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x512, .f32⟩
  | .hbm, ⟨2, _⟩ => ⟨S16x128x512, .f32⟩
  | .hbm, ⟨3, _⟩ => ⟨S1024x8192, .bf16⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024x2560, .f32⟩
  | .hbm, ⟨8, _⟩ => ⟨S15x128x512, .f32⟩
  | .hbm, ⟨9, _⟩ => ⟨S_, .f32⟩
  | .hbm, ⟨10, _⟩ => ⟨S1x128x512, .f32⟩
  | .hbm, ⟨11, _⟩ => ⟨S16x128x512, .f32⟩
  | .hbm, ⟨12, _⟩ => ⟨S_, .f32⟩
  | .hbm, ⟨13, _⟩ => ⟨S16x384x512, .f32⟩
  | .hbm, ⟨14, _⟩ => ⟨S16x512x512, .f32⟩
  | .hbm, ⟨15, _⟩ => ⟨S8192x512, .f32⟩
  | .hbm, ⟨16, _⟩ => ⟨S8192x512, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2560, .f32⟩
  | .hbm, ⟨38, _⟩ => ⟨S8192x1024, .f32⟩
  | .hbm, ⟨39, _⟩ => ⟨S8192x512, .f32⟩
  | .hbm, ⟨40, _⟩ => ⟨S8192x1024, .f32⟩
  | .hbm, ⟨41, _⟩ => ⟨S1024x8192, .f32⟩
  | .hbm, ⟨42, _⟩ => ⟨S8192x1024, .f32⟩
  | .hbm, ⟨43, _⟩ => ⟨S1024x8192, .f32⟩
  | .hbm, ⟨44, _⟩ => ⟨S8192x1024, .f32⟩
  | .hbm, ⟨45, _⟩ => ⟨S8192x2560, .f32⟩
  | .hbm, ⟨46, _⟩ => ⟨S2560x1024, .f32⟩
  | .hbm, ⟨47, _⟩ => ⟨S1024x2560, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S2560x1024, .f32⟩
  | .hbm, ⟨77, _⟩ => ⟨S2560x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Mix.lean ====
abbrev S8192x1024 : Shape := ⟨2, ![8192, 1024]⟩
abbrev S4x256x256 : Shape := ⟨3, ![4, 256, 256]⟩
abbrev S1024 : Shape := ⟨1, ![1024]⟩
abbrev S1024x1024 : Shape := ⟨2, ![1024, 1024]⟩
abbrev S4x4x64x256 : Shape := ⟨4, ![4, 4, 64, 256]⟩
abbrev S1x1024 : Shape := ⟨2, ![1, 1024]⟩
abbrev S512x1024 : Shape := ⟨2, ![512, 1024]⟩
abbrev S1x64x256 : Shape := ⟨3, ![1, 64, 256]⟩
abbrev S64x256 : Shape := ⟨2, ![64, 256]⟩
abbrev S256x256 : Shape := ⟨2, ![256, 256]⟩
abbrev S512x256 : Shape := ⟨2, ![512, 256]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S4x4x64x256, .f32⟩
  | .hbm, ⟨7, _⟩ => ⟨S4x4x64x256, .f32⟩
  | .hbm, ⟨8, _⟩ => ⟨S4x256x256, .f32⟩
  | .hbm, ⟨9, _⟩ => ⟨S4x256x256, .bf16⟩
  | .hbm, ⟨10, _⟩ => ⟨S1x1024, .f32⟩
  | .hbm, ⟨11, _⟩ => ⟨S1024x1024, .bf16⟩
  | .hbm, ⟨12, _⟩ => ⟨S8192x1024, .bf16⟩
  | .hbm, ⟨13, _⟩ => ⟨S8192x1024, .bf16⟩
  | .hbm, ⟨14, _⟩ => ⟨S1024x1024, .bf16⟩
  | .hbm, ⟨15, _⟩ => ⟨S4x256x256, .bf16⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x256x256, .bf16⟩
  | .local _ .vmem, ⟨7, _⟩ => ⟨S1x1024, .f32⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S4x256x256, .bf16⟩
  | .local _ .vmem, ⟨15, _⟩ => ⟨S1x1024, .f32⟩
  | .local _ .vmem, ⟨16, _⟩ => ⟨S1024x1024, .f32⟩
  | .local _ .vmem, ⟨17, _⟩ => ⟨S4x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v230 : BitVec 1 := Scalar.cmpi .eq arg0 c15_i32
  let v231 : BitVec 32 := Scalar.extui v230
  let c0_i32_193 : BitVec 32 := 0#32
  let v232 : BitVec 1 := Scalar.cmpi .ne v231 c0_i32_193
  v232

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixReferenceIdeal.lean ====
abbrev S8192x1024 : Shape := ⟨2, ![8192, 1024]⟩
abbrev S4x256x256 : Shape := ⟨3, ![4, 256, 256]⟩
abbrev S1024 : Shape := ⟨1, ![1024]⟩
abbrev S1024x1024 : Shape := ⟨2, ![1024, 1024]⟩
abbrev S8192x4x256 : Shape := ⟨3, ![8192, 4, 256]⟩
abbrev S4x256x8192 : Shape := ⟨3, ![4, 256, 8192]⟩
abbrev S1x1024 : Shape := ⟨2, ![1, 1024]⟩
abbrev S_ : Shape := ⟨0, ![]⟩
abbrev S4x8192x256 : Shape := ⟨3, ![4, 8192, 256]⟩
abbrev S4x4x64x256 : Shape := ⟨4, ![4, 4, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x4x256, .f32⟩
  | .hbm, ⟨9, _⟩ => ⟨S4x256x8192, .f32⟩
  | .hbm, ⟨10, _⟩ => ⟨S8192x4x256, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x4x256, .f32⟩
  | .hbm, ⟨48, _⟩ => ⟨S4x256x8192, .f32⟩
  | .hbm, ⟨49, _⟩ => ⟨S4x8192x256, .f32⟩
  | .hbm, ⟨50, _⟩ => ⟨S8192x4x256, .f32⟩
  | .hbm, ⟨51, _⟩ => ⟨S4x256x256, .f32⟩
  | .hbm, ⟨52, _⟩ => ⟨S4x256x256, .f32⟩
  | .hbm, ⟨53, _⟩ => ⟨S8192x1024, .f32⟩
  | .hbm, ⟨54, _⟩ => ⟨S4x4x64x256, .f32⟩
  | .hbm, ⟨55, _⟩ => ⟨S4x4x64x256, .f32⟩
  | .hbm, ⟨56, _⟩ => ⟨S4x256x256, .f32⟩
  | .hbm, ⟨57, _⟩ => ⟨S8192x1024, .bf16⟩
  | .hbm, ⟨58, _⟩ => ⟨S8192x1024, .bf16⟩
  | .hbm, ⟨59, _⟩ => ⟨S1024x1024, .bf16⟩
  | .hbm, ⟨60, _⟩ => ⟨S4x256x256, .bf16⟩
  | .hbm, ⟨61, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v9_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v9_1 : Ref sig .tc := ⟨.hbm, 26, rfl⟩
abbrev main_v9_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Project.lean ====
abbrev S8192x1024 : Shape := ⟨2, ![8192, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S1024x8192 : Shape := ⟨2, ![1024, 8192]⟩
abbrev S8192x512 : Shape := ⟨2, ![8192, 512]⟩
abbrev S512x8192 : Shape := ⟨2, ![512, 8192]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S2560x1024, .f32⟩
  | .hbm, ⟨5, _⟩ => ⟨S2560x1024, .bf16⟩
  | .hbm, ⟨6, _⟩ => ⟨S1024x8192, .bf16⟩
  | .hbm, ⟨7, _⟩ => ⟨S8192x512, .bf16⟩
  | .hbm, ⟨8, _⟩ => ⟨S512x8192, .bf16⟩
  | .hbm, ⟨9, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .bf16⟩
  | .local _ .vmem, ⟨11, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjectReferenceIdeal.lean ====
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S8192x512 : Shape := ⟨2, ![8192, 512]⟩
abbrev S1024x8192 : Shape := ⟨2, ![1024, 8192]⟩
abbrev S512x8192 : Shape := ⟨2, ![512, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2560, .f32⟩
  | .hbm, ⟨20, _⟩ => ⟨S8192x1024, .f32⟩
  | .hbm, ⟨21, _⟩ => ⟨S8192x512, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1024x8192, .f32⟩
  | .hbm, ⟨27, _⟩ => ⟨S1024x8192, .bf16⟩
  | .hbm, ⟨28, _⟩ => ⟨S8192x512, .bf16⟩
  | .hbm, ⟨29, _⟩ => ⟨S512x8192, .f32⟩
  | .hbm, ⟨30, _⟩ => ⟨S512x8192, .bf16⟩
  | .hbm, ⟨31, _⟩ => ⟨S1024x8192, .f32⟩
  | .hbm, ⟨32, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Forward.lean ====
abbrev S8192x1024 : Shape := ⟨2, ![8192, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S1024x4x512 : Shape := ⟨3, ![1024, 4, 512]⟩
abbrev S4x1024x512 : Shape := ⟨3, ![4, 1024, 512]⟩
abbrev S4x4x64x256 : Shape := ⟨4, ![4, 4, 64, 256]⟩
abbrev S1x1024 : Shape := ⟨2, ![1, 1024]⟩
abbrev S512x1024 : Shape := ⟨2, ![512, 1024]⟩
abbrev S16x1024 : Shape := ⟨2, ![16, 1024]⟩
abbrev S1x64x256 : Shape := ⟨3, ![1, 64, 256]⟩
abbrev S64x256 : Shape := ⟨2, ![64, 256]⟩
abbrev S256x256 : Shape := ⟨2, ![256, 256]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S528x1024 : Shape := ⟨2, ![528, 1024]⟩
abbrev S528x256 : Shape := ⟨2, ![528, 256]⟩
abbrev S512x256 : Shape := ⟨2, ![512, 256]⟩

abbrev nBuf : Space → Nat
  | .hbm => 19
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | .hbm, ⟨9, _⟩ => ⟨S4x4x64x256, .f32⟩
  | .hbm, ⟨10, _⟩ => ⟨S4x4x64x256, .f32⟩
  | .hbm, ⟨11, _⟩ => ⟨S4x256x256, .f32⟩
  | .hbm, ⟨12, _⟩ => ⟨S4x256x256, .bf16⟩
  | .hbm, ⟨13, _⟩ => ⟨S1x1024, .f32⟩
  | .hbm, ⟨14, _⟩ => ⟨S1x1024, .f32⟩
  | .hbm, ⟨15, _⟩ => ⟨S1024x1024, .bf16⟩
  | .hbm, ⟨16, _⟩ => ⟨S8192x1024, .f32⟩
  | .hbm, ⟨17, _⟩ => ⟨S8192x1024, .bf16⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S4x256x256, .bf16⟩
  | .local _ .vmem, ⟨5, _⟩ => ⟨S1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S16x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ForwardReferenceIdeal.lean ====
abbrev S8192x1024 : Shape := ⟨2, ![8192, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x4x256 : Shape := ⟨3, ![8192, 4, 256]⟩
abbrev S1x4x256 : Shape := ⟨3, ![1, 4, 256]⟩
abbrev S8193x4x256 : Shape := ⟨3, ![8193, 4, 256]⟩
abbrev S8193x1x256 : Shape := ⟨3, ![8193, 1, 256]⟩
abbrev S8193x256 : Shape := ⟨2, ![8193, 256]⟩
abbrev S1x256 : Shape := ⟨2, ![1, 256]⟩
abbrev S8191x256 : Shape := ⟨2, ![8191, 256]⟩
abbrev S8192x256 : Shape := ⟨2, ![8192, 256]⟩
abbrev S8192x1x256 : Shape := ⟨3, ![8192, 1, 256]⟩
abbrev S3x256 : Shape := ⟨2, ![3, 256]⟩
abbrev S8189x256 : Shape := ⟨2, ![8189, 256]⟩
abbrev S7x256 : Shape := ⟨2, ![7, 256]⟩
abbrev S8185x256 : Shape := ⟨2, ![8185, 256]⟩
abbrev S15x256 : Shape := ⟨2, ![15, 256]⟩
abbrev S8177x256 : Shape := ⟨2, ![8177, 256]⟩
abbrev S4x256x8192 : Shape := ⟨3, ![4, 256, 8192]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S4x256x256, .f32⟩
  | 4 => ⟨S1024, .f32⟩
  | 5 => ⟨S1024x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x2048, .f32⟩
  | 23 => ⟨S8192x1024, .f32⟩
  | 24 => ⟨S8192x1024, .f32⟩
  | 25 => ⟨S8192x4x256, .f32⟩
  | 26 => ⟨S_, .f32⟩
  | 27 => ⟨S1x4x256, .f32⟩
  | 28 => ⟨S_, .f32⟩
  | 29 => ⟨S_, .f32⟩
  | 30 => ⟨S8192x4x256, .f32⟩
  | 31 => ⟨S8193x4x256, .f32⟩
  | 32 => ⟨S8193x1x256, .f32⟩
  | 33 => ⟨S8193x256, .f32⟩
  | 34 => ⟨S_, .f32⟩
  | 35 => ⟨S1x256, .f32⟩
  | 36 => ⟨S8191x256, .f32⟩
  | 37 => ⟨S8192x256, .f32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .f32⟩
  | 46 => ⟨S8192x1, .f32⟩
  | 47 => ⟨S8192x256, .f32⟩
  | 48 => ⟨S8192x256, .f32⟩
  | 49 => ⟨S8192x256, .f32⟩
  | 50 => ⟨S8192x256, .f32⟩
  | 51 => ⟨S8192x1x256, .f32⟩
  | 52 => ⟨S8192x256, .f32⟩
  | 53 => ⟨S8192x256, .f32⟩
  | 54 => ⟨S8193x1x256, .f32⟩
  | 55 => ⟨S8193x256, .f32⟩
  | 56 => ⟨S_, .f32⟩
  | 57 => ⟨S3x256, .f32⟩
  | 58 => ⟨S8189x256, .f32⟩
  | 59 => ⟨S8192x256, .f32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S8192x1, .f32⟩
  | 69 => ⟨S8192x256, .f32⟩
  | 70 => ⟨S8192x256, .f32⟩
  | 71 => ⟨S8192x256, .f32⟩
  | 72 => ⟨S8192x256, .f32⟩
  | 73 => ⟨S8192x1x256, .f32⟩
  | 74 => ⟨S8192x256, .f32⟩
  | 75 => ⟨S8192x256, .f32⟩
  | 76 => ⟨S8193x1x256, .f32⟩
  | 77 => ⟨S8193x256, .f32⟩
  | 78 => ⟨S_, .f32⟩
  | 79 => ⟨S7x256, .f32⟩
  | 80 => ⟨S8185x256, .f32⟩
  | 81 => ⟨S8192x256, .f32⟩
  | 82 => ⟨S8192, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i32⟩
  | 89 => ⟨S8192, .f32⟩
  | 90 => ⟨S8192x1, .f32⟩
  | 91 => ⟨S8192x256, .f32⟩
  | 92 => ⟨S8192x256, .f32⟩
  | 93 => ⟨S8192x256, .f32⟩
  | 94 => ⟨S8192x256, .f32⟩
  | 95 => ⟨S8192x1x256, .f32⟩
  | 96 => ⟨S8192x256, .f32⟩
  | 97 => ⟨S8192x256, .f32⟩
  | 98 => ⟨S8193x1x256, .f32⟩
  | 99 => ⟨S8193x256, .f32⟩
  | 100 => ⟨S_, .f32⟩
  | 101 => ⟨S15x256, .f32⟩
  | 102 => ⟨S8177x256, .f32⟩
  | 103 => ⟨S8192x256, .f32⟩
  | 104 => ⟨S8192, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S8192, .f32⟩
  | 112 => ⟨S8192x1, .f32⟩
  | 113 => ⟨S8192x256, .f32⟩
  | 114 => ⟨S8192x256, .f32⟩
  | 115 => ⟨S8192x256, .f32⟩
  | 116 => ⟨S8192x256, .f32⟩
  | 117 => ⟨S8192x1x256, .f32⟩
  | 118 => ⟨S8192x256, .f32⟩
  | 119 => ⟨S8192x256, .f32⟩
  | 120 => ⟨S8192x1x256, .f32⟩
  | 121 => ⟨S8192x1x256, .f32⟩
  | 122 => ⟨S8192x1x256, .f32⟩
  | 123 => ⟨S8192x1x256, .f32⟩
  | 124 => ⟨S8192x4x256, .f32⟩
  | 125 => ⟨S4x256x8192, .f32⟩
  | 126 => ⟨S8192x4x256, .f32⟩
  | 127 => ⟨S8192x1024, .f32⟩
  | _ => ⟨S8192x1024, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .bf16⟩
  | 17 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_call0_call0_cst : Ref sig .tc := ⟨.hbm, 28, rfl⟩
abbrev main_call0_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_c_12 : Ref sig .tc := ⟨.hbm, 105, rfl⟩
abbrev main_v83 : Ref sig .tc := ⟨.hbm, 106, rfl⟩
abbrev main_v84 : Ref sig .tc := ⟨.hbm, 107, rfl⟩
abbrev main_c_13 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_call1_v0 : Ref sig .tc := ⟨.hbm, 131, rfl⟩
abbrev main_call1_v1 : Ref sig .tc := ⟨.hbm, 132, rfl⟩
abbrev main_call1_cst : Ref sig .tc := ⟨.hbm, 133, rfl⟩
abbrev main_call1_v2 : Ref sig .tc := ⟨.hbm, 134, rfl⟩
abbrev main_call1_v3 : Ref sig .tc := ⟨.hbm, 135, rfl⟩
abbrev main_call1_cst_0 : Ref sig .tc := ⟨.hbm, 136, rfl⟩
abbrev main_call1_v4 : Ref sig .tc := ⟨.hbm, 137, rfl⟩
abbrev main_call1_v5 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩

abbrev nD : Nat := 1
abbrev τ : Topo := Topo.v7x

variable {F : FTy → Type} [FloatOps F]
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

@[expose] public section

noncomputable section

open Idealize.ShloMosaic Idealize.SL.Sem

namespace Cert.ReferenceIdeal.Framed

/-- The reference leaves its arguments alone, and as it declares no semaphore every counter is zero at its end. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono
    (fun _ h => ⟨fun c => (h c).2.2.2, sem_eq_zero_of_no_sems rfl _⟩)
    (Cert.ReferenceIdeal.Value.run m g)

end Cert.ReferenceIdeal.Framed

end
-- ==== Proof.Spec.lean ====
/-
  What the backward pass of the pooled stream computes, written once over whole arrays, with no program in sight:
  the gradient that the four window means send back to the rows they averaged.
-/
module

public import Idealize.ShloMosaic.PureOps.Ideal
public import Idealize.ShloMosaic.Lib.Pointwise

@[expose] public section

set_option maxRecDepth 16384

noncomputable section

namespace Pool

open Idealize.ShloMosaic

/-- An array of 8192 rows read at any row number: zero past its last row. -/
def rowAt (dp : FVec Ideal (⟨2, ![8192, 1024]⟩ : Shape) .bf16) (u : ℕ) (c : Fin 1024) : EReal :=
  if h : u < 8192 then dp (ix2 ⟨u, h⟩ c) else 0

/-- The reciprocal of the number of rows that the window of length `w` ending at row `u` averages. -/
def recip (w u : ℕ) : EReal := ((1 / ((min (u + 1) w : ℕ) : ℝ) : ℝ) : EReal)

/-- The window length of a column: 2, 4, 8 and 16 on the four groups of 256 columns. -/
def window (c : Fin 1024) : ℕ := 2 ^ (c.val / 256 + 1)

/-- The gradient at row `t` and column `c` of the pooled rows with the rows themselves taken away: what each of the
    windows that hold row `t` sends back, less the gradient of the row's own subtraction. -/
def du (dp : FVec Ideal (⟨2, ![8192, 1024]⟩ : Shape) .bf16) (t : ℕ) (c : Fin 1024) : EReal :=
  (∑ k ∈ Finset.range (window c), rowAt dp (t + k) c * recip (window c) (t + k)) - rowAt dp t c

end Pool
-- ==== Proof.Math.lean ====
/-
  Facts of sums over the extended reals that the claims use, with no program in sight: the telescoping of a reverse
  running sum of window differences, and the two spellings of the gradient of an RMS norm.
-/
module

public import Idealize.ShloMosaic.PureOps.Ideal

@[expose] public section

noncomputable section

namespace Pool

open Idealize.ShloMosaic

/-! ## Sums of windows -/

/-- A reverse running sum of the differences `d u - d (u + w)` of a sequence that vanishes from `T` on is the sum of
    the window of `w` elements that starts at `t`. -/
theorem tail_telescope (T w : ℕ) (d : ℕ → ℝ) (hd : ∀ u, T ≤ u → d u = 0) (t : ℕ) :
    ∑ n ∈ Finset.range T, (d (t + n) - d (t + n + w)) = ∑ k ∈ Finset.range w, d (t + k) := by
  have key : ∀ n, ∑ i ∈ Finset.range n, d (t + i) = ∑ i ∈ Finset.range (t + n), d i - ∑ i ∈ Finset.range t, d i := by
    intro n
    rw [Finset.sum_range_add]; ring
  have key' : ∀ n, ∑ i ∈ Finset.range n, d (t + i + w)
      = ∑ i ∈ Finset.range (t + w + n), d i - ∑ i ∈ Finset.range (t + w), d i := by
    intro n
    rw [Finset.sum_range_add, add_sub_cancel_left]
    exact Finset.sum_congr rfl fun i _ => congrArg d (by omega)
  have stop : ∀ n, ∑ i ∈ Finset.range (T + n), d i = ∑ i ∈ Finset.range T, d i := by
    intro n
    rw [Finset.sum_range_add, Finset.sum_eq_zero (s := Finset.range n), add_zero]
    exact fun i _ => hd _ (by omega)
  rw [Finset.sum_sub_distrib, key, key', key, show t + T = T + t by omega, show t + w + T = T + (t + w) by omega, stop,
    stop]
  ring

/-- A sum of finitely many finite extended reals is the extended real of the real sum. -/
theorem coe_sum {ι : Type} (s : Finset ι) (f : ι → ℝ) : ((∑ i ∈ s, f i : ℝ) : EReal) = ∑ i ∈ s, (f i : EReal) :=
  map_sum (⟨⟨Real.toEReal, rfl⟩, fun _ _ => rfl⟩ : ℝ →+ EReal) f s

/-! ## The gradient of an RMS norm -/

/-- A nonnegative real factor distributes over any finite sum of extended reals. -/
theorem mul_sum_of_nonneg {ι : Type} (s : Finset ι) (ρ : ℝ) (hρ : 0 ≤ ρ) (f : ι → EReal) :
    (ρ : EReal) * ∑ i ∈ s, f i = ∑ i ∈ s, (ρ : EReal) * f i := by
  classical
  induction s using Finset.induction_on with
  | empty => simp
  | insert a s ha ih =>
    rw [Finset.sum_insert ha, Finset.sum_insert ha,
      EReal.left_distrib_of_nonneg_of_ne_top (EReal.coe_nonneg.2 hρ) (EReal.coe_ne_top _), ih]

/-- The square of an extended real is nonnegative. -/
theorem sq_nonneg' (x : EReal) : 0 ≤ x * x := by
  induction x using EReal.rec with
  | bot => simp
  | top => simp
  | coe r => exact_mod_cast mul_self_nonneg r

/-- Twice a negated half: `(-1/2) * a + (-1/2) * a = -a`. -/
theorem half_add_half (a : EReal) : ((-(1 / 2) : ℝ) : EReal) * a + ((-(1 / 2) : ℝ) : EReal) * a = -a := by
  induction a using EReal.rec with
  | bot => rw [EReal.coe_mul_bot_of_neg (by norm_num)]; simp
  | top => rw [EReal.coe_mul_top_of_neg (by norm_num)]; simp
  | coe r => norm_cast; ring

/-- The mean square of a row of `1024` elements, plus the norm's small positive constant. -/
def meanSq (ε : ℝ) (x : Fin 1024 → EReal) : EReal := Ideal.div (∑ k, x k * x k) ((1024 : ℝ) : EReal) + (ε : EReal)

/-- The reciprocal root of the row's mean square. -/
def rstd (ε : ℝ) (x : Fin 1024 → EReal) : EReal := Ideal.rsqrt (meanSq ε x)

/-- Either the row's squares sum to an infinity, and the reciprocal root is zero, or the mean square is a positive
    real and the reciprocal root is its real reciprocal root. -/
theorem rstd_cases (ε : ℝ) (hε : 0 < ε) (x : Fin 1024 → EReal) :
    (meanSq ε x = ⊤ ∧ rstd ε x = 0)
      ∨ ∃ m ρ : ℝ, 0 < m ∧ 0 < ρ ∧ ρ * ρ = 1 / m ∧ meanSq ε x = (m : EReal) ∧ rstd ε x = (ρ : EReal) := by
  have h0 : 0 ≤ ∑ k, x k * x k := Finset.sum_nonneg fun k _ => sq_nonneg' (x k)
  have hd : meanSq ε x = (∑ k, x k * x k) * ((1 / 1024 : ℝ) : EReal) + (ε : EReal) := by
    rw [meanSq, Ideal.div_coe (by norm_num)]
  unfold rstd
  rw [hd]
  generalize ∑ k, x k * x k = s at h0
  induction s using EReal.rec with
  | bot => simp at h0
  | top =>
    left
    rw [EReal.top_mul_coe_of_pos (by norm_num), EReal.top_add_coe]
    exact ⟨rfl, rfl⟩
  | coe r =>
    right
    have hr : (0 : ℝ) ≤ r := by exact_mod_cast h0
    have hm : 0 < r * (1 / 1024) + ε := by positivity
    refine ⟨r * (1 / 1024) + ε, (Real.sqrt (r * (1 / 1024) + ε))⁻¹, hm, by positivity, ?_, by push_cast; rfl, ?_⟩
    · rw [← mul_inv, Real.mul_self_sqrt hm.le, one_div (r * (1 / 1024) + ε)]
    · have e : ((r : EReal) * ((1 / 1024 : ℝ) : EReal) + (ε : EReal)) = ((r * (1 / 1024) + ε : ℝ) : EReal) := by
        push_cast; rfl
      rw [e, Ideal.rsqrt_coe, if_neg (not_lt.2 hm.le), if_neg hm.ne']

/-- The gradient of an RMS norm in the two spellings: scaled difference from the mean projection, and the sum over the
    paths through the row itself and through its mean square, here twice because the square is a product. -/
theorem norm_bwd (ε : ℝ) (hε : 0 < ε) (x gd : Fin 1024 → EReal) (dy : EReal) (c : Fin 1024) :
    rstd ε x * (gd c - x c * rstd ε x * Ideal.div (∑ k, gd k * (x k * rstd ε x)) ((1024 : ℝ) : EReal)) + dy
      = dy + gd c * rstd ε x
          + x c * Ideal.div ((∑ k, x k * gd k) * (((-(1 / 2) : ℝ) : EReal) * Ideal.div (rstd ε x) (meanSq ε x)))
              ((1024 : ℝ) : EReal)
          + Ideal.div ((∑ k, x k * gd k) * (((-(1 / 2) : ℝ) : EReal) * Ideal.div (rstd ε x) (meanSq ε x)))
              ((1024 : ℝ) : EReal) * x c := by
  have h1024 : (1024 : ℝ) ≠ 0 := by norm_num
  simp only [Ideal.div_coe h1024]
  rcases rstd_cases ε hε x with ⟨hm, hr⟩ | ⟨m, ρ, hm0, hρ0, hρ, hm, hr⟩
  · have hd : Ideal.div (0 : EReal) ⊤ = 0 := by
      rw [Ideal.div, if_neg EReal.top_ne_zero, zero_mul]
    simp [hm, hr, hd]
  · rw [hm, hr, Ideal.div_coe hm0.ne']
    have hS : ∑ k, gd k * (x k * (ρ : EReal)) = (ρ : EReal) * ∑ k, x k * gd k := by
      rw [mul_sum_of_nonneg _ ρ hρ0.le]
      exact Finset.sum_congr rfl fun k _ => by ac_rfl
    rw [hS]
    generalize ∑ k, x k * gd k = S
    have hl : (ρ : EReal) * (gd c - x c * (ρ : EReal) * ((ρ : EReal) * S * ((1 / 1024 : ℝ) : EReal)))
        = gd c * (ρ : EReal) + -((((ρ * (1 / m) * (1 / 1024) : ℝ)) : EReal) * (x c * S)) := by
      rw [sub_eq_add_neg,
        EReal.left_distrib_of_nonneg_of_ne_top (EReal.coe_nonneg.2 hρ0.le) (EReal.coe_ne_top _), mul_neg]
      congr 1
      · exact mul_comm _ _
      · congr 1
        rw [show ρ * (1 / m) * (1 / 1024) = ρ * (ρ * ρ) * (1 / 1024) by rw [hρ]]
        simp only [EReal.coe_mul]
        ac_rfl
    have hb : S * (((-(1 / 2) : ℝ) : EReal) * ((ρ : EReal) * ((1 / m : ℝ) : EReal))) * ((1 / 1024 : ℝ) : EReal) * x c
        = ((-(1 / 2) : ℝ) : EReal) * ((((ρ * (1 / m) * (1 / 1024) : ℝ)) : EReal) * (x c * S)) := by
      rw [EReal.coe_mul, EReal.coe_mul]; ac_rfl
    rw [hl, mul_comm (x c) (S * _ * _), hb, add_assoc (dy + _), half_add_half]
    ac_rfl

end Pool
-- ==== Proof.RefSum.lean ====
/-
  Two operations of the reference at an index: a running sum from the last row up, and rows laid into a longer array.
-/
module

public import proofs.«01_k».proof.Proof.Spec
public import proofs.«01_k».proof.Proof.Math
public import Idealize.ShloMosaic.Lib.Pointwise

@[expose] public section

set_option maxRecDepth 16384

noncomputable section

namespace Pool

open Idealize.ShloMosaic

/-- The indices of a window one row wide. -/
def rowsEquiv (N : ℕ) : Fin N ≃ (⟨3, ![N, 1, 1]⟩ : Shape).Idx where
  toFun n := ix3 n 0 0
  invFun p := p 0
  left_inv _ := rfl
  right_inv p := by
    funext a
    fin_cases a
    · rfl
    · exact Subsingleton.elim (α := Fin 1) _ _
    · exact Subsingleton.elim (α := Fin 1) _ _

theorem foldl_add {ι : Type} (f : ι → EReal) : ∀ (l : List ι) (a : EReal), l.foldl (fun r n => r + f n) a = a + (l.map f).sum
  | [], a => by simp
  | n :: l, a => by rw [List.foldl_cons, foldl_add f l, List.map_cons, List.sum_cons, add_assoc]

/-- A sum over each window of `N` rows that starts at a row, the rows past the last one absent, is the sum of the
    rows from there on. -/
theorem tail_sum {N Nm1 G K : ℕ} (hN : Nm1 + 1 = N) (x : (⟨3, ![N, G, K]⟩ : Shape).Idx → EReal)
    (h : (⟨3, ![N, G, K]⟩ : Shape).ReduceWindows (![N, 1, 1] : Fin 3 → ℕ) ![1, 1, 1] ![0, 0, 0] ![Nm1, 0, 0] ⟨3, ![N, G, K]⟩)
    (t : Fin N) (g : Fin G) (k : Fin K) :
    Ideal.hostReduceWindowAdd ![N, 1, 1] ![1, 1, 1] ![0, 0, 0] ![Nm1, 0, 0] h x 0 (ix3 t g k)
      = ∑ n : Fin N, if q : t.val + n.val < N then x (ix3 ⟨t.val + n.val, q⟩ g k) else 0 := by
  unfold Ideal.hostReduceWindowAdd Host.reduceWindow
  refine (foldl_add _ _ _).trans ?_
  rw [zero_add, ← Fin.sum_univ_def]
  refine Fintype.sum_equiv ((⟨3, ![N, 1, 1]⟩ : Shape).rowMajor.symm.trans (rowsEquiv N).symm) _ _ fun i => ?_
  rw [Equiv.trans_apply]
  obtain ⟨n, hn⟩ := (rowsEquiv N).surjective ((⟨3, ![N, 1, 1]⟩ : Shape).rowMajor.symm i)
  have h0 : ((⟨3, ![N, 1, 1]⟩ : Shape).rowMajor.symm i 0).val = n.val := by rw [← hn]; rfl
  have h1 : ((⟨3, ![N, 1, 1]⟩ : Shape).rowMajor.symm i 1).val = 0 := by rw [← hn]; rfl
  have h2 : ((⟨3, ![N, 1, 1]⟩ : Shape).rowMajor.symm i 2).val = 0 := by rw [← hn]; rfl
  have e : (rowsEquiv N).symm ((⟨3, ![N, 1, 1]⟩ : Shape).rowMajor.symm i) = n := by
    rw [← hn, Equiv.symm_apply_apply]
  rw [e]
  by_cases q : t.val + n.val < N
  · rw [dif_pos q]
    refine (dif_pos ?_).trans (congrArg x (funext fun a => Fin.ext ?_))
    · intro a
      match a with
      | ⟨0, _⟩ =>
        show 0 ≤ t.val * 1 + ((⟨3, ![N, 1, 1]⟩ : Shape).rowMajor.symm i 0).val
          ∧ t.val * 1 + ((⟨3, ![N, 1, 1]⟩ : Shape).rowMajor.symm i 0).val - 0 < N
        omega
      | ⟨1, _⟩ =>
        show 0 ≤ g.val * 1 + ((⟨3, ![N, 1, 1]⟩ : Shape).rowMajor.symm i 1).val
          ∧ g.val * 1 + ((⟨3, ![N, 1, 1]⟩ : Shape).rowMajor.symm i 1).val - 0 < G
        have := g.isLt; omega
      | ⟨2, _⟩ =>
        show 0 ≤ k.val * 1 + ((⟨3, ![N, 1, 1]⟩ : Shape).rowMajor.symm i 2).val
          ∧ k.val * 1 + ((⟨3, ![N, 1, 1]⟩ : Shape).rowMajor.symm i 2).val - 0 < K
        have := k.isLt; omega
    · match a with
      | ⟨0, _⟩ =>
        show t.val * 1 + ((⟨3, ![N, 1, 1]⟩ : Shape).rowMajor.symm i 0).val - 0 = t.val + n.val
        omega
      | ⟨1, _⟩ =>
        show g.val * 1 + ((⟨3, ![N, 1, 1]⟩ : Shape).rowMajor.symm i 1).val - 0 = g.val
        omega
      | ⟨2, _⟩ =>
        show k.val * 1 + ((⟨3, ![N, 1, 1]⟩ : Shape).rowMajor.symm i 2).val - 0 = k.val
        omega
  · rw [dif_neg q]
    refine dif_neg fun hin => q ?_
    have hh : 0 ≤ t.val * 1 + ((⟨3, ![N, 1, 1]⟩ : Shape).rowMajor.symm i 0).val
      ∧ t.val * 1 + ((⟨3, ![N, 1, 1]⟩ : Shape).rowMajor.symm i 0).val - 0 < N := hin 0
    omega

/-- An array of rows laid into one of four groups of columns, zeros in the other three. -/
theorem group_apply {N : ℕ} (a b : ℕ) (hN : N ≠ 1) (hb : a + 1 + b = 4) (x : FVec Ideal (⟨2, ![N, 256]⟩ : Shape) .f32) (z : FVec Ideal (⟨0, ![]⟩ : Shape) .f32)
    (hz : z ix0 = 0) (hb1) (hp) (hu) (s : Fin N) (g : Fin 4) (k : Fin 256) :
    pad (⟨3, ![N, 4, 256]⟩ : Shape) (s := ⟨3, ![N, 1, 256]⟩) ![0, a, 0] ![0, b, 0] ![0, 0, 0]
      (broadcastInDim (⟨3, ![N, 1, 256]⟩ : Shape) ![0, 2] hb1 x) z hp hu (ix3 s g k)
    = if g.val = a then x (ix2 s k) else 0 := by
  by_cases hg : g.val = a
  · rw [if_pos hg]
    refine (dif_pos ?_).trans ((congrArg (broadcastInDim (⟨3, ![N, 1, 256]⟩ : Shape) ![0, 2] hb1 x)
      (funext fun e => Fin.ext ?_ : _ = ix3 s 0 k)).trans ?_)
    · intro e
      match e with
      | ⟨0, _⟩ =>
        show 0 ≤ s.val ∧ (s.val - 0) % (0 + 1) = 0 ∧ (s.val - 0) / (0 + 1) < N
        have := s.isLt; omega
      | ⟨1, _⟩ =>
        show a ≤ g.val ∧ (g.val - a) % (0 + 1) = 0 ∧ (g.val - a) / (0 + 1) < 1
        omega
      | ⟨2, _⟩ =>
        show 0 ≤ k.val ∧ (k.val - 0) % (0 + 1) = 0 ∧ (k.val - 0) / (0 + 1) < 256
        omega
    · match e with
      | ⟨0, _⟩ =>
        show (s.val - 0) / (0 + 1) = s.val
        omega
      | ⟨1, _⟩ =>
        show (g.val - a) / (0 + 1) = 0
        omega
      | ⟨2, _⟩ =>
        show (k.val - 0) / (0 + 1) = k.val
        omega
    · pointwise
      refine congrArg x (funext fun e => Fin.ext ?_)
      match e with
      | ⟨0, _⟩ => simp [Shape.Idx.norm, hN]
      | ⟨1, _⟩ => simp [Shape.Idx.norm]
  · rw [if_neg hg]
    refine (dif_neg fun hin => hg ?_).trans ((congrArg z (funext fun e => e.elim0)).trans hz)
    have hh : a ≤ g.val ∧ (g.val - a) % (0 + 1) = 0 ∧ (g.val - a) / (0 + 1) < 1 := hin 1
    omega

/-- Two copies of an array, one moved down a row and one moved up by the window's length less one and cut. -/
theorem shift_apply (w M : ℕ) (hw : 0 < w) (hM : M + w = 8193) (x y : FVec Ideal (⟨2, ![8192, 256]⟩ : Shape) .f32) (z z' : FVec Ideal (⟨0, ![]⟩ : Shape) .f32)
    (hz : z ix0 = 0) (hz' : z' ix0 = 0) (h1) (u1) (h2) (u2) (h3) (t : Fin 8192) (k : Fin 256) :
    addf (F := Ideal) (pad (⟨2, ![8193, 256]⟩ : Shape) ![1, 0] ![0, 0] ![0, 0] x z h1 u1)
      (pad (⟨2, ![8193, 256]⟩ : Shape) (s := ⟨2, ![M, 256]⟩) ![0, 0] ![w, 0] ![0, 0]
        (extractStridedSlice (⟨2, ![M, 256]⟩ : Shape) ![w - 1, 0] y h2) z' h3 u2) (ix2 ⟨t.val + 1, by omega⟩ k)
    = x (ix2 t k) + if h : t.val + w < 8192 then y (ix2 ⟨t.val + w, h⟩ k) else 0 := by
  refine congrArg₂ (· + ·) ?_ ?_
  · refine (dif_pos ?_).trans (congrArg x (funext fun e => Fin.ext ?_))
    · intro e
      match e with
      | ⟨0, _⟩ =>
        show 1 ≤ t.val + 1 ∧ (t.val + 1 - 1) % (0 + 1) = 0 ∧ (t.val + 1 - 1) / (0 + 1) < 8192
        omega
      | ⟨1, _⟩ =>
        show 0 ≤ k.val ∧ (k.val - 0) % (0 + 1) = 0 ∧ (k.val - 0) / (0 + 1) < 256
        omega
    · match e with
      | ⟨0, _⟩ =>
        show (t.val + 1 - 1) / (0 + 1) = t.val
        omega
      | ⟨1, _⟩ =>
        show (k.val - 0) / (0 + 1) = k.val
        omega
  · by_cases h : t.val + w < 8192
    · rw [dif_pos h]
      refine (dif_pos ?_).trans (congrArg y (funext fun e => Fin.ext ?_))
      · intro e
        match e with
        | ⟨0, _⟩ =>
          show 0 ≤ t.val + 1 ∧ (t.val + 1 - 0) % (0 + 1) = 0 ∧ (t.val + 1 - 0) / (0 + 1) < M
          omega
        | ⟨1, _⟩ =>
          show 0 ≤ k.val ∧ (k.val - 0) % (0 + 1) = 0 ∧ (k.val - 0) / (0 + 1) < 256
          omega
      · match e with
        | ⟨0, _⟩ =>
          show (w - 1) + (t.val + 1 - 0) / (0 + 1) = t.val + w
          omega
        | ⟨1, _⟩ =>
          show 0 + (k.val - 0) / (0 + 1) = k.val
          omega
    · rw [dif_neg h]
      refine (dif_neg fun hin => h ?_).trans ((congrArg z' (funext fun e => e.elim0)).trans hz')
      have hh : 0 ≤ t.val + 1 ∧ (t.val + 1 - 0) % (0 + 1) = 0 ∧ (t.val + 1 - 0) / (0 + 1) < M := hin 0
      omega

end Pool

end
-- ==== Proof.Consts.lean ====
/-
  The floating-point constants of the two programs as extended reals.
-/
module

public import Idealize.ShloMosaic.Lib.IdealHost

@[expose] public section

noncomputable section

namespace Pool

open Idealize.ShloMosaic

/-- The norm's epsilon, the single-precision number nearest to one millionth. -/
def eps : ℝ := 8796093 / 2 ^ 43

theorem eps_pos : 0 < eps := by unfold eps; positivity

/-- The pattern of the epsilon. -/
theorem ofBits_eps : Ideal.ofBits .f32 0x358637BD#32 = (eps : EReal) := by
  simp [Ideal.ofBits, Ideal.ieee, eps, -EReal.coe_mul]
  norm_num

/-- The pattern of 1024. -/
theorem ofBits_1024 : Ideal.ofBits .f32 0x44800000#32 = ((1024 : ℝ) : EReal) := by
  simp [Ideal.ofBits, Ideal.ieee, -EReal.coe_mul, -EReal.coe_neg]
  norm_num

/-- The pattern of minus one half. -/
theorem ofBits_neg_half : Ideal.ofBits .f32 0xBF000000#32 = ((-(1 / 2) : ℝ) : EReal) := by
  simp [Ideal.ofBits, Ideal.ieee, -EReal.coe_mul, -EReal.coe_neg]
  norm_num

/-- The bfloat16 pattern of plus infinity. -/
theorem ofBits_inf : Ideal.ofBits .bf16 0x7F80#16 = ⊤ := by
  simp [Ideal.ofBits, Ideal.ieee]

/-- The bfloat16 pattern of minus infinity. -/
theorem ofBits_neg_inf : Ideal.ofBits .bf16 0xFF80#16 = ⊥ := by
  simp [Ideal.ofBits, Ideal.ieee]

end Pool

end
-- ==== Proof.Target.lean ====
/-
  The three gradients of the pooling mixer's input stage, written row by row: what both programs compute.
-/
module

public import proofs.«01_k».proof.Proof.Spec
public import proofs.«01_k».proof.Proof.Math
public import proofs.«01_k».proof.Proof.Consts

@[expose] public section

noncomputable section

namespace Pool

open Idealize.ShloMosaic

variable (dp dz : FVec Ideal ⟨2, ![8192, 1024]⟩ .bf16) (x dy : FVec Ideal ⟨2, ![8192, 1024]⟩ .f32)
  (g : FVec Ideal ⟨1, ![1024]⟩ .f32) (w : FVec Ideal ⟨2, ![1024, 2048]⟩ .f32)

/-- The gradient that reaches the projection's output: the pooled half, then the gate's half. -/
def dcat (u : Fin 8192) (k : Fin 2048) : EReal :=
  if h : k.val < 1024 then du dp u.val ⟨k.val, h⟩ else dz (ix2 u ⟨k.val - 1024, by omega⟩)

/-- One over the root of the row's mean square. -/
def inverse (u : Fin 8192) : EReal := rstd eps fun k => x (ix2 u k)

/-- The normed row, before its gain. -/
def normed (u : Fin 8192) (j : Fin 1024) : EReal := x (ix2 u j) * inverse x u

/-- The gradient that reaches the normed row with its gain: the projection's weights against the output's gradient. -/
def dhidden (u : Fin 8192) (j : Fin 1024) : EReal := ∑ k : Fin 2048, dcat dp dz u k * w (ix2 j k)

/-- The gradient of the projection's weights. -/
def dweight (j : Fin 1024) (k : Fin 2048) : EReal :=
  ∑ u : Fin 8192, normed x u j * g (ix1 j) * dcat dp dz u k

/-- The gradient of the norm's gain. -/
def dgain (j : Fin 1024) : EReal := ∑ u : Fin 8192, dhidden dp dz w u j * normed x u j

/-- The gradient of the layer's input. -/
def dinput (u : Fin 8192) (j : Fin 1024) : EReal :=
  inverse x u * (dhidden dp dz w u j * g (ix1 j)
    - normed x u j * Ideal.div (∑ k : Fin 1024, dhidden dp dz w u k * g (ix1 k) * normed x u k) ((1024 : ℝ) : EReal))
    + dy (ix2 u j)

/-- A sum over rows is the sum over tiles of the sums over a tile's rows. -/
theorem sum_tiles {N : ℕ} (J T : ℕ) (hN : T * J = N) (f : Fin N → EReal) :
    (∑ k, f k) = ∑ j : Fin J, ∑ t : Fin T, f ⟨T * j.val + t.val, by
      have hj := Nat.mul_le_mul_left T (Nat.succ_le_of_lt j.isLt); have ht := t.isLt; rw [Nat.mul_succ] at hj; omega⟩ := by
  rw [Fin.sum_univ_tiles J T (by rw [Nat.mul_comm]; exact hN) f]
  refine Finset.sum_congr rfl fun j _ => Finset.sum_congr rfl fun t _ => congrArg f (Fin.ext ?_)
  show j.val * T + t.val = T * j.val + t.val
  rw [Nat.mul_comm]

/-- A sum over the projection's 2048 columns is the sum over its four chunks of 512. -/
theorem sum_chunks (f : Fin 2048 → EReal) :
    (∑ k, f k) = (∑ l : Fin 512, f ⟨512 * 0 + l.val, by omega⟩) + (∑ l : Fin 512, f ⟨512 * 1 + l.val, by omega⟩)
      + (∑ l : Fin 512, f ⟨512 * 2 + l.val, by omega⟩) + ∑ l : Fin 512, f ⟨512 * 3 + l.val, by omega⟩ := by
  rw [sum_tiles 4 512 rfl f, Fin.sum_univ_four]
  rfl

end Pool

end
-- ==== Proof.RefDu.lean ====
/-
  The reference's gradient of the pooled rows: the reverse running sum of the differences of the windows' shares is,
  on finite gradients, the sum of the shares of the windows that hold a row.
-/
module

public import proofs.«01_k».proof.Proof.RefSum
public import proofs.«01_k».proof.Proof.Target
public import Idealize.ShloMosaic.Lib.Pipeline.ValueKit
public import proofs.«01_k».proof.Proof.Gen.ReferenceIdeal.Read

@[expose] public section

set_option maxRecDepth 16384

noncomputable section

namespace Cert.ReferenceIdeal.Block

open Idealize.ShloMosaic Cert.ReferenceIdeal Cert.ReferenceIdeal.Gen Cert.ReferenceIdeal.Read Pool

/-! ## The reference's counts -/

/-- The number of rows that the window of length `w` ending at row `u` averages, as the reference counts it. -/
theorem count (u w : ℕ) (hu : u < 8192) (hw : w ≤ 16) :
    FloatOps.sitofp (F := Ideal) FTy.f32 (IntOp.minsi (IntOp.addi 1#32 (BitVec.ofNat 32 u)) (BitVec.ofNat 32 w))
      = (((min (u + 1) w : ℕ) : ℝ) : EReal) := by
  have h1 : (IntOp.addi 1#32 (BitVec.ofNat 32 u)).toNat = u + 1 := by
    unfold IntOp.addi
    rw [BitVec.toNat_add, BitVec.toNat_ofNat, BitVec.toNat_ofNat]
    omega
  have hwn : (BitVec.ofNat 32 w).toNat = w := by rw [BitVec.toNat_ofNat]; omega
  have small : ∀ x : BitVec 32, x.toNat < 2 ^ 31 → x.toInt = x.toNat := fun x hx => by
    rw [BitVec.toInt_eq_toNat_cond, if_pos (by omega)]
  have hmin : (IntOp.minsi (IntOp.addi 1#32 (BitVec.ofNat 32 u)) (BitVec.ofNat 32 w)).toInt
      = ((min (u + 1) w : ℕ) : ℤ) := by
    unfold IntOp.minsi
    rw [BitVec.slt_eq_decide, small (IntOp.addi _ _) (by omega), small (BitVec.ofNat 32 w) (by omega), h1, hwn]
    split_ifs with h
    · rw [small _ (by omega), h1]; simp at h; omega
    · rw [small _ (by omega), hwn]; simp at h; omega
  show (((IntOp.minsi (IntOp.addi 1#32 (BitVec.ofNat 32 u)) (BitVec.ofNat 32 w)).toInt : ℝ) : EReal) = _
  rw [hmin, Int.cast_natCast]

/-- A number divided by the reference's count is the number times the window's reciprocal. -/
theorem div_count (u w : ℕ) (hu : u < 8192) (hw0 : 0 < w) (hw : w ≤ 16) (x : EReal) :
    Ideal.div x (FloatOps.sitofp (F := Ideal) FTy.f32
      (IntOp.minsi (IntOp.addi 1#32 (BitVec.ofNat 32 u)) (BitVec.ofNat 32 w))) = x * recip w u := by
  rw [count u w hu hw, Ideal.div_coe]
  · rfl
  · have : 0 < min (u + 1) w := by omega
    exact_mod_cast this.ne'

/-! ## The shares and their differences -/

/-- What the window of length `w` that ends at row `u` sends back to each of its rows. -/
def share (dp : FVec Ideal (⟨2, ![8192, 1024]⟩ : Shape) .bf16) (w u : ℕ) (c : Fin 1024) : EReal :=
  rowAt dp u c * recip w u

/-- The share of row `t`'s window less the share of the first window that no longer holds row `t`. -/
def step (dp : FVec Ideal (⟨2, ![8192, 1024]⟩ : Shape) .bf16) (w t : ℕ) (c : Fin 1024) : EReal :=
  share dp w t c - share dp w (t + w) c

variable (dp dz : FVec Ideal (⟨2, ![8192, 1024]⟩ : Shape) .bf16)

/-- A share moved down a row and its negative moved up `w - 1` rows add to the difference. -/
theorem shift_step (w M : ℕ) (hw : 0 < w) (hM : M + w = 8193) (col : Fin 256 → Fin 1024)
    (x y : FVec Ideal (⟨2, ![8192, 256]⟩ : Shape) .f32)
    (z z' : FVec Ideal (⟨0, ![]⟩ : Shape) .f32)
    (hx : ∀ (u : Fin 8192) (k : Fin 256), x (ix2 u k) = share dp w u.val (col k))
    (hy : ∀ (u : Fin 8192) (k : Fin 256), y (ix2 u k) = - x (ix2 u k))
    (hz : z ix0 = 0) (hz' : z' ix0 = 0) (h1) (u1) (h2) (u2) (h3) (t : Fin 8192) (k : Fin 256) :
    addf (F := Ideal) (pad (⟨2, ![8193, 256]⟩ : Shape) ![1, 0] ![0, 0] ![0, 0] x z h1 u1)
      (pad (⟨2, ![8193, 256]⟩ : Shape) (s := ⟨2, ![M, 256]⟩) ![0, 0] ![w, 0] ![0, 0]
        (extractStridedSlice (⟨2, ![M, 256]⟩ : Shape) ![w - 1, 0] y h2) z' h3 u2) (ix2 ⟨t.val + 1, by omega⟩ k)
    = step dp w t.val (col k) := by
  refine (shift_apply w M hw hM x y z z' hz hz' h1 u1 h2 u2 h3 t k).trans ?_
  unfold step
  rw [hx, sub_eq_add_neg]
  refine congrArg _ ?_
  split_ifs with h
  · rw [hy, hx]
  · unfold share rowAt
    rw [dif_neg h]; simp

theorem zero_const : (constant (F := Ideal) S_ .f32 0x00000000#32) ix0 = 0 := Ideal.ofBits_zero_f32

/-! ## The four groups -/

theorem v114 (u : Fin 8192) (k : Fin 256) :
    val_main_v114 (F := Ideal) dp (ix2 u k) = dp (ix2 u ⟨256 * 0 + k.val, by omega⟩) := by
  pointwise [val_main_v114, val_main_v113, val_main_v112, val_main_v110]
  blk_ext

theorem v116 (u : Fin 8192) (k : Fin 256) :
    val_main_v116 (F := Ideal) dp (ix2 u k) = dp (ix2 u ⟨256 * 1 + k.val, by omega⟩) := by
  pointwise [val_main_v116, val_main_v115, val_main_v112, val_main_v110]
  blk_ext

theorem v118 (u : Fin 8192) (k : Fin 256) :
    val_main_v118 (F := Ideal) dp (ix2 u k) = dp (ix2 u ⟨256 * 2 + k.val, by omega⟩) := by
  pointwise [val_main_v118, val_main_v117, val_main_v112, val_main_v110]
  blk_ext

theorem v120 (u : Fin 8192) (k : Fin 256) :
    val_main_v120 (F := Ideal) dp (ix2 u k) = dp (ix2 u ⟨256 * 3 + k.val, by omega⟩) := by
  pointwise [val_main_v120, val_main_v119, val_main_v112, val_main_v110]
  blk_ext

theorem rowAt_val (u : Fin 8192) (c : Fin 1024) : rowAt dp u.val c = dp (ix2 u c) := dif_pos u.isLt

/-- A group of columns divided by its broadcast counts holds the shares. -/
theorem quotient (w : ℕ) (hw0 : 0 < w) (hw : w ≤ 16) (e d : FVec Ideal S8192x256 .f32) (u : Fin 8192) (k : Fin 256)
    (c : Fin 1024) (he : e (ix2 u k) = dp (ix2 u c))
    (hd : d (ix2 u k) = FloatOps.sitofp (F := Ideal) FTy.f32
      (IntOp.minsi (IntOp.addi 1#32 (BitVec.ofNat 32 u.val)) (BitVec.ofNat 32 w))) :
    Host.divf (F := Ideal) e d (ix2 u k) = share dp w u.val c := by
  show Ideal.div (e (ix2 u k)) (d (ix2 u k)) = _
  rw [hd, div_count u.val w u.isLt hw0 hw, he]
  unfold share
  rw [rowAt_val]

theorem v168 (u : Fin 8192) (k : Fin 256) : val_main_v168 (F := Ideal) (ix2 u k)
    = FloatOps.sitofp (F := Ideal) FTy.f32 (IntOp.minsi (IntOp.addi 1#32 (BitVec.ofNat 32 u.val)) (BitVec.ofNat 32 2)) := by
  pointwise [val_main_v168, val_main_v36, val_main_v35, val_main_v34, val_main_v33, val_main_v32, val_main_v31,
    val_main_v30, val_main_c, val_main_c_7]

theorem v153 (u : Fin 8192) (k : Fin 256) : val_main_v153 (F := Ideal) (ix2 u k)
    = FloatOps.sitofp (F := Ideal) FTy.f32 (IntOp.minsi (IntOp.addi 1#32 (BitVec.ofNat 32 u.val)) (BitVec.ofNat 32 4)) := by
  pointwise [val_main_v153, val_main_v56, val_main_v55, val_main_v54, val_main_v53, val_main_v52, val_main_v51,
    val_main_v50, val_main_c_10, val_main_c_11]

theorem v138 (u : Fin 8192) (k : Fin 256) : val_main_v138 (F := Ideal) (ix2 u k)
    = FloatOps.sitofp (F := Ideal) FTy.f32 (IntOp.minsi (IntOp.addi 1#32 (BitVec.ofNat 32 u.val)) (BitVec.ofNat 32 8)) := by
  pointwise [val_main_v138, val_main_v76, val_main_v75, val_main_v74, val_main_v73, val_main_v72, val_main_v71,
    val_main_v70, val_main_c_14, val_main_c_15]

theorem v124 (u : Fin 8192) (k : Fin 256) : val_main_v124 (F := Ideal) (ix2 u k)
    = FloatOps.sitofp (F := Ideal) FTy.f32 (IntOp.minsi (IntOp.addi 1#32 (BitVec.ofNat 32 u.val)) (BitVec.ofNat 32 16)) := by
  pointwise [val_main_v124, val_main_v96, val_main_v95, val_main_v94, val_main_v93, val_main_v92, val_main_v91,
    val_main_v90, val_main_c_18, val_main_c_19]

theorem v175 (t : Fin 8192) (k : Fin 256) : val_main_v175 (F := Ideal) dp (ix2 ⟨t.val + 1, by omega⟩ k)
    = step dp 2 t.val ⟨256 * 0 + k.val, by omega⟩ :=
  shift_step dp 2 8191 (by omega) (by omega) (fun k => ⟨256 * 0 + k.val, by omega⟩) (val_main_v169 (F := Ideal) dp)
    (val_main_v170 (F := Ideal) dp) _ _
    (fun u k => quotient dp 2 (by omega) (by omega) _ _ u k _ (v114 dp u k) (v168 u k)) (fun _ _ => rfl) zero_const
    zero_const _ _ _ _ _ t k

theorem v160 (t : Fin 8192) (k : Fin 256) : val_main_v160 (F := Ideal) dp (ix2 ⟨t.val + 1, by omega⟩ k)
    = step dp 4 t.val ⟨256 * 1 + k.val, by omega⟩ :=
  shift_step dp 4 8189 (by omega) (by omega) (fun k => ⟨256 * 1 + k.val, by omega⟩) (val_main_v154 (F := Ideal) dp)
    (val_main_v155 (F := Ideal) dp) _ _
    (fun u k => quotient dp 4 (by omega) (by omega) _ _ u k _ (v116 dp u k) (v153 u k)) (fun _ _ => rfl) zero_const
    zero_const _ _ _ _ _ t k

theorem v145 (t : Fin 8192) (k : Fin 256) : val_main_v145 (F := Ideal) dp (ix2 ⟨t.val + 1, by omega⟩ k)
    = step dp 8 t.val ⟨256 * 2 + k.val, by omega⟩ :=
  shift_step dp 8 8185 (by omega) (by omega) (fun k => ⟨256 * 2 + k.val, by omega⟩) (val_main_v139 (F := Ideal) dp)
    (val_main_v140 (F := Ideal) dp) _ _
    (fun u k => quotient dp 8 (by omega) (by omega) _ _ u k _ (v118 dp u k) (v138 u k)) (fun _ _ => rfl) zero_const
    zero_const _ _ _ _ _ t k

theorem v131 (t : Fin 8192) (k : Fin 256) : val_main_v131 (F := Ideal) dp (ix2 ⟨t.val + 1, by omega⟩ k)
    = step dp 16 t.val ⟨256 * 3 + k.val, by omega⟩ :=
  shift_step dp 16 8177 (by omega) (by omega) (fun k => ⟨256 * 3 + k.val, by omega⟩) (val_main_v125 (F := Ideal) dp)
    (val_main_v126 (F := Ideal) dp) _ _
    (fun u k => quotient dp 16 (by omega) (by omega) _ _ u k _ (v120 dp u k) (v124 u k)) (fun _ _ => rfl) zero_const
    zero_const _ _ _ _ _ t k

/-! ## The groups laid side by side -/

/-- Four terms, each present on its own group only, add to the group's term. -/
theorem pick (g : Fin 4) (f : Fin 4 → EReal) :
    (((if g.val = 3 then f 3 else 0) + (if g.val = 2 then f 2 else 0)) + (if g.val = 1 then f 1 else 0))
      + (if g.val = 0 then f 0 else 0) = f g := by
  match g with
  | ⟨0, _⟩ => simp
  | ⟨1, _⟩ => simp
  | ⟨2, _⟩ => simp
  | ⟨3, _⟩ => simp

theorem v178 (s : Fin 8193) (g : Fin 4) (k : Fin 256) : val_main_v178 (F := Ideal) dp (ix3 s g k)
    = (((if g.val = 3 then val_main_v131 (F := Ideal) dp (ix2 s k) else 0)
      + (if g.val = 2 then val_main_v145 (F := Ideal) dp (ix2 s k) else 0))
      + (if g.val = 1 then val_main_v160 (F := Ideal) dp (ix2 s k) else 0))
      + (if g.val = 0 then val_main_v175 (F := Ideal) dp (ix2 s k) else 0) :=
  congrArg₂ (· + ·) (congrArg₂ (· + ·) (congrArg₂ (· + ·)
    (group_apply 3 0 (by omega) (by omega) (val_main_v131 (F := Ideal) dp) _ zero_const _ _ _ s g k)
    (group_apply 2 1 (by omega) (by omega) (val_main_v145 (F := Ideal) dp) _ zero_const _ _ _ s g k))
    (group_apply 1 2 (by omega) (by omega) (val_main_v160 (F := Ideal) dp) _ zero_const _ _ _ s g k))
    (group_apply 0 3 (by omega) (by omega) (val_main_v175 (F := Ideal) dp) _ zero_const _ _ _ s g k)

theorem v167 (s : Fin 8192) (g : Fin 4) (k : Fin 256) : val_main_v167 (F := Ideal) dp (ix3 s g k)
    = - dp (ix2 s ⟨256 * g.val + k.val, by omega⟩) := by
  have h : val_main_v167 (F := Ideal) dp (ix3 s g k)
      = (((if g.val = 3 then val_main_v121 (F := Ideal) dp (ix2 s k) else 0)
        + (if g.val = 2 then val_main_v134 (F := Ideal) dp (ix2 s k) else 0))
        + (if g.val = 1 then val_main_v149 (F := Ideal) dp (ix2 s k) else 0))
        + (if g.val = 0 then val_main_v164 (F := Ideal) dp (ix2 s k) else 0) :=
    congrArg₂ (· + ·) (congrArg₂ (· + ·) (congrArg₂ (· + ·)
      (group_apply 3 0 (by omega) (by omega) (val_main_v121 (F := Ideal) dp) _ zero_const _ _ _ s g k)
      (group_apply 2 1 (by omega) (by omega) (val_main_v134 (F := Ideal) dp) _ zero_const _ _ _ s g k))
      (group_apply 1 2 (by omega) (by omega) (val_main_v149 (F := Ideal) dp) _ zero_const _ _ _ s g k))
      (group_apply 0 3 (by omega) (by omega) (val_main_v164 (F := Ideal) dp) _ zero_const _ _ _ s g k)
  have a3 : val_main_v121 (F := Ideal) dp (ix2 s k) = - dp (ix2 s ⟨256 * 3 + k.val, by omega⟩) :=
    congrArg (- ·) (v120 dp s k)
  have a2 : val_main_v134 (F := Ideal) dp (ix2 s k) = - dp (ix2 s ⟨256 * 2 + k.val, by omega⟩) :=
    congrArg (- ·) (v118 dp s k)
  have a1 : val_main_v149 (F := Ideal) dp (ix2 s k) = - dp (ix2 s ⟨256 * 1 + k.val, by omega⟩) :=
    congrArg (- ·) (v116 dp s k)
  have a0 : val_main_v164 (F := Ideal) dp (ix2 s k) = - dp (ix2 s ⟨256 * 0 + k.val, by omega⟩) :=
    congrArg (- ·) (v114 dp s k)
  rw [h, a3, a2, a1, a0]
  exact pick g fun g => - dp (ix2 s ⟨256 * g.val + k.val, by omega⟩)

theorem v180 (t : Fin 8192) (g : Fin 4) (k : Fin 256) : val_main_v180 (F := Ideal) dp (ix3 t g k)
    = step dp (2 ^ (g.val + 1)) t.val ⟨256 * g.val + k.val, by omega⟩ := by
  have h : val_main_v180 (F := Ideal) dp (ix3 t g k)
      = val_main_v178 (F := Ideal) dp (ix3 ⟨t.val + 1, by omega⟩ g k) := by
    unfold val_main_v180
    generalize val_main_v178 (F := Ideal) dp = v
    pointwise
    blk_ext
  rw [h, v178, v131, v145, v160, v175]
  exact pick g fun g => step dp (2 ^ (g.val + 1)) t.val ⟨256 * g.val + k.val, by omega⟩

/-! ## The reverse running sum -/

/-- On finite gradients the reverse running sum of the differences is the sum of the shares of the windows. -/
theorem running (w : ℕ) (c : Fin 1024) (hfin : ∀ i, dp i ≠ ⊤ ∧ dp i ≠ ⊥) (t : ℕ) :
    (∑ n : Fin 8192, if t + n.val < 8192 then step dp w (t + n.val) c else 0)
      = ∑ k ∈ Finset.range w, share dp w (t + k) c := by
  have hr : ∀ u, share dp w u c = (((rowAt dp u c).toReal * (1 / ((min (u + 1) w : ℕ) : ℝ)) : ℝ) : EReal) := fun u => by
    unfold share recip
    rw [EReal.coe_mul]
    refine congrArg (· * _) (EReal.coe_toReal ?_ ?_).symm
    · unfold rowAt; split_ifs
      · exact (hfin _).1
      · exact EReal.zero_ne_top
    · unfold rowAt; split_ifs
      · exact (hfin _).2
      · exact EReal.zero_ne_bot
  have h0 : ∀ u, 8192 ≤ u → (rowAt dp u c).toReal * (1 / ((min (u + 1) w : ℕ) : ℝ)) = 0 := fun u hu => by
    unfold rowAt
    rw [dif_neg (by omega)]; simp
  have ht := tail_telescope 8192 w (fun u => (rowAt dp u c).toReal * (1 / ((min (u + 1) w : ℕ) : ℝ))) h0 t
  have hc := congrArg Real.toEReal ht
  rw [coe_sum, coe_sum, Finset.sum_range] at hc
  refine Eq.trans (Finset.sum_congr rfl fun n _ => ?_) (hc.trans (Finset.sum_congr rfl fun k _ => (hr _).symm))
  split_ifs with h
  · unfold step
    rw [hr, hr, EReal.coe_sub]
  · show 0 = (((rowAt dp (t + n.val) c).toReal * (1 / ((min (t + n.val + 1) w : ℕ) : ℝ))
      - (rowAt dp (t + n.val + w) c).toReal * (1 / ((min (t + n.val + w + 1) w : ℕ) : ℝ)) : ℝ) : EReal)
    rw [h0 (t + n.val) (by omega), h0 (t + n.val + w) (by omega), sub_zero, EReal.coe_zero]

/-- The reference's gradient of the pooled rows. -/
theorem v182 (hfin : ∀ i, dp i ≠ ⊤ ∧ dp i ≠ ⊥) (t : Fin 8192) (g : Fin 4) (k : Fin 256) :
    val_main_v182 (F := Ideal) dp (ix3 t g k) = du dp t.val ⟨256 * g.val + k.val, by omega⟩ := by
  have hs : val_main_v181 (F := Ideal) dp (ix3 t g k)
      = ∑ j ∈ Finset.range (2 ^ (g.val + 1)), share dp (2 ^ (g.val + 1)) (t.val + j) ⟨256 * g.val + k.val, by omega⟩ := by
    rw [← running dp _ _ hfin]
    have hinit : val_main_call1_call0_v0 (F := Ideal) (Shape.Idx.first h_S_) = 0 :=
      (val_main_call1_call0_v0_apply (F := Ideal) _).trans Ideal.ofBits_zero_f32
    unfold val_main_v181 Host.reduceWindowAdd
    rw [Ideal.hostReduceWindowAdd_def, hinit]
    refine (tail_sum (by omega) _ _ t g k).trans (Finset.sum_congr rfl fun n _ => ?_)
    split_ifs with q
    · exact v180 dp _ g k
    · rfl
  have hw : window ⟨256 * g.val + k.val, by omega⟩ = 2 ^ (g.val + 1) := by
    unfold window
    show 2 ^ ((256 * g.val + k.val) / 256 + 1) = _
    rw [show (256 * g.val + k.val) / 256 = g.val by omega]
  show val_main_v167 (F := Ideal) dp (ix3 t g k) + val_main_v181 (F := Ideal) dp (ix3 t g k) = _
  unfold du
  rw [hs, v167, hw, rowAt_val, sub_eq_add_neg, add_comm]
  rfl

/-- The gradient that reaches the projection's output, as the reference forms it. -/
theorem v184 (hfin : ∀ i, dp i ≠ ⊤ ∧ dp i ≠ ⊥) (u : Fin 8192) (k : Fin 2048) :
    val_main_v184 (F := Ideal) dp dz (ix2 u k) = dcat dp dz u k := by
  have h : val_main_v184 (F := Ideal) dp dz (ix2 u k)
      = if h : k.val < 1024 then val_main_v182 (F := Ideal) dp (ix3 u ⟨k.val / 256, by omega⟩ ⟨k.val % 256, by omega⟩)
        else dz (ix2 u ⟨k.val - 1024, by omega⟩) := by
    unfold val_main_v184 val_main_v183 val_main_v111
    generalize val_main_v182 (F := Ideal) dp = v
    pointwise
  rw [h]
  unfold dcat
  split_ifs with hk
  · rw [v182 dp hfin]
    exact congrArg (du dp u.val) (Fin.ext (by show 256 * (k.val / 256) + k.val % 256 = k.val; omega))
  · rfl

end Cert.ReferenceIdeal.Block

end
-- ==== Proof.RefOut.lean ====
/-
  The reference's three results, row by row, over the gradient that reaches the projection's output.
-/
module

public import proofs.«01_k».proof.Proof.RefDu

@[expose] public section

set_option maxRecDepth 16384

noncomputable section

namespace Cert.ReferenceIdeal.Block

open Idealize.ShloMosaic Cert.ReferenceIdeal Cert.ReferenceIdeal.Gen Cert.ReferenceIdeal.Read Pool

variable (dp dz : FVec Ideal (⟨2, ![8192, 1024]⟩ : Shape) .bf16) (x dy : FVec Ideal (⟨2, ![8192, 1024]⟩ : Shape) .f32)
  (g : FVec Ideal (⟨1, ![1024]⟩ : Shape) .f32) (w : FVec Ideal (⟨2, ![1024, 2048]⟩ : Shape) .f32)

/-! ## The norm -/

theorem v6 (u : Fin 8192) : val_main_v6 (F := Ideal) x (ix2 u 0) = meanSq eps fun k => x (ix2 u k) := by
  have h1 : val_main_v2 (F := Ideal) x (ix2 u 0) = ∑ k : Fin 1024, x (ix2 u k) * x (ix2 u k) := by
    rw [val_main_v2_apply, val_main_v1_apply]
    refine (congrArg (· + _) (Ideal.ofBits_zero_f32 : val_main_cst (F := Ideal) _ = 0)).trans ?_
    rw [zero_add]
    refine Finset.sum_congr rfl fun k _ => ?_
    have e : idx_main_v1 (idx_main_v2 (ix2 u 0)) k = ix2 u k := by blk_ext
    rw [e]; rfl
  have h3 : val_main_v3 (F := Ideal) (ix2 u 0) = ((1024 : ℝ) : EReal) := by
    rw [val_main_v3_apply]; exact ofBits_1024
  have h5 : val_main_v5 (F := Ideal) (ix2 u 0) = (eps : EReal) := by
    rw [val_main_v5_apply]; exact ofBits_eps
  show Ideal.div (val_main_v2 (F := Ideal) x (ix2 u 0)) (val_main_v3 (F := Ideal) (ix2 u 0))
    + val_main_v5 (F := Ideal) (ix2 u 0) = _
  rw [h1, h3, h5]
  rfl

theorem v7 (u : Fin 8192) : val_main_v7 (F := Ideal) x (ix2 u 0) = inverse x u := by
  show Ideal.rsqrt (val_main_v6 (F := Ideal) x (ix2 u 0)) = _
  rw [v6]; rfl

theorem v12 (u : Fin 8192) (j : Fin 1024) : val_main_v12 (F := Ideal) x (ix2 u j) = normed x u j := by
  have h : val_main_v12 (F := Ideal) x (ix2 u j) = x (ix2 u j) * val_main_v7 (F := Ideal) x (ix2 u 0) := by
    unfold val_main_v12 val_main_v11
    generalize val_main_v7 (F := Ideal) x = v
    pointwise
  rw [h, v7]; rfl

theorem v15 (u : Fin 8192) (j : Fin 1024) : val_main_v15 (F := Ideal) x g (ix2 u j) = normed x u j * g (ix1 j) := by
  have h : val_main_v15 (F := Ideal) x g (ix2 u j) = val_main_v12 (F := Ideal) x (ix2 u j) * g (ix1 j) := by
    unfold val_main_v15 val_main_v14 val_main_v13
    generalize val_main_v12 (F := Ideal) x = v
    pointwise
  rw [h, v12]

theorem v10 (u : Fin 8192) : val_main_v10 (F := Ideal) x (ix2 u 0)
    = ((-(1 / 2) : ℝ) : EReal) * Ideal.div (inverse x u) (meanSq eps fun k => x (ix2 u k)) := by
  have h9 : val_main_v9 (F := Ideal) (ix2 u 0) = ((-(1 / 2) : ℝ) : EReal) := by
    rw [val_main_v9_apply]; exact ofBits_neg_half
  show val_main_v9 (F := Ideal) (ix2 u 0)
    * Ideal.div (val_main_v7 (F := Ideal) x (ix2 u 0)) (val_main_v6 (F := Ideal) x (ix2 u 0)) = _
  rw [h9, v7, v6]

/-! ## The projection -/

variable (hfin : ∀ i, dp i ≠ ⊤ ∧ dp i ≠ ⊥)

include hfin

theorem v187 (u : Fin 8192) (j : Fin 1024) :
    val_main_v187 (F := Ideal) dp dz w (ix2 u j) = dhidden dp dz w u j := by
  rw [val_main_v187_apply]
  refine Finset.sum_congr rfl fun k _ => ?_
  have e : lidx_main_v187 (ix2 u j) k = ix2 u k := by blk_ext
  have e' : ridx_main_v187 (ix2 u j) k = ix2 j k := by blk_ext
  rw [e, e', v184 dp dz hfin]

theorem v185 (k : Fin 2048) (j : Fin 1024) :
    val_main_v185 (F := Ideal) dp dz x g (ix2 k j) = dweight dp dz x g j k := by
  rw [val_main_v185_apply]
  refine Finset.sum_congr rfl fun u _ => ?_
  have e : lidx_main_v185 (ix2 k j) u = ix2 u k := by blk_ext
  have e' : ridx_main_v185 (ix2 k j) u = ix2 u j := by blk_ext
  rw [e, e', v184 dp dz hfin, v15, mul_comm]

/-- The gradient of the projection's weights, in the layout that the exchange takes. -/
theorem out_dw (a : Fin 4) (j : Fin 1024) (l : Fin 512) :
    val_main_v211 (F := Ideal) dp dz x g (ix3 a j l) = dweight dp dz x g j ⟨512 * a.val + l.val, by omega⟩ := by
  rw [← v185 dp dz x g hfin]
  unfold val_main_v211 val_main_v210 val_main_v209 val_main_v186
  generalize val_main_v185 (F := Ideal) dp dz x g = v
  pointwise
  blk_ext

/-- The gradient of the norm's gain. -/
theorem out_dg (i : Fin 1) (j : Fin 1024) :
    val_main_v212 (F := Ideal) dp dz x w (ix2 i j) = dgain dp dz x w j := by
  rw [val_main_v212_apply, val_main_v193_apply]
  refine (congrArg (· + _) (Ideal.ofBits_zero_f32 : val_main_cst_37 (F := Ideal) _ = 0)).trans ?_
  rw [zero_add, Fin.sum_univ_one, val_main_v190_apply, val_main_v189_apply]
  refine (congrArg (· + _) (Ideal.ofBits_zero_f32 : val_main_cst_36 (F := Ideal) _ = 0)).trans ?_
  rw [zero_add]
  refine Finset.sum_congr rfl fun u _ => ?_
  have e : idx_main_v189 (idx_main_v190 (idx_main_v193 (idx_main_v212 (ix2 i j)) 0)) u = ix2 u j := by blk_ext
  rw [e]
  show val_main_v12 (F := Ideal) x (ix2 u j) * val_main_v187 (F := Ideal) dp dz w (ix2 u j) = _
  rw [v12, v187 dp dz w hfin, mul_comm]

/-! ## The input's gradient -/

theorem v192 (u : Fin 8192) (j : Fin 1024) :
    val_main_v192 (F := Ideal) dp dz g w (ix2 u j) = dhidden dp dz w u j * g (ix1 j) := by
  have h : val_main_v192 (F := Ideal) dp dz g w (ix2 u j)
      = val_main_v187 (F := Ideal) dp dz w (ix2 u j) * g (ix1 j) := by
    unfold val_main_v192 val_main_v191 val_main_v13
    generalize val_main_v187 (F := Ideal) dp dz w = v
    pointwise
  rw [h, v187 dp dz w hfin]

theorem v196 (u : Fin 8192) :
    val_main_v196 (F := Ideal) dp dz x g w (ix2 u 0)
      = ∑ k : Fin 1024, x (ix2 u k) * (dhidden dp dz w u k * g (ix1 k)) := by
  rw [val_main_v196_apply, val_main_v195_apply]
  refine (congrArg (· + _) (Ideal.ofBits_zero_f32 : val_main_cst_38 (F := Ideal) _ = 0)).trans ?_
  rw [zero_add]
  refine Finset.sum_congr rfl fun k _ => ?_
  have e : idx_main_v195 (idx_main_v196 (ix2 u 0)) k = ix2 u k := by blk_ext
  rw [e]
  show x (ix2 u k) * val_main_v192 (F := Ideal) dp dz g w (ix2 u k) = _
  rw [v192 dp dz g w hfin]

theorem v204 (u : Fin 8192) (j : Fin 1024) :
    val_main_v204 (F := Ideal) dp dz x g w (ix2 u j)
      = Ideal.div ((∑ k : Fin 1024, x (ix2 u k) * (dhidden dp dz w u k * g (ix1 k)))
        * (((-(1 / 2) : ℝ) : EReal) * Ideal.div (inverse x u) (meanSq eps fun k => x (ix2 u k)))) ((1024 : ℝ) : EReal) := by
  rw [val_main_v204_apply, val_main_v203_apply]
  refine (congrArg (· + _) (Ideal.ofBits_zero_f32 : val_main_cst_40 (F := Ideal) _ = 0)).trans ?_
  rw [zero_add, Fin.sum_univ_one]
  have e : idx_main_v203 (idx_main_v204 (ix2 u j)) 0 = ix2 u 0 := by blk_ext
  rw [e]
  have h1 : val_main_v201 (F := Ideal) (ix2 u 0) = ((1024 : ℝ) : EReal) := by
    rw [val_main_v201_apply]; exact ofBits_1024
  show Ideal.div (val_main_v196 (F := Ideal) dp dz x g w (ix2 u 0) * val_main_v10 (F := Ideal) x (ix2 u 0))
    (val_main_v201 (F := Ideal) (ix2 u 0)) = _
  rw [h1, v10, v196 dp dz x g w hfin]

/-- The gradient of the layer's input. -/
theorem out_dx (u : Fin 8192) (j : Fin 1024) :
    val_main_v208 (F := Ideal) dp dz x dy g w (ix2 u j) = dinput dp dz x dy g w u j := by
  have h197 : val_main_v197 (F := Ideal) x (ix2 u j) = inverse x u := by
    rw [← v7]
    unfold val_main_v197
    generalize val_main_v7 (F := Ideal) x = v
    pointwise
  show dy (ix2 u j) + val_main_v192 (F := Ideal) dp dz g w (ix2 u j) * val_main_v197 (F := Ideal) x (ix2 u j)
    + x (ix2 u j) * val_main_v204 (F := Ideal) dp dz x g w (ix2 u j)
    + val_main_v204 (F := Ideal) dp dz x g w (ix2 u j) * x (ix2 u j) = _
  rw [h197, v192 dp dz g w hfin, v204 dp dz x g w hfin]
  exact (norm_bwd eps eps_pos (fun k => x (ix2 u k)) (fun k => dhidden dp dz w u k * g (ix1 k)) (dy (ix2 u j)) j).symm

end Cert.ReferenceIdeal.Block

end
-- ==== Proof.KDu.lean ====
/-
  The first half of one grid point: from the rows of the pooled gradient the point loads, the window sums by doubling.
-/
module

public import proofs.«01_k».proof.Proof.Gen.KernelIdeal.Skeleton
public import proofs.«01_k».proof.Proof.Spec

@[expose] public section

set_option maxRecDepth 16384

noncomputable section

namespace Cert.KernelIdeal.Block

open Idealize.ShloMosaic Cert.KernelIdeal Cert.KernelIdeal.Gen Pool

/-! ## The weights of a row -/

/-- The row number of the array that row `r` of point `i`'s block holds, as the kernel's word, plus one. -/
def rowWord (i : ℕ) (r : ℕ) : BitVec 32 :=
  IntOp.addi (Scalar.muli (BitVec.ofNat 32 i) 512#32) (BitVec.ofNat 32 r)

theorem rowWord_toNat (i r : ℕ) (hi : i < 16) (hr : r < 528) : (rowWord i r).toNat = 512 * i + r := by
  unfold rowWord IntOp.addi Scalar.muli IntOp.muli
  simp only [BitVec.toNat_add, BitVec.toNat_mul, BitVec.toNat_ofNat]
  omega

/-- The kernel's weight of a row: one over the rows its window averages inside the array, zero outside. -/
theorem weight (i r w : ℕ) (hi : i < 16) (hr : r < 528) (hw0 : 0 < w) (hw : w ≤ 16) :
    Ideal.div 1 (FloatOps.sitofp (F := Ideal) FTy.f32
        (IntOp.minsi (IntOp.addi (rowWord i r) 1#32) (BitVec.ofNat 32 w)))
      * FloatOps.sitofp (F := Ideal) FTy.f32
        (BitVec.setWidth 32 (IntOp.cmpi CmpIPredicate.slt (rowWord i r) 8192#32))
    = if 512 * i + r < 8192 then recip w (512 * i + r) else 0 := by
  have hn := rowWord_toNat i r hi hr
  have h1 : (IntOp.addi (rowWord i r) 1#32).toNat = 512 * i + r + 1 := by
    unfold IntOp.addi
    rw [BitVec.toNat_add, hn, BitVec.toNat_ofNat]
    omega
  have hwn : (BitVec.ofNat 32 w).toNat = w := by rw [BitVec.toNat_ofNat]; omega
  have toInt_small : ∀ x : BitVec 32, x.toNat < 2 ^ 31 → x.toInt = x.toNat := fun x hx => by
    rw [BitVec.toInt_eq_toNat_cond, if_pos (by omega)]
  have hmin : (IntOp.minsi (IntOp.addi (rowWord i r) 1#32) (BitVec.ofNat 32 w)).toInt
      = ((min (512 * i + r + 1) w : ℕ) : ℤ) := by
    unfold IntOp.minsi
    rw [BitVec.slt_eq_decide, toInt_small (IntOp.addi _ _) (by omega), toInt_small (BitVec.ofNat 32 w) (by omega), h1,
      hwn]
    split_ifs with h
    · rw [toInt_small _ (by omega), h1]; simp at h; omega
    · rw [toInt_small _ (by omega), hwn]; simp at h; omega
  have hne : (((min (512 * i + r + 1) w : ℕ) : ℤ) : ℝ) ≠ 0 := by
    have : 0 < min (512 * i + r + 1) w := by omega
    exact_mod_cast this.ne'
  show Ideal.div 1 (((IntOp.minsi (IntOp.addi (rowWord i r) 1#32) (BitVec.ofNat 32 w)).toInt : ℝ) : EReal)
      * (((BitVec.setWidth 32 (IntOp.cmpi CmpIPredicate.slt (rowWord i r) 8192#32)).toInt : ℝ) : EReal) = _
  rw [hmin, Ideal.div_coe hne, one_mul]
  unfold IntOp.cmpi
  have hc : (rowWord i r).slt 8192#32 = decide (512 * i + r < 8192) := by
    rw [BitVec.slt_eq_decide, toInt_small _ (by omega), hn]
    simp
    omega
  split_ifs with h
  · simp only [hc, h]
    simp [recip]
  · simp only [hc, h]
    simp

/-! ## Windows by doubling -/

/-- Every row whose window of `k` rows stays inside the block holds the sum of `f` over that window. -/
def Windows (f : ℕ → Fin 256 → EReal) (k : ℕ) (v : FVec Ideal S528x256 .f32) : Prop :=
  ∀ (r : Fin 528) (l : Fin 256), r.val + k ≤ 528 → v (ix2 r l) = ∑ j ∈ Finset.range k, f (r.val + j) l

/-- A block whose rows are `f` holds the windows of one row. -/
theorem Windows.one (f : ℕ → Fin 256 → EReal) (v : FVec Ideal S528x256 .f32)
    (h : ∀ (r : Fin 528) (l : Fin 256), v (ix2 r l) = f r.val l) : Windows f 1 v := fun r l _ => by
  rw [h]; simp

/-- A block added to itself rotated. -/
def roll (w : BitVec 32) (v : FVec Ideal S528x256 .f32) : FVec Ideal S528x256 .f32 :=
  addf v (dynamicRotate 0 w none v rotates_S528x256_d0)

/-- Adding a block of windows of `k` rows to itself rotated up by `k` rows doubles the windows. -/
theorem Windows.double {f : ℕ → Fin 256 → EReal} {k : ℕ} {v : FVec Ideal S528x256 .f32} (h : Windows f k v)
    (w : BitVec 32) (hk : 0 < k) (hw : w.toNat = 528 - k) :
    Windows f (k + k) (roll w v) := fun r l hr => by
  have key : roll w v (ix2 r l)
      = v (ix2 r l) + v (ix2 ⟨r.val + k, by omega⟩ l) := by
    pointwise [roll]
    exact congrArg (fun a => v (ix2 r l) + v (ix2 a l)) (Fin.ext (by
      show (r.val + 528 - w.toNat % 528) % 528 = r.val + k
      omega))
  rw [key, h r l (by omega), h _ l (by show r.val + k + k ≤ 528; omega), Finset.sum_range_add]
  exact congrArg _ (Finset.sum_congr rfl fun j _ => by rw [Nat.add_assoc])

/-! ## The rows a point loads -/

variable (i : grid0.Coords) (x0 : FVec Ideal S512x1024 .bf16) (x1 : FVec Ideal S16x1024 .bf16)

/-- The rows of the block and of its halo, one after the other. -/
theorem pay5_apply (r : Fin 528) (c : Fin 1024) :
    k0_pay5 (F := Ideal) x0 x1 (ix2 r c)
      = if h : r.val < 512 then x0 (ix2 ⟨r.val, h⟩ c) else x1 (ix2 ⟨r.val - 512, by omega⟩ c) := by
  pointwise [k0_pay5]

/-- A row that is weighted by the reciprocal of its window's length inside the array and by zero outside. -/
theorem scaled (w : ℕ) (hw0 : 0 < w) (hw : w ≤ 16) (dp : FVec Ideal (⟨2, ![8192, 1024]⟩ : Shape) .bf16) (t : ℕ)
    (ht : t < 16) (x : EReal) (r : ℕ) (hr : r < 528) (c : Fin 1024)
    (hx : ∀ h : 512 * t + r < 8192, x = dp (ix2 ⟨512 * t + r, h⟩ c)) :
    x * (Ideal.div 1 (FloatOps.sitofp (F := Ideal) FTy.f32
        (IntOp.minsi (IntOp.addi (rowWord t r) 1#32) (BitVec.ofNat 32 w)))
      * FloatOps.sitofp (F := Ideal) FTy.f32
        (BitVec.setWidth 32 (IntOp.cmpi CmpIPredicate.slt (rowWord t r) 8192#32)))
    = rowAt dp (512 * t + r) c * recip w (512 * t + r) := by
  rw [weight t r w ht hr hw0 hw]
  unfold rowAt
  split_ifs with h
  · rw [hx h]
  · simp

variable (dp : FVec Ideal (⟨2, ![8192, 1024]⟩ : Shape) .bf16)

/-- What the two blocks of rows hold at tile `t`: its own rows, and the rows after it where there are any. -/
structure Loads (t : ℕ) : Prop where
  tile : ∀ (r : Fin 512) (c : Fin 1024) (h : 512 * t + r.val < 8192), x0 (ix2 r c) = dp (ix2 ⟨512 * t + r.val, h⟩ c)
  halo : ∀ (r : Fin 16) (c : Fin 1024) (h : 512 * t + 512 + r.val < 8192),
    x1 (ix2 r c) = dp (ix2 ⟨512 * t + 512 + r.val, h⟩ c)

variable {i x0 x1 dp} {t : ℕ}

/-- A row of the two blocks that lies inside the array is the array's row. -/
theorem Loads.pay5 (h : Loads x0 x1 dp t) (r : Fin 528) (c : Fin 1024) (hr : 512 * t + r.val < 8192) :
    k0_pay5 (F := Ideal) x0 x1 (ix2 r c) = dp (ix2 ⟨512 * t + r.val, hr⟩ c) := by
  rw [pay5_apply]
  split_ifs with hs
  · exact h.tile ⟨r.val, hs⟩ c hr
  · rw [h.halo ⟨r.val - 512, by omega⟩ c (by show 512 * t + 512 + (r.val - 512) < 8192; omega)]
    exact congrArg (fun a => dp (ix2 a c)) (Fin.ext (by
      show 512 * t + 512 + (r.val - 512) = 512 * t + r.val
      omega))

/-- The first 512 rows are the tile's. -/
theorem Loads.pay5_tile (h : Loads x0 x1 dp t) (ht : t < 16) (r : Fin 512) (c : Fin 1024) :
    k0_pay5 (F := Ideal) x0 x1 (ix2 ⟨r.val, by omega⟩ c) = rowAt dp (512 * t + r.val) c := by
  unfold rowAt
  rw [dif_pos (by omega), h.pay5 ⟨r.val, by omega⟩ c]

/-- The weighted rows of a group of columns. -/
def weighted (dp : FVec Ideal (⟨2, ![8192, 1024]⟩ : Shape) .bf16) (t w off : ℕ) (hoff : off + 256 ≤ 1024) (r : ℕ)
    (l : Fin 256) : EReal :=
  rowAt dp (512 * t + r) ⟨off + l.val, by omega⟩ * recip w (512 * t + r)

/-- A group's gradient from its weighted rows' windows and its rows. -/
def closeGroup (v : FVec Ideal S528x256 .f32) (e : FVec Ideal S512x256 .f32) : FVec Ideal S512x256 .f32 :=
  subf (extractStridedSlice S512x256 ![0, 0] v slices_S528x256_o0_0_S512x256) e

/-- From the windows of the weighted rows to the gradient, on one group of columns. -/
theorem Windows.du {w off : ℕ} {hoff : off + 256 ≤ 1024} {v : FVec Ideal S528x256 .f32}
    (hv : Windows (weighted dp t w off hoff) w v) (h : Loads x0 x1 dp t) (ht : t < 16) (hw : w ≤ 16)
    (hwin : ∀ l : Fin 256, window ⟨off + l.val, by omega⟩ = w) (e : FVec Ideal S512x256 .f32)
    (he : ∀ (r : Fin 512) (l : Fin 256),
      e (ix2 r l) = k0_pay5 (F := Ideal) x0 x1 (ix2 ⟨r.val, by omega⟩ ⟨off + l.val, by omega⟩))
    (r : Fin 512) (l : Fin 256) :
    closeGroup v e (ix2 r l) = Pool.du dp (512 * t + r.val) ⟨off + l.val, by omega⟩ := by
  have hs : extractStridedSlice S512x256 ![0, 0] v slices_S528x256_o0_0_S512x256 (ix2 r l)
      = v (ix2 ⟨r.val, by omega⟩ l) := by pointwise
  show extractStridedSlice S512x256 ![0, 0] v slices_S528x256_o0_0_S512x256 (ix2 r l) - e (ix2 r l) = _
  unfold Pool.du
  rw [hs, hv _ l (by show r.val + w ≤ 528; omega), hwin, he, h.pay5_tile ht]
  refine congrArg (· - _) (Finset.sum_congr rfl fun k _ => ?_)
  unfold weighted
  rw [Nat.add_assoc]

/-- A block of rows weighted as the kernel weights them for windows of `w` rows. -/
def scaledRows (i : grid0.Coords) (w : BitVec 32) (e : FVec Ideal S528x256 .f32) : FVec Ideal S528x256 .f32 :=
  mulf e (broadcastTo S528x256 (mulf (divf (broadcast S528x1 (Scalar.ofBits .f32 0x3F800000#32))
    (sitofp .f32 (minsi (addi (addi (broadcast S528x1 (Scalar.muli (BitVec.ofNat 32 (i 0).val) 512#32))
      (iota .tc S528x1 32 [0] iota_S528x1_d0_w32)) (broadcast S528x1 1#32)) (broadcast S528x1 w))))
    (k0_pay6 (F := Ideal) i)) broadcasts_S528x1_S528x256)

/-- The weighted rows of a block whose rows are the loaded ones' columns from `off` on. -/
theorem Loads.scaledRows (h : Loads x0 x1 dp t) (hi : (i 0).val = t) (ht : t < 16) (w off : ℕ)
    (hoff : off + 256 ≤ 1024) (hw0 : 0 < w) (hw : w ≤ 16) (e : FVec Ideal S528x256 .f32)
    (he : ∀ (r : Fin 528) (l : Fin 256), e (ix2 r l) = k0_pay5 (F := Ideal) x0 x1 (ix2 r ⟨off + l.val, by omega⟩)) :
    Windows (weighted dp t w off hoff) 1 (scaledRows i (BitVec.ofNat 32 w) e) :=
  Windows.one _ _ fun r l => by
    refine Eq.trans ?_ (scaled w hw0 hw dp t ht (e (ix2 r l)) r.val r.isLt ⟨off + l.val, by omega⟩ fun hr => by
      rw [he]; exact h.pay5 r _ hr)
    subst hi
    pointwise [Block.scaledRows, k0_pay6, rowWord]

/-- The window length of a group's columns. -/
theorem window_group (g : ℕ) (l : Fin 256) (off : ℕ) (hoff : off = 256 * g) (hg : off + l.val < 1024) :
    window ⟨off + l.val, hg⟩ = 2 ^ (g + 1) := by
  unfold window
  rw [show (off + l.val) / 256 = g by omega]

/-- The gradient's tile as the body builds it: the four groups side by side. -/
def duBlock (i : grid0.Coords) (x0 : FVec Ideal S512x1024 .bf16) (x1 : FVec Ideal S16x1024 .bf16) :
    FVec Ideal S512x1024 .bf16 :=
  k0_pay15 (k0_pay5 x0 x1) (k0_pay6 i) (k0_pay7 i x0 x1)
    (k0_pay10 (k0_pay5 x0 x1) (k0_pay6 i) (k0_pay8 x0 x1) (k0_pay9 i) 4#32)
    (k0_pay11 (BitVec.ofNat 32 (i 0).val) (k0_pay5 x0 x1) (k0_pay6 i)) (k0_pay12 (k0_pay5 x0 x1))
    (k0_pay13 (BitVec.ofNat 32 (i 0).val)) k0_pay14

/-- Four groups of 256 columns side by side, read at a column. -/
theorem join_apply (a b c d : FVec Ideal S512x256 .f32) (r : Fin 512) (k : Fin 1024) (f : Fin 1024 → EReal)
    (ha : ∀ l : Fin 256, a (ix2 r l) = f ⟨0 + l.val, by omega⟩)
    (hb : ∀ l : Fin 256, b (ix2 r l) = f ⟨256 + l.val, by omega⟩)
    (hc : ∀ l : Fin 256, c (ix2 r l) = f ⟨512 + l.val, by omega⟩)
    (hd : ∀ l : Fin 256, d (ix2 r l) = f ⟨768 + l.val, by omega⟩) :
    truncf .bf16 (concatenate S512x1024 1 [⟨S512x256, a⟩, ⟨S512x256, b⟩, ⟨S512x256, c⟩, ⟨S512x256, d⟩]
      concatenates_S512x256_S512x256_S512x256_S512x256_S512x1024_d1) bitsLt_bf16_f32 (ix2 r k) = f k := by
  pointwise
  by_cases h0 : k.val < 256
  · exact (dif_pos h0).trans ((ha _).trans (congrArg f (Fin.ext (by show 0 + k.val = k.val; omega))))
  refine (dif_neg h0).trans ?_
  by_cases h1 : k.val - 256 < 256
  · exact (dif_pos h1).trans ((hb _).trans (congrArg f (Fin.ext (by show 256 + (k.val - 256) = k.val; omega))))
  refine (dif_neg h1).trans ?_
  by_cases h2 : k.val - 256 - 256 < 256
  · exact (dif_pos h2).trans ((hc _).trans (congrArg f (Fin.ext (by
      show 512 + (k.val - 256 - 256) = k.val; omega))))
  exact (dif_neg h2).trans ((hd ⟨k.val - 256 - 256 - 256, by omega⟩).trans (congrArg f (Fin.ext (by
    show 768 + (k.val - 256 - 256 - 256) = k.val; omega))))

/-- Columns 0 to 255 of the gradient. -/
def group0 (i : grid0.Coords) (x0 : FVec Ideal S512x1024 .bf16) (x1 : FVec Ideal S16x1024 .bf16) :
    FVec Ideal S512x256 .f32 :=
  closeGroup (roll 527#32 (scaledRows i 2#32
      (extractStridedSlice S528x256 ![0, 0] (k0_pay5 x0 x1) slices_S528x1024_o0_0_S528x256)))
    (extractStridedSlice S512x256 ![0, 0] (k0_pay5 x0 x1) slices_S528x1024_o0_0_S512x256)

/-- Columns 256 to 511 of the gradient. -/
def group1 (i : grid0.Coords) (x0 : FVec Ideal S512x1024 .bf16) (x1 : FVec Ideal S16x1024 .bf16) :
    FVec Ideal S512x256 .f32 :=
  closeGroup (roll 526#32 (roll 527#32 (scaledRows i 4#32 (k0_pay8 x0 x1))))
    (extractStridedSlice S512x256 ![0, 256] (k0_pay5 x0 x1) slices_S528x1024_o0_256_S512x256)

/-- Columns 512 to 767 of the gradient. -/
def group2 (i : grid0.Coords) (x0 : FVec Ideal S512x1024 .bf16) (x1 : FVec Ideal S16x1024 .bf16) :
    FVec Ideal S512x256 .f32 :=
  closeGroup (roll 524#32 (roll 526#32 (roll 527#32 (scaledRows i 8#32
      (extractStridedSlice S528x256 ![0, 512] (k0_pay5 x0 x1) slices_S528x1024_o0_512_S528x256)))))
    (extractStridedSlice S512x256 ![0, 512] (k0_pay5 x0 x1) slices_S528x1024_o0_512_S512x256)

/-- Columns 768 to 1023 of the gradient. -/
def group3 (i : grid0.Coords) (x0 : FVec Ideal S512x1024 .bf16) (x1 : FVec Ideal S16x1024 .bf16) :
    FVec Ideal S512x256 .f32 :=
  closeGroup (roll 520#32 (roll 524#32 (roll 526#32 (roll 527#32 (scaledRows i 16#32 (k0_pay12 (k0_pay5 x0 x1)))))))
    (extractStridedSlice S512x256 ![0, 768] (k0_pay5 x0 x1) slices_S528x1024_o0_768_S512x256)

/-- The first group is the body's. -/
theorem pay7_eq : k0_pay7 (F := Ideal) i x0 x1 = group0 i x0 x1 := rfl

/-- The second group is the body's. -/
theorem pay10_eq :
    k0_pay10 (F := Ideal) (k0_pay5 x0 x1) (k0_pay6 i) (k0_pay8 x0 x1) (k0_pay9 i) 4#32 = group1 i x0 x1 := rfl

/-- The third group is the body's. -/
theorem pay11_eq :
    k0_pay11 (F := Ideal) (BitVec.ofNat 32 (i 0).val) (k0_pay5 x0 x1) (k0_pay6 i) = group2 i x0 x1 := rfl

/-- The tile of the gradient is the four groups side by side. -/
theorem duBlock_eq : duBlock i x0 x1 = truncf .bf16 (concatenate S512x1024 1
    [⟨S512x256, group0 i x0 x1⟩, ⟨S512x256, group1 i x0 x1⟩, ⟨S512x256, group2 i x0 x1⟩, ⟨S512x256, group3 i x0 x1⟩]
      concatenates_S512x256_S512x256_S512x256_S512x256_S512x1024_d1) bitsLt_bf16_f32 := by
  unfold duBlock
  rw [pay7_eq, pay10_eq, pay11_eq]
  rfl

/-- The tile of the gradient is the tile of the array's. -/
theorem duBlock_apply (hi : (i 0).val = t) (ht : t < 16) (h : Loads x0 x1 dp t) (r : Fin 512) (c : Fin 1024) :
    duBlock i x0 x1 (ix2 r c) = Pool.du dp (512 * t + r.val) c := by
  rw [duBlock_eq]
  refine join_apply _ _ _ _ r c (Pool.du dp (512 * t + r.val)) ?_ ?_ ?_ ?_
  · have h1 := h.scaledRows hi ht 2 0 (by omega) (by omega) (by omega)
      (extractStridedSlice S528x256 ![0, 0] (k0_pay5 x0 x1) slices_S528x1024_o0_0_S528x256) fun r l => by pointwise
    exact (h1.double 527#32 (by omega) (by decide)).du h ht (by omega) (fun l => window_group 0 l 0 rfl (by omega)) _
      (fun r l => by pointwise) r
  · have h1 := h.scaledRows hi ht 4 256 (by omega) (by omega) (by omega) (k0_pay8 x0 x1)
      fun r l => by pointwise [k0_pay8]
    exact ((h1.double 527#32 (by omega) (by decide)).double 526#32 (by omega) (by decide)).du h ht (by omega)
      (fun l => window_group 1 l 256 rfl (by omega)) _ (fun r l => by pointwise) r
  · have h1 := h.scaledRows hi ht 8 512 (by omega) (by omega) (by omega)
      (extractStridedSlice S528x256 ![0, 512] (k0_pay5 x0 x1) slices_S528x1024_o0_512_S528x256) fun r l => by pointwise
    exact (((h1.double 527#32 (by omega) (by decide)).double 526#32 (by omega) (by decide)).double 524#32 (by omega)
      (by decide)).du h ht (by omega) (fun l => window_group 2 l 512 rfl (by omega)) _ (fun r l => by pointwise) r
  · have h1 := h.scaledRows hi ht 16 768 (by omega) (by omega) (by omega) (k0_pay12 (k0_pay5 x0 x1))
      fun r l => by pointwise [k0_pay12]
    exact ((((h1.double 527#32 (by omega) (by decide)).double 526#32 (by omega) (by decide)).double 524#32 (by omega)
      (by decide)).double 520#32 (by omega) (by decide)).du h ht (by omega)
      (fun l => window_group 3 l 768 rfl (by omega)) _ (fun r l => by pointwise) r

end Cert.KernelIdeal.Block
-- ==== Proof.KPart.lean ====
/-
  The second half of one grid point: the products, the norm and the sums it makes of the rows it loads.
-/
module

public import proofs.«01_k».proof.Proof.KDu
public import proofs.«01_k».proof.Proof.Math
public import proofs.«01_k».proof.Proof.Consts
public import Idealize.ShloMosaic.Lib.Pipeline.ValueKit
public import Idealize.ShloMosaic.Lib.Pipeline.ReadBack

@[expose] public section

set_option maxRecDepth 16384

noncomputable section

namespace Cert.KernelIdeal.Block

open Idealize.ShloMosaic Cert.KernelIdeal Cert.KernelIdeal.Gen Pool

/-- The product that a chunk of the weight's gradient gains at a point, onto what it held. -/
theorem pay23_apply (z : FVec Ideal S512x512 .bf16) (h : FVec Ideal S512x1024 .bf16) (p : FVec Ideal S1x1024x512 .f32)
    (j : Fin 1024) (l : Fin 512) :
    k0_pay23 z h p (ix3 0 j l) = p (ix3 0 j l) + ∑ r : Fin 512, h (ix2 r j) * z (ix2 r l) := by
  pointwise [k0_pay23]

/-- One over the root of a row's mean square. -/
theorem pay19_apply (x : FVec Ideal S512x1024 .f32) (r : Fin 512) :
    k0_pay19 (F := Ideal) x (ix2 r 0) = rstd eps (fun k => x (ix2 r k)) := by
  pointwise [k0_pay19]
  rw [ofBits_1024, ofBits_eps]
  rfl

theorem pay20_apply (x : FVec Ideal S512x1024 .f32) (r : Fin 512) (j : Fin 1024) :
    k0_pay20 (F := Ideal) x (ix2 r j) = x (ix2 r j) * k0_pay19 (F := Ideal) x (ix2 r 0) := by
  pointwise [k0_pay20]

theorem pay21_apply (g : FVec Ideal S1x1024 .f32) (x : FVec Ideal S512x1024 .f32) (r : Fin 512) (j : Fin 1024) :
    k0_pay21 (F := Ideal) g x (ix2 r j) = x (ix2 r j) * k0_pay19 (F := Ideal) x (ix2 r 0) * g (ix2 0 j) := by
  pointwise [k0_pay21, k0_pay20, k0_pay18]

theorem pay28_apply (z0 z1 z2 z3 : FVec Ideal S512x512 .bf16) (w0 w1 w2 w3 : FVec Ideal S1x1024x512 .bf16) (r : Fin 512) (j : Fin 1024) :
    k0_pay28 z2 z3 (k0_pay25 z0 z1 k0_pay22 w0 w1) w2 w3 (ix2 r j)
      = (∑ l : Fin 512, z0 (ix2 r l) * w0 (ix3 0 j l)) + (∑ l : Fin 512, z1 (ix2 r l) * w1 (ix3 0 j l))
        + (∑ l : Fin 512, z2 (ix2 r l) * w2 (ix3 0 j l)) + (∑ l : Fin 512, z3 (ix2 r l) * w3 (ix3 0 j l)) := by
  pointwise [k0_pay28, k0_pay25, k0_pay22]

theorem pay29_apply (z2 z3 : FVec Ideal S512x512 .bf16) (xh a : FVec Ideal S512x1024 .f32) (w2 w3 : FVec Ideal S1x1024x512 .bf16) (j : Fin 1024) :
    k0_pay29 z2 z3 xh a w2 w3 (ix2 0 j) = ∑ r : Fin 512, k0_pay28 z2 z3 a w2 w3 (ix2 r j) * xh (ix2 r j) := by
  pointwise [k0_pay29]

theorem pay30_apply (z2 z3 : FVec Ideal S512x512 .bf16) (g : FVec Ideal S1x1024 .f32) (s : FVec Ideal S512x1 .f32) (xh a dy : FVec Ideal S512x1024 .f32) (w2 w3 : FVec Ideal S1x1024x512 .bf16) (r : Fin 512) (j : Fin 1024) :
    k0_pay30 z2 z3 g s xh a w2 w3 dy (ix2 r j)
      = s (ix2 r 0) * (k0_pay28 z2 z3 a w2 w3 (ix2 r j) * g (ix2 0 j) - xh (ix2 r j) * Ideal.div (∑ k : Fin 1024, k0_pay28 z2 z3 a w2 w3 (ix2 r k) * g (ix2 0 k) * xh (ix2 r k)) ((1024 : ℝ) : EReal)) + dy (ix2 r j) := by
  pointwise [k0_pay30]
  rw [ofBits_1024]

end Cert.KernelIdeal.Block

end
-- ==== Proof.KTile.lean ====
/-
  One grid point against the whole arrays: what the point computes of its blocks is its tile of the three gradients.
-/
module

public import proofs.«01_k».proof.Proof.KPart
public import proofs.«01_k».proof.Proof.Target

@[expose] public section

set_option maxRecDepth 16384

noncomputable section

namespace Cert.KernelIdeal.Block

open Idealize.ShloMosaic Cert.KernelIdeal Cert.KernelIdeal.Gen Pool

/-- The blocks of point `t` hold its rows of the arrays, and the whole of the gain and of the chunked weights. -/
structure Blocks (x0 : FVec Ideal S512x1024 .bf16) (x1 : FVec Ideal S16x1024 .bf16) (x2 : FVec Ideal S512x1024 .bf16)
    (x3 x4 : FVec Ideal S512x1024 .f32) (x5 : FVec Ideal S1x1024 .f32) (x6 : FVec Ideal S4x1024x512 .bf16)
    (dp dz : FVec Ideal S8192x1024 .bf16) (x dy : FVec Ideal S8192x1024 .f32)
    (g : FVec Ideal S1024 .f32) (w : FVec Ideal S1024x2048 .f32) (t : ℕ) : Prop where
  lt : t < 16
  loads : Loads x0 x1 dp t
  gate : ∀ (r : Fin 512) (j : Fin 1024), x2 (ix2 r j) = dz (ix2 ⟨512 * t + r.val, by omega⟩ j)
  input : ∀ (r : Fin 512) (j : Fin 1024), x3 (ix2 r j) = x (ix2 ⟨512 * t + r.val, by omega⟩ j)
  skip : ∀ (r : Fin 512) (j : Fin 1024), x4 (ix2 r j) = dy (ix2 ⟨512 * t + r.val, by omega⟩ j)
  gain : ∀ j : Fin 1024, x5 (ix2 0 j) = g (ix1 j)
  weights : ∀ (a : Fin 4) (j : Fin 1024) (l : Fin 512), x6 (ix3 a j l) = w (ix2 j ⟨512 * a.val + l.val, by omega⟩)

variable {x0 : FVec Ideal S512x1024 .bf16} {x1 : FVec Ideal S16x1024 .bf16}
  {x2 : FVec Ideal S512x1024 .bf16} {x3 x4 : FVec Ideal S512x1024 .f32} {x5 : FVec Ideal S1x1024 .f32}
  {x6 : FVec Ideal S4x1024x512 .bf16} {dp dz : FVec Ideal S8192x1024 .bf16} {x dy : FVec Ideal S8192x1024 .f32}
  {g : FVec Ideal S1024 .f32} {w : FVec Ideal S1024x2048 .f32} {t : ℕ}

/-- The pooled half of the gradient, its first 512 columns. -/
def pooled0 (i : grid0.Coords) (x0 : FVec Ideal S512x1024 .bf16) (x1 : FVec Ideal S16x1024 .bf16) :
    FVec Ideal S512x512 .bf16 :=
  extractStridedSlice S512x512 ![0, 0] (duBlock i x0 x1) slices_S512x1024_o0_0_S512x512

/-- The pooled half of the gradient, its last 512 columns. -/
def pooled1 (i : grid0.Coords) (x0 : FVec Ideal S512x1024 .bf16) (x1 : FVec Ideal S16x1024 .bf16) :
    FVec Ideal S512x512 .bf16 :=
  extractStridedSlice S512x512 ![0, 512] (duBlock i x0 x1) slices_S512x1024_o0_512_S512x512

/-- The gate's half of the gradient, its first 512 columns. -/
def gate0 (x2 : FVec Ideal S512x1024 .bf16) : FVec Ideal S512x512 .bf16 :=
  View.ld (Val := Elt Ideal) (e' := .bf16) x2 (Rect.unit ![0, 0] ![512, 512] inb_S512x1024_S512x512_0_0)

/-- The gate's half of the gradient, its last 512 columns. -/
def gate1 (x2 : FVec Ideal S512x1024 .bf16) : FVec Ideal S512x512 .bf16 :=
  View.ld (Val := Elt Ideal) (e' := .bf16) x2 (Rect.unit ![0, 512] ![512, 512] inb_S512x1024_S512x512_0_512)

/-- Where a rectangle of a matrix puts an index. -/
theorem ld_at2 {n m a b : ℕ} (off : Fin 2 → ℕ) (h) (r : Fin a) (l : Fin b) (r' : Fin n) (l' : Fin m)
    (h0 : r'.val = off 0 + r.val) (h1 : l'.val = off 1 + l.val) :
    (Rect.unit (s := ⟨2, ![n, m]⟩) off ![a, b] h).idx (ix2 r l) = ix2 r' l' := by
  refine funext fun k => Fin.ext ((Rect.idx_unit_val _ _ _ _ _).trans ?_)
  fin_cases k
  · exact h0.symm
  · exact h1.symm

/-- A chunk of the weights. -/
def chunk (x6 : FVec Ideal S4x1024x512 .bf16) (a : Fin 4)
    (h : ∀ k, (![a.val, 0, 0] : Fin 3 → ℕ) k + (![1, 1024, 512] : Fin 3 → ℕ) k ≤ S4x1024x512.size k) :
    FVec Ideal S1x1024x512 .bf16 :=
  View.ld (Val := Elt Ideal) (e' := .bf16) x6 (Rect.unit ![a.val, 0, 0] ![1, 1024, 512] h)

theorem chunk_apply (x6 : FVec Ideal S4x1024x512 .bf16) (a : Fin 4)
    (h : ∀ k, (![a.val, 0, 0] : Fin 3 → ℕ) k + (![1, 1024, 512] : Fin 3 → ℕ) k ≤ S4x1024x512.size k)
    (j : Fin 1024) (l : Fin 512) : chunk x6 a h (ix3 0 j l) = x6 (ix3 a j l) := by
  unfold chunk
  refine congrArg x6 (funext fun k => Fin.ext ?_)
  refine (Rect.idx_unit_val _ _ _ _ _).trans ?_
  fin_cases k <;> simp

/-- The first two of the four products that make the gradient of the normed rows. -/
def products01 (i : grid0.Coords) (x0 : FVec Ideal S512x1024 .bf16) (x1 : FVec Ideal S16x1024 .bf16)
    (x6 : FVec Ideal S4x1024x512 .bf16) : FVec Ideal S512x1024 .f32 :=
  k0_pay25 (pooled0 i x0 x1) (pooled1 i x0 x1) k0_pay22
    (View.ld (Val := Elt Ideal) (e' := .bf16) x6 (Rect.unit ![0, 0, 0] ![1, 1024, 512] inb_S4x1024x512_S1x1024x512_0_0_0))
    (View.ld (Val := Elt Ideal) (e' := .bf16) x6 (Rect.unit ![1, 0, 0] ![1, 1024, 512] inb_S4x1024x512_S1x1024x512_1_0_0))

/-- The gradient of the normed rows. -/
def dhBlock (i : grid0.Coords) (x0 : FVec Ideal S512x1024 .bf16) (x1 : FVec Ideal S16x1024 .bf16)
    (x2 : FVec Ideal S512x1024 .bf16) (x6 : FVec Ideal S4x1024x512 .bf16) : FVec Ideal S512x1024 .f32 :=
  k0_pay28 (gate0 x2) (gate1 x2) (products01 i x0 x1 x6)
    (View.ld (Val := Elt Ideal) (e' := .bf16) x6 (Rect.unit ![2, 0, 0] ![1, 1024, 512] inb_S4x1024x512_S1x1024x512_2_0_0))
    (View.ld (Val := Elt Ideal) (e' := .bf16) x6 (Rect.unit ![3, 0, 0] ![1, 1024, 512] inb_S4x1024x512_S1x1024x512_3_0_0))

/-- The point's part of the gain's gradient. -/
def dgBlock (i : grid0.Coords) (x0 : FVec Ideal S512x1024 .bf16) (x1 : FVec Ideal S16x1024 .bf16)
    (x2 : FVec Ideal S512x1024 .bf16) (x3 : FVec Ideal S512x1024 .f32) (x6 : FVec Ideal S4x1024x512 .bf16) : FVec Ideal S1x1024 .f32 :=
  k0_pay29 (gate0 x2) (gate1 x2) (k0_pay20 x3) (products01 i x0 x1 x6)
    (View.ld (Val := Elt Ideal) (e' := .bf16) x6 (Rect.unit ![2, 0, 0] ![1, 1024, 512] inb_S4x1024x512_S1x1024x512_2_0_0))
    (View.ld (Val := Elt Ideal) (e' := .bf16) x6 (Rect.unit ![3, 0, 0] ![1, 1024, 512] inb_S4x1024x512_S1x1024x512_3_0_0))

/-- The point's tile of the input's gradient. -/
def dxBlock (i : grid0.Coords) (x0 : FVec Ideal S512x1024 .bf16) (x1 : FVec Ideal S16x1024 .bf16)
    (x2 : FVec Ideal S512x1024 .bf16) (x3 x4 : FVec Ideal S512x1024 .f32) (x5 : FVec Ideal S1x1024 .f32)
    (x6 : FVec Ideal S4x1024x512 .bf16) : FVec Ideal S512x1024 .f32 :=
  k0_pay30 (gate0 x2) (gate1 x2) (k0_pay18 x5) (k0_pay19 x3) (k0_pay20 x3) (products01 i x0 x1 x6)
    (View.ld (Val := Elt Ideal) (e' := .bf16) x6 (Rect.unit ![2, 0, 0] ![1, 1024, 512] inb_S4x1024x512_S1x1024x512_2_0_0))
    (View.ld (Val := Elt Ideal) (e' := .bf16) x6 (Rect.unit ![3, 0, 0] ![1, 1024, 512] inb_S4x1024x512_S1x1024x512_3_0_0))
    x4

namespace Blocks

variable (b : Blocks x0 x1 x2 x3 x4 x5 x6 dp dz x dy g w t)

include b

/-- The row of the arrays that row `r` of the point is. -/
theorem row_lt (r : Fin 512) : 512 * t + r.val < 8192 := by have := b.lt; omega

theorem gate0_apply (r l : Fin 512) :
    gate0 x2 (ix2 r l) = dcat dp dz ⟨512 * t + r.val, b.row_lt r⟩ ⟨512 * 2 + l.val, by omega⟩ := by
  have h : gate0 x2 (ix2 r l) = x2 (ix2 r ⟨l.val, by omega⟩) := by
    unfold gate0; exact congrArg x2 (ld_at2 _ _ _ _ _ _ (by simp) (by simp))
  rw [h, b.gate]
  refine Eq.trans ?_ (dif_neg (show ¬ 512 * 2 + l.val < 1024 by omega)).symm
  exact congrArg (fun q => dz (ix2 _ q)) (Fin.ext (by show l.val = 512 * 2 + l.val - 1024; omega))

theorem gate1_apply (r l : Fin 512) :
    gate1 x2 (ix2 r l) = dcat dp dz ⟨512 * t + r.val, b.row_lt r⟩ ⟨512 * 3 + l.val, by omega⟩ := by
  have h : gate1 x2 (ix2 r l) = x2 (ix2 r ⟨512 + l.val, by omega⟩) := by
    unfold gate1; exact congrArg x2 (ld_at2 _ _ _ _ _ _ (by simp) (by simp))
  rw [h, b.gate]
  refine Eq.trans ?_ (dif_neg (show ¬ 512 * 3 + l.val < 1024 by omega)).symm
  exact congrArg (fun q => dz (ix2 _ q)) (Fin.ext (by show 512 + l.val = 512 * 3 + l.val - 1024; omega))

theorem inverse_apply (r : Fin 512) :
    k0_pay19 (F := Ideal) x3 (ix2 r 0) = inverse x ⟨512 * t + r.val, b.row_lt r⟩ := by
  rw [pay19_apply]
  exact congrArg (rstd eps) (funext fun k => b.input r k)

theorem normed_apply (r : Fin 512) (j : Fin 1024) :
    k0_pay20 (F := Ideal) x3 (ix2 r j) = normed x ⟨512 * t + r.val, b.row_lt r⟩ j := by
  rw [pay20_apply, b.inverse_apply, b.input]; rfl

theorem hidden_apply (r : Fin 512) (j : Fin 1024) :
    k0_pay21 (F := Ideal) x5 x3 (ix2 r j) = normed x ⟨512 * t + r.val, b.row_lt r⟩ j * g (ix1 j) := by
  rw [pay21_apply, b.inverse_apply, b.input, b.gain]; rfl

theorem weights_apply (a : Fin 4)
    (h : ∀ k, (![a.val, 0, 0] : Fin 3 → ℕ) k + (![1, 1024, 512] : Fin 3 → ℕ) k ≤ S4x1024x512.size k)
    (j : Fin 1024) (l : Fin 512) : chunk x6 a h (ix3 0 j l) = w (ix2 j ⟨512 * a.val + l.val, by omega⟩) :=
  (chunk_apply x6 a h j l).trans (b.weights a j l)

variable {i : grid0.Coords} (hi : (i 0).val = t)

include hi

theorem pooled0_apply (r l : Fin 512) :
    pooled0 i x0 x1 (ix2 r l) = dcat dp dz ⟨512 * t + r.val, b.row_lt r⟩ ⟨512 * 0 + l.val, by omega⟩ := by
  have h : pooled0 i x0 x1 (ix2 r l) = duBlock i x0 x1 (ix2 r ⟨l.val, by omega⟩) := by
    unfold pooled0; pointwise
  rw [h, duBlock_apply hi b.lt b.loads]
  refine Eq.trans ?_ (dif_pos (show 512 * 0 + l.val < 1024 by omega)).symm
  exact congrArg (du dp _) (Fin.ext (by show l.val = 512 * 0 + l.val; omega))

theorem pooled1_apply (r l : Fin 512) :
    pooled1 i x0 x1 (ix2 r l) = dcat dp dz ⟨512 * t + r.val, b.row_lt r⟩ ⟨512 * 1 + l.val, by omega⟩ := by
  have h : pooled1 i x0 x1 (ix2 r l) = duBlock i x0 x1 (ix2 r ⟨512 + l.val, by omega⟩) := by
    unfold pooled1; pointwise
  rw [h, duBlock_apply hi b.lt b.loads]
  refine Eq.trans ?_ (dif_pos (show 512 * 1 + l.val < 1024 by omega)).symm
  exact congrArg (du dp _) (Fin.ext (by show 512 + l.val = 512 * 1 + l.val; omega))

theorem dh_apply (r : Fin 512) (j : Fin 1024) :
    dhBlock i x0 x1 x2 x6 (ix2 r j) = dhidden dp dz w ⟨512 * t + r.val, b.row_lt r⟩ j := by
  refine (pay28_apply _ _ _ _ (chunk x6 0 inb_S4x1024x512_S1x1024x512_0_0_0)
    (chunk x6 1 inb_S4x1024x512_S1x1024x512_1_0_0) (chunk x6 2 inb_S4x1024x512_S1x1024x512_2_0_0)
    (chunk x6 3 inb_S4x1024x512_S1x1024x512_3_0_0) r j).trans ?_
  unfold dhidden
  rw [sum_chunks]
  refine congrArg₂ _ (congrArg₂ _ (congrArg₂ _ ?_ ?_) ?_) ?_ <;> refine Finset.sum_congr rfl fun l _ => ?_
  · rw [b.pooled0_apply hi, b.weights_apply]; rfl
  · rw [b.pooled1_apply hi, b.weights_apply]; rfl
  · rw [b.gate0_apply, b.weights_apply]; rfl
  · rw [b.gate1_apply, b.weights_apply]; rfl

/-- The point's part of the gain's gradient is its rows' part. -/
theorem dg_apply (j : Fin 1024) :
    dgBlock i x0 x1 x2 x3 x6 (ix2 0 j)
      = ∑ r : Fin 512, dhidden dp dz w ⟨512 * t + r.val, b.row_lt r⟩ j * normed x ⟨512 * t + r.val, b.row_lt r⟩ j := by
  refine (pay29_apply _ _ _ _ _ _ j).trans (Finset.sum_congr rfl fun r _ => ?_)
  exact congrArg₂ _ (b.dh_apply hi r j) (b.normed_apply r j)

/-- The point's tile of the input's gradient is the array's. -/
theorem dx_apply (r : Fin 512) (j : Fin 1024) :
    dxBlock i x0 x1 x2 x3 x4 x5 x6 (ix2 r j) = dinput dp dz x dy g w ⟨512 * t + r.val, b.row_lt r⟩ j := by
  have hg : ∀ j : Fin 1024, k0_pay18 (F := Ideal) x5 (ix2 0 j) = g (ix1 j) := fun j =>
    (by pointwise [k0_pay18] : k0_pay18 (F := Ideal) x5 (ix2 0 j) = x5 (ix2 0 j)).trans (b.gain j)
  refine (pay30_apply _ _ _ _ _ _ _ _ _ r j).trans ?_
  refine congrArg₂ _ (congrArg₂ _ (b.inverse_apply r) (congrArg₂ _ (congrArg₂ _ (b.dh_apply hi r j) (hg j))
    (congrArg₂ _ (b.normed_apply r j) (congrArg (Ideal.div · _) (Finset.sum_congr rfl fun k _ => ?_))))) (b.skip r j)
  exact congrArg₂ _ (congrArg₂ _ (b.dh_apply hi r k) (hg k)) (b.normed_apply r k)

/-- What a chunk of the weights' gradient gains at the point is its rows' part. -/
theorem part_apply (a : Fin 4) (z : FVec Ideal S512x512 .bf16)
    (hz : ∀ r l : Fin 512, z (ix2 r l) = dcat dp dz ⟨512 * t + r.val, b.row_lt r⟩ ⟨512 * a.val + l.val, by omega⟩)
    (j : Fin 1024) (l : Fin 512) :
    (∑ r : Fin 512, k0_pay21 (F := Ideal) x5 x3 (ix2 r j) * z (ix2 r l))
      = ∑ r : Fin 512, normed x ⟨512 * t + r.val, b.row_lt r⟩ j * g (ix1 j)
          * dcat dp dz ⟨512 * t + r.val, b.row_lt r⟩ ⟨512 * a.val + l.val, by omega⟩ :=
  Finset.sum_congr rfl fun r _ => congrArg₂ _ (b.hidden_apply r j) (hz r l)

end Blocks

end Cert.KernelIdeal.Block

end
-- ==== Proof.KOut.lean ====
/-
  What the kernel's buffers hold after each grid point: the tile of the input's gradient, and the two running sums.
-/
module

public import proofs.«01_k».proof.Proof.KTile
public import proofs.«01_k».proof.Proof.Gen.KernelIdeal.Frame
public import Idealize.ShloMosaic.Lib.Pipeline.ReadBack

@[expose] public section

set_option maxRecDepth 16384

noncomputable section

namespace Cert.KernelIdeal.Block

open Idealize.ShloMosaic Idealize.SL.Sem Cert.KernelIdeal Cert.KernelIdeal.Gen Pool

variable (m : (ℓ : Loc nD τ sig) → Buf (Elt Ideal) ℓ) (c : Dev nD)

/-- The tile of the input's gradient that a point writes. -/
def dxAt (t : Fin cfg0.N) : FVec Ideal S512x1024 .f32 :=
  dxBlock (grid0.coords t) (iblk m c 0 t) (iblk m c 1 t) (iblk m c 2 t) (iblk m c 3 t) (iblk m c 4 t) (iblk m c 5 t)
    (iblk m c 6 t)

/-- What a point adds to the gain's gradient. -/
def dgAt (t : Fin cfg0.N) : FVec Ideal S1x1024 .f32 :=
  dgBlock (grid0.coords t) (iblk m c 0 t) (iblk m c 1 t) (iblk m c 2 t) (iblk m c 3 t) (iblk m c 6 t)

theorem outs_dx (t : Fin cfg0.N) : (outsAt0 m c t.val t.isLt).1 = dxAt m c t := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

/-- A point's part of the gain's gradient onto what was there. -/
theorem addTo (p q : FVec Ideal S1x1024 .f32) (j : S1x1024.Idx) : k0_pay1 p (k0_pay31 q) j = q j + p j := by
  pointwise [k0_pay1, k0_pay31]

theorem outs_dg_reset (t : Fin cfg0.N) (h0 : t.val % 16 = 0) (j : S1x1024.Idx) :
    (outsAt0 m c t.val t.isLt).2.2.1 j = 0 + dgAt m c t j := by
  rw [outsAt0_A m c t h0 (by omega)]; frame_out
  refine (addTo (dgAt m c t) _ j).trans ?_
  refine congrArg (· + _) ?_
  pointwise [k0_pay4]

theorem outs_dg_step (t : Fin cfg0.N) (h0 : ¬ t.val % 16 = 0) (j : S1x1024.Idx) :
    (outsAt0 m c t.val t.isLt).2.2.1 j
      = (outsAt0 m c (t.val - 1) (Nat.lt_of_le_of_lt (Nat.sub_le _ _) t.isLt)).2.2.1 j + dgAt m c t j := by
  by_cases h1 : t.val % 16 = 15
  · rw [outsAt0_C m c t h0 h1]; frame_out
    exact addTo (dgAt m c t) _ j
  · rw [outsAt0_B m c t h0 h1]; frame_out
    exact addTo (dgAt m c t) _ j

/-! ## The weight's gradient: four chunks of a running sum -/

/-- Where chunk `a` sits in the running sum. -/
theorem chunk_emb (a : Fin 4) (h) (j : Fin 1024) (l : Fin 512) :
    (Rect.unit (s := S4x1024x512) ![a.val, 0, 0] ![1, 1024, 512] h).emb (ix3 0 j l) = ix3 a j l := by
  refine funext fun k => Fin.ext ((Rect.idx_unit_val _ _ _ _ _).trans ?_)
  fin_cases k <;> simp

/-- Four stores, one per chunk, leave what each chunk was given. -/
theorem chunks (G : FVec Ideal S4x1024x512 .f32) (p0 p1 p2 p3 : FVec Ideal S1x1024x512 .f32)
    (L : List (View.Piece (Elt Ideal) S4x1024x512 .f32)) (i0 i1 i2 i3)
    (h0 : ∀ (j : Fin 1024) (l : Fin 512), p0 (ix3 0 j l) = G (ix3 0 j l))
    (h1 : ∀ (j : Fin 1024) (l : Fin 512), p1 (ix3 0 j l) = G (ix3 1 j l))
    (h2 : ∀ (j : Fin 1024) (l : Fin 512), p2 (ix3 0 j l) = G (ix3 2 j l))
    (h3 : ∀ (j : Fin 1024) (l : Fin 512), p3 (ix3 0 j l) = G (ix3 3 j l)) :
    View.canon (Val := Elt Ideal) (s := S4x1024x512) (e := .f32)
      (⟨Rect.unit ![3, 0, 0] ![1, 1024, 512] i3, p3⟩ :: ⟨Rect.unit ![2, 0, 0] ![1, 1024, 512] i2, p2⟩
        :: ⟨Rect.unit ![1, 0, 0] ![1, 1024, 512] i1, p1⟩ :: ⟨Rect.unit ![0, 0, 0] ![1, 1024, 512] i0, p0⟩ :: L) = G := by
  have aux : ∀ (a : Fin 4) (i) (p : FVec Ideal S1x1024x512 .f32)
      (_ : ∀ (j : Fin 1024) (l : Fin 512), p (ix3 0 j l) = G (ix3 a j l)) (y : S1x1024x512.Idx),
      p y = G ((Rect.unit (s := S4x1024x512) ![a.val, 0, 0] ![1, 1024, 512] i).emb y) := by
    intro a i p hp y
    obtain ⟨u, j, l, rfl⟩ : ∃ (u : Fin 1) (j : Fin 1024) (l : Fin 512), y = ix3 u j l :=
      ⟨y 0, y 1, y 2, by funext k; fin_cases k <;> rfl⟩
    obtain rfl : u = 0 := Subsingleton.elim _ _
    rw [chunk_emb a i j l]; exact hp j l
  funext y
  refine View.canon_append_of_piecesOf (Val := Elt Ideal) (e := .f32) G L [⟨Rect.unit ![3, 0, 0] ![1, 1024, 512] i3, p3⟩,
    ⟨Rect.unit ![2, 0, 0] ![1, 1024, 512] i2, p2⟩, ⟨Rect.unit ![1, 0, 0] ![1, 1024, 512] i1, p1⟩,
    ⟨Rect.unit ![0, 0, 0] ![1, 1024, 512] i0, p0⟩] ?_ y ?_
  · exact ⟨aux 3 i3 p3 h3, aux 2 i2 p2 h2, aux 1 i1 p1 h1, aux 0 i0 p0 h0, trivial⟩
  have hy0 : (y 0).val < 4 := (y 0).isLt
  have hy1 : (y 1).val < 1024 := (y 1).isLt
  have hy2 : (y 2).val < 512 := (y 2).isLt
  have mem : ∀ (a : ℕ) (i) (_ : (y 0).val = a), y ∈ (Rect.unit (s := S4x1024x512) ![a, 0, 0] ![1, 1024, 512] i).set := by
    intro a i h
    refine Rect.mem_set_unit.mpr fun k => ?_
    fin_cases k
    · show a ≤ (y 0).val ∧ (y 0).val < a + 1
      omega
    · show 0 ≤ (y 1).val ∧ (y 1).val < 0 + 1024
      omega
    · show 0 ≤ (y 2).val ∧ (y 2).val < 0 + 512
      omega
  rcases (by omega : (y 0).val = 3 ∨ (y 0).val = 2 ∨ (y 0).val = 1 ∨ (y 0).val = 0) with h | h | h | h
  · exact ⟨_, List.mem_cons_self, mem 3 i3 h⟩
  · exact ⟨_, List.mem_cons_of_mem _ List.mem_cons_self, mem 2 i2 h⟩
  · exact ⟨_, List.mem_cons_of_mem _ (List.mem_cons_of_mem _ List.mem_cons_self), mem 1 i1 h⟩
  · exact ⟨_, List.mem_cons_of_mem _ (List.mem_cons_of_mem _ (List.mem_cons_of_mem _ List.mem_cons_self)), mem 0 i0 h⟩

/-- A chunk read from a whole buffer. -/
theorem ld_chunk (Z : FVec Ideal S4x1024x512 .f32) (a : Fin 4) (h) (j : Fin 1024) (l : Fin 512) :
    View.ld (Val := Elt Ideal) (e' := .f32) Z (Rect.unit ![a.val, 0, 0] ![1, 1024, 512] h) (ix3 0 j l) = Z (ix3 a j l) :=
  congrArg Z (chunk_emb a h j l)

/-- The rows of the gradient's two halves that multiply the normed rows, chunk by chunk. -/
def zAt (t : Fin cfg0.N) : Fin 4 → FVec Ideal S512x512 .bf16 :=
  ![pooled0 (grid0.coords t) (iblk m c 0 t) (iblk m c 1 t), pooled1 (grid0.coords t) (iblk m c 0 t) (iblk m c 1 t),
    gate0 (iblk m c 2 t), gate1 (iblk m c 2 t)]

/-- What a point adds to the weight's gradient. -/
def dwAt (t : Fin cfg0.N) : FVec Ideal S4x1024x512 .f32 := fun y =>
  ∑ r : Fin 512, k0_pay21 (F := Ideal) (iblk m c 5 t) (iblk m c 3 t) (ix2 r (y 1)) * zAt m c t (y 0) (ix2 r (y 2))

/-- The four stores onto what the chunks held leave the old sum and the point's part. -/
theorem chunks_step (t : Fin cfg0.N) (Z : FVec Ideal S4x1024x512 .f32) (q0 q1 q2 q3 : FVec Ideal S1x1024x512 .f32)
    (L : List (View.Piece (Elt Ideal) S4x1024x512 .f32)) (i0 i1 i2 i3)
    (h0 : ∀ (j : Fin 1024) (l : Fin 512), q0 (ix3 0 j l) = Z (ix3 0 j l))
    (h1 : ∀ (j : Fin 1024) (l : Fin 512), q1 (ix3 0 j l) = Z (ix3 1 j l))
    (h2 : ∀ (j : Fin 1024) (l : Fin 512), q2 (ix3 0 j l) = Z (ix3 2 j l))
    (h3 : ∀ (j : Fin 1024) (l : Fin 512), q3 (ix3 0 j l) = Z (ix3 3 j l)) :
    View.canon (Val := Elt Ideal) (s := S4x1024x512) (e := .f32)
      (⟨Rect.unit ![3, 0, 0] ![1, 1024, 512] i3, k0_pay27 (zAt m c t 3) (k0_pay21 (iblk m c 5 t) (iblk m c 3 t)) q3⟩
        :: ⟨Rect.unit ![2, 0, 0] ![1, 1024, 512] i2, k0_pay26 (zAt m c t 2) (k0_pay21 (iblk m c 5 t) (iblk m c 3 t)) q2⟩
        :: ⟨Rect.unit ![1, 0, 0] ![1, 1024, 512] i1, k0_pay24 (zAt m c t 1) (k0_pay21 (iblk m c 5 t) (iblk m c 3 t)) q1⟩
        :: ⟨Rect.unit ![0, 0, 0] ![1, 1024, 512] i0, k0_pay23 (zAt m c t 0) (k0_pay21 (iblk m c 5 t) (iblk m c 3 t)) q0⟩ :: L)
      = fun y => Z y + dwAt m c t y :=
  chunks _ _ _ _ _ L i0 i1 i2 i3
    (fun j l => (pay23_apply _ _ q0 j l).trans (congrArg (· + _) (h0 j l)))
    (fun j l => (pay23_apply _ _ q1 j l).trans (congrArg (· + _) (h1 j l)))
    (fun j l => (pay23_apply _ _ q2 j l).trans (congrArg (· + _) (h2 j l)))
    (fun j l => (pay23_apply _ _ q3 j l).trans (congrArg (· + _) (h3 j l)))

/-- What the buffer of the running sum held before a point. -/
def before (t : Fin cfg0.N) : FVec Ideal S4x1024x512 .f32 :=
  (outsAt0 m c (t.val - 1) (Nat.lt_of_le_of_lt (Nat.sub_le _ _) t.isLt)).2.2.2

theorem outs_dw_step (t : Fin cfg0.N) (h0 : ¬ t.val % 16 = 0) :
    (outsAt0 m c t.val t.isLt).2.2.2 = fun y => before m c t y + dwAt m c t y := by
  by_cases h1 : t.val % 16 = 15
  · rw [outsAt0_C m c t h0 h1]
    funext j
    frame_out
    refine congrFun (chunks_step m c t (before m c t) _ _ _ _ _ _ _ _ _ ?_ ?_ ?_ ?_) j
    all_goals (intro j l; rw [read_unread_whole])
    · exact ld_chunk _ 0 _ j l
    · exact ld_chunk _ 1 _ j l
    · exact ld_chunk _ 2 _ j l
    · exact ld_chunk _ 3 _ j l
  · rw [outsAt0_B m c t h0 h1]
    funext j
    frame_out
    refine congrFun (chunks_step m c t (before m c t) _ _ _ _ _ _ _ _ _ ?_ ?_ ?_ ?_) j
    all_goals (intro j l; rw [read_unread_whole])
    · exact ld_chunk _ 0 _ j l
    · exact ld_chunk _ 1 _ j l
    · exact ld_chunk _ 2 _ j l
    · exact ld_chunk _ 3 _ j l

theorem zero_off : ∀ k : Fin 3, (![0, 0, 0] : Fin 3 → ℕ) k = 0 := by decide

theorem outs_dw_reset (t : Fin cfg0.N) (h0 : t.val % 16 = 0) :
    (outsAt0 m c t.val t.isLt).2.2.2 = fun y => 0 + dwAt m c t y := by
  rw [outsAt0_A m c t h0 (by omega)]
  funext j
  frame_out
  refine (congrFun (chunks_step m c t k0_pay3 _ _ _ _ _ _ _ _ _ ?_ ?_ ?_ ?_) j).trans ?_
  · intro j l
    rw [View.readCov_fill _ _ _ _ _ zero_off]
    exact ld_chunk _ 0 _ j l
  · intro j l
    rw [View.readCov_skip _ _ _ _ _ (by decide), View.readCov_fill _ _ _ _ _ zero_off]
    exact ld_chunk _ 1 _ j l
  · intro j l
    rw [View.readCov_skip _ _ _ _ _ (by decide), View.readCov_skip _ _ _ _ _ (by decide), View.readCov_fill _ _ _ _ _ zero_off]
    exact ld_chunk _ 2 _ j l
  · intro j l
    rw [View.readCov_skip _ _ _ _ _ (by decide), View.readCov_skip _ _ _ _ _ (by decide),
      View.readCov_skip _ _ _ _ _ (by decide), View.readCov_fill _ _ _ _ _ zero_off]
    exact ld_chunk _ 3 _ j l
  · exact congrArg (· + _) (by pointwise [k0_pay3])

/-- A buffer read whole and rounded. -/
theorem pay2_canon (L : List (View.Piece (Elt Ideal) S4x1024x512 .f32)) (h) (y : S4x1024x512.Idx) :
    k0_pay2 (F := Ideal) ((View.whole cc0_scratch0).readCov L (Rect.unit (s := S4x1024x512) ![0, 0, 0] ![4, 1024, 512] h).toLoadRect) y
      = View.canon (Val := Elt Ideal) L y := by
  rw [View.readCov_eq_canon']
  refine Eq.trans (b := View.canon (Val := Elt Ideal) L ((Rect.unit (s := S4x1024x512) ![0, 0, 0] ![4, 1024, 512] h).idx y)) ?_ (congrArg _ ?_)
  · pointwise [k0_pay2]
  · refine funext fun k => Fin.ext ((Rect.idx_unit_val _ _ _ _ _).trans ?_)
    fin_cases k <;> simp

theorem outs_dw_last (t : Fin cfg0.N) (h1 : t.val % 16 = 15) (y : S4x1024x512.Idx) :
    (outsAt0 m c t.val t.isLt).2.1 y = (outsAt0 m c t.val t.isLt).2.2.2 y := by
  rw [outsAt0_C m c t (by omega) h1]
  frame_out
  exact pay2_canon _ _ y

end Cert.KernelIdeal.Block

end
-- ==== Proof.KArr.lean ====
/-
  The kernel's three results after the run, as arrays.
-/
module

public import proofs.«01_k».proof.Proof.KOut
public import Idealize.ShloMosaic.Lib.Claim

@[expose] public section

set_option maxRecDepth 16384

noncomputable section

namespace Cert.KernelIdeal.Block

open Idealize.ShloMosaic Idealize.ShloMosaic.TcCoe Idealize.SL.Sem Cert.KernelIdeal Cert.KernelIdeal.Gen Pool
open Idealize.ShloMosaic.Pipeline (Dat)

variable (m : (ℓ : Loc nD τ sig) → Buf (Elt Ideal) ℓ) (c : Dev nD)

/-- The blocks each window reads and writes at a point. -/
theorem idx : ∀ t : Fin cfg0.N, win0_0.index t = ![t.val, 0] ∧ win0_1.index t = ![min ((t.val + 1) * 32) 511, 0]
    ∧ win0_2.index t = ![t.val, 0] ∧ win0_3.index t = ![t.val, 0] ∧ win0_4.index t = ![t.val, 0]
    ∧ win0_5.index t = ![0, 0] ∧ win0_6.index t = ![0, 0, 0] ∧ win0_7.index t = ![t.val, 0]
    ∧ win0_8.index t = ![0, 0, 0] ∧ win0_9.index t = ![0, 0] ∧ (grid0.coords t 0).val = t.val ∧ t.val < 16 :=
  (by decide +kernel : ∀ t : Fin grid0.N, _)

/-- The weights cut into four chunks of columns, as the call receives them. -/
theorem chunked (w : FVec Ideal S1024x2048 .f32) (a : Fin 4) (j : Fin 1024) (l : Fin 512) :
    truncf .bf16 (transpose S4x1024x512 [1, 0, 2] (shapeCast S1024x4x512 w shapeCasts_S1024x2048_S1024x4x512)
      transposes_S1024x4x512_S4x1024x512_1_0_2) bitsLt_bf16_f32 (ix3 a j l) = w (ix2 j ⟨512 * a.val + l.val, by omega⟩) := by
  pointwise
  blk_ext

/-- What the call finds at a point is the arrays' rows there. -/
theorem blocks (t : Fin cfg0.N) : Blocks (iblk m c 0 t) (iblk m c 1 t) (iblk m c 2 t) (iblk m c 3 t) (iblk m c 4 t)
    (iblk m c 5 t) (iblk m c 6 t) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) t.val where
  lt := (idx t).2.2.2.2.2.2.2.2.2.2.2
  loads := {
    tile := fun r k h => by blk_point [iblk, V, idx t]
    halo := fun r k h => by
      blk_point [iblk, V, idx t]
  }
  gate := fun r j => by blk_point [iblk, V, idx t]
  input := fun r j => by blk_point [iblk, V, idx t]
  skip := fun r j => by blk_point [iblk, V, idx t]
  gain := fun j => by
    blk_simp [iblk]
    entry_read
    have e : ((View.whole main_v3).slice (win0_5.rect t)).emb (ix2 0 j) = (ix2 0 j : S1x1024.Idx) := by
      blk_ext [idx t]
    rw [e]
    exact (by pointwise : broadcastInDim S1x1024 ![1] bcast_S1024_S1x1024_1 (m ((c : Thread nD τ).loc main_arg4)) (ix2 0 j)
      = m ((c : Thread nD τ).loc main_arg4) (ix1 j))
  weights := fun a j l => by
    blk_simp [iblk]
    entry_read
    have e : ((View.whole main_v2).slice (win0_6.rect t)).emb (ix3 a j l) = (ix3 a j l : S4x1024x512.Idx) := by
      blk_ext [idx t]
    rw [e]
    exact chunked (m ((c : Thread nD τ).loc main_arg5)) a j l

/-! ## The results -/

/-- The call's arguments on a device. -/
abbrev aDp : FVec Ideal S8192x1024 .bf16 := m ((c : Thread nD τ).loc main_arg0)
abbrev aDz : FVec Ideal S8192x1024 .bf16 := m ((c : Thread nD τ).loc main_arg1)
abbrev aX : FVec Ideal S8192x1024 .f32 := m ((c : Thread nD τ).loc main_arg2)
abbrev aDy : FVec Ideal S8192x1024 .f32 := m ((c : Thread nD τ).loc main_arg3)
abbrev aG : FVec Ideal S1024 .f32 := m ((c : Thread nD τ).loc main_arg4)
abbrev aW : FVec Ideal S1024x2048 .f32 := m ((c : Thread nD τ).loc main_arg5)

/-- A point's part of the gain's gradient, over the arrays. -/
theorem dgAt_apply (t : Fin cfg0.N) (j : Fin 1024) :
    dgAt m c t (ix2 0 j) = ∑ r : Fin 512,
      dhidden (aDp m c) (aDz m c) (aW m c) ⟨512 * t.val + r.val, (blocks m c t).row_lt r⟩ j
        * normed (aX m c) ⟨512 * t.val + r.val, (blocks m c t).row_lt r⟩ j :=
  (blocks m c t).dg_apply (idx t).2.2.2.2.2.2.2.2.2.2.1 j

theorem zAt_apply (t : Fin cfg0.N) : ∀ (a : Fin 4) (r l : Fin 512), zAt m c t a (ix2 r l)
    = dcat (aDp m c) (aDz m c) ⟨512 * t.val + r.val, (blocks m c t).row_lt r⟩ ⟨512 * a.val + l.val, by omega⟩
  | 0, r, l => (blocks m c t).pooled0_apply (idx t).2.2.2.2.2.2.2.2.2.2.1 r l
  | 1, r, l => (blocks m c t).pooled1_apply (idx t).2.2.2.2.2.2.2.2.2.2.1 r l
  | 2, r, l => (blocks m c t).gate0_apply r l
  | 3, r, l => (blocks m c t).gate1_apply r l

/-- A point's part of the weights' gradient, over the arrays. -/
theorem dwAt_apply (t : Fin cfg0.N) (a : Fin 4) (j : Fin 1024) (l : Fin 512) :
    dwAt m c t (ix3 a j l) = ∑ r : Fin 512,
      normed (aX m c) ⟨512 * t.val + r.val, (blocks m c t).row_lt r⟩ j * aG m c (ix1 j)
        * dcat (aDp m c) (aDz m c) ⟨512 * t.val + r.val, (blocks m c t).row_lt r⟩ ⟨512 * a.val + l.val, by omega⟩ :=
  Finset.sum_congr rfl fun r _ => congrArg₂ _ ((blocks m c t).hidden_apply r j) (zAt_apply m c t a r l)

/-- The sum over the points and their rows is the sum over all rows. -/
theorem sum_points (f : Fin 8192 → EReal) (q : ℕ) (hq : q = 0)
    (h : ∀ (s : Fin 16) (r : Fin 512), 512 * (16 * q + s.val) + r.val < 8192) :
    (0 : EReal) + ∑ s : Fin 16, ∑ r : Fin 512, f ⟨512 * (16 * q + s.val) + r.val, h s r⟩ = ∑ u, f u := by
  subst hq
  rw [sum_tiles 16 512 rfl f, zero_add]
  refine Finset.sum_congr rfl fun s _ => Finset.sum_congr rfl fun r _ => congrArg f (Fin.ext ?_)
  show 512 * (16 * 0 + s.val) + r.val = 512 * s.val + r.val
  omega

theorem at2 {n k : ℕ} (y : (⟨2, ![n, k]⟩ : Shape).Idx) : ∃ (r : Fin n) (j : Fin k), y = ix2 r j :=
  ⟨y 0, y 1, by funext a; fin_cases a <;> rfl⟩

theorem at3 {n k l : ℕ} (y : (⟨3, ![n, k, l]⟩ : Shape).Idx) : ∃ (r : Fin n) (j : Fin k) (i : Fin l), y = ix3 r j i :=
  ⟨y 0, y 1, y 2, by funext a; fin_cases a <;> rfl⟩

/-- The first result is the input's gradient. -/
theorem final_dx : (dats m 0 c).arrAt 7 (cfgs 0).N
    = fun y : S8192x1024.Idx => dinput (aDp m c) (aDz m c) (aX m c) (aDy m c) (aG m c) (aW m c) (y 0) (y 1) := by
  refine (dats m 0 c).arrAt_eq_of_covers 7 _ (by decide +kernel) fun t _ y => ?_
  blk_simp
  rw [after0_7, outs_dx]
  obtain ⟨r, j, rfl⟩ := at2 y
  refine ((blocks m c t).dx_apply (idx t).2.2.2.2.2.2.2.2.2.2.1 r j).trans ?_
  refine congrArg₂ _ (Fin.ext ?_) (Fin.ext ?_)
  · blk_simp [idx t]
    show 512 * t.val + r.val = t.val * 512 + r.val
    omega
  · blk_simp [idx t]

/-- The third result is the gain's gradient. -/
theorem final_dg : (dats m 0 c).arrAt 9 (cfgs 0).N
    = fun y : S1x1024.Idx => dgain (aDp m c) (aDz m c) (aX m c) (aW m c) (y 1) := by
  refine (dats m 0 c).arrAt_eq_of_covers 9 _ (by decide +kernel) fun t hf y => ?_
  blk_simp
  rw [after0_9]
  have h15 : t.val % 16 = 15 := (flush0_9 t).mp hf
  have hq : t.val / 16 = 0 := Nat.div_eq_of_lt (idx t).2.2.2.2.2.2.2.2.2.2.2
  obtain ⟨u, j, rfl⟩ := at2 y
  obtain rfl : u = 0 := Subsingleton.elim _ _
  refine (Pipeline.eq_sum_fin_of_reset_step_apply_of_flush (fun n h => (outsAt0 m c n h).2.2.1) 16 (fun _ => 0) (dgAt m c)
    (outs_dg_reset m c) (outs_dg_step m c) t h15 (ix2 0 j)).trans ?_
  refine (congrArg (0 + ·) (Finset.sum_congr rfl fun s _ => dgAt_apply m c _ j)).trans ?_
  refine (sum_points (fun u => dhidden (aDp m c) (aDz m c) (aW m c) u j * normed (aX m c) u j) _ hq _).trans ?_
  refine congrArg (dgain _ _ _ _) (Fin.ext ?_)
  blk_simp [idx t]

/-- The second result is the weights' gradient, in chunks of columns. -/
theorem final_dw : (dats m 0 c).arrAt 8 (cfgs 0).N
    = fun y : S4x1024x512.Idx => dweight (aDp m c) (aDz m c) (aX m c) (aG m c) (y 1) ⟨512 * (y 0).val + (y 2).val, by
        have := (y 0).isLt; have := (y 2).isLt; dsimp at *; omega⟩ := by
  refine (dats m 0 c).arrAt_eq_of_covers 8 _ (by decide +kernel) fun t hf y => ?_
  blk_simp
  rw [after0_8]
  have h15 : t.val % 16 = 15 := (flush0_8 t).mp hf
  have hq : t.val / 16 = 0 := Nat.div_eq_of_lt (idx t).2.2.2.2.2.2.2.2.2.2.2
  obtain ⟨a, j, l, rfl⟩ := at3 y
  refine (outs_dw_last m c t h15 (ix3 a j l)).trans ?_
  refine (Pipeline.eq_sum_fin_of_reset_step_apply_of_flush (fun n h => (outsAt0 m c n h).2.2.2) 16 (fun _ => 0) (dwAt m c)
    (fun t h y => congrFun (outs_dw_reset m c t h) y) (fun t h y => congrFun (outs_dw_step m c t h) y) t h15 (ix3 a j l)).trans ?_
  refine (congrArg (0 + ·) (Finset.sum_congr rfl fun s _ => dwAt_apply m c _ a j l)).trans ?_
  refine (sum_points (fun u => normed (aX m c) u j * aG m c (ix1 j) * dcat (aDp m c) (aDz m c) u ⟨512 * a.val + l.val, by omega⟩) _ hq _).trans ?_
  refine congrArg₂ (dweight _ _ _ _) (Fin.ext ?_) (Fin.ext ?_)
  · blk_simp [idx t]
  · blk_simp [idx t]

end Cert.KernelIdeal.Block

end
-- ==== Proof.Equation.lean ====
/-
  The two programs leave the same results from arguments that agree, when the gradient of the pooled rows is finite.
-/
module

public import proofs.«01_k».proof.Proof.RefOut
public import proofs.«01_k».proof.Proof.RefFrame
public import proofs.«01_k».proof.Proof.KArr
public import proofs.«01_k».proof.Proof.Gen.ReferenceIdeal.Run
public import proofs.«01_k».proof.Proof.Gen.KernelIdeal
public import proofs.«01_k».proof.Proof.Gen.KernelIdeal.Frame
public import proofs.«01_k».proof.Defs
public import Idealize.ShloMosaic.Lib.Claim

@[expose] public section

set_option maxRecDepth 16384

noncomputable section

namespace Cert.Equation

open Idealize.ShloMosaic Idealize.SL.Sem

/-- The precondition says that every element of the gradient of the pooled rows is a real number. -/
theorem finite_of_pre [Cert.Pre_dp_finite.Facts] (m : (ℓ : Loc Cert.KernelIdeal.nD Cert.KernelIdeal.τ Cert.KernelIdeal.sig) → Buf (Elt Ideal) ℓ)
    (hpre : Cert.Pre_KernelIdeal_dp_finite m) (c : Dev Cert.KernelIdeal.nD) :
    ∀ i, Cert.KernelIdeal.Block.aDp m c i ≠ ⊤ ∧ Cert.KernelIdeal.Block.aDp m c i ≠ ⊥ := by
  intro i
  have hlt : Ideal.cmp .olt (Cert.KernelIdeal.Block.aDp m c i) (Ideal.ofBits .bf16 0x7F80#16) = 1#1 :=
    congrFun (hpre c).1 i
  have hgt : Ideal.cmp .ogt (Cert.KernelIdeal.Block.aDp m c i) (Ideal.ofBits .bf16 0xFF80#16) = 1#1 :=
    congrFun (hpre c).2 i
  rw [Pool.ofBits_inf] at hlt
  rw [Pool.ofBits_neg_inf] at hgt
  constructor
  · intro h
    rw [h] at hlt
    simp [Ideal.cmp] at hlt
  · intro h
    rw [h] at hgt
    simp [Ideal.cmp] at hgt

/-- The contents the reference starts with at its arguments are the kernel's arguments. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = Cert.KernelIdeal.Block.aDp m c)
    (h1 : m' ((c.tc : Thread Cert.ReferenceIdeal.nD Cert.ReferenceIdeal.τ).loc Cert.ReferenceIdeal.main_arg1) = Cert.KernelIdeal.Block.aDz m c)
    (h2 : m' ((c.tc : Thread Cert.ReferenceIdeal.nD Cert.ReferenceIdeal.τ).loc Cert.ReferenceIdeal.main_arg2) = Cert.KernelIdeal.Block.aX m c)
    (h3 : m' ((c.tc : Thread Cert.ReferenceIdeal.nD Cert.ReferenceIdeal.τ).loc Cert.ReferenceIdeal.main_arg3) = Cert.KernelIdeal.Block.aDy m c)
    (h4 : m' ((c.tc : Thread Cert.ReferenceIdeal.nD Cert.ReferenceIdeal.τ).loc Cert.ReferenceIdeal.main_arg4) = Cert.KernelIdeal.Block.aG m c)
    (h5 : m' ((c.tc : Thread Cert.ReferenceIdeal.nD Cert.ReferenceIdeal.τ).loc Cert.ReferenceIdeal.main_arg5) = Cert.KernelIdeal.Block.aW m c) :
    StableHlo.launchContents m' c (Proc.devRef .tc Cert.ReferenceIdeal.main_arg0) = Cert.KernelIdeal.Block.aDp m c
    ∧ StableHlo.launchContents m' c (Proc.devRef .tc Cert.ReferenceIdeal.main_arg1) = Cert.KernelIdeal.Block.aDz m c
    ∧ StableHlo.launchContents m' c (Proc.devRef .tc Cert.ReferenceIdeal.main_arg2) = Cert.KernelIdeal.Block.aX m c
    ∧ StableHlo.launchContents m' c (Proc.devRef .tc Cert.ReferenceIdeal.main_arg3) = Cert.KernelIdeal.Block.aDy m c
    ∧ StableHlo.launchContents m' c (Proc.devRef .tc Cert.ReferenceIdeal.main_arg4) = Cert.KernelIdeal.Block.aG m c
    ∧ StableHlo.launchContents m' c (Proc.devRef .tc Cert.ReferenceIdeal.main_arg5) = Cert.KernelIdeal.Block.aW m c :=
  ⟨h0, h1, h2, h3, h4, h5⟩

set_option maxHeartbeats 1600000 in
/-- The kernel's results are the reference's. -/
theorem algebraic [Cert.Pre_dp_finite.Facts] :
    Cert.algebraic_KernelIdeal_ReferenceIdeal_pre_dp_finite := by
  pair_intro
  · run_from Cert.KernelIdeal.Gen.run_main m g
  · run_from Cert.ReferenceIdeal.Value.run m' g'
    · obtain ⟨h0, h1, h2, h3, h4, h5⟩ := hagree c
      obtain ⟨e0, e1, e2, e3, e4, e5⟩ := agree m m' c h0 h1 h2 h3 h4 h5
      rw [← h2, ← h3, Cert.KernelIdeal.Block.final_dx m c]
      refine (Cert.ReferenceIdeal.Read.val_main_v208_eq (F := Ideal) (StableHlo.launchContents m' c)).trans ?_
      rw [e0, e1, e2, e3, e4, e5]
      funext y
      obtain ⟨r, j, rfl⟩ := Cert.KernelIdeal.Block.at2 y
      exact Cert.ReferenceIdeal.Block.out_dx _ _ _ _ _ _ (finite_of_pre m hpre c) r j
    · obtain ⟨h0, h1, h2, h3, h4, h5⟩ := hagree c
      obtain ⟨e0, e1, e2, e3, e4, e5⟩ := agree m m' c h0 h1 h2 h3 h4 h5
      rw [Cert.KernelIdeal.Block.final_dw m c]
      refine (Cert.ReferenceIdeal.Read.val_main_v211_eq (F := Ideal) (StableHlo.launchContents m' c)).trans ?_
      rw [e0, e1, e2, e4]
      funext y
      obtain ⟨a, j, l, rfl⟩ := Cert.KernelIdeal.Block.at3 y
      exact Cert.ReferenceIdeal.Block.out_dw _ _ _ _ (finite_of_pre m hpre c) a j l
    · obtain ⟨h0, h1, h2, h3, h4, h5⟩ := hagree c
      obtain ⟨e0, e1, e2, e3, e4, e5⟩ := agree m m' c h0 h1 h2 h3 h4 h5
      rw [Cert.KernelIdeal.Block.final_dg m c]
      refine (Cert.ReferenceIdeal.Read.val_main_v212_eq (F := Ideal) (StableHlo.launchContents m' c)).trans ?_
      rw [e0, e1, e2, e5]
      funext y
      obtain ⟨i, j, rfl⟩ := Cert.KernelIdeal.Block.at2 y
      exact Cert.ReferenceIdeal.Block.out_dg _ _ _ _ (finite_of_pre m hpre c) i j

end Cert.Equation

end
-- ==== Proof.AttnFrame.lean ====
module

public import proofs.«01_k».proof.Defs
public import proofs.«01_k».proof.Proof.Gen.AttnReferenceIdeal
public import proofs.«01_k».proof.Proof.Gen.AttnReferenceIdeal.Run
public import Idealize.ShloMosaic.Lib.Claim
public import Idealize.ShloMosaic.Lib.Quiescent

@[expose] public section

noncomputable section

open Idealize.ShloMosaic Idealize.SL.Sem

namespace Cert.AttnReferenceIdeal.Framed

/-- The reference leaves its arguments alone, and as it declares no semaphore every counter is zero at its end. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono
    (fun _ h => ⟨fun c => (h c).2.2.2, sem_eq_zero_of_no_sems rfl _⟩)
    (Cert.AttnReferenceIdeal.Value.run m g)

end Cert.AttnReferenceIdeal.Framed

end
-- ==== Proof.ASpec.lean ====
/-
  The gradients of the attention mixer's input stage, written row by row: what the kernels and the references compute,
  and what the blocks of one grid point hold of the arrays.
-/
module

public import proofs.«01_k».proof.Proof.Target

@[expose] public section

set_option maxRecDepth 16384

noncomputable section

namespace AttnIn

open Idealize.ShloMosaic Pool

variable (dq : FVec Ideal ⟨2, ![1024, 8192]⟩ .bf16) (dkv : FVec Ideal ⟨2, ![8192, 512]⟩ .f32)
  (halo : FVec Ideal ⟨3, ![16, 128, 512]⟩ .f32) (dz : FVec Ideal ⟨2, ![1024, 8192]⟩ .bf16)
  (x dy : FVec Ideal ⟨2, ![8192, 1024]⟩ .f32) (g : FVec Ideal ⟨1, ![1024]⟩ .f32)
  (w : FVec Ideal ⟨2, ![1024, 2560]⟩ .f32)

/-- What the next tile's queries send back to row `u`: to the last 128 rows of a tile, from the tile after it. -/
def spill (u : Fin 8192) (k : Fin 512) : EReal :=
  if h : 384 ≤ u.val % 512 ∧ u.val / 512 + 1 < 16 then
    halo (ix3 ⟨u.val / 512 + 1, h.2⟩ ⟨u.val % 512 - 384, by omega⟩ k) else 0

/-- The gradient of the keys and values of row `u`: from its own tile's queries and from the next tile's. -/
def keys (u : Fin 8192) (k : Fin 512) : EReal := dkv (ix2 u k) + spill halo u k

/-- The gradient that reaches the projection's output: the queries', the keys' and values', and the gate's. -/
def dcat (u : Fin 8192) (k : Fin 2560) : EReal :=
  if h : k.val < 1024 then dq (ix2 ⟨k.val, h⟩ u)
  else if h' : k.val < 1536 then keys dkv halo u ⟨k.val - 1024, by omega⟩ else dz (ix2 ⟨k.val - 1536, by omega⟩ u)

/-- The gradient that reaches the normed row with its gain. -/
def dhidden (u : Fin 8192) (j : Fin 1024) : EReal := ∑ k : Fin 2560, dcat dq dkv halo dz u k * w (ix2 j k)

/-- The gradient of the projection's weights. -/
def dweight (k : Fin 2560) (j : Fin 1024) : EReal :=
  ∑ u : Fin 8192, dcat dq dkv halo dz u k * (normed x u j * g (ix1 j))

/-- The gradient of the norm's gain, from the gradient of the normed rows. -/
def gainGrad (dh : Fin 8192 → Fin 1024 → EReal) (j : Fin 1024) : EReal := ∑ u : Fin 8192, dh u j * normed x u j

/-- The gradient of the norm's input, from the gradient of the normed rows, with the skip connection's. -/
def inputGrad (dh : Fin 8192 → Fin 1024 → EReal) (u : Fin 8192) (j : Fin 1024) : EReal :=
  inverse x u * (dh u j * g (ix1 j)
    - normed x u j * Ideal.div (∑ k : Fin 1024, dh u k * g (ix1 k) * normed x u k) ((1024 : ℝ) : EReal))
    + dy (ix2 u j)

/-- The gradient of the layer's norm gain. -/
def dgain (j : Fin 1024) : EReal := gainGrad x (dhidden dq dkv halo dz w) j

/-- The gradient of the layer's input. -/
def dinput (u : Fin 8192) (j : Fin 1024) : EReal := inputGrad x dy g (dhidden dq dkv halo dz w) u j

/-! ## The three parts of the projection's columns -/

theorem dcat_query (u : Fin 8192) (k : Fin 1024) : dcat dq dkv halo dz u ⟨k.val, by omega⟩ = dq (ix2 k u) :=
  dif_pos k.isLt

theorem dcat_key (u : Fin 8192) (k : Fin 512) :
    dcat dq dkv halo dz u ⟨1024 + k.val, by omega⟩ = keys dkv halo u k := by
  unfold dcat
  rw [dif_neg (by simp), dif_pos (by simp; omega)]
  exact congrArg _ (Fin.ext (by simp))

theorem dcat_gate (u : Fin 8192) (k : Fin 1024) :
    dcat dq dkv halo dz u ⟨1536 + k.val, by omega⟩ = dz (ix2 k u) := by
  unfold dcat
  rw [dif_neg (by simp; omega), dif_neg (by simp)]
  exact congrArg (fun a => dz (ix2 a u)) (Fin.ext (by simp))

/-- A sum over the projection's 2560 columns is the sum over its three parts. -/
theorem sum_parts (f : Fin 2560 → EReal) :
    (∑ k, f k) = (∑ k : Fin 1024, f ⟨k.val, by omega⟩) + (∑ k : Fin 1024, f ⟨1536 + k.val, by omega⟩)
      + ∑ k : Fin 512, f ⟨1024 + k.val, by omega⟩ := by
  have h1 := Fin.sum_univ_add (a := 1536) (b := 1024) f
  have h2 := Fin.sum_univ_add (a := 1024) (b := 512) fun k => f (Fin.castAdd 1024 k)
  refine h1.trans ((congrArg (· + _) h2).trans ?_)
  rw [add_right_comm]
  rfl

/-! ## One grid point -/

/-- The blocks of point `t` hold its rows of the arrays, the next tile's halo, and the whole gain and weights. -/
structure Blocks (x0 : FVec Ideal ⟨2, ![1024, 512]⟩ .bf16) (x1 : FVec Ideal ⟨2, ![512, 512]⟩ .f32)
    (x2 : FVec Ideal ⟨3, ![1, 128, 512]⟩ .f32) (x3 : FVec Ideal ⟨2, ![1024, 512]⟩ .bf16)
    (x4 x5 : FVec Ideal ⟨2, ![512, 1024]⟩ .f32) (x6 : FVec Ideal ⟨2, ![1, 1024]⟩ .f32)
    (x7 : FVec Ideal ⟨2, ![2560, 1024]⟩ .bf16) (t : ℕ) : Prop where
  lt : t < 16
  query : ∀ (k : Fin 1024) (r : Fin 512), x0 (ix2 k r) = dq (ix2 k ⟨512 * t + r.val, by omega⟩)
  own : ∀ r k : Fin 512, x1 (ix2 r k) = dkv (ix2 ⟨512 * t + r.val, by omega⟩ k)
  next : ∀ (r : Fin 128) (k : Fin 512), x2 (ix3 0 r k) = halo (ix3 ⟨min (t + 1) 15, by omega⟩ r k)
  gate : ∀ (k : Fin 1024) (r : Fin 512), x3 (ix2 k r) = dz (ix2 k ⟨512 * t + r.val, by omega⟩)
  input : ∀ (r : Fin 512) (j : Fin 1024), x4 (ix2 r j) = x (ix2 ⟨512 * t + r.val, by omega⟩ j)
  skip : ∀ (r : Fin 512) (j : Fin 1024), x5 (ix2 r j) = dy (ix2 ⟨512 * t + r.val, by omega⟩ j)
  gain : ∀ j : Fin 1024, x6 (ix2 0 j) = g (ix1 j)
  weights : ∀ (k : Fin 2560) (j : Fin 1024), x7 (ix2 k j) = w (ix2 j k)

/-- What the kernel adds to a row of a tile: the next tile's halo on the last rows, times one while there is a next
    tile and times zero at the last. -/
def tail (x2 : FVec Ideal ⟨3, ![1, 128, 512]⟩ .f32) (t : ℕ) (r k : Fin 512) : EReal :=
  if h : r.val < 384 then 0 else x2 (ix3 0 ⟨r.val - 384, by omega⟩ k) * (if t < 15 then 1 else 0)

/-- The kernel's word that says whether there is a next tile, as a number. -/
theorem more (t : ℕ) (ht : t < 16) :
    FloatOps.sitofp (F := Ideal) FTy.f32 ((Scalar.extui (Scalar.cmpi .slt (BitVec.ofNat 32 t) 15#32) : BitVec 32))
      = if t < 15 then 1 else 0 := by
  have h : ∀ t : Fin 16, ((Scalar.extui (Scalar.cmpi .slt (BitVec.ofNat 32 t.val) 15#32) : BitVec 32)).toInt
      = if t.val < 15 then 1 else 0 := by decide
  show ((((Scalar.extui (Scalar.cmpi .slt (BitVec.ofNat 32 t) 15#32) : BitVec 32)).toInt : ℝ) : EReal) = _
  rw [h ⟨t, ht⟩]
  split_ifs <;> simp

variable {dq dkv halo dz x dy g w}
variable {x0 : FVec Ideal ⟨2, ![1024, 512]⟩ .bf16} {x1 : FVec Ideal ⟨2, ![512, 512]⟩ .f32}
  {x2 : FVec Ideal ⟨3, ![1, 128, 512]⟩ .f32} {x3 : FVec Ideal ⟨2, ![1024, 512]⟩ .bf16}
  {x4 x5 : FVec Ideal ⟨2, ![512, 1024]⟩ .f32} {x6 : FVec Ideal ⟨2, ![1, 1024]⟩ .f32}
  {x7 : FVec Ideal ⟨2, ![2560, 1024]⟩ .bf16} {t : ℕ}

namespace Blocks

variable (b : Blocks dq dkv halo dz x dy g w x0 x1 x2 x3 x4 x5 x6 x7 t)

include b

/-- The row of the arrays that row `r` of the point is. -/
theorem row_lt (r : Fin 512) : 512 * t + r.val < 8192 := by have := b.lt; omega

/-- The gradient of the keys and values of the point's rows. -/
theorem keys_apply (r k : Fin 512) :
    x1 (ix2 r k) + tail x2 t r k = keys dkv halo ⟨512 * t + r.val, b.row_lt r⟩ k := by
  have := b.lt
  rw [b.own]
  refine congrArg (_ + ·) ?_
  unfold tail spill
  have hm : (512 * t + r.val) % 512 = r.val := by omega
  have hd : (512 * t + r.val) / 512 = t := by omega
  by_cases h0 : r.val < 384
  · rw [dif_pos h0, dif_neg (by show ¬ (384 ≤ (512 * t + r.val) % 512 ∧ _); omega)]
  rw [dif_neg h0]
  by_cases h1 : t < 15
  · rw [if_pos h1, mul_one, b.next, dif_pos (by
      show 384 ≤ (512 * t + r.val) % 512 ∧ (512 * t + r.val) / 512 + 1 < 16
      omega)]
    refine congrArg halo (congrArg₂ (fun a c => ix3 a c k) (Fin.ext ?_) (Fin.ext ?_))
    · show min (t + 1) 15 = (512 * t + r.val) / 512 + 1
      omega
    · show r.val - 384 = (512 * t + r.val) % 512 - 384
      omega
  · rw [if_neg h1, mul_zero, dif_neg (by
      show ¬ (_ ∧ (512 * t + r.val) / 512 + 1 < 16)
      omega)]

/-- One over the root of the mean square of a row of the point. -/
theorem inverse_apply (r : Fin 512) :
    rstd eps (fun k => x4 (ix2 r k)) = inverse x ⟨512 * t + r.val, b.row_lt r⟩ :=
  congrArg (rstd eps) (funext fun k => b.input r k)

/-- The three products of the point's rows make the gradient of the normed rows. -/
theorem dh_apply (k0 : Fin 512 → Fin 512 → EReal)
    (hk : ∀ r k, k0 r k = keys dkv halo ⟨512 * t + r.val, b.row_lt r⟩ k) (r : Fin 512) (j : Fin 1024) :
    (∑ k : Fin 1024, x0 (ix2 k r) * x7 (ix2 ⟨k.val, by omega⟩ j))
      + (∑ k : Fin 1024, x3 (ix2 k r) * x7 (ix2 ⟨1536 + k.val, by omega⟩ j))
      + (∑ k : Fin 512, k0 r k * x7 (ix2 ⟨1024 + k.val, by omega⟩ j))
    = dhidden dq dkv halo dz w ⟨512 * t + r.val, b.row_lt r⟩ j := by
  unfold dhidden
  rw [sum_parts]
  refine congrArg₂ _ (congrArg₂ _ ?_ ?_) ?_ <;> refine Finset.sum_congr rfl fun k _ => congrArg₂ _ ?_ (b.weights _ j)
  · exact (b.query k r).trans (dcat_query dq dkv halo dz _ k).symm
  · exact (b.gate k r).trans (dcat_gate dq dkv halo dz _ k).symm
  · exact (hk r k).trans (dcat_key dq dkv halo dz _ k).symm

end Blocks

/-- A tile of the norm's input gradient, from the tile's own rows. -/
theorem input_apply (u : Fin 8192) (j : Fin 1024) (s : EReal) (dh n gv : Fin 1024 → EReal) (D : Fin 8192 → Fin 1024 → EReal)
    (y : EReal) (hs : s = inverse x u) (hd : ∀ k, dh k = D u k) (hn : ∀ k, n k = normed x u k)
    (hg : ∀ k, gv k = g (ix1 k)) (hy : y = dy (ix2 u j)) :
    s * (dh j * gv j - n j * Ideal.div (∑ k : Fin 1024, dh k * gv k * n k) ((1024 : ℝ) : EReal)) + y
      = inputGrad x dy g D u j := by
  obtain rfl : dh = D u := funext hd
  obtain rfl : n = normed x u := funext hn
  obtain rfl : gv = fun k => g (ix1 k) := funext hg
  rw [hs, hy]
  rfl

end AttnIn

end
-- ==== Proof.ARows.lean ====
/-
  A buffer of 2560 rows written in three ranges of rows: the queries', the keys' and values', and the gate's.
-/
module

public import proofs.«01_k».proof.Proof.ASpec
public import Idealize.ShloMosaic.Lib.Pipeline.ValueKit
public import Idealize.ShloMosaic.Lib.Pipeline.ReadBack

@[expose] public section

set_option maxRecDepth 16384

noncomputable section

namespace AttnIn

open Idealize.ShloMosaic

/-- Where a range of rows of a matrix sits. -/
theorem rows_idx {N n m : ℕ} (off : ℕ) (h) (r : Fin n) (j : Fin m) (q : Fin N) (hq : q.val = off + r.val) :
    (Rect.unit (s := ⟨2, ![N, m]⟩) ![off, 0] ![n, m] h).idx (ix2 r j) = ix2 q j := by
  refine funext fun k => Fin.ext ((Rect.idx_unit_val _ _ _ _ _).trans ?_)
  fin_cases k
  · exact hq.symm
  · simp

/-- A range of rows read from a whole matrix. -/
theorem ld_rows {N n m : ℕ} {e : EltTy} (Z : (⟨⟨2, ![N, m]⟩, e⟩ : BufTy).Contents (Elt Ideal)) (off : ℕ) (h)
    (r : Fin n) (j : Fin m) (q : Fin N) (hq : q.val = off + r.val) :
    View.ld (Val := Elt Ideal) (e' := e) Z (Rect.unit (s := ⟨2, ![N, m]⟩) ![off, 0] ![n, m] h) (ix2 r j) = Z (ix2 q j) :=
  congrArg Z (rows_idx off h r j q hq)

/-- Three stores, one per range of rows, leave what each range was given. -/
theorem ranges (G : FVec Ideal ⟨2, ![2560, 1024]⟩ .f32) (p0 p2 : FVec Ideal ⟨2, ![1024, 1024]⟩ .f32)
    (p1 : FVec Ideal ⟨2, ![512, 1024]⟩ .f32) (L : List (View.Piece (Elt Ideal) ⟨2, ![2560, 1024]⟩ .f32)) (i0 i1 i2)
    (h0 : ∀ k j : Fin 1024, p0 (ix2 k j) = G (ix2 ⟨k.val, by omega⟩ j))
    (h1 : ∀ (k : Fin 512) (j : Fin 1024), p1 (ix2 k j) = G (ix2 ⟨1024 + k.val, by omega⟩ j))
    (h2 : ∀ k j : Fin 1024, p2 (ix2 k j) = G (ix2 ⟨1536 + k.val, by omega⟩ j)) :
    View.canon (Val := Elt Ideal) (s := ⟨2, ![2560, 1024]⟩) (e := .f32)
      (⟨Rect.unit ![1536, 0] ![1024, 1024] i2, p2⟩ :: ⟨Rect.unit ![1024, 0] ![512, 1024] i1, p1⟩
        :: ⟨Rect.unit ![0, 0] ![1024, 1024] i0, p0⟩ :: L) = G := by
  have aux : ∀ (n off : ℕ) (hn : off + n ≤ 2560) (i) (p : FVec Ideal ⟨2, ![n, 1024]⟩ .f32)
      (_ : ∀ (k : Fin n) (j : Fin 1024), p (ix2 k j) = G (ix2 ⟨off + k.val, by omega⟩ j))
      (y : (⟨2, ![n, 1024]⟩ : Shape).Idx),
      p y = G ((Rect.unit (s := ⟨2, ![2560, 1024]⟩) ![off, 0] ![n, 1024] i).emb y) := by
    intro n off hn i p hp y
    obtain ⟨k, j, rfl⟩ : ∃ (k : Fin n) (j : Fin 1024), y = ix2 k j := ⟨y 0, y 1, by funext a; fin_cases a <;> rfl⟩
    exact (hp k j).trans (congrArg G (rows_idx off i k j ⟨off + k.val, by omega⟩ rfl).symm)
  funext y
  refine View.canon_append_of_piecesOf (Val := Elt Ideal) (e := .f32) G L
    [⟨Rect.unit ![1536, 0] ![1024, 1024] i2, p2⟩, ⟨Rect.unit ![1024, 0] ![512, 1024] i1, p1⟩,
      ⟨Rect.unit ![0, 0] ![1024, 1024] i0, p0⟩] ?_ y ?_
  · exact ⟨aux _ 1536 (by omega) i2 p2 h2, aux _ 1024 (by omega) i1 p1 h1,
      aux _ 0 (by omega) i0 p0 fun k j => (h0 k j).trans (congrArg (fun a => G (ix2 a j)) (Fin.ext (by simp))), trivial⟩
  have hy0 : (y 0).val < 2560 := (y 0).isLt
  have hy1 : (y 1).val < 1024 := (y 1).isLt
  have mem : ∀ (n off : ℕ) (i) (_ : off ≤ (y 0).val) (_ : (y 0).val < off + n),
      y ∈ (Rect.unit (s := ⟨2, ![2560, 1024]⟩) ![off, 0] ![n, 1024] i).set := by
    intro n off i hl hu
    refine Rect.mem_set_unit.mpr fun k => ?_
    fin_cases k
    · exact ⟨hl, hu⟩
    · show 0 ≤ (y 1).val ∧ (y 1).val < 0 + 1024
      omega
  rcases (by omega : 1536 ≤ (y 0).val ∨ (1024 ≤ (y 0).val ∧ (y 0).val < 1536) ∨ (y 0).val < 1024) with h | h | h
  · exact ⟨_, List.mem_cons_self, mem 1024 1536 i2 h (by omega)⟩
  · exact ⟨_, List.mem_cons_of_mem _ List.mem_cons_self, mem 512 1024 i1 h.1 (by omega)⟩
  · exact ⟨_, List.mem_cons_of_mem _ (List.mem_cons_of_mem _ List.mem_cons_self), mem 1024 0 i0 (by omega) (by omega)⟩

/-- The three products a point adds to the sum of the weights' gradient, from the rows it multiplies. -/
def gains (q z : FVec Ideal ⟨2, ![1024, 512]⟩ .bf16) (kv : FVec Ideal ⟨2, ![512, 512]⟩ .bf16)
    (h : FVec Ideal ⟨2, ![512, 1024]⟩ .bf16) : FVec Ideal ⟨2, ![2560, 1024]⟩ .f32 := fun y =>
  if h0 : (y 0).val < 1024 then ∑ r : Fin 512, q (ix2 ⟨(y 0).val, h0⟩ r) * h (ix2 r (y 1))
  else if h1 : (y 0).val < 1536 then ∑ r : Fin 512, kv (ix2 r ⟨(y 0).val - 1024, by omega⟩) * h (ix2 r (y 1))
  else ∑ r : Fin 512, z (ix2 ⟨(y 0).val - 1536, by have : (y 0).val < 2560 := (y 0).isLt; omega⟩ r) * h (ix2 r (y 1))

/-- The three stores onto what the ranges held leave the old sum and the point's part. -/
theorem ranges_step (q z : FVec Ideal ⟨2, ![1024, 512]⟩ .bf16) (kv : FVec Ideal ⟨2, ![512, 512]⟩ .bf16)
    (h : FVec Ideal ⟨2, ![512, 1024]⟩ .bf16) (Z : FVec Ideal ⟨2, ![2560, 1024]⟩ .f32)
    (p0 p2 : FVec Ideal ⟨2, ![1024, 1024]⟩ .f32)
    (p1 : FVec Ideal ⟨2, ![512, 1024]⟩ .f32) (L : List (View.Piece (Elt Ideal) ⟨2, ![2560, 1024]⟩ .f32)) (i0 i1 i2)
    (h0 : ∀ k j : Fin 1024, p0 (ix2 k j)
      = Z (ix2 ⟨k.val, by omega⟩ j) + ∑ r : Fin 512, q (ix2 k r) * h (ix2 r j))
    (h1 : ∀ (k : Fin 512) (j : Fin 1024), p1 (ix2 k j)
      = Z (ix2 ⟨1024 + k.val, by omega⟩ j) + ∑ r : Fin 512, kv (ix2 r k) * h (ix2 r j))
    (h2 : ∀ k j : Fin 1024, p2 (ix2 k j)
      = Z (ix2 ⟨1536 + k.val, by omega⟩ j) + ∑ r : Fin 512, z (ix2 k r) * h (ix2 r j)) :
    View.canon (Val := Elt Ideal) (s := ⟨2, ![2560, 1024]⟩) (e := .f32)
      (⟨Rect.unit ![1536, 0] ![1024, 1024] i2, p2⟩ :: ⟨Rect.unit ![1024, 0] ![512, 1024] i1, p1⟩
        :: ⟨Rect.unit ![0, 0] ![1024, 1024] i0, p0⟩ :: L) = fun y => Z y + gains q z kv h y := by
  refine ranges _ p0 p2 p1 L i0 i1 i2 (fun k j => ?_) (fun k j => ?_) (fun k j => ?_)
  · rw [h0]
    refine congrArg (_ + ·) (Eq.symm ?_)
    unfold gains
    exact dif_pos k.isLt
  · rw [h1]
    refine congrArg (_ + ·) (Eq.symm ?_)
    refine (dif_neg (by show ¬ 1024 + k.val < 1024; omega)).trans ((dif_pos (by
      show 1024 + k.val < 1536
      omega)).trans (Finset.sum_congr rfl fun r _ => ?_))
    exact congrArg (fun a => kv (ix2 r a) * _) (Fin.ext (by show 1024 + k.val - 1024 = k.val; omega))
  · rw [h2]
    refine congrArg (_ + ·) (Eq.symm ?_)
    refine (dif_neg (by show ¬ 1536 + k.val < 1024; omega)).trans ((dif_neg (by
      show ¬ 1536 + k.val < 1536
      omega)).trans (Finset.sum_congr rfl fun r _ => ?_))
    exact congrArg (fun a => z (ix2 a r) * _) (Fin.ext (by show 1536 + k.val - 1536 = k.val; omega))

/-- A point's three products, over the arrays. -/
theorem Blocks.gains_apply {dq : FVec Ideal ⟨2, ![1024, 8192]⟩ .bf16} {dkv : FVec Ideal ⟨2, ![8192, 512]⟩ .f32}
    {halo : FVec Ideal ⟨3, ![16, 128, 512]⟩ .f32} {dz : FVec Ideal ⟨2, ![1024, 8192]⟩ .bf16}
    {x dy : FVec Ideal ⟨2, ![8192, 1024]⟩ .f32} {g : FVec Ideal ⟨1, ![1024]⟩ .f32}
    {w : FVec Ideal ⟨2, ![1024, 2560]⟩ .f32}
    {x0 : FVec Ideal ⟨2, ![1024, 512]⟩ .bf16} {x1 : FVec Ideal ⟨2, ![512, 512]⟩ .f32}
    {x2 : FVec Ideal ⟨3, ![1, 128, 512]⟩ .f32} {x3 : FVec Ideal ⟨2, ![1024, 512]⟩ .bf16}
    {x4 x5 : FVec Ideal ⟨2, ![512, 1024]⟩ .f32} {x6 : FVec Ideal ⟨2, ![1, 1024]⟩ .f32}
    {x7 : FVec Ideal ⟨2, ![2560, 1024]⟩ .bf16} {t : ℕ}
    (b : Blocks dq dkv halo dz x dy g w x0 x1 x2 x3 x4 x5 x6 x7 t)
    (kv : FVec Ideal ⟨2, ![512, 512]⟩ .bf16) (h : FVec Ideal ⟨2, ![512, 1024]⟩ .bf16)
    (hk : ∀ r k, kv (ix2 r k) = keys dkv halo ⟨512 * t + r.val, b.row_lt r⟩ k)
    (hh : ∀ r j, h (ix2 r j) = Pool.normed x ⟨512 * t + r.val, b.row_lt r⟩ j * g (ix1 j)) (k : Fin 2560) (j : Fin 1024) :
    gains x0 x3 kv h (ix2 k j) = ∑ r : Fin 512, dcat dq dkv halo dz ⟨512 * t + r.val, b.row_lt r⟩ k
      * (Pool.normed x ⟨512 * t + r.val, b.row_lt r⟩ j * g (ix1 j)) := by
  have e0 : ∀ (u : Fin 8192) (h : k.val < 1024), dcat dq dkv halo dz u k = dq (ix2 ⟨k.val, h⟩ u) :=
    fun u h => dif_pos h
  have e1 : ∀ (u : Fin 8192) (_ : ¬ k.val < 1024) (h' : k.val < 1536),
      dcat dq dkv halo dz u k = keys dkv halo u ⟨k.val - 1024, by omega⟩ :=
    fun u h h' => (dif_neg h).trans (dif_pos h')
  have e2 : ∀ (u : Fin 8192) (_ : ¬ k.val < 1024) (_ : ¬ k.val < 1536),
      dcat dq dkv halo dz u k = dz (ix2 ⟨k.val - 1536, by omega⟩ u) :=
    fun u h h' => (dif_neg h).trans (dif_neg h')
  unfold gains
  by_cases h0 : k.val < 1024
  · exact (dif_pos h0).trans (Finset.sum_congr rfl fun r _ => congrArg₂ _ ((b.query _ r).trans (e0 _ h0).symm) (hh r j))
  refine (dif_neg h0).trans ?_
  by_cases h1 : k.val < 1536
  · exact (dif_pos h1).trans (Finset.sum_congr rfl fun r _ => congrArg₂ _ ((hk r _).trans (e1 _ h0 h1).symm) (hh r j))
  · exact (dif_neg h1).trans (Finset.sum_congr rfl fun r _ => congrArg₂ _ ((b.gate _ r).trans (e2 _ h0 h1).symm) (hh r j))

/-- The sum over the points and their rows is the sum over all rows. -/
theorem sum_points (f : Fin 8192 → EReal) (q : ℕ) (hq : q = 0)
    (h : ∀ (s : Fin 16) (r : Fin 512), 512 * (16 * q + s.val) + r.val < 8192) :
    (0 : EReal) + ∑ s : Fin 16, ∑ r : Fin 512, f ⟨512 * (16 * q + s.val) + r.val, h s r⟩ = ∑ u, f u := by
  subst hq
  rw [Pool.sum_tiles 16 512 rfl f, zero_add]
  refine Finset.sum_congr rfl fun s _ => Finset.sum_congr rfl fun r _ => congrArg f (Fin.ext ?_)
  show 512 * (16 * 0 + s.val) + r.val = 512 * s.val + r.val
  omega

/-- Every index of a matrix is a row and a column. -/
theorem at2 {n k : ℕ} (y : (⟨2, ![n, k]⟩ : Shape).Idx) : ∃ (r : Fin n) (j : Fin k), y = ix2 r j :=
  ⟨y 0, y 1, by funext a; fin_cases a <;> rfl⟩

end AttnIn

end
-- ==== Proof.ARef.lean ====
/-
  The attention reference's three results, row by row.
-/
module

public import proofs.«01_k».proof.Proof.ARows
public import proofs.«01_k».proof.Proof.Gen.AttnReferenceIdeal.Read

@[expose] public section

set_option maxRecDepth 16384

noncomputable section

namespace Cert.AttnReferenceIdeal.Block

open Idealize.ShloMosaic Cert.AttnReferenceIdeal Cert.AttnReferenceIdeal.Gen Cert.AttnReferenceIdeal.Read Pool AttnIn

variable (dq : FVec Ideal (⟨2, ![1024, 8192]⟩ : Shape) .bf16) (dkv : FVec Ideal (⟨2, ![8192, 512]⟩ : Shape) .f32)
  (halo : FVec Ideal (⟨3, ![16, 128, 512]⟩ : Shape) .f32) (dz : FVec Ideal (⟨2, ![1024, 8192]⟩ : Shape) .bf16)
  (x dy : FVec Ideal (⟨2, ![8192, 1024]⟩ : Shape) .f32) (g : FVec Ideal (⟨1, ![1024]⟩ : Shape) .f32)
  (w : FVec Ideal (⟨2, ![1024, 2560]⟩ : Shape) .f32)

/-! ## The gradient that reaches the projection -/

/-- The halos, one tile early: tile `a` holds what tile `a + 1` sends back, and the last tile holds zero. -/
theorem v2 (a : Fin 16) (b : Fin 128) (k : Fin 512) : val_main_v2 (F := Ideal) halo (ix3 a b k)
    = if h : a.val + 1 < 16 then halo (ix3 ⟨a.val + 1, h⟩ b k) else 0 := by
  have hz : val_main_v1 (F := Ideal) = fun _ => (0 : EReal) := by
    funext i
    rw [val_main_v1_apply]; exact Ideal.ofBits_zero_f32
  unfold val_main_v2 val_main_v0
  rw [hz]
  by_cases h : a.val + 1 < 16
  · rw [dif_pos h]
    pointwise
    rw [dif_pos (show a.val < 15 by omega)]
    blk_ext
  · rw [dif_neg h]
    pointwise
    rw [dif_neg (show ¬ a.val < 15 by omega)]

/-- What each row gets from the next tile. -/
theorem v5 (u : Fin 8192) (k : Fin 512) : val_main_v5 (F := Ideal) halo (ix2 u k) = spill halo u k := by
  have hz : val_main_v3 (F := Ideal) = fun _ => (0 : EReal) := by
    funext i
    rw [val_main_v3_apply]; exact Ideal.ofBits_zero_f32
  have e : val_main_v5 (F := Ideal) halo (ix2 u k)
      = val_main_v4 (F := Ideal) halo (ix3 ⟨u.val / 512, by omega⟩ ⟨u.val % 512, by omega⟩ k) := by
    rw [val_main_v5_apply]
    exact congrArg _ (by blk_ext)
  rw [e]
  unfold spill val_main_v4
  rw [hz]
  have key := v2 halo ⟨u.val / 512, by omega⟩
  generalize val_main_v2 (F := Ideal) halo = v at key
  by_cases h : 384 ≤ u.val % 512
  · have e2 := key ⟨u.val % 512 - 384, by omega⟩ k
    pointwise
    rw [dif_neg (show ¬ u.val % 512 < 384 by omega)]
    refine Eq.trans ?_ (e2.trans ?_)
    · exact congrArg v (by blk_ext)
    · by_cases h' : u.val / 512 + 1 < 16
      · rw [dif_pos h', dif_pos ⟨h, h'⟩]
      · rw [dif_neg h', dif_neg fun hh => h' hh.2]
  · rw [dif_neg fun hh => h hh.1]
    pointwise
    rw [dif_pos (show u.val % 512 < 384 by omega)]

/-- The gradient that reaches the projection's output. -/
theorem v31 (u : Fin 8192) (k : Fin 2560) :
    val_main_v31 (F := Ideal) dq dkv halo dz (ix2 u k) = AttnIn.dcat dq dkv halo dz u k := by
  have h6 : ∀ k : Fin 512, val_main_v6 (F := Ideal) dkv halo (ix2 u k) = keys dkv halo u k := fun k =>
    congrArg (dkv (ix2 u k) + ·) (v5 halo u k)
  have h28 : ∀ k : Fin 1024, val_main_v28 (F := Ideal) dq (ix2 u k) = dq (ix2 k u) := fun k => by
    unfold val_main_v28 val_main_v27
    pointwise
  have h30 : ∀ k : Fin 1024, val_main_v30 (F := Ideal) dz (ix2 u k) = dz (ix2 k u) := fun k => by
    unfold val_main_v30 val_main_v29
    pointwise
  unfold val_main_v31 AttnIn.dcat
  generalize val_main_v28 (F := Ideal) dq = a at h28
  generalize val_main_v6 (F := Ideal) dkv halo = b at h6
  generalize val_main_v30 (F := Ideal) dz = d at h30
  by_cases h : k.val < 1024
  · rw [dif_pos h, ← h28]
    pointwise
    rw [dif_pos h]
  · by_cases h' : k.val < 1536
    · rw [dif_neg h, dif_pos h', ← h6]
      pointwise
      rw [dif_neg h, dif_pos (show k.val - 1024 < 512 by omega)]
    · rw [dif_neg h, dif_neg h']
      refine Eq.trans ?_ (h30 _)
      pointwise
      rw [dif_neg h, dif_neg (show ¬ k.val - 1024 < 512 by omega)]
      blk_ext

/-! ## The norm -/

theorem v13 (u : Fin 8192) : val_main_v13 (F := Ideal) x (ix2 u 0) = meanSq eps fun k => x (ix2 u k) := by
  have h1 : val_main_v9 (F := Ideal) x (ix2 u 0) = ∑ k : Fin 1024, x (ix2 u k) * x (ix2 u k) := by
    rw [val_main_v9_apply, val_main_v8_apply]
    refine (congrArg (· + _) (Ideal.ofBits_zero_f32 : val_main_cst_1 (F := Ideal) _ = 0)).trans ?_
    rw [zero_add]
    refine Finset.sum_congr rfl fun k _ => ?_
    have e : idx_main_v8 (idx_main_v9 (ix2 u 0)) k = ix2 u k := by blk_ext
    rw [e]; rfl
  have h2 : val_main_v10 (F := Ideal) (ix2 u 0) = ((1024 : ℝ) : EReal) := by
    rw [val_main_v10_apply]; exact ofBits_1024
  have h3 : val_main_v12 (F := Ideal) (ix2 u 0) = (eps : EReal) := by
    rw [val_main_v12_apply]; exact ofBits_eps
  show Ideal.div (val_main_v9 (F := Ideal) x (ix2 u 0)) (val_main_v10 (F := Ideal) (ix2 u 0))
    + val_main_v12 (F := Ideal) (ix2 u 0) = _
  rw [h1, h2, h3]
  rfl

theorem v14 (u : Fin 8192) : val_main_v14 (F := Ideal) x (ix2 u 0) = inverse x u := by
  show Ideal.rsqrt (val_main_v13 (F := Ideal) x (ix2 u 0)) = _
  rw [v13]; rfl

theorem v19 (u : Fin 8192) (j : Fin 1024) : val_main_v19 (F := Ideal) x (ix2 u j) = normed x u j := by
  have h : val_main_v19 (F := Ideal) x (ix2 u j) = x (ix2 u j) * val_main_v14 (F := Ideal) x (ix2 u 0) := by
    unfold val_main_v19 val_main_v18
    generalize val_main_v14 (F := Ideal) x = v
    pointwise
  rw [h, v14]; rfl

theorem v22 (u : Fin 8192) (j : Fin 1024) : val_main_v22 (F := Ideal) x g (ix2 u j) = normed x u j * g (ix1 j) := by
  have h : val_main_v22 (F := Ideal) x g (ix2 u j) = val_main_v19 (F := Ideal) x (ix2 u j) * g (ix1 j) := by
    unfold val_main_v22 val_main_v21 val_main_v20
    generalize val_main_v19 (F := Ideal) x = v
    pointwise
  rw [h, v19]

/-- The derivative of the reciprocal root. -/
theorem v17 (u : Fin 8192) : val_main_v17 (F := Ideal) x (ix2 u 0)
    = ((-(1 / 2) : ℝ) : EReal) * Ideal.div (inverse x u) (meanSq eps fun k => x (ix2 u k)) := by
  have h : val_main_v16 (F := Ideal) (ix2 u 0) = ((-(1 / 2) : ℝ) : EReal) := by
    rw [val_main_v16_apply]; exact ofBits_neg_half
  show val_main_v16 (F := Ideal) (ix2 u 0)
    * Ideal.div (val_main_v14 (F := Ideal) x (ix2 u 0)) (val_main_v13 (F := Ideal) x (ix2 u 0)) = _
  rw [h, v14, v13]

/-! ## The projection -/

theorem v34 (u : Fin 8192) (j : Fin 1024) :
    val_main_v34 (F := Ideal) dq dkv halo dz w (ix2 u j) = AttnIn.dhidden dq dkv halo dz w u j := by
  rw [val_main_v34_apply]
  refine Finset.sum_congr rfl fun k _ => ?_
  have e : lidx_main_v34 (ix2 u j) k = ix2 u k := by blk_ext
  have e' : ridx_main_v34 (ix2 u j) k = ix2 j k := by blk_ext
  rw [e, e', v31]

/-- The gradient of the projection's weights, transposed as the exchange takes it. -/
theorem out_dw (k : Fin 2560) (j : Fin 1024) :
    val_main_v58 (F := Ideal) dq dkv halo dz x g (ix2 k j) = AttnIn.dweight dq dkv halo dz x g k j := by
  have h : val_main_v58 (F := Ideal) dq dkv halo dz x g (ix2 k j)
      = val_main_v32 (F := Ideal) dq dkv halo dz x g (ix2 k j) := by
    unfold val_main_v58 val_main_v57 val_main_v33
    generalize val_main_v32 (F := Ideal) dq dkv halo dz x g = v
    pointwise
  rw [h, val_main_v32_apply]
  refine Finset.sum_congr rfl fun u _ => ?_
  have e : lidx_main_v32 (ix2 k j) u = ix2 u k := by blk_ext
  have e' : ridx_main_v32 (ix2 k j) u = ix2 u j := by blk_ext
  rw [e, e', v31, v22]

/-- The gradient of the norm's gain. -/
theorem out_dg (i : Fin 1) (j : Fin 1024) :
    val_main_v56 (F := Ideal) dq dkv halo dz x w (ix2 i j) = AttnIn.dgain dq dkv halo dz x w j := by
  rw [val_main_v56_apply, val_main_v40_apply]
  refine (congrArg (· + _) (Ideal.ofBits_zero_f32 : val_main_cst_6 (F := Ideal) _ = 0)).trans ?_
  rw [zero_add, Fin.sum_univ_one, val_main_v37_apply, val_main_v36_apply]
  refine (congrArg (· + _) (Ideal.ofBits_zero_f32 : val_main_cst_5 (F := Ideal) _ = 0)).trans ?_
  rw [zero_add]
  unfold AttnIn.dgain gainGrad
  refine Finset.sum_congr rfl fun u _ => ?_
  have e : idx_main_v36 (idx_main_v37 (idx_main_v40 (idx_main_v56 (ix2 i j)) 0)) u = ix2 u j := by blk_ext
  rw [e]
  show val_main_v19 (F := Ideal) x (ix2 u j) * val_main_v34 (F := Ideal) dq dkv halo dz w (ix2 u j) = _
  rw [v19, v34, mul_comm]

/-! ## The input's gradient -/

theorem v39 (u : Fin 8192) (j : Fin 1024) :
    val_main_v39 (F := Ideal) dq dkv halo dz g w (ix2 u j) = AttnIn.dhidden dq dkv halo dz w u j * g (ix1 j) := by
  have h : val_main_v39 (F := Ideal) dq dkv halo dz g w (ix2 u j)
      = val_main_v34 (F := Ideal) dq dkv halo dz w (ix2 u j) * g (ix1 j) := by
    unfold val_main_v39 val_main_v38 val_main_v20
    generalize val_main_v34 (F := Ideal) dq dkv halo dz w = v
    pointwise
  rw [h, v34]

theorem v43 (u : Fin 8192) :
    val_main_v43 (F := Ideal) dq dkv halo dz x g w (ix2 u 0)
      = ∑ k : Fin 1024, x (ix2 u k) * (AttnIn.dhidden dq dkv halo dz w u k * g (ix1 k)) := by
  rw [val_main_v43_apply, val_main_v42_apply]
  refine (congrArg (· + _) (Ideal.ofBits_zero_f32 : val_main_cst_7 (F := Ideal) _ = 0)).trans ?_
  rw [zero_add]
  refine Finset.sum_congr rfl fun k _ => ?_
  have e : idx_main_v42 (idx_main_v43 (ix2 u 0)) k = ix2 u k := by blk_ext
  rw [e]
  show x (ix2 u k) * val_main_v39 (F := Ideal) dq dkv halo dz g w (ix2 u k) = _
  rw [v39]

theorem v51 (u : Fin 8192) (j : Fin 1024) :
    val_main_v51 (F := Ideal) dq dkv halo dz x g w (ix2 u j)
      = Ideal.div ((∑ k : Fin 1024, x (ix2 u k) * (AttnIn.dhidden dq dkv halo dz w u k * g (ix1 k)))
        * (((-(1 / 2) : ℝ) : EReal) * Ideal.div (inverse x u) (meanSq eps fun k => x (ix2 u k)))) ((1024 : ℝ) : EReal) := by
  rw [val_main_v51_apply, val_main_v50_apply]
  refine (congrArg (· + _) (Ideal.ofBits_zero_f32 : val_main_cst_9 (F := Ideal) _ = 0)).trans ?_
  rw [zero_add, Fin.sum_univ_one]
  have e : idx_main_v50 (idx_main_v51 (ix2 u j)) 0 = ix2 u 0 := by blk_ext
  rw [e]
  have h1 : val_main_v48 (F := Ideal) (ix2 u 0) = ((1024 : ℝ) : EReal) := by
    rw [val_main_v48_apply]; exact ofBits_1024
  show Ideal.div (val_main_v43 (F := Ideal) dq dkv halo dz x g w (ix2 u 0) * val_main_v17 (F := Ideal) x (ix2 u 0))
    (val_main_v48 (F := Ideal) (ix2 u 0)) = _
  rw [h1, v17, v43]

/-- The gradient of the layer's input. -/
theorem out_dx (u : Fin 8192) (j : Fin 1024) :
    val_main_v55 (F := Ideal) dq dkv halo dz x dy g w (ix2 u j) = AttnIn.dinput dq dkv halo dz x dy g w u j := by
  have h44 : val_main_v44 (F := Ideal) x (ix2 u j) = inverse x u := by
    rw [← v14]
    unfold val_main_v44
    generalize val_main_v14 (F := Ideal) x = v
    pointwise
  show dy (ix2 u j) + val_main_v39 (F := Ideal) dq dkv halo dz g w (ix2 u j) * val_main_v44 (F := Ideal) x (ix2 u j)
    + x (ix2 u j) * val_main_v51 (F := Ideal) dq dkv halo dz x g w (ix2 u j)
    + val_main_v51 (F := Ideal) dq dkv halo dz x g w (ix2 u j) * x (ix2 u j) = _
  rw [h44, v39, v51]
  exact (norm_bwd eps eps_pos (fun k => x (ix2 u k)) (fun k => AttnIn.dhidden dq dkv halo dz w u k * g (ix1 k)) (dy (ix2 u j)) j).symm

end Cert.AttnReferenceIdeal.Block

end
-- ==== Proof.APart.lean ====
/-
  One grid point of the full kernel of the attention mixer's input stage: what each value it computes holds.
-/
module

public import proofs.«01_k».proof.Proof.Gen.AttnIdeal.Skeleton
public import proofs.«01_k».proof.Proof.ARows

@[expose] public section

set_option maxRecDepth 16384

noncomputable section

namespace Cert.AttnIdeal.Block

open Idealize.ShloMosaic Cert.AttnIdeal Cert.AttnIdeal.Gen Pool AttnIn

/-- The gradient of the keys and values: the tile's own rows and the tail. -/
theorem kv_apply (i : grid0.Coords) (x2 : FVec Ideal S1x128x512 .f32) (x1 : FVec Ideal S512x512 .f32) (t : ℕ)
    (hi : (i 0).val = t) (ht : t < 16) (r k : Fin 512) :
    k0_pay6 (F := Ideal) i x2 x1 (ix2 r k) = x1 (ix2 r k) + tail x2 t r k := by
  subst hi
  unfold tail
  rw [← more (i 0).val ht]
  pointwise [k0_pay6]
  rfl

/-- One over the root of a row's mean square. -/
theorem rstd_apply (x : FVec Ideal S512x1024 .f32) (r : Fin 512) :
    k0_pay8 (F := Ideal) x (ix2 r 0) = rstd eps (fun k => x (ix2 r k)) := by
  pointwise [k0_pay8]
  rw [ofBits_1024, ofBits_eps]
  rfl

/-- The normed rows. -/
theorem norm_apply (x : FVec Ideal S512x1024 .f32) (r : Fin 512) (j : Fin 1024) :
    k0_pay9 (F := Ideal) x (ix2 r j) = x (ix2 r j) * k0_pay8 (F := Ideal) x (ix2 r 0) := by
  pointwise [k0_pay9]

/-- The gain as the point holds it. -/
theorem gain_apply (g : FVec Ideal S1x1024 .f32) (j : Fin 1024) : k0_pay7 (F := Ideal) g (ix2 0 j) = g (ix2 0 j) := by
  pointwise [k0_pay7]

/-- The normed rows with their gain. -/
theorem hidden_apply (g : FVec Ideal S1x1024 .f32) (x : FVec Ideal S512x1024 .f32) (r : Fin 512) (j : Fin 1024) :
    k0_pay10 (F := Ideal) g x (ix2 r j) = x (ix2 r j) * k0_pay8 (F := Ideal) x (ix2 r 0) * g (ix2 0 j) := by
  pointwise [k0_pay10, k0_pay9, k0_pay7]

/-- What the queries' range of the sum becomes. -/
theorem query_apply (g : FVec Ideal S1x1024 .f32) (x : FVec Ideal S512x1024 .f32) (q : FVec Ideal S1024x512 .bf16)
    (p : FVec Ideal S1024x1024 .f32) (k j : Fin 1024) :
    k0_pay12 p (k0_pay11 g x q) (ix2 k j) = p (ix2 k j) + ∑ r : Fin 512, q (ix2 k r) * k0_pay10 g x (ix2 r j) := by
  pointwise [k0_pay12, k0_pay11]

/-- What the keys' and values' range of the sum becomes. -/
theorem key_apply (kv : FVec Ideal S512x512 .bf16) (h : FVec Ideal S512x1024 .bf16) (p : FVec Ideal S512x1024 .f32)
    (k : Fin 512) (j : Fin 1024) :
    k0_pay13 kv h p (ix2 k j) = p (ix2 k j) + ∑ r : Fin 512, kv (ix2 r k) * h (ix2 r j) := by
  pointwise [k0_pay13]

/-- What the gate's range of the sum becomes. -/
theorem gate_apply (h : FVec Ideal S512x1024 .bf16) (z : FVec Ideal S1024x512 .bf16) (p : FVec Ideal S1024x1024 .f32)
    (k j : Fin 1024) :
    k0_pay14 h z p (ix2 k j) = p (ix2 k j) + ∑ r : Fin 512, z (ix2 k r) * h (ix2 r j) := by
  pointwise [k0_pay14]

/-- The gradient of the normed rows: the three products. -/
theorem dh_pay (kv : FVec Ideal S512x512 .bf16) (q z : FVec Ideal S1024x512 .bf16) (wq wz : FVec Ideal S1024x1024 .bf16)
    (wk : FVec Ideal S512x1024 .bf16) (r : Fin 512) (j : Fin 1024) :
    k0_pay15 kv q z wq wz wk (ix2 r j) = (∑ k : Fin 1024, q (ix2 k r) * wq (ix2 k j))
      + (∑ k : Fin 1024, z (ix2 k r) * wz (ix2 k j)) + ∑ k : Fin 512, kv (ix2 r k) * wk (ix2 k j) := by
  pointwise [k0_pay15]

/-- The point's part of the gain's gradient. -/
theorem dg_pay (kv : FVec Ideal S512x512 .bf16) (q z : FVec Ideal S1024x512 .bf16) (wq wz : FVec Ideal S1024x1024 .bf16)
    (wk : FVec Ideal S512x1024 .bf16) (n : FVec Ideal S512x1024 .f32) (j : Fin 1024) :
    k0_pay16 kv n q z wq wz wk (ix2 0 j) = ∑ r : Fin 512, k0_pay15 kv q z wq wz wk (ix2 r j) * n (ix2 r j) := by
  pointwise [k0_pay16]

/-- The point's tile of the input's gradient. -/
theorem dx_pay (kv : FVec Ideal S512x512 .bf16) (q z : FVec Ideal S1024x512 .bf16) (wq wz : FVec Ideal S1024x1024 .bf16)
    (wk : FVec Ideal S512x1024 .bf16) (g : FVec Ideal S1x1024 .f32) (s : FVec Ideal S512x1 .f32)
    (n dy : FVec Ideal S512x1024 .f32) (r : Fin 512) (j : Fin 1024) :
    k0_pay1 s n (k0_pay17 kv g q z wq wz wk) (k0_pay18 kv g n q z wq wz wk) dy (ix2 r j)
      = s (ix2 r 0) * (k0_pay15 kv q z wq wz wk (ix2 r j) * g (ix2 0 j) - n (ix2 r j)
          * Ideal.div (∑ k : Fin 1024, k0_pay15 kv q z wq wz wk (ix2 r k) * g (ix2 0 k) * n (ix2 r k)) ((1024 : ℝ) : EReal))
        + dy (ix2 r j) := by
  pointwise [k0_pay1, k0_pay17, k0_pay18]
  rw [ofBits_1024]

/-- A point's part of the gain's gradient onto what was there. -/
theorem addTo (p q : FVec Ideal S1x1024 .f32) (j : S1x1024.Idx) : k0_pay2 p q j = q j + p j := by
  pointwise [k0_pay2]

end Cert.AttnIdeal.Block

end
-- ==== Proof.AOut.lean ====
/-
  What the full kernel's buffers hold after each grid point: the tile of the input's gradient, and the two running sums.
-/
module

public import proofs.«01_k».proof.Proof.APart
public import proofs.«01_k».proof.Proof.Gen.AttnIdeal.Frame

@[expose] public section

set_option maxRecDepth 16384

noncomputable section

namespace Cert.AttnIdeal.Block

open Idealize.ShloMosaic Idealize.SL.Sem Cert.AttnIdeal Cert.AttnIdeal.Gen Pool AttnIn

variable (m : (ℓ : Loc nD τ sig) → Buf (Elt Ideal) ℓ) (c : Dev nD)

/-- The gradient of the keys and values of a point's rows. -/
def kvAt (t : Fin cfg0.N) : FVec Ideal S512x512 .bf16 :=
  k0_pay6 (grid0.coords t) (iblk m c 2 t) (iblk m c 1 t)

/-- The weights of the queries' columns. -/
def wq (x7 : FVec Ideal S2560x1024 .bf16) : FVec Ideal S1024x1024 .bf16 :=
  View.ld (Val := Elt Ideal) (e' := .bf16) x7 (Rect.unit ![0, 0] ![1024, 1024] inb_S2560x1024_S1024x1024_0_0)

/-- The weights of the gate's columns. -/
def wz (x7 : FVec Ideal S2560x1024 .bf16) : FVec Ideal S1024x1024 .bf16 :=
  View.ld (Val := Elt Ideal) (e' := .bf16) x7 (Rect.unit ![1536, 0] ![1024, 1024] inb_S2560x1024_S1024x1024_1536_0)

/-- The weights of the keys' and values' columns. -/
def wk (x7 : FVec Ideal S2560x1024 .bf16) : FVec Ideal S512x1024 .bf16 :=
  View.ld (Val := Elt Ideal) (e' := .bf16) x7 (Rect.unit ![1024, 0] ![512, 1024] inb_S2560x1024_S512x1024_1024_0)

/-- The tile of the input's gradient that a point writes. -/
def dxAt (t : Fin cfg0.N) : FVec Ideal S512x1024 .f32 :=
  k0_pay1 (k0_pay8 (iblk m c 4 t)) (k0_pay9 (iblk m c 4 t))
    (k0_pay17 (kvAt m c t) (k0_pay7 (iblk m c 6 t)) (iblk m c 0 t) (iblk m c 3 t)
      (wq (iblk m c 7 t)) (wz (iblk m c 7 t)) (wk (iblk m c 7 t)))
    (k0_pay18 (kvAt m c t) (k0_pay7 (iblk m c 6 t)) (k0_pay9 (iblk m c 4 t)) (iblk m c 0 t) (iblk m c 3 t)
      (wq (iblk m c 7 t)) (wz (iblk m c 7 t)) (wk (iblk m c 7 t)))
    (iblk m c 5 t)

/-- What a point adds to the gain's gradient. -/
def dgAt (t : Fin cfg0.N) : FVec Ideal S1x1024 .f32 :=
  k0_pay16 (kvAt m c t) (k0_pay9 (iblk m c 4 t)) (iblk m c 0 t) (iblk m c 3 t)
    (wq (iblk m c 7 t)) (wz (iblk m c 7 t)) (wk (iblk m c 7 t))

theorem outs_dx (t : Fin cfg0.N) : (outsAt0 m c t.val t.isLt).1 = dxAt m c t := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

theorem outs_dg_reset (t : Fin cfg0.N) (h0 : t.val % 16 = 0) (j : S1x1024.Idx) :
    (outsAt0 m c t.val t.isLt).2.1 j = 0 + dgAt m c t j := by
  rw [outsAt0_A m c t h0 (by omega)]; frame_out
  refine (addTo (dgAt m c t) _ j).trans ?_
  refine congrArg (· + _) ?_
  pointwise [k0_pay5]

theorem outs_dg_step (t : Fin cfg0.N) (h0 : ¬ t.val % 16 = 0) (j : S1x1024.Idx) :
    (outsAt0 m c t.val t.isLt).2.1 j
      = (outsAt0 m c (t.val - 1) (Nat.lt_of_le_of_lt (Nat.sub_le _ _) t.isLt)).2.1 j + dgAt m c t j := by
  by_cases h1 : t.val % 16 = 15
  · rw [outsAt0_C m c t h0 h1]; frame_out
    exact addTo (dgAt m c t) _ j
  · rw [outsAt0_B m c t h0 h1]; frame_out
    exact addTo (dgAt m c t) _ j

/-! ## The weights' gradient: a running sum in three ranges of rows -/

/-- What a point adds to the weights' gradient. -/
def dwAt (t : Fin cfg0.N) : FVec Ideal S2560x1024 .f32 :=
  gains (iblk m c 0 t) (iblk m c 3 t) (kvAt m c t) (k0_pay10 (iblk m c 6 t) (iblk m c 4 t))

/-- The point's three stores onto what the ranges held leave the old sum and the point's part. -/
theorem stores_step (t : Fin cfg0.N) (Z : FVec Ideal S2560x1024 .f32) (q0 q2 : FVec Ideal S1024x1024 .f32)
    (q1 : FVec Ideal S512x1024 .f32) (L : List (View.Piece (Elt Ideal) S2560x1024 .f32)) (i0 i1 i2)
    (h0 : ∀ k j : Fin 1024, q0 (ix2 k j) = Z (ix2 ⟨k.val, by omega⟩ j))
    (h1 : ∀ (k : Fin 512) (j : Fin 1024), q1 (ix2 k j) = Z (ix2 ⟨1024 + k.val, by omega⟩ j))
    (h2 : ∀ k j : Fin 1024, q2 (ix2 k j) = Z (ix2 ⟨1536 + k.val, by omega⟩ j)) :
    View.canon (Val := Elt Ideal) (s := S2560x1024) (e := .f32)
      (⟨Rect.unit ![1536, 0] ![1024, 1024] i2, k0_pay14 (k0_pay10 (iblk m c 6 t) (iblk m c 4 t)) (iblk m c 3 t) q2⟩
        :: ⟨Rect.unit ![1024, 0] ![512, 1024] i1, k0_pay13 (kvAt m c t) (k0_pay10 (iblk m c 6 t) (iblk m c 4 t)) q1⟩
        :: ⟨Rect.unit ![0, 0] ![1024, 1024] i0, k0_pay12 q0 (k0_pay11 (iblk m c 6 t) (iblk m c 4 t) (iblk m c 0 t))⟩ :: L)
      = fun y => Z y + dwAt m c t y :=
  ranges_step _ _ _ _ Z _ _ _ L i0 i1 i2
    (fun k j => (query_apply _ _ _ q0 k j).trans (congrArg (· + _) (h0 k j)))
    (fun k j => (key_apply _ _ q1 k j).trans (congrArg (· + _) (h1 k j)))
    (fun k j => (gate_apply _ _ q2 k j).trans (congrArg (· + _) (h2 k j)))

/-- What the buffer of the running sum held before a point. -/
def before (t : Fin cfg0.N) : FVec Ideal S2560x1024 .f32 :=
  (outsAt0 m c (t.val - 1) (Nat.lt_of_le_of_lt (Nat.sub_le _ _) t.isLt)).2.2.2

theorem outs_dw_step (t : Fin cfg0.N) (h0 : ¬ t.val % 16 = 0) :
    (outsAt0 m c t.val t.isLt).2.2.2 = fun y => before m c t y + dwAt m c t y := by
  by_cases h1 : t.val % 16 = 15
  · rw [outsAt0_C m c t h0 h1]
    funext j
    frame_out
    refine congrFun (stores_step m c t (before m c t) _ _ _ _ _ _ _ ?_ ?_ ?_) j
    all_goals (intro k j; rw [read_unread_whole])
    · exact ld_rows _ 0 _ k j _ (by simp)
    · exact ld_rows _ 1024 _ k j _ rfl
    · exact ld_rows _ 1536 _ k j _ rfl
  · rw [outsAt0_B m c t h0 h1]
    funext j
    frame_out
    refine congrFun (stores_step m c t (before m c t) _ _ _ _ _ _ _ ?_ ?_ ?_) j
    all_goals (intro k j; rw [read_unread_whole])
    · exact ld_rows _ 0 _ k j _ (by simp)
    · exact ld_rows _ 1024 _ k j _ rfl
    · exact ld_rows _ 1536 _ k j _ rfl

theorem zero_off : ∀ k : Fin 2, (![0, 0] : Fin 2 → ℕ) k = 0 := by decide

theorem outs_dw_reset (t : Fin cfg0.N) (h0 : t.val % 16 = 0) :
    (outsAt0 m c t.val t.isLt).2.2.2 = fun y => 0 + dwAt m c t y := by
  rw [outsAt0_A m c t h0 (by omega)]
  funext j
  frame_out
  refine (congrFun (stores_step m c t k0_pay4 _ _ _ _ _ _ _ ?_ ?_ ?_) j).trans ?_
  · intro k j
    rw [View.readCov_fill _ _ _ _ _ zero_off]
    exact ld_rows _ 0 _ k j _ (by simp)
  · intro k j
    rw [View.readCov_skip _ _ _ _ _ (by decide), View.readCov_fill _ _ _ _ _ zero_off]
    exact ld_rows _ 1024 _ k j _ rfl
  · intro k j
    rw [View.readCov_skip _ _ _ _ _ (by decide), View.readCov_skip _ _ _ _ _ (by decide),
      View.readCov_fill _ _ _ _ _ zero_off]
    exact ld_rows _ 1536 _ k j _ rfl
  · exact congrArg (· + _) (by pointwise [k0_pay4])

/-- A buffer read whole and rounded. -/
theorem rounded (L : List (View.Piece (Elt Ideal) S2560x1024 .f32)) (h) (y : S2560x1024.Idx) :
    k0_pay3 (F := Ideal) ((View.whole cc0_scratch0).readCov L
      (Rect.unit (s := S2560x1024) ![0, 0] ![2560, 1024] h).toLoadRect) y = View.canon (Val := Elt Ideal) L y := by
  rw [View.readCov_eq_canon']
  refine Eq.trans (b := View.canon (Val := Elt Ideal) L
    ((Rect.unit (s := S2560x1024) ![0, 0] ![2560, 1024] h).idx y)) ?_ (congrArg _ ?_)
  · pointwise [k0_pay3]
  · refine funext fun k => Fin.ext ((Rect.idx_unit_val _ _ _ _ _).trans ?_)
    fin_cases k <;> simp

theorem outs_dw_last (t : Fin cfg0.N) (h1 : t.val % 16 = 15) (y : S2560x1024.Idx) :
    (outsAt0 m c t.val t.isLt).2.2.1 y = (outsAt0 m c t.val t.isLt).2.2.2 y := by
  rw [outsAt0_C m c t (by omega) h1]
  frame_out
  exact rounded _ _ y

end Cert.AttnIdeal.Block

end
-- ==== Proof.AArr.lean ====
/-
  The full kernel's three results after the run, as arrays.
-/
module

public import proofs.«01_k».proof.Proof.AOut
public import Idealize.ShloMosaic.Lib.Claim

@[expose] public section

set_option maxRecDepth 16384

noncomputable section

namespace Cert.AttnIdeal.Block

open Idealize.ShloMosaic Idealize.ShloMosaic.TcCoe Idealize.SL.Sem Cert.AttnIdeal Cert.AttnIdeal.Gen Pool AttnIn
open Idealize.ShloMosaic.Pipeline (Dat)

variable (m : (ℓ : Loc nD τ sig) → Buf (Elt Ideal) ℓ) (c : Dev nD)

/-- The blocks each window reads and writes at a point. -/
theorem idx : ∀ t : Fin cfg0.N, win0_0.index t = ![0, t.val] ∧ win0_1.index t = ![t.val, 0]
    ∧ win0_2.index t = ![min (t.val + 1) 15, 0, 0] ∧ win0_3.index t = ![0, t.val] ∧ win0_4.index t = ![t.val, 0]
    ∧ win0_5.index t = ![t.val, 0] ∧ win0_6.index t = ![0, 0] ∧ win0_7.index t = ![0, 0]
    ∧ win0_8.index t = ![t.val, 0] ∧ win0_9.index t = ![0, 0] ∧ win0_10.index t = ![0, 0]
    ∧ (grid0.coords t 0).val = t.val ∧ t.val < 16 :=
  (by decide +kernel : ∀ t : Fin grid0.N, _)

/-- The point's number is its grid coordinate. -/
theorem coord (t : Fin cfg0.N) : (grid0.coords t 0).val = t.val := (idx t).2.2.2.2.2.2.2.2.2.2.2.1

/-- There are sixteen points. -/
theorem lt16 (t : Fin cfg0.N) : t.val < 16 := (idx t).2.2.2.2.2.2.2.2.2.2.2.2

/-- The call's arguments on a device. -/
abbrev aDq : FVec Ideal S1024x8192 .bf16 := m ((c : Thread nD τ).loc main_arg0)
abbrev aDkv : FVec Ideal S8192x512 .f32 := m ((c : Thread nD τ).loc main_arg1)
abbrev aHalo : FVec Ideal S16x128x512 .f32 := m ((c : Thread nD τ).loc main_arg2)
abbrev aDz : FVec Ideal S1024x8192 .bf16 := m ((c : Thread nD τ).loc main_arg3)
abbrev aX : FVec Ideal S8192x1024 .f32 := m ((c : Thread nD τ).loc main_arg4)
abbrev aDy : FVec Ideal S8192x1024 .f32 := m ((c : Thread nD τ).loc main_arg5)
abbrev aG : FVec Ideal S1024 .f32 := m ((c : Thread nD τ).loc main_arg6)
abbrev aW : FVec Ideal S1024x2560 .f32 := m ((c : Thread nD τ).loc main_arg7)

/-- The weights transposed, as the call receives them. -/
theorem transposed (w : FVec Ideal S1024x2560 .f32) (k : Fin 2560) (j : Fin 1024) :
    truncf .bf16 (transpose S2560x1024 [1, 0] w transposes_S1024x2560_S2560x1024_1_0) bitsLt_bf16_f32 (ix2 k j)
      = w (ix2 j k) := by
  pointwise

/-- What the call finds at a point is the arrays' rows there. -/
theorem blocks (t : Fin cfg0.N) : Blocks (aDq m c) (aDkv m c) (aHalo m c) (aDz m c) (aX m c) (aDy m c) (aG m c) (aW m c)
    (iblk m c 0 t) (iblk m c 1 t) (iblk m c 2 t) (iblk m c 3 t) (iblk m c 4 t) (iblk m c 5 t) (iblk m c 6 t)
    (iblk m c 7 t) t.val where
  lt := lt16 t
  query := fun k r => by blk_point [iblk, V, idx t]
  own := fun r k => by blk_point [iblk, V, idx t]
  next := fun r k => by blk_point [iblk, V, idx t]
  gate := fun k r => by blk_point [iblk, V, idx t]
  input := fun r j => by blk_point [iblk, V, idx t]
  skip := fun r j => by blk_point [iblk, V, idx t]
  gain := fun j => by
    blk_simp [iblk]
    entry_read
    have e : ((View.whole main_v0).slice (win0_6.rect t)).emb (ix2 0 j) = (ix2 0 j : S1x1024.Idx) := by
      blk_ext [idx t]
    rw [e]
    exact (by pointwise : broadcastInDim S1x1024 ![1] bcast_S1024_S1x1024_1 (aG m c) (ix2 0 j) = aG m c (ix1 j))
  weights := fun k j => by
    blk_simp [iblk]
    entry_read
    have e : ((View.whole main_v2).slice (win0_7.rect t)).emb (ix2 k j) = (ix2 k j : S2560x1024.Idx) := by
      blk_ext [idx t]
    rw [e]
    exact transposed (aW m c) k j

/-! ## A point's values over the arrays -/

theorem kvAt_apply (t : Fin cfg0.N) (r k : Fin 512) :
    kvAt m c t (ix2 r k) = keys (aDkv m c) (aHalo m c) ⟨512 * t.val + r.val, (blocks m c t).row_lt r⟩ k :=
  (kv_apply _ _ _ t.val (coord t) (lt16 t) r k).trans ((blocks m c t).keys_apply r k)

theorem inverse_at (t : Fin cfg0.N) (r : Fin 512) : k0_pay8 (F := Ideal) (iblk m c 4 t) (ix2 r 0)
    = inverse (aX m c) ⟨512 * t.val + r.val, (blocks m c t).row_lt r⟩ :=
  (rstd_apply _ r).trans ((blocks m c t).inverse_apply r)

theorem normed_at (t : Fin cfg0.N) (r : Fin 512) (j : Fin 1024) : k0_pay9 (F := Ideal) (iblk m c 4 t) (ix2 r j)
    = normed (aX m c) ⟨512 * t.val + r.val, (blocks m c t).row_lt r⟩ j :=
  (norm_apply _ r j).trans (congrArg₂ _ ((blocks m c t).input r j) (inverse_at m c t r))

theorem hidden_at (t : Fin cfg0.N) (r : Fin 512) (j : Fin 1024) :
    k0_pay10 (F := Ideal) (iblk m c 6 t) (iblk m c 4 t) (ix2 r j)
      = normed (aX m c) ⟨512 * t.val + r.val, (blocks m c t).row_lt r⟩ j * aG m c (ix1 j) :=
  (hidden_apply _ _ r j).trans (congrArg₂ _ (congrArg₂ _ ((blocks m c t).input r j) (inverse_at m c t r))
    ((blocks m c t).gain j))

theorem gain_at (t : Fin cfg0.N) (j : Fin 1024) : k0_pay7 (F := Ideal) (iblk m c 6 t) (ix2 0 j) = aG m c (ix1 j) :=
  (gain_apply _ j).trans ((blocks m c t).gain j)

/-- The gradient of the normed rows of a point. -/
theorem dh_at (t : Fin cfg0.N) (r : Fin 512) (j : Fin 1024) :
    k0_pay15 (kvAt m c t) (iblk m c 0 t) (iblk m c 3 t) (wq (iblk m c 7 t)) (wz (iblk m c 7 t)) (wk (iblk m c 7 t)) (ix2 r j)
      = dhidden (aDq m c) (aDkv m c) (aHalo m c) (aDz m c) (aW m c) ⟨512 * t.val + r.val, (blocks m c t).row_lt r⟩ j := by
  refine (dh_pay _ _ _ _ _ _ r j).trans (Eq.trans ?_
    ((blocks m c t).dh_apply (fun r k => kvAt m c t (ix2 r k)) (kvAt_apply m c t) r j))
  refine congrArg₂ _ (congrArg₂ _ ?_ ?_) ?_ <;> refine Finset.sum_congr rfl fun k _ => congrArg (HMul.hMul _) ?_
  · exact ld_rows _ 0 _ k j _ (by simp)
  · exact ld_rows _ 1536 _ k j _ rfl
  · exact ld_rows _ 1024 _ k j _ rfl

/-- A point's part of the gain's gradient. -/
theorem dgAt_apply (t : Fin cfg0.N) (j : Fin 1024) :
    dgAt m c t (ix2 0 j) = ∑ r : Fin 512,
      dhidden (aDq m c) (aDkv m c) (aHalo m c) (aDz m c) (aW m c) ⟨512 * t.val + r.val, (blocks m c t).row_lt r⟩ j
        * normed (aX m c) ⟨512 * t.val + r.val, (blocks m c t).row_lt r⟩ j :=
  (dg_pay _ _ _ _ _ _ _ j).trans (Finset.sum_congr rfl fun r _ => congrArg₂ _ (dh_at m c t r j) (normed_at m c t r j))

/-- A point's part of the weights' gradient. -/
theorem dwAt_apply (t : Fin cfg0.N) (k : Fin 2560) (j : Fin 1024) :
    dwAt m c t (ix2 k j) = ∑ r : Fin 512,
      dcat (aDq m c) (aDkv m c) (aHalo m c) (aDz m c) ⟨512 * t.val + r.val, (blocks m c t).row_lt r⟩ k
        * (normed (aX m c) ⟨512 * t.val + r.val, (blocks m c t).row_lt r⟩ j * aG m c (ix1 j)) :=
  (blocks m c t).gains_apply _ _ (kvAt_apply m c t) (hidden_at m c t) k j

/-- A point's tile of the input's gradient. -/
theorem dxAt_apply (t : Fin cfg0.N) (r : Fin 512) (j : Fin 1024) :
    dxAt m c t (ix2 r j) = dinput (aDq m c) (aDkv m c) (aHalo m c) (aDz m c) (aX m c) (aDy m c) (aG m c) (aW m c)
      ⟨512 * t.val + r.val, (blocks m c t).row_lt r⟩ j := by
  refine (dx_pay _ _ _ _ _ _ _ _ _ _ r j).trans ?_
  exact input_apply _ j _ (fun k => k0_pay15 (kvAt m c t) (iblk m c 0 t) (iblk m c 3 t) (wq (iblk m c 7 t))
      (wz (iblk m c 7 t)) (wk (iblk m c 7 t)) (ix2 r k)) (fun k => k0_pay9 (iblk m c 4 t) (ix2 r k))
    (fun k => k0_pay7 (iblk m c 6 t) (ix2 0 k)) _ _ (inverse_at m c t r) (dh_at m c t r) (normed_at m c t r)
    (gain_at m c t) ((blocks m c t).skip r j)

/-! ## The results -/

/-- The first result is the input's gradient. -/
theorem final_dx : (dats m 0 c).arrAt 8 (cfgs 0).N
    = fun y : S8192x1024.Idx => dinput (aDq m c) (aDkv m c) (aHalo m c) (aDz m c) (aX m c) (aDy m c) (aG m c) (aW m c)
        (y 0) (y 1) := by
  refine (dats m 0 c).arrAt_eq_of_covers 8 _ (by decide +kernel) fun t _ y => ?_
  blk_simp
  rw [after0_8, outs_dx]
  obtain ⟨r, j, rfl⟩ := at2 y
  refine (dxAt_apply m c t r j).trans ?_
  refine congrArg₂ _ (Fin.ext ?_) (Fin.ext ?_)
  · blk_simp [idx t]
    show 512 * t.val + r.val = t.val * 512 + r.val
    omega
  · blk_simp [idx t]

/-- The second result is the gain's gradient. -/
theorem final_dg : (dats m 0 c).arrAt 9 (cfgs 0).N
    = fun y : S1x1024.Idx => dgain (aDq m c) (aDkv m c) (aHalo m c) (aDz m c) (aX m c) (aW m c) (y 1) := by
  refine (dats m 0 c).arrAt_eq_of_covers 9 _ (by decide +kernel) fun t hf y => ?_
  blk_simp
  rw [after0_9]
  have h15 : t.val % 16 = 15 := (flush0_9 t).mp hf
  have hq : t.val / 16 = 0 := Nat.div_eq_of_lt (lt16 t)
  obtain ⟨u, j, rfl⟩ := at2 y
  obtain rfl : u = 0 := Subsingleton.elim _ _
  refine (Pipeline.eq_sum_fin_of_reset_step_apply_of_flush (fun n h => (outsAt0 m c n h).2.1) 16 (fun _ => 0) (dgAt m c)
    (outs_dg_reset m c) (outs_dg_step m c) t h15 (ix2 0 j)).trans ?_
  refine (congrArg (0 + ·) (Finset.sum_congr rfl fun s _ => dgAt_apply m c _ j)).trans ?_
  refine (sum_points (fun u => dhidden (aDq m c) (aDkv m c) (aHalo m c) (aDz m c) (aW m c) u j * normed (aX m c) u j)
    _ hq _).trans ?_
  refine congrArg (dgain _ _ _ _ _ _) (Fin.ext ?_)
  blk_simp [idx t]

/-- The third result is the weights' gradient, transposed as the call holds it. -/
theorem final_dw : (dats m 0 c).arrAt 10 (cfgs 0).N
    = fun y : S2560x1024.Idx => dweight (aDq m c) (aDkv m c) (aHalo m c) (aDz m c) (aX m c) (aG m c) (y 0) (y 1) := by
  refine (dats m 0 c).arrAt_eq_of_covers 10 _ (by decide +kernel) fun t hf y => ?_
  blk_simp
  rw [after0_10]
  have h15 : t.val % 16 = 15 := (flush0_10 t).mp hf
  have hq : t.val / 16 = 0 := Nat.div_eq_of_lt (lt16 t)
  obtain ⟨k, j, rfl⟩ := at2 y
  refine (outs_dw_last m c t h15 (ix2 k j)).trans ?_
  refine (Pipeline.eq_sum_fin_of_reset_step_apply_of_flush (fun n h => (outsAt0 m c n h).2.2.2) 16 (fun _ => 0) (dwAt m c)
    (fun t h y => congrFun (outs_dw_reset m c t h) y) (fun t h y => congrFun (outs_dw_step m c t h) y) t h15
    (ix2 k j)).trans ?_
  refine (congrArg (0 + ·) (Finset.sum_congr rfl fun s _ => dwAt_apply m c _ k j)).trans ?_
  refine (sum_points (fun u => dcat (aDq m c) (aDkv m c) (aHalo m c) (aDz m c) u k * (normed (aX m c) u j * aG m c (ix1 j)))
    _ hq _).trans ?_
  refine congrArg₂ (dweight _ _ _ _ _ _) (Fin.ext ?_) (Fin.ext ?_)
  · blk_simp [idx t]
  · blk_simp [idx t]

end Cert.AttnIdeal.Block

end
-- ==== Proof.AEquation.lean ====
/-
  The full attention kernel and its reference leave the same results from arguments that agree.
-/
module

public import proofs.«01_k».proof.Proof.ARef
public import proofs.«01_k».proof.Proof.AArr
public import proofs.«01_k».proof.Proof.Gen.AttnReferenceIdeal.Run
public import proofs.«01_k».proof.Proof.Gen.AttnReferenceIdeal.Read
public import proofs.«01_k».proof.Proof.Gen.AttnIdeal
public import proofs.«01_k».proof.Proof.Gen.AttnIdeal.Frame
public import proofs.«01_k».proof.Defs
public import Idealize.ShloMosaic.Lib.Claim

@[expose] public section

set_option maxRecDepth 16384

noncomputable section

namespace Cert.AttnEquation

open Idealize.ShloMosaic Idealize.SL.Sem

set_option maxHeartbeats 1600000 in
/-- The kernel's results are the reference's. -/
theorem algebraic : Cert.algebraic_AttnIdeal_AttnReferenceIdeal := by
  pair_intro
  · run_from Cert.AttnIdeal.Gen.run_main m g
  · run_from Cert.AttnReferenceIdeal.Value.run m' g'
    · obtain ⟨h0, h1, h2, h3, h4, h5, h6, h7⟩ := hagree c
      rw [Cert.AttnIdeal.Block.final_dx m c]
      refine (Cert.AttnReferenceIdeal.Read.val_main_v55_eq (F := Ideal) m' c).trans ?_
      rw [h0, h1, h2, h3, h4, h5, h6, h7]
      funext y
      obtain ⟨r, j, rfl⟩ := AttnIn.at2 y
      exact Cert.AttnReferenceIdeal.Block.out_dx _ _ _ _ _ _ _ _ r j
    · rw [Cert.AttnIdeal.Block.final_dg m c]
      refine (Cert.AttnReferenceIdeal.Read.val_main_v56_eq (F := Ideal) _ _ _ _ _ _).trans ?_
      funext y
      obtain ⟨i, j, rfl⟩ := AttnIn.at2 y
      exact Cert.AttnReferenceIdeal.Block.out_dg _ _ _ _ _ _ i j
    · rw [Cert.AttnIdeal.Block.final_dw m c]
      refine (Cert.AttnReferenceIdeal.Read.val_main_v58_eq (F := Ideal) _ _ _ _ _ _).trans ?_
      funext y
      obtain ⟨k, j, rfl⟩ := AttnIn.at2 y
      exact Cert.AttnReferenceIdeal.Block.out_dw _ _ _ _ _ _ k j

end Cert.AttnEquation

end
-- ==== Proof.AttnInputsFrame.lean ====
module

public import proofs.«01_k».proof.Defs
public import proofs.«01_k».proof.Proof.Gen.AttnInputsReferenceIdeal
public import proofs.«01_k».proof.Proof.Gen.AttnInputsReferenceIdeal.Run
public import Idealize.ShloMosaic.Lib.Claim
public import Idealize.ShloMosaic.Lib.Quiescent

@[expose] public section

noncomputable section

open Idealize.ShloMosaic Idealize.SL.Sem

namespace Cert.AttnInputsReferenceIdeal.Framed

/-- The reference leaves its arguments alone, and as it declares no semaphore every counter is zero at its end. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono
    (fun _ h => ⟨fun c => (h c).2.2, sem_eq_zero_of_no_sems rfl _⟩)
    (Cert.AttnInputsReferenceIdeal.Value.run m g)

end Cert.AttnInputsReferenceIdeal.Framed

end
-- ==== Proof.IPart.lean ====
/-
  One grid point of the attention kernel that makes the input's and the gain's gradients: what each value holds.
-/
module

public import proofs.«01_k».proof.Proof.Gen.AttnInputsIdeal.Skeleton
public import proofs.«01_k».proof.Proof.ARows

@[expose] public section

set_option maxRecDepth 16384

noncomputable section

namespace Cert.AttnInputsIdeal.Block

open Idealize.ShloMosaic Idealize.ShloMosaic.TcCoe Idealize.SL.Sem Cert.AttnInputsIdeal Cert.AttnInputsIdeal.Gen Pool AttnIn
open Idealize.ShloMosaic.Pipeline (Dat)

/-- The gradient of the keys and values: the tile's own rows and the tail. -/
theorem kv_apply (i : grid0.Coords) (x2 : FVec Ideal S1x128x512 .f32) (x1 : FVec Ideal S512x512 .f32) (t : ℕ)
    (hi : (i 0).val = t) (ht : t < 16) (r k : Fin 512) :
    k0_pay5 (F := Ideal) i x2 x1 (ix2 r k) = x1 (ix2 r k) + tail x2 t r k := by
  subst hi
  unfold tail
  rw [← more (i 0).val ht]
  pointwise [k0_pay5]
  rfl

/-- One over the root of a row's mean square. -/
theorem rstd_apply (x : FVec Ideal S512x1024 .f32) (r : Fin 512) :
    k0_pay7 (F := Ideal) x (ix2 r 0) = rstd eps (fun k => x (ix2 r k)) := by
  pointwise [k0_pay7]
  rw [ofBits_1024, ofBits_eps]
  rfl

/-- The normed rows. -/
theorem norm_apply (x : FVec Ideal S512x1024 .f32) (r : Fin 512) (j : Fin 1024) :
    k0_pay8 (F := Ideal) x (ix2 r j) = x (ix2 r j) * k0_pay7 (F := Ideal) x (ix2 r 0) := by
  pointwise [k0_pay8]

/-- The gain as the point holds it. -/
theorem gain_apply (g : FVec Ideal S1x1024 .f32) (j : Fin 1024) : k0_pay6 (F := Ideal) g (ix2 0 j) = g (ix2 0 j) := by
  pointwise [k0_pay6]

/-- The gradient of the normed rows: the three products. -/
theorem dh_pay (kv : FVec Ideal S512x512 .bf16) (q z : FVec Ideal S1024x512 .bf16) (wq wz : FVec Ideal S1024x1024 .bf16)
    (wk : FVec Ideal S512x1024 .bf16) (r : Fin 512) (j : Fin 1024) :
    k0_pay1 kv z (k0_pay9 q wq) wz wk (ix2 r j) = (∑ k : Fin 1024, q (ix2 k r) * wq (ix2 k j))
      + (∑ k : Fin 1024, z (ix2 k r) * wz (ix2 k j)) + ∑ k : Fin 512, kv (ix2 r k) * wk (ix2 k j) := by
  pointwise [k0_pay1, k0_pay9]

/-- The gain's gradient with the point's part. -/
theorem dg_pay (kv : FVec Ideal S512x512 .bf16) (z : FVec Ideal S1024x512 .bf16) (wz : FVec Ideal S1024x1024 .bf16)
    (wk : FVec Ideal S512x1024 .bf16) (n a : FVec Ideal S512x1024 .f32) (p : FVec Ideal S1x1024 .f32) (j : Fin 1024) :
    k0_pay3 kv n z a wz wk p (ix2 0 j)
      = p (ix2 0 j) + ∑ r : Fin 512, k0_pay1 kv z a wz wk (ix2 r j) * n (ix2 r j) := by
  unfold k0_pay3
  generalize k0_pay1 kv z a wz wk = h
  pointwise

/-- The point's tile of the input's gradient. -/
theorem dx_pay (kv : FVec Ideal S512x512 .bf16) (z : FVec Ideal S1024x512 .bf16) (wz : FVec Ideal S1024x1024 .bf16)
    (wk : FVec Ideal S512x1024 .bf16) (g : FVec Ideal S1x1024 .f32) (s : FVec Ideal S512x1 .f32)
    (n a dy : FVec Ideal S512x1024 .f32) (r : Fin 512) (j : Fin 1024) :
    k0_pay2 kv g s n z a wz wk dy (ix2 r j)
      = s (ix2 r 0) * (k0_pay1 kv z a wz wk (ix2 r j) * g (ix2 0 j) - n (ix2 r j)
          * Ideal.div (∑ k : Fin 1024, k0_pay1 kv z a wz wk (ix2 r k) * g (ix2 0 k) * n (ix2 r k)) ((1024 : ℝ) : EReal))
        + dy (ix2 r j) := by
  unfold k0_pay2
  generalize k0_pay1 kv z a wz wk = h
  pointwise
  rw [ofBits_1024]

end Cert.AttnInputsIdeal.Block

end
-- ==== Proof.IOut.lean ====
/-
  What that kernel's buffers hold after each grid point: the tile of the input's gradient and the gain's running sum.
-/
module

public import proofs.«01_k».proof.Proof.IPart
public import proofs.«01_k».proof.Proof.Gen.AttnInputsIdeal.Frame

@[expose] public section

set_option maxRecDepth 16384

noncomputable section

namespace Cert.AttnInputsIdeal.Block

open Idealize.ShloMosaic Idealize.ShloMosaic.TcCoe Idealize.SL.Sem Cert.AttnInputsIdeal Cert.AttnInputsIdeal.Gen Pool AttnIn
open Idealize.ShloMosaic.Pipeline (Dat)

variable (m : (ℓ : Loc nD τ sig) → Buf (Elt Ideal) ℓ) (c : Dev nD)

/-- The gradient of the keys and values of a point's rows. -/
def kvAt (t : Fin cfg0.N) : FVec Ideal S512x512 .bf16 :=
  k0_pay5 (grid0.coords t) (iblk m c 2 t) (iblk m c 1 t)

/-- The weights of the queries' columns. -/
def wq (x7 : FVec Ideal S2560x1024 .bf16) : FVec Ideal S1024x1024 .bf16 :=
  View.ld (Val := Elt Ideal) (e' := .bf16) x7 (Rect.unit ![0, 0] ![1024, 1024] inb_S2560x1024_S1024x1024_0_0)

/-- The weights of the gate's columns. -/
def wz (x7 : FVec Ideal S2560x1024 .bf16) : FVec Ideal S1024x1024 .bf16 :=
  View.ld (Val := Elt Ideal) (e' := .bf16) x7 (Rect.unit ![1536, 0] ![1024, 1024] inb_S2560x1024_S1024x1024_1536_0)

/-- The weights of the keys' and values' columns. -/
def wk (x7 : FVec Ideal S2560x1024 .bf16) : FVec Ideal S512x1024 .bf16 :=
  View.ld (Val := Elt Ideal) (e' := .bf16) x7 (Rect.unit ![1024, 0] ![512, 1024] inb_S2560x1024_S512x1024_1024_0)

/-- The gradient of a point's normed rows. -/
def dhAt (t : Fin cfg0.N) : FVec Ideal S512x1024 .f32 :=
  k0_pay1 (kvAt m c t) (iblk m c 3 t) (k0_pay9 (iblk m c 0 t) (wq (iblk m c 7 t))) (wz (iblk m c 7 t)) (wk (iblk m c 7 t))

/-- The tile of the input's gradient that a point writes. -/
def dxAt (t : Fin cfg0.N) : FVec Ideal S512x1024 .f32 :=
  k0_pay2 (kvAt m c t) (k0_pay6 (iblk m c 6 t)) (k0_pay7 (iblk m c 4 t)) (k0_pay8 (iblk m c 4 t)) (iblk m c 3 t)
    (k0_pay9 (iblk m c 0 t) (wq (iblk m c 7 t))) (wz (iblk m c 7 t)) (wk (iblk m c 7 t)) (iblk m c 5 t)

/-- The gain's gradient after a point that found `p`. -/
def dgOnto (t : Fin cfg0.N) (p : FVec Ideal S1x1024 .f32) : FVec Ideal S1x1024 .f32 :=
  k0_pay3 (kvAt m c t) (k0_pay8 (iblk m c 4 t)) (iblk m c 3 t) (k0_pay9 (iblk m c 0 t) (wq (iblk m c 7 t)))
    (wz (iblk m c 7 t)) (wk (iblk m c 7 t)) p

/-- What a point adds to the gain's gradient. -/
def dgAt (t : Fin cfg0.N) : FVec Ideal S1x1024 .f32 := fun j =>
  ∑ r : Fin 512, dhAt m c t (ix2 r (j 1)) * k0_pay8 (F := Ideal) (iblk m c 4 t) (ix2 r (j 1))

theorem dgOnto_apply (t : Fin cfg0.N) (p : FVec Ideal S1x1024 .f32) (j : S1x1024.Idx) :
    dgOnto m c t p j = p j + dgAt m c t j := by
  obtain ⟨u, j, rfl⟩ := at2 j
  obtain rfl : u = 0 := Subsingleton.elim _ _
  exact dg_pay _ _ _ _ _ _ p j

theorem outs_dx (t : Fin cfg0.N) : (outsAt0 m c t.val t.isLt).1 = dxAt m c t := by
  by_cases h0 : t.val % 16 = 0
  · rw [outsAt0_A m c t h0]; frame_out; rfl
  · rw [outsAt0_B m c t h0]; frame_out; rfl

theorem outs_dg_reset (t : Fin cfg0.N) (h0 : t.val % 16 = 0) (j : S1x1024.Idx) :
    (outsAt0 m c t.val t.isLt).2 j = 0 + dgAt m c t j := by
  rw [outsAt0_A m c t h0]; frame_out
  refine (dgOnto_apply m c t _ j).trans ?_
  refine congrArg (· + _) ?_
  pointwise [k0_pay4]

theorem outs_dg_step (t : Fin cfg0.N) (h0 : ¬ t.val % 16 = 0) (j : S1x1024.Idx) :
    (outsAt0 m c t.val t.isLt).2 j
      = (outsAt0 m c (t.val - 1) (Nat.lt_of_le_of_lt (Nat.sub_le _ _) t.isLt)).2 j + dgAt m c t j := by
  rw [outsAt0_B m c t h0]; frame_out
  exact dgOnto_apply m c t _ j

end Cert.AttnInputsIdeal.Block

end
-- ==== Proof.IArr.lean ====
/-
  That kernel's two results after the run, as arrays.
-/
module

public import proofs.«01_k».proof.Proof.IOut
public import Idealize.ShloMosaic.Lib.Claim

@[expose] public section

set_option maxRecDepth 16384

noncomputable section

namespace Cert.AttnInputsIdeal.Block

open Idealize.ShloMosaic Idealize.ShloMosaic.TcCoe Idealize.SL.Sem Cert.AttnInputsIdeal Cert.AttnInputsIdeal.Gen Pool AttnIn
open Idealize.ShloMosaic.Pipeline (Dat)

variable (m : (ℓ : Loc nD τ sig) → Buf (Elt Ideal) ℓ) (c : Dev nD)

/-- The blocks each window reads and writes at a point. -/
theorem idx : ∀ t : Fin cfg0.N, win0_0.index t = ![0, t.val] ∧ win0_1.index t = ![t.val, 0]
    ∧ win0_2.index t = ![min (t.val + 1) 15, 0, 0] ∧ win0_3.index t = ![0, t.val] ∧ win0_4.index t = ![t.val, 0]
    ∧ win0_5.index t = ![t.val, 0] ∧ win0_6.index t = ![0, 0] ∧ win0_7.index t = ![0, 0]
    ∧ win0_8.index t = ![t.val, 0] ∧ win0_9.index t = ![0, 0]
    ∧ (grid0.coords t 0).val = t.val ∧ t.val < 16 :=
  (by decide +kernel : ∀ t : Fin grid0.N, _)

/-- The point's number is its grid coordinate. -/
theorem coord (t : Fin cfg0.N) : (grid0.coords t 0).val = t.val := (idx t).2.2.2.2.2.2.2.2.2.2.1

/-- There are sixteen points. -/
theorem lt16 (t : Fin cfg0.N) : t.val < 16 := (idx t).2.2.2.2.2.2.2.2.2.2.2

/-- The call's arguments on a device. -/
abbrev aDq : FVec Ideal S1024x8192 .bf16 := m ((c : Thread nD τ).loc main_arg0)
abbrev aDkv : FVec Ideal S8192x512 .f32 := m ((c : Thread nD τ).loc main_arg1)
abbrev aHalo : FVec Ideal S16x128x512 .f32 := m ((c : Thread nD τ).loc main_arg2)
abbrev aDz : FVec Ideal S1024x8192 .bf16 := m ((c : Thread nD τ).loc main_arg3)
abbrev aX : FVec Ideal S8192x1024 .f32 := m ((c : Thread nD τ).loc main_arg4)
abbrev aDy : FVec Ideal S8192x1024 .f32 := m ((c : Thread nD τ).loc main_arg5)
abbrev aG : FVec Ideal S1024 .f32 := m ((c : Thread nD τ).loc main_arg6)
abbrev aW : FVec Ideal S1024x2560 .f32 := m ((c : Thread nD τ).loc main_arg7)

/-- The weights transposed, as the call receives them. -/
theorem transposed (w : FVec Ideal S1024x2560 .f32) (k : Fin 2560) (j : Fin 1024) :
    truncf .bf16 (transpose S2560x1024 [1, 0] w transposes_S1024x2560_S2560x1024_1_0) bitsLt_bf16_f32 (ix2 k j)
      = w (ix2 j k) := by
  pointwise

/-- What the call finds at a point is the arrays' rows there. -/
theorem blocks (t : Fin cfg0.N) : Blocks (aDq m c) (aDkv m c) (aHalo m c) (aDz m c) (aX m c) (aDy m c) (aG m c) (aW m c)
    (iblk m c 0 t) (iblk m c 1 t) (iblk m c 2 t) (iblk m c 3 t) (iblk m c 4 t) (iblk m c 5 t) (iblk m c 6 t)
    (iblk m c 7 t) t.val where
  lt := lt16 t
  query := fun k r => by blk_point [iblk, V, idx t]
  own := fun r k => by blk_point [iblk, V, idx t]
  next := fun r k => by blk_point [iblk, V, idx t]
  gate := fun k r => by blk_point [iblk, V, idx t]
  input := fun r j => by blk_point [iblk, V, idx t]
  skip := fun r j => by blk_point [iblk, V, idx t]
  gain := fun j => by
    blk_simp [iblk]
    entry_read
    have e : ((View.whole main_v0).slice (win0_6.rect t)).emb (ix2 0 j) = (ix2 0 j : S1x1024.Idx) := by
      blk_ext [idx t]
    rw [e]
    exact (by pointwise : broadcastInDim S1x1024 ![1] bcast_S1024_S1x1024_1 (aG m c) (ix2 0 j) = aG m c (ix1 j))
  weights := fun k j => by
    blk_simp [iblk]
    entry_read
    have e : ((View.whole main_v2).slice (win0_7.rect t)).emb (ix2 k j) = (ix2 k j : S2560x1024.Idx) := by
      blk_ext [idx t]
    rw [e]
    exact transposed (aW m c) k j

/-! ## A point's values over the arrays -/

theorem kvAt_apply (t : Fin cfg0.N) (r k : Fin 512) :
    kvAt m c t (ix2 r k) = keys (aDkv m c) (aHalo m c) ⟨512 * t.val + r.val, (blocks m c t).row_lt r⟩ k :=
  (kv_apply _ _ _ t.val (coord t) (lt16 t) r k).trans ((blocks m c t).keys_apply r k)

theorem inverse_at (t : Fin cfg0.N) (r : Fin 512) : k0_pay7 (F := Ideal) (iblk m c 4 t) (ix2 r 0)
    = inverse (aX m c) ⟨512 * t.val + r.val, (blocks m c t).row_lt r⟩ :=
  (rstd_apply _ r).trans ((blocks m c t).inverse_apply r)

theorem normed_at (t : Fin cfg0.N) (r : Fin 512) (j : Fin 1024) : k0_pay8 (F := Ideal) (iblk m c 4 t) (ix2 r j)
    = normed (aX m c) ⟨512 * t.val + r.val, (blocks m c t).row_lt r⟩ j :=
  (norm_apply _ r j).trans (congrArg₂ _ ((blocks m c t).input r j) (inverse_at m c t r))

theorem gain_at (t : Fin cfg0.N) (j : Fin 1024) : k0_pay6 (F := Ideal) (iblk m c 6 t) (ix2 0 j) = aG m c (ix1 j) :=
  (gain_apply _ j).trans ((blocks m c t).gain j)

/-- The gradient of the normed rows of a point. -/
theorem dh_at (t : Fin cfg0.N) (r : Fin 512) (j : Fin 1024) :
    dhAt m c t (ix2 r j)
      = dhidden (aDq m c) (aDkv m c) (aHalo m c) (aDz m c) (aW m c) ⟨512 * t.val + r.val, (blocks m c t).row_lt r⟩ j := by
  refine (dh_pay _ _ _ _ _ _ r j).trans (Eq.trans ?_
    ((blocks m c t).dh_apply (fun r k => kvAt m c t (ix2 r k)) (kvAt_apply m c t) r j))
  refine congrArg₂ _ (congrArg₂ _ ?_ ?_) ?_ <;> refine Finset.sum_congr rfl fun k _ => congrArg (HMul.hMul _) ?_
  · exact ld_rows _ 0 _ k j _ (by simp)
  · exact ld_rows _ 1536 _ k j _ rfl
  · exact ld_rows _ 1024 _ k j _ rfl

/-- A point's part of the gain's gradient. -/
theorem dgAt_apply (t : Fin cfg0.N) (j : Fin 1024) :
    dgAt m c t (ix2 0 j) = ∑ r : Fin 512,
      dhidden (aDq m c) (aDkv m c) (aHalo m c) (aDz m c) (aW m c) ⟨512 * t.val + r.val, (blocks m c t).row_lt r⟩ j
        * normed (aX m c) ⟨512 * t.val + r.val, (blocks m c t).row_lt r⟩ j :=
  Finset.sum_congr rfl fun r _ => congrArg₂ _ (dh_at m c t r j) (normed_at m c t r j)

/-- A point's tile of the input's gradient. -/
theorem dxAt_apply (t : Fin cfg0.N) (r : Fin 512) (j : Fin 1024) :
    dxAt m c t (ix2 r j) = dinput (aDq m c) (aDkv m c) (aHalo m c) (aDz m c) (aX m c) (aDy m c) (aG m c) (aW m c)
      ⟨512 * t.val + r.val, (blocks m c t).row_lt r⟩ j := by
  refine (dx_pay _ _ _ _ _ _ _ _ _ r j).trans ?_
  exact input_apply _ j _ (fun k => dhAt m c t (ix2 r k)) (fun k => k0_pay8 (iblk m c 4 t) (ix2 r k))
    (fun k => k0_pay6 (iblk m c 6 t) (ix2 0 k)) _ _ (inverse_at m c t r) (dh_at m c t r) (normed_at m c t r)
    (gain_at m c t) ((blocks m c t).skip r j)

/-- The first result is the input's gradient. -/
theorem final_dx : (dats m 0 c).arrAt 8 (cfgs 0).N
    = fun y : S8192x1024.Idx => dinput (aDq m c) (aDkv m c) (aHalo m c) (aDz m c) (aX m c) (aDy m c) (aG m c) (aW m c)
        (y 0) (y 1) := by
  refine (dats m 0 c).arrAt_eq_of_covers 8 _ (by decide +kernel) fun t _ y => ?_
  blk_simp
  rw [after0_8, outs_dx]
  obtain ⟨r, j, rfl⟩ := at2 y
  refine (dxAt_apply m c t r j).trans ?_
  refine congrArg₂ _ (Fin.ext ?_) (Fin.ext ?_)
  · blk_simp [idx t]
    show 512 * t.val + r.val = t.val * 512 + r.val
    omega
  · blk_simp [idx t]

/-- The second result is the gain's gradient. -/
theorem final_dg : (dats m 0 c).arrAt 9 (cfgs 0).N
    = fun y : S1x1024.Idx => dgain (aDq m c) (aDkv m c) (aHalo m c) (aDz m c) (aX m c) (aW m c) (y 1) := by
  refine (dats m 0 c).arrAt_eq_of_covers 9 _ (by decide +kernel) fun t hf y => ?_
  blk_simp
  rw [after0_9]
  have h15 : t.val % 16 = 15 := (flush0_9 t).mp hf
  have hq : t.val / 16 = 0 := Nat.div_eq_of_lt (lt16 t)
  obtain ⟨u, j, rfl⟩ := at2 y
  obtain rfl : u = 0 := Subsingleton.elim _ _
  refine (Pipeline.eq_sum_fin_of_reset_step_apply_of_flush (fun n h => (outsAt0 m c n h).2) 16 (fun _ => 0) (dgAt m c)
    (outs_dg_reset m c) (outs_dg_step m c) t h15 (ix2 0 j)).trans ?_
  refine (congrArg (0 + ·) (Finset.sum_congr rfl fun s _ => dgAt_apply m c _ j)).trans ?_
  refine (sum_points (fun u => dhidden (aDq m c) (aDkv m c) (aHalo m c) (aDz m c) (aW m c) u j * normed (aX m c) u j)
    _ hq _).trans ?_
  refine congrArg (dgain _ _ _ _ _ _) (Fin.ext ?_)
  blk_simp [idx t]

end Cert.AttnInputsIdeal.Block

end
-- ==== Proof.IEquation.lean ====
/-
  The kernel that makes the input's and the gain's gradients and its reference leave the same results from arguments
  that agree.
-/
module

public import proofs.«01_k».proof.Proof.ARef
public import proofs.«01_k».proof.Proof.IArr
public import proofs.«01_k».proof.Proof.Gen.AttnInputsReferenceIdeal.Run
public import proofs.«01_k».proof.Proof.Gen.AttnInputsReferenceIdeal.Read
public import proofs.«01_k».proof.Proof.Gen.AttnInputsIdeal
public import proofs.«01_k».proof.Proof.Gen.AttnInputsIdeal.Frame
public import proofs.«01_k».proof.Defs
public import Idealize.ShloMosaic.Lib.Claim

@[expose] public section

set_option maxRecDepth 16384

noncomputable section

namespace Cert.AttnInputsEquation

open Idealize.ShloMosaic Idealize.SL.Sem

/-- The references compute the input's gradient by the same lines. -/
theorem same_dx : Cert.AttnInputsReferenceIdeal.Read.val_main_v55 (F := Ideal) = Cert.AttnReferenceIdeal.Read.val_main_v55 (F := Ideal) := rfl

/-- The references compute the gain's gradient by the same lines. -/
theorem same_dg : Cert.AttnInputsReferenceIdeal.Read.val_main_v56 (F := Ideal) = Cert.AttnReferenceIdeal.Read.val_main_v56 (F := Ideal) := rfl

set_option maxHeartbeats 1600000 in
/-- The kernel's results are the reference's. -/
theorem algebraic : Cert.algebraic_AttnInputsIdeal_AttnInputsReferenceIdeal := by
  pair_intro
  · run_from Cert.AttnInputsIdeal.Gen.run_main m g
  · run_from Cert.AttnInputsReferenceIdeal.Value.run m' g'
    · obtain ⟨h0, h1, h2, h3, h4, h5, h6, h7⟩ := hagree c
      rw [Cert.AttnInputsIdeal.Block.final_dx m c]
      refine (Cert.AttnInputsReferenceIdeal.Read.val_main_v55_eq (F := Ideal) m' c).trans ?_
      rw [h0, h1, h2, h3, h4, h5, h6, h7, same_dx]
      funext y
      obtain ⟨r, j, rfl⟩ := AttnIn.at2 y
      exact Cert.AttnReferenceIdeal.Block.out_dx _ _ _ _ _ _ _ _ r j
    · rw [Cert.AttnInputsIdeal.Block.final_dg m c]
      refine (Cert.AttnInputsReferenceIdeal.Read.val_main_v56_eq (F := Ideal) _ _ _ _ _ _).trans ?_
      rw [same_dg]
      funext y
      obtain ⟨i, j, rfl⟩ := AttnIn.at2 y
      exact Cert.AttnReferenceIdeal.Block.out_dg _ _ _ _ _ _ i j

end Cert.AttnInputsEquation

end
-- ==== Proof.AttnWeightsFrame.lean ====
module

public import proofs.«01_k».proof.Defs
public import proofs.«01_k».proof.Proof.Gen.AttnWeightsReferenceIdeal
public import proofs.«01_k».proof.Proof.Gen.AttnWeightsReferenceIdeal.Run
public import Idealize.ShloMosaic.Lib.Claim
public import Idealize.ShloMosaic.Lib.Quiescent

@[expose] public section

noncomputable section

open Idealize.ShloMosaic Idealize.SL.Sem

namespace Cert.AttnWeightsReferenceIdeal.Framed

/-- The reference leaves its arguments alone, and as it declares no semaphore every counter is zero at its end. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono
    (fun _ h => ⟨fun c => (h c).2, sem_eq_zero_of_no_sems rfl _⟩)
    (Cert.AttnWeightsReferenceIdeal.Value.run m g)

end Cert.AttnWeightsReferenceIdeal.Framed

end
-- ==== Proof.WPart.lean ====
/-
  One grid point of the attention kernel that makes the weights' gradient alone: what each value it computes holds.
-/
module

public import proofs.«01_k».proof.Proof.Gen.AttnWeightsIdeal.Skeleton
public import proofs.«01_k».proof.Proof.ARows

@[expose] public section

set_option maxRecDepth 16384

noncomputable section

namespace Cert.AttnWeightsIdeal.Block

open Idealize.ShloMosaic Idealize.ShloMosaic.TcCoe Idealize.SL.Sem Cert.AttnWeightsIdeal Cert.AttnWeightsIdeal.Gen Pool AttnIn
open Idealize.ShloMosaic.Pipeline (Dat)

/-- The gradient of the keys and values: the tile's own rows and the tail. -/
theorem kv_apply (i : grid0.Coords) (x2 : FVec Ideal S1x128x512 .f32) (x1 : FVec Ideal S512x512 .f32) (t : ℕ)
    (hi : (i 0).val = t) (ht : t < 16) (r k : Fin 512) :
    k0_pay6 (F := Ideal) i x2 x1 (ix2 r k) = x1 (ix2 r k) + tail x2 t r k := by
  subst hi
  unfold tail
  rw [← more (i 0).val ht]
  pointwise [k0_pay6]
  rfl

/-- The normed rows with their gain. -/
theorem hidden_apply (g : FVec Ideal S1x1024 .f32) (x : FVec Ideal S512x1024 .f32) (r : Fin 512) (j : Fin 1024) :
    k0_pay7 (F := Ideal) g x (ix2 r j) = x (ix2 r j) * rstd eps (fun k => x (ix2 r k)) * g (ix2 0 j) := by
  pointwise [k0_pay7]
  rw [ofBits_1024, ofBits_eps]
  rfl

/-- What the queries' range of the sum becomes. -/
theorem query_apply (g : FVec Ideal S1x1024 .f32) (x : FVec Ideal S512x1024 .f32) (q : FVec Ideal S1024x512 .bf16)
    (p : FVec Ideal S1024x1024 .f32) (k j : Fin 1024) :
    k0_pay1 p (k0_pay8 g x q) (ix2 k j) = p (ix2 k j) + ∑ r : Fin 512, q (ix2 k r) * k0_pay7 g x (ix2 r j) := by
  unfold k0_pay1 k0_pay8
  generalize k0_pay7 (F := Ideal) g x = h
  pointwise

/-- What the keys' and values' range of the sum becomes. -/
theorem key_apply (kv : FVec Ideal S512x512 .bf16) (h : FVec Ideal S512x1024 .bf16) (p : FVec Ideal S512x1024 .f32)
    (k : Fin 512) (j : Fin 1024) :
    k0_pay2 kv h p (ix2 k j) = p (ix2 k j) + ∑ r : Fin 512, kv (ix2 r k) * h (ix2 r j) := by
  pointwise [k0_pay2]

/-- What the gate's range of the sum becomes. -/
theorem gate_apply (h : FVec Ideal S512x1024 .bf16) (z : FVec Ideal S1024x512 .bf16) (p : FVec Ideal S1024x1024 .f32)
    (k j : Fin 1024) :
    k0_pay3 h z p (ix2 k j) = p (ix2 k j) + ∑ r : Fin 512, z (ix2 k r) * h (ix2 r j) := by
  pointwise [k0_pay3]

end Cert.AttnWeightsIdeal.Block

end
-- ==== Proof.WOut.lean ====
/-
  What that kernel's buffers hold after each grid point: the running sum of the weights' gradient.
-/
module

public import proofs.«01_k».proof.Proof.WPart
public import proofs.«01_k».proof.Proof.Gen.AttnWeightsIdeal.Frame

@[expose] public section

set_option maxRecDepth 16384

noncomputable section

namespace Cert.AttnWeightsIdeal.Block

open Idealize.ShloMosaic Idealize.ShloMosaic.TcCoe Idealize.SL.Sem Cert.AttnWeightsIdeal Cert.AttnWeightsIdeal.Gen Pool AttnIn
open Idealize.ShloMosaic.Pipeline (Dat)

variable (m : (ℓ : Loc nD τ sig) → Buf (Elt Ideal) ℓ) (c : Dev nD)

/-- The gradient of the keys and values of a point's rows. -/
def kvAt (t : Fin cfg0.N) : FVec Ideal S512x512 .bf16 :=
  k0_pay6 (grid0.coords t) (iblk m c 2 t) (iblk m c 1 t)

/-- What a point adds to the weights' gradient. -/
def dwAt (t : Fin cfg0.N) : FVec Ideal S2560x1024 .f32 :=
  gains (iblk m c 0 t) (iblk m c 3 t) (kvAt m c t) (k0_pay7 (iblk m c 6 t) (iblk m c 4 t))

/-- The point's three stores onto what the ranges held leave the old sum and the point's part. -/
theorem stores_step (t : Fin cfg0.N) (Z : FVec Ideal S2560x1024 .f32) (q0 q2 : FVec Ideal S1024x1024 .f32)
    (q1 : FVec Ideal S512x1024 .f32) (L : List (View.Piece (Elt Ideal) S2560x1024 .f32)) (i0 i1 i2)
    (h0 : ∀ k j : Fin 1024, q0 (ix2 k j) = Z (ix2 ⟨k.val, by omega⟩ j))
    (h1 : ∀ (k : Fin 512) (j : Fin 1024), q1 (ix2 k j) = Z (ix2 ⟨1024 + k.val, by omega⟩ j))
    (h2 : ∀ k j : Fin 1024, q2 (ix2 k j) = Z (ix2 ⟨1536 + k.val, by omega⟩ j)) :
    View.canon (Val := Elt Ideal) (s := S2560x1024) (e := .f32)
      (⟨Rect.unit ![1536, 0] ![1024, 1024] i2, k0_pay3 (k0_pay7 (iblk m c 6 t) (iblk m c 4 t)) (iblk m c 3 t) q2⟩
        :: ⟨Rect.unit ![1024, 0] ![512, 1024] i1, k0_pay2 (kvAt m c t) (k0_pay7 (iblk m c 6 t) (iblk m c 4 t)) q1⟩
        :: ⟨Rect.unit ![0, 0] ![1024, 1024] i0, k0_pay1 q0 (k0_pay8 (iblk m c 6 t) (iblk m c 4 t) (iblk m c 0 t))⟩ :: L)
      = fun y => Z y + dwAt m c t y :=
  ranges_step _ _ _ _ Z _ _ _ L i0 i1 i2
    (fun k j => (query_apply _ _ _ q0 k j).trans (congrArg (· + _) (h0 k j)))
    (fun k j => (key_apply _ _ q1 k j).trans (congrArg (· + _) (h1 k j)))
    (fun k j => (gate_apply _ _ q2 k j).trans (congrArg (· + _) (h2 k j)))

/-- What the buffer of the running sum held before a point. -/
def before (t : Fin cfg0.N) : FVec Ideal S2560x1024 .f32 :=
  (outsAt0 m c (t.val - 1) (Nat.lt_of_le_of_lt (Nat.sub_le _ _) t.isLt)).2

theorem outs_dw_step (t : Fin cfg0.N) (h0 : ¬ t.val % 16 = 0) :
    (outsAt0 m c t.val t.isLt).2 = fun y => before m c t y + dwAt m c t y := by
  by_cases h1 : t.val % 16 = 15
  · rw [outsAt0_C m c t h0 h1]
    funext j
    frame_out
    refine congrFun (stores_step m c t (before m c t) _ _ _ _ _ _ _ ?_ ?_ ?_) j
    all_goals (intro k j; rw [read_unread_whole])
    · exact ld_rows _ 0 _ k j _ (by simp)
    · exact ld_rows _ 1024 _ k j _ rfl
    · exact ld_rows _ 1536 _ k j _ rfl
  · rw [outsAt0_B m c t h0 h1]
    funext j
    frame_out
    refine congrFun (stores_step m c t (before m c t) _ _ _ _ _ _ _ ?_ ?_ ?_) j
    all_goals (intro k j; rw [read_unread_whole])
    · exact ld_rows _ 0 _ k j _ (by simp)
    · exact ld_rows _ 1024 _ k j _ rfl
    · exact ld_rows _ 1536 _ k j _ rfl

theorem zero_off : ∀ k : Fin 2, (![0, 0] : Fin 2 → ℕ) k = 0 := by decide

theorem outs_dw_reset (t : Fin cfg0.N) (h0 : t.val % 16 = 0) :
    (outsAt0 m c t.val t.isLt).2 = fun y => 0 + dwAt m c t y := by
  rw [outsAt0_A m c t h0 (by omega)]
  funext j
  frame_out
  refine (congrFun (stores_step m c t k0_pay5 _ _ _ _ _ _ _ ?_ ?_ ?_) j).trans ?_
  · intro k j
    rw [View.readCov_fill _ _ _ _ _ zero_off]
    exact ld_rows _ 0 _ k j _ (by simp)
  · intro k j
    rw [View.readCov_skip _ _ _ _ _ (by decide), View.readCov_fill _ _ _ _ _ zero_off]
    exact ld_rows _ 1024 _ k j _ rfl
  · intro k j
    rw [View.readCov_skip _ _ _ _ _ (by decide), View.readCov_skip _ _ _ _ _ (by decide),
      View.readCov_fill _ _ _ _ _ zero_off]
    exact ld_rows _ 1536 _ k j _ rfl
  · exact congrArg (· + _) (by pointwise [k0_pay5])

/-- A buffer read whole and rounded. -/
theorem rounded (L : List (View.Piece (Elt Ideal) S2560x1024 .f32)) (h) (y : S2560x1024.Idx) :
    k0_pay4 (F := Ideal) ((View.whole cc0_scratch0).readCov L
      (Rect.unit (s := S2560x1024) ![0, 0] ![2560, 1024] h).toLoadRect) y = View.canon (Val := Elt Ideal) L y := by
  rw [View.readCov_eq_canon']
  refine Eq.trans (b := View.canon (Val := Elt Ideal) L
    ((Rect.unit (s := S2560x1024) ![0, 0] ![2560, 1024] h).idx y)) ?_ (congrArg _ ?_)
  · pointwise [k0_pay4]
  · refine funext fun k => Fin.ext ((Rect.idx_unit_val _ _ _ _ _).trans ?_)
    fin_cases k <;> simp

theorem outs_dw_last (t : Fin cfg0.N) (h1 : t.val % 16 = 15) (y : S2560x1024.Idx) :
    (outsAt0 m c t.val t.isLt).1 y = (outsAt0 m c t.val t.isLt).2 y := by
  rw [outsAt0_C m c t (by omega) h1]
  frame_out
  exact rounded _ _ y

end Cert.AttnWeightsIdeal.Block

end
-- ==== Proof.WArr.lean ====
/-
  That kernel's result after the run, as an array.
-/
module

public import proofs.«01_k».proof.Proof.WOut
public import Idealize.ShloMosaic.Lib.Claim

@[expose] public section

set_option maxRecDepth 16384

noncomputable section

namespace Cert.AttnWeightsIdeal.Block

open Idealize.ShloMosaic Idealize.ShloMosaic.TcCoe Idealize.SL.Sem Cert.AttnWeightsIdeal Cert.AttnWeightsIdeal.Gen Pool AttnIn
open Idealize.ShloMosaic.Pipeline (Dat)

variable (m : (ℓ : Loc nD τ sig) → Buf (Elt Ideal) ℓ) (c : Dev nD)

/-- The blocks each window reads and writes at a point. -/
theorem idx : ∀ t : Fin cfg0.N, win0_0.index t = ![0, t.val] ∧ win0_1.index t = ![t.val, 0]
    ∧ win0_2.index t = ![min (t.val + 1) 15, 0, 0] ∧ win0_3.index t = ![0, t.val] ∧ win0_4.index t = ![t.val, 0]
    ∧ win0_5.index t = ![t.val, 0] ∧ win0_6.index t = ![0, 0] ∧ win0_7.index t = ![0, 0]
    ∧ win0_8.index t = ![0, 0]
    ∧ (grid0.coords t 0).val = t.val ∧ t.val < 16 :=
  (by decide +kernel : ∀ t : Fin grid0.N, _)

/-- The point's number is its grid coordinate. -/
theorem coord (t : Fin cfg0.N) : (grid0.coords t 0).val = t.val := (idx t).2.2.2.2.2.2.2.2.2.1

/-- There are sixteen points. -/
theorem lt16 (t : Fin cfg0.N) : t.val < 16 := (idx t).2.2.2.2.2.2.2.2.2.2

/-- The call's arguments on a device. -/
abbrev aDq : FVec Ideal S1024x8192 .bf16 := m ((c : Thread nD τ).loc main_arg0)
abbrev aDkv : FVec Ideal S8192x512 .f32 := m ((c : Thread nD τ).loc main_arg1)
abbrev aHalo : FVec Ideal S16x128x512 .f32 := m ((c : Thread nD τ).loc main_arg2)
abbrev aDz : FVec Ideal S1024x8192 .bf16 := m ((c : Thread nD τ).loc main_arg3)
abbrev aX : FVec Ideal S8192x1024 .f32 := m ((c : Thread nD τ).loc main_arg4)
abbrev aDy : FVec Ideal S8192x1024 .f32 := m ((c : Thread nD τ).loc main_arg5)
abbrev aG : FVec Ideal S1024 .f32 := m ((c : Thread nD τ).loc main_arg6)
abbrev aW : FVec Ideal S1024x2560 .f32 := m ((c : Thread nD τ).loc main_arg7)

/-- The weights transposed, as the call receives them. -/
theorem transposed (w : FVec Ideal S1024x2560 .f32) (k : Fin 2560) (j : Fin 1024) :
    truncf .bf16 (transpose S2560x1024 [1, 0] w transposes_S1024x2560_S2560x1024_1_0) bitsLt_bf16_f32 (ix2 k j)
      = w (ix2 j k) := by
  pointwise

/-- What the call finds at a point is the arrays' rows there. -/
theorem blocks (t : Fin cfg0.N) : Blocks (aDq m c) (aDkv m c) (aHalo m c) (aDz m c) (aX m c) (aDy m c) (aG m c) (aW m c)
    (iblk m c 0 t) (iblk m c 1 t) (iblk m c 2 t) (iblk m c 3 t) (iblk m c 4 t) (iblk m c 5 t) (iblk m c 6 t)
    (iblk m c 7 t) t.val where
  lt := lt16 t
  query := fun k r => by blk_point [iblk, V, idx t]
  own := fun r k => by blk_point [iblk, V, idx t]
  next := fun r k => by blk_point [iblk, V, idx t]
  gate := fun k r => by blk_point [iblk, V, idx t]
  input := fun r j => by blk_point [iblk, V, idx t]
  skip := fun r j => by blk_point [iblk, V, idx t]
  gain := fun j => by
    blk_simp [iblk]
    entry_read
    have e : ((View.whole main_v0).slice (win0_6.rect t)).emb (ix2 0 j) = (ix2 0 j : S1x1024.Idx) := by
      blk_ext [idx t]
    rw [e]
    exact (by pointwise : broadcastInDim S1x1024 ![1] bcast_S1024_S1x1024_1 (aG m c) (ix2 0 j) = aG m c (ix1 j))
  weights := fun k j => by
    blk_simp [iblk]
    entry_read
    have e : ((View.whole main_v2).slice (win0_7.rect t)).emb (ix2 k j) = (ix2 k j : S2560x1024.Idx) := by
      blk_ext [idx t]
    rw [e]
    exact transposed (aW m c) k j

/-! ## A point's values over the arrays -/

theorem kvAt_apply (t : Fin cfg0.N) (r k : Fin 512) :
    kvAt m c t (ix2 r k) = keys (aDkv m c) (aHalo m c) ⟨512 * t.val + r.val, (blocks m c t).row_lt r⟩ k :=
  (kv_apply _ _ _ t.val (coord t) (lt16 t) r k).trans ((blocks m c t).keys_apply r k)

/-- The normed rows of a point with their gain. -/
theorem hidden_at (t : Fin cfg0.N) (r : Fin 512) (j : Fin 1024) :
    k0_pay7 (F := Ideal) (iblk m c 6 t) (iblk m c 4 t) (ix2 r j)
      = normed (aX m c) ⟨512 * t.val + r.val, (blocks m c t).row_lt r⟩ j * aG m c (ix1 j) :=
  (hidden_apply _ _ r j).trans (congrArg₂ _ (congrArg₂ _ ((blocks m c t).input r j) ((blocks m c t).inverse_apply r))
    ((blocks m c t).gain j))

/-- A point's part of the weights' gradient. -/
theorem dwAt_apply (t : Fin cfg0.N) (k : Fin 2560) (j : Fin 1024) :
    dwAt m c t (ix2 k j) = ∑ r : Fin 512,
      dcat (aDq m c) (aDkv m c) (aHalo m c) (aDz m c) ⟨512 * t.val + r.val, (blocks m c t).row_lt r⟩ k
        * (normed (aX m c) ⟨512 * t.val + r.val, (blocks m c t).row_lt r⟩ j * aG m c (ix1 j)) :=
  (blocks m c t).gains_apply _ _ (kvAt_apply m c t) (hidden_at m c t) k j

/-- The result is the weights' gradient, transposed as the call holds it. -/
theorem final_dw : (dats m 0 c).arrAt 8 (cfgs 0).N
    = fun y : S2560x1024.Idx => dweight (aDq m c) (aDkv m c) (aHalo m c) (aDz m c) (aX m c) (aG m c) (y 0) (y 1) := by
  refine (dats m 0 c).arrAt_eq_of_covers 8 _ (by decide +kernel) fun t hf y => ?_
  blk_simp
  rw [after0_8]
  have h15 : t.val % 16 = 15 := (flush0_8 t).mp hf
  have hq : t.val / 16 = 0 := Nat.div_eq_of_lt (lt16 t)
  obtain ⟨k, j, rfl⟩ := at2 y
  refine (outs_dw_last m c t h15 (ix2 k j)).trans ?_
  refine (Pipeline.eq_sum_fin_of_reset_step_apply_of_flush (fun n h => (outsAt0 m c n h).2) 16 (fun _ => 0) (dwAt m c)
    (fun t h y => congrFun (outs_dw_reset m c t h) y) (fun t h y => congrFun (outs_dw_step m c t h) y) t h15
    (ix2 k j)).trans ?_
  refine (congrArg (0 + ·) (Finset.sum_congr rfl fun s _ => dwAt_apply m c _ k j)).trans ?_
  refine (sum_points (fun u => dcat (aDq m c) (aDkv m c) (aHalo m c) (aDz m c) u k * (normed (aX m c) u j * aG m c (ix1 j)))
    _ hq _).trans ?_
  refine congrArg₂ (dweight _ _ _ _ _ _) (Fin.ext ?_) (Fin.ext ?_)
  · blk_simp [idx t]
  · blk_simp [idx t]

end Cert.AttnWeightsIdeal.Block

end
-- ==== Proof.WEquation.lean ====
/-
  The kernel that makes the weights' gradient alone and its reference leave the same result from arguments that agree.
-/
module

public import proofs.«01_k».proof.Proof.ARef
public import proofs.«01_k».proof.Proof.WArr
public import proofs.«01_k».proof.Proof.Gen.AttnWeightsReferenceIdeal.Run
public import proofs.«01_k».proof.Proof.Gen.AttnWeightsReferenceIdeal.Read
public import proofs.«01_k».proof.Proof.Gen.AttnWeightsIdeal
public import proofs.«01_k».proof.Proof.Gen.AttnWeightsIdeal.Frame
public import proofs.«01_k».proof.Defs
public import Idealize.ShloMosaic.Lib.Claim

@[expose] public section

set_option maxRecDepth 16384

noncomputable section

namespace Cert.AttnWeightsEquation

open Idealize.ShloMosaic Idealize.SL.Sem

/-- The references compute the weights' gradient by the same lines. -/
theorem same_dw : Cert.AttnWeightsReferenceIdeal.Read.val_main_v58 (F := Ideal) = Cert.AttnReferenceIdeal.Read.val_main_v58 (F := Ideal) := rfl

set_option maxHeartbeats 1600000 in
/-- The kernel's results are the reference's. -/
theorem algebraic : Cert.algebraic_AttnWeightsIdeal_AttnWeightsReferenceIdeal := by
  pair_intro
  · run_from Cert.AttnWeightsIdeal.Gen.run_main m g
  · run_from Cert.AttnWeightsReferenceIdeal.Value.run m' g'
    · rw [Cert.AttnWeightsIdeal.Block.final_dw m c]
      refine (Cert.AttnWeightsReferenceIdeal.Read.val_main_v58_eq (F := Ideal) _ _ _ _ _ _).trans ?_
      rw [same_dw]
      funext y
      obtain ⟨k, j, rfl⟩ := AttnIn.at2 y
      exact Cert.AttnReferenceIdeal.Block.out_dw _ _ _ _ _ _ k j

end Cert.AttnWeightsEquation

end
-- ==== Proof.MixFrame.lean ====
module

public import proofs.«01_k».proof.Defs
public import proofs.«01_k».proof.Proof.Gen.MixReferenceIdeal
public import proofs.«01_k».proof.Proof.Gen.MixReferenceIdeal.Run
public import Idealize.ShloMosaic.Lib.Claim
public import Idealize.ShloMosaic.Lib.Quiescent

@[expose] public section

noncomputable section

open Idealize.ShloMosaic Idealize.SL.Sem

namespace Cert.MixReferenceIdeal.Framed

/-- The reference leaves its arguments alone, and as it declares no semaphore every counter is zero at its end. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono
    (fun _ h => ⟨fun c => (h c).2.2.2.2.2, sem_eq_zero_of_no_sems rfl _⟩)
    (Cert.MixReferenceIdeal.Value.run m g)

end Cert.MixReferenceIdeal.Framed

end
-- ==== Proof.MSpec.lean ====
/-
  The mixing stage backwards, row by row: what the results are of the whole arrays.
-/
module

public import proofs.«01_k».proof.Proof.Target

@[expose] public section

set_option maxRecDepth 16384

noncomputable section

namespace Mix

open Idealize.ShloMosaic

/-- The group of a column. -/
def grp (j : Fin 1024) : Fin 4 := ⟨j.val / 256, by omega⟩

/-- A column's place in its group. -/
def lane (j : Fin 1024) : Fin 256 := ⟨j.val % 256, by omega⟩

/-- The column of a place in a group. -/
def col (g : Fin 4) (c : Fin 256) : Fin 1024 := ⟨256 * g.val + c.val, by omega⟩

theorem grp_col (g : Fin 4) (c : Fin 256) : grp (col g c) = g := Fin.ext (by show (256 * g.val + c.val) / 256 = g.val; omega)

theorem lane_col (g : Fin 4) (c : Fin 256) : lane (col g c) = c := Fin.ext (by show (256 * g.val + c.val) % 256 = c.val; omega)

theorem col_grp (j : Fin 1024) : col (grp j) (lane j) = j := Fin.ext (by show 256 * (j.val / 256) + j.val % 256 = j.val; omega)

section

variable (dy : FVec Ideal ⟨2, ![8192, 1024]⟩ .f32) (p z : FVec Ideal ⟨2, ![8192, 1024]⟩ .bf16)
  (wm : FVec Ideal ⟨3, ![4, 256, 256]⟩ .f32) (sc : FVec Ideal ⟨1, ![1024]⟩ .f32) (wo : FVec Ideal ⟨2, ![1024, 1024]⟩ .f32)

/-- The gradient that comes back through the output projection. -/
def back (u : Fin 8192) (j : Fin 1024) : EReal := ∑ d : Fin 1024, dy (ix2 u d) * wo (ix2 j d)

/-- The pooled rows mixed within their group. -/
def mixed (u : Fin 8192) (j : Fin 1024) : EReal := ∑ c : Fin 256, p (ix2 u (col (grp j) c)) * wm (ix3 (grp j) c (lane j))

/-- The gate's value. -/
def gate (u : Fin 8192) (j : Fin 1024) : EReal := z (ix2 u j) * Ideal.logistic (z (ix2 u j))

/-- The slope of the gate, one term for the factor and one for the curve. -/
def slope (v : EReal) : EReal := Ideal.logistic v * (1 + v * (1 - Ideal.logistic v))

/-- The gradient of the mixed rows before their scale. -/
def dmixed (u : Fin 8192) (j : Fin 1024) : EReal := back dy wo u j * gate z u j * sc (ix1 j)

/-- The gradient of the pooled rows. -/
def dpool (u : Fin 8192) (j : Fin 1024) : EReal :=
  ∑ c : Fin 256, dmixed dy z sc wo u (col (grp j) c) * wm (ix3 (grp j) (lane j) c)

/-- The gradient of the gate's argument. -/
def dgate (u : Fin 8192) (j : Fin 1024) : EReal :=
  back dy wo u j * (mixed p wm u j * sc (ix1 j)) * slope (z (ix2 u j))

/-- The gradient of the output projection's weights. -/
def dproj (k j : Fin 1024) : EReal := ∑ u : Fin 8192, mixed p wm u k * sc (ix1 k) * gate z u k * dy (ix2 u j)

/-- The gradient of the mixing weights, per group. -/
def dweights (g : Fin 4) (r c : Fin 256) : EReal := ∑ u : Fin 8192, p (ix2 u (col g r)) * dmixed dy z sc wo u (col g c)

/-- The gradient of the scale. -/
def dscale (j : Fin 1024) : EReal := ∑ u : Fin 8192, back dy wo u j * gate z u j * mixed p wm u j

end

/-! ## Real numbers -/

/-- The value is a real number. -/
def Real (x : EReal) : Prop := x ≠ ⊤ ∧ x ≠ ⊥

theorem Real.coe {x : EReal} (h : Real x) : ∃ r : ℝ, x = (r : EReal) := ⟨x.toReal, (EReal.coe_toReal h.1 h.2).symm⟩

theorem real_coe (r : ℝ) : Real (r : EReal) := ⟨EReal.coe_ne_top r, EReal.coe_ne_bot r⟩

theorem Real.mul {x y : EReal} (hx : Real x) (hy : Real y) : Real (x * y) := by
  obtain ⟨a, rfl⟩ := hx.coe
  obtain ⟨b, rfl⟩ := hy.coe
  rw [← EReal.coe_mul]
  exact real_coe _

theorem Real.sum {ι : Type} (s : Finset ι) (f : ι → EReal) (h : ∀ i, Real (f i)) : Real (∑ i ∈ s, f i) := by
  have e : ∀ i, f i = (((f i).toReal : ℝ) : EReal) := fun i => (EReal.coe_toReal (h i).1 (h i).2).symm
  rw [Finset.sum_congr rfl fun i _ => e i, ← Pool.coe_sum]
  exact real_coe _

/-- The two terms of the gate's gradient, as the product rule gives them, are the slope times a real gradient. -/
theorem product_rule (g v : EReal) (hg : Real g) :
    g * Ideal.logistic v + v * g * (Ideal.logistic v * (1 - Ideal.logistic v)) = g * slope v := by
  obtain ⟨a, rfl⟩ := hg.coe
  unfold slope
  induction v with
  | bot => simp
  | top =>
    have e : (1 : EReal) - 1 = 0 := by
      rw [← EReal.coe_one, ← EReal.coe_sub, sub_self, EReal.coe_zero]
    simp [e]
  | coe r =>
    rw [Ideal.logistic_coe]
    generalize (1 + Real.exp (-r))⁻¹ = s
    norm_cast
    ring

end Mix

end
-- ==== Proof.MPart.lean ====
/-
  One grid point of the mixing stage's kernel: what each value it computes holds.
-/
module

public import proofs.«01_k».proof.Proof.Gen.MixIdeal.Skeleton
public import proofs.«01_k».proof.Proof.MSpec
public import proofs.«01_k».proof.Proof.ARows

@[expose] public section

set_option maxRecDepth 16384

noncomputable section

namespace Cert.MixIdeal.Block

open Idealize.ShloMosaic Cert.MixIdeal Cert.MixIdeal.Gen

/-! ## A group's weights, gathered from four blocks of rows -/

/-- A block of 64 rows of a stack of four matrices, read out. -/
theorem ld_block (Z : FVec Ideal S4x256x256 .bf16) (k o : ℕ) (h) (hk : k < 4) (r : Fin 64) (j : Fin 256)
    (ho : o + r.val < 256) :
    View.ld (Val := Elt Ideal) (e' := .bf16) Z (Rect.unit (s := S4x256x256) ![k, o, 0] S1x64x256.size h) (ix3 0 r j)
      = Z (ix3 ⟨k, hk⟩ ⟨o + r.val, ho⟩ j) := by
  refine congrArg Z (funext fun a => Fin.ext ((Rect.idx_unit_val _ _ _ _ _).trans ?_))
  fin_cases a
  · exact Nat.add_zero k
  · rfl
  · exact Nat.zero_add _

/-- Four blocks of rows under one another. -/
theorem rows_apply (a b c d : FVec Ideal S1x64x256 .bf16) (r j : Fin 256) :
    k0_pay10 (F := Ideal) a b c d (ix2 r j)
      = if h : r.val < 64 then a (ix3 0 ⟨r.val, h⟩ j)
        else if h : r.val < 128 then b (ix3 0 ⟨r.val - 64, by omega⟩ j)
        else if h : r.val < 192 then c (ix3 0 ⟨r.val - 128, by omega⟩ j)
        else d (ix3 0 ⟨r.val - 192, by omega⟩ j) := by
  pointwise [k0_pay10]
  by_cases h0 : r.val < 64
  · rw [dif_pos h0, dif_pos h0]
  rw [dif_neg h0, dif_neg h0]
  by_cases h1 : r.val < 128
  · rw [dif_pos h1, dif_pos (by omega)]
  rw [dif_neg h1, dif_neg (by omega)]
  by_cases h2 : r.val < 192
  · rw [dif_pos h2, dif_pos (by omega)]
    blk_ext
  · rw [dif_neg h2, dif_neg (by omega)]
    blk_ext

/-- The weights of the group whose rows of each block start at `o`. -/
def group (Z : FVec Ideal S4x256x256 .bf16) (o : ℕ)
    (h0 : ∀ a, (![0, o, 0] : Fin 3 → ℕ) a + S1x64x256.size a ≤ S4x256x256.size a)
    (h1 : ∀ a, (![1, o, 0] : Fin 3 → ℕ) a + S1x64x256.size a ≤ S4x256x256.size a)
    (h2 : ∀ a, (![2, o, 0] : Fin 3 → ℕ) a + S1x64x256.size a ≤ S4x256x256.size a)
    (h3 : ∀ a, (![3, o, 0] : Fin 3 → ℕ) a + S1x64x256.size a ≤ S4x256x256.size a) : FVec Ideal S256x256 .bf16 :=
  k0_pay10 (View.ld (Val := Elt Ideal) (e' := .bf16) Z (Rect.unit (s := S4x256x256) ![0, o, 0] S1x64x256.size h0))
    (View.ld (Val := Elt Ideal) (e' := .bf16) Z (Rect.unit (s := S4x256x256) ![1, o, 0] S1x64x256.size h1))
    (View.ld (Val := Elt Ideal) (e' := .bf16) Z (Rect.unit (s := S4x256x256) ![2, o, 0] S1x64x256.size h2))
    (View.ld (Val := Elt Ideal) (e' := .bf16) Z (Rect.unit (s := S4x256x256) ![3, o, 0] S1x64x256.size h3))

theorem group_apply (Z : FVec Ideal S4x256x256 .bf16) (o : ℕ) (h0 h1 h2 h3) (ho : o + 64 ≤ 256) (r j : Fin 256) :
    group Z o h0 h1 h2 h3 (ix2 r j) = Z (ix3 ⟨r.val / 64, by omega⟩ ⟨o + r.val % 64, by omega⟩ j) := by
  unfold group
  rw [rows_apply]
  have e : ∀ (k q : ℕ) (hk : k < 4) (hq : o + q < 256), r.val / 64 = k → r.val % 64 = q →
      Z (ix3 ⟨k, hk⟩ ⟨o + q, hq⟩ j) = Z (ix3 ⟨r.val / 64, by omega⟩ ⟨o + r.val % 64, by omega⟩ j) := by
    intro k q hk hq e1 e2
    subst e1 e2
    rfl
  by_cases g0 : r.val < 64
  · rw [dif_pos g0]
    exact (ld_block Z 0 o h0 (by omega) _ j (by show o + r.val < 256; omega)).trans
      (e 0 r.val (by omega) (by omega) (by omega) (by omega))
  rw [dif_neg g0]
  by_cases g1 : r.val < 128
  · rw [dif_pos g1]
    exact (ld_block Z 1 o h1 (by omega) _ j (by show o + (r.val - 64) < 256; omega)).trans
      (e 1 (r.val - 64) (by omega) (by omega) (by omega) (by omega))
  rw [dif_neg g1]
  by_cases g2 : r.val < 192
  · rw [dif_pos g2]
    exact (ld_block Z 2 o h2 (by omega) _ j (by show o + (r.val - 128) < 256; omega)).trans
      (e 2 (r.val - 128) (by omega) (by omega) (by omega) (by omega))
  · rw [dif_neg g2]
    exact (ld_block Z 3 o h3 (by omega) _ j (by show o + (r.val - 192) < 256; omega)).trans
      (e 3 (r.val - 192) (by omega) (by omega) (by omega) (by omega))

/-! ## The values of a point -/

/-- The gradient that comes back through the output projection. -/
theorem back_apply (dy : FVec Ideal S512x1024 .f32) (wo : FVec Ideal S1024x1024 .bf16) (r : Fin 512) (j : Fin 1024) :
    k0_pay17 (F := Ideal) dy wo (ix2 r j) = ∑ d : Fin 1024, dy (ix2 r d) * wo (ix2 j d) := by
  pointwise [k0_pay17, k0_pay16]

/-- A group's pooled columns against its weights. -/
theorem product_apply (w : FVec Ideal S256x256 .bf16) (p : FVec Ideal S512x256 .bf16) (r : Fin 512) (j : Fin 256) :
    k0_pay18 (F := Ideal) w p (ix2 r j) = ∑ c : Fin 256, p (ix2 r c) * w (ix2 c j) := by
  pointwise [k0_pay18]

/-- The four groups' mixed columns beside one another. -/
def mixAt (w : FVec Ideal S256x256 .bf16) (a b c : FVec Ideal S512x256 .f32) (p : FVec Ideal S512x256 .bf16) :
    FVec Ideal S512x1024 .f32 :=
  k0_pay21 w a b c p (constant S512x256 .f32 0x00000000#32)

theorem mixAt_apply (w : FVec Ideal S256x256 .bf16) (a b c : FVec Ideal S512x256 .f32) (p : FVec Ideal S512x256 .bf16)
    (r : Fin 512) (j : Fin 1024) : mixAt w a b c p (ix2 r j)
      = if h : j.val < 256 then a (ix2 r ⟨j.val, h⟩)
        else if h : j.val < 512 then b (ix2 r ⟨j.val - 256, by omega⟩)
        else if h : j.val < 768 then c (ix2 r ⟨j.val - 512, by omega⟩)
        else k0_pay18 (F := Ideal) w p (ix2 r ⟨j.val - 768, by omega⟩) := by
  have e : mixAt w a b c p = concatenate S512x1024 1 [⟨S512x256, a⟩, ⟨S512x256, b⟩, ⟨S512x256, c⟩,
      ⟨S512x256, k0_pay18 (F := Ideal) w p⟩] concatenates_S512x256_S512x256_S512x256_S512x256_S512x1024_d1 := rfl
  rw [e]
  generalize k0_pay18 (F := Ideal) w p = d
  pointwise
  by_cases h0 : j.val < 256
  · rw [dif_pos h0, dif_pos h0]
  rw [dif_neg h0, dif_neg h0]
  by_cases h1 : j.val < 512
  · rw [dif_pos h1, dif_pos (by omega)]
  rw [dif_neg h1, dif_neg (by omega)]
  by_cases h2 : j.val < 768
  · rw [dif_pos h2, dif_pos (by omega)]
    blk_ext
  · rw [dif_neg h2, dif_neg (by omega)]
    blk_ext

section

variable (w : FVec Ideal S256x256 .bf16) (a b c : FVec Ideal S512x256 .f32) (p : FVec Ideal S512x256 .bf16)
  (da : FVec Ideal S512x1024 .f32) (s : FVec Ideal S1x1024 .f32) (z : FVec Ideal S512x1024 .bf16)
  (r : Fin 512) (j : Fin 1024)

/-- The gate. -/
theorem gate_apply : k0_pay26 (F := Ideal) z (ix2 r j) = z (ix2 r j) * Ideal.logistic (z (ix2 r j)) := by
  pointwise [k0_pay26, k0_pay25, k0_pay24]

/-- The mixed rows with their scale. -/
theorem scaled_apply : k0_pay23 (F := Ideal) w a b c p (constant S512x256 .f32 0x00000000#32) s (ix2 r j)
    = mixAt w a b c p (ix2 r j) * s (ix2 0 j) := by
  unfold k0_pay23
  rw [show k0_pay21 (F := Ideal) w a b c p (constant S512x256 .f32 0x00000000#32) = mixAt w a b c p from rfl]
  generalize mixAt w a b c p = v
  pointwise [k0_pay22]

/-- The gate's gradient. -/
theorem dgate_apply : k0_pay29 (F := Ideal) w da a b c p (constant S512x256 .f32 0x00000000#32) s z (ix2 r j)
    = da (ix2 r j) * (mixAt w a b c p (ix2 r j) * s (ix2 0 j)) * Mix.slope (z (ix2 r j)) := by
  rw [← scaled_apply]
  unfold k0_pay29
  generalize k0_pay23 (F := Ideal) w a b c p (constant S512x256 .f32 0x00000000#32) s = v
  pointwise [k0_pay25, k0_pay24]
  rfl

/-- The gradient of the mixed rows before their scale. -/
theorem dmixed_apply : k0_pay31 (F := Ideal) da s z (ix2 r j)
    = da (ix2 r j) * (z (ix2 r j) * Ideal.logistic (z (ix2 r j))) * s (ix2 0 j) := by
  rw [← gate_apply]
  unfold k0_pay31 k0_pay28
  generalize k0_pay26 (F := Ideal) z = v
  pointwise [k0_pay22]

/-- The projection's weights' gradient, onto what was there. -/
theorem dproj_apply (dy : FVec Ideal S512x1024 .f32) (v : FVec Ideal S1024x1024 .f32) (k : Fin 1024) :
    k0_pay27 (F := Ideal) w (k0_pay16 dy) a b c p (constant S512x256 .f32 0x00000000#32) s z v (ix2 k j)
      = v (ix2 k j) + ∑ r : Fin 512, mixAt w a b c p (ix2 r k) * s (ix2 0 k)
          * (z (ix2 r k) * Ideal.logistic (z (ix2 r k))) * dy (ix2 r j) := by
  have e : ∀ r : Fin 512, mixAt w a b c p (ix2 r k) * s (ix2 0 k) * (z (ix2 r k) * Ideal.logistic (z (ix2 r k)))
      = k0_pay23 (F := Ideal) w a b c p (constant S512x256 .f32 0x00000000#32) s (ix2 r k) * k0_pay26 (F := Ideal) z (ix2 r k) :=
    fun r => congrArg₂ _ (scaled_apply w a b c p s r k).symm (gate_apply z r k).symm
  rw [Finset.sum_congr rfl fun r _ => congrArg (· * _) (e r)]
  unfold k0_pay27
  generalize k0_pay23 (F := Ideal) w a b c p (constant S512x256 .f32 0x00000000#32) s = v
  generalize k0_pay26 (F := Ideal) z = v
  pointwise [k0_pay16]

/-- The scale's gradient, onto what was there. -/
theorem dscale_apply (v : FVec Ideal S1x1024 .f32) :
    k0_pay30 (F := Ideal) w da a b c p (constant S512x256 .f32 0x00000000#32) z v (ix2 0 j)
      = v (ix2 0 j) + ∑ r : Fin 512, da (ix2 r j) * (z (ix2 r j) * Ideal.logistic (z (ix2 r j))) * mixAt w a b c p (ix2 r j) := by
  have e : ∀ r : Fin 512, z (ix2 r j) * Ideal.logistic (z (ix2 r j)) = k0_pay26 (F := Ideal) z (ix2 r j) :=
    fun r => (gate_apply z r j).symm
  rw [Finset.sum_congr rfl fun r _ => congrArg (fun a => _ * a * _) (e r)]
  unfold k0_pay30 k0_pay28
  rw [show k0_pay21 (F := Ideal) w a b c p (constant S512x256 .f32 0x00000000#32) = mixAt w a b c p from rfl]
  generalize mixAt w a b c p = v
  generalize k0_pay26 (F := Ideal) z = v
  pointwise

end

/-! ## One store of each kind, wherever it starts -/

/-- A group's columns of the mixed rows' gradient against the group's weights. -/
theorem dpool_apply (o : ℕ) (ho : o + 256 ≤ 1024) (h : S512x1024.Slices ![0, o] S512x256) (v : FVec Ideal S512x1024 .bf16)
    (w : FVec Ideal S256x256 .bf16) (r : Fin 512) (j : Fin 256) :
    truncf .bf16 (matmul dot_S512x256_S256x256_S512x256_1_1_0_0_n_n none (extractStridedSlice S512x256 ![0, o] v h) w
      (constant (F := Ideal) S512x256 .f32 0x00000000#32)) bitsLt_bf16_f32 (ix2 r j)
      = ∑ c : Fin 256, v (ix2 r ⟨o + c.val, by omega⟩) * w (ix2 j c) := by
  have e : ∀ c : Fin 256, extractStridedSlice S512x256 ![0, o] v h (ix2 r c) = v (ix2 r ⟨o + c.val, by omega⟩) := fun c =>
    extractStridedSlice_apply ![0, o] v h (ix2 r c) (ix2 r ⟨o + c.val, by omega⟩) (fun a => by
      fin_cases a
      · exact (Nat.zero_add _).symm
      · rfl)
  rw [← Finset.sum_congr rfl fun c _ => congrArg (· * _) (e c)]
  generalize extractStridedSlice S512x256 ![0, o] v h = u
  pointwise

/-- A block of 64 rows of a group's product of pooled columns and gradients, onto what was there. -/
theorem dweight_apply (n o : ℕ) (hn : n + 64 ≤ 256) (ho : o + 256 ≤ 1024) (h : S512x1024.Slices ![0, o] S512x256)
    (h' : S256x256.Slices ![n, 0] S64x256) (u : FVec Ideal S1x64x256 .f32) (v : FVec Ideal S512x1024 .bf16)
    (p : FVec Ideal S512x256 .bf16) (r : Fin 64) (j : Fin 256) :
    shapeCast S1x64x256 (addf (shapeCast S64x256 u shapeCasts_S1x64x256_S64x256) (extractStridedSlice S64x256 ![n, 0]
      (matmul dot_S512x256_S512x256_S256x256_0_0_1_1_n_n none p (extractStridedSlice S512x256 ![0, o] v h)
        (constant (F := Ideal) S256x256 .f32 0x00000000#32)) h')) shapeCasts_S64x256_S1x64x256 (ix3 0 r j)
      = u (ix3 0 r j) + ∑ q : Fin 512, p (ix2 q ⟨n + r.val, by omega⟩) * v (ix2 q ⟨o + j.val, by omega⟩) := by
  have e : ∀ q : Fin 512, extractStridedSlice S512x256 ![0, o] v h (ix2 q j) = v (ix2 q ⟨o + j.val, by omega⟩) := fun q =>
    extractStridedSlice_apply ![0, o] v h (ix2 q j) (ix2 q ⟨o + j.val, by omega⟩) (fun a => by
      fin_cases a
      · exact (Nat.zero_add _).symm
      · rfl)
  rw [← Finset.sum_congr rfl fun q _ => congrArg (_ * ·) (e q)]
  generalize extractStridedSlice S512x256 ![0, o] v h = v'
  have e' : ∀ M : FVec Ideal S256x256 .f32,
      extractStridedSlice S64x256 ![n, 0] M h' (ix2 r j) = M (ix2 ⟨n + r.val, by omega⟩ j) := fun M =>
    extractStridedSlice_apply ![n, 0] M h' (ix2 r j) (ix2 ⟨n + r.val, by omega⟩ j) (fun a => by
      fin_cases a
      · rfl
      · exact (Nat.zero_add _).symm)
  have e2 := e' (matmul dot_S512x256_S512x256_S256x256_0_0_1_1_n_n none p v' (constant (F := Ideal) S256x256 .f32 0x00000000#32))
  have e3 : matmul dot_S512x256_S512x256_S256x256_0_0_1_1_n_n none p v' (constant (F := Ideal) S256x256 .f32 0x00000000#32)
      (ix2 ⟨n + r.val, by omega⟩ j) = ∑ q : Fin 512, p (ix2 q ⟨n + r.val, by omega⟩) * v' (ix2 q j) := by
    pointwise
  have e4 : ∀ B : FVec Ideal S64x256 .f32, shapeCast S1x64x256 (addf (shapeCast S64x256 u shapeCasts_S1x64x256_S64x256) B)
      shapeCasts_S64x256_S1x64x256 (ix3 0 r j) = u (ix3 0 r j) + B (ix2 r j) := fun B => by pointwise
  exact (e4 _).trans (congrArg (_ + ·) (e2.trans e3))

end Cert.MixIdeal.Block

end
-- ==== Proof.MPoint.lean ====
/-
  The values of one grid point of the mixing stage, group by group, and how a buffer that is stored in pieces reads.
-/
module

public import proofs.«01_k».proof.Proof.MPart
public import proofs.«01_k».proof.Proof.Gen.MixIdeal.Frame

@[expose] public section

set_option maxRecDepth 16384

noncomputable section

namespace Cert.MixIdeal.Block

open Idealize.ShloMosaic Idealize.SL.Sem Cert.MixIdeal Cert.MixIdeal.Gen

/-! ## The groups of a block -/

/-- A group's columns of the pooled rows. -/
def cols (x1 : FVec Ideal S512x1024 .bf16) : Fin 4 → FVec Ideal S512x256 .bf16 :=
  ![View.ld (Val := Elt Ideal) (e' := .bf16) x1 (Rect.unit ![0, 0] ![512, 256] inb_S512x1024_S512x256_0_0),
    View.ld (Val := Elt Ideal) (e' := .bf16) x1 (Rect.unit ![0, 256] ![512, 256] inb_S512x1024_S512x256_0_256),
    View.ld (Val := Elt Ideal) (e' := .bf16) x1 (Rect.unit ![0, 512] ![512, 256] inb_S512x1024_S512x256_0_512),
    View.ld (Val := Elt Ideal) (e' := .bf16) x1 (Rect.unit ![0, 768] ![512, 256] inb_S512x1024_S512x256_0_768)]

/-- A group's weights. -/
def weights (x3 : FVec Ideal S4x256x256 .bf16) : Fin 4 → FVec Ideal S256x256 .bf16 :=
  ![group x3 0 inb_S4x256x256_S1x64x256_0_0_0 inb_S4x256x256_S1x64x256_1_0_0 inb_S4x256x256_S1x64x256_2_0_0
      inb_S4x256x256_S1x64x256_3_0_0,
    group x3 64 inb_S4x256x256_S1x64x256_0_64_0 inb_S4x256x256_S1x64x256_1_64_0 inb_S4x256x256_S1x64x256_2_64_0
      inb_S4x256x256_S1x64x256_3_64_0,
    group x3 128 inb_S4x256x256_S1x64x256_0_128_0 inb_S4x256x256_S1x64x256_1_128_0 inb_S4x256x256_S1x64x256_2_128_0
      inb_S4x256x256_S1x64x256_3_128_0,
    group x3 192 inb_S4x256x256_S1x64x256_0_192_0 inb_S4x256x256_S1x64x256_1_192_0 inb_S4x256x256_S1x64x256_2_192_0
      inb_S4x256x256_S1x64x256_3_192_0]

/-- A range of columns, read out. -/
theorem ld_cols (Z : FVec Ideal S512x1024 .bf16) (o : ℕ) (h) (r : Fin 512) (j : Fin 256) (ho : o + j.val < 1024) :
    View.ld (Val := Elt Ideal) (e' := .bf16) Z (Rect.unit (s := S512x1024) ![0, o] ![512, 256] h) (ix2 r j)
      = Z (ix2 r ⟨o + j.val, ho⟩) := by
  refine congrArg Z (funext fun a => Fin.ext ((Rect.idx_unit_val _ _ _ _ _).trans ?_))
  fin_cases a
  · exact Nat.zero_add _
  · rfl

/-- A group's columns are the 256 that start at 256 times its number. -/
theorem cols_apply (x1 : FVec Ideal S512x1024 .bf16) (g : Fin 4) (r : Fin 512) (j : Fin 256) :
    cols x1 g (ix2 r j) = x1 (ix2 r (Mix.col g j)) := by
  have e : ∀ (o : ℕ) (h) (ho : o + j.val < 1024), o = 256 * g.val →
      View.ld (Val := Elt Ideal) (e' := .bf16) x1 (Rect.unit (s := S512x1024) ![0, o] ![512, 256] h) (ix2 r j)
        = x1 (ix2 r (Mix.col g j)) := fun o h ho e => (ld_cols x1 o h r j ho).trans
    (congrArg (fun k => x1 (ix2 r k)) (Fin.ext (by simp only [Mix.col]; omega)))
  fin_cases g
  · exact e 0 _ (by omega) rfl
  · exact e 256 _ (by omega) rfl
  · exact e 512 _ (by omega) rfl
  · exact e 768 _ (by omega) rfl

/-- Row `r` of a group's weights lies in block `r / 64`, at `r % 64` past the group's first row there. -/
theorem weights_apply (x3 : FVec Ideal S4x256x256 .bf16) (g : Fin 4) (r j : Fin 256) :
    weights x3 g (ix2 r j) = x3 (ix3 ⟨r.val / 64, by omega⟩ ⟨64 * g.val + r.val % 64, by omega⟩ j) := by
  fin_cases g
  · exact group_apply x3 0 _ _ _ _ (by omega) r j
  · exact group_apply x3 64 _ _ _ _ (by omega) r j
  · exact group_apply x3 128 _ _ _ _ (by omega) r j
  · exact group_apply x3 192 _ _ _ _ (by omega) r j

/-- The mixed rows of a point. -/
def mixOf (x1 : FVec Ideal S512x1024 .bf16) (x3 : FVec Ideal S4x256x256 .bf16) : FVec Ideal S512x1024 .f32 :=
  mixAt (weights x3 3) (k0_pay18 (weights x3 0) (cols x1 0)) (k0_pay18 (weights x3 1) (cols x1 1))
    (k0_pay18 (weights x3 2) (cols x1 2)) (cols x1 3)

/-- Each column is its group's pooled columns against a column of the group's weights. -/
theorem mixOf_apply (x1 : FVec Ideal S512x1024 .bf16) (x3 : FVec Ideal S4x256x256 .bf16) (r : Fin 512) (j : Fin 1024) :
    mixOf x1 x3 (ix2 r j) = ∑ c : Fin 256, cols x1 (Mix.grp j) (ix2 r c) * weights x3 (Mix.grp j) (ix2 c (Mix.lane j)) := by
  have e : ∀ (g : Fin 4) (l : Fin 256), g = Mix.grp j → l = Mix.lane j →
      k0_pay18 (F := Ideal) (weights x3 g) (cols x1 g) (ix2 r l)
        = ∑ c : Fin 256, cols x1 (Mix.grp j) (ix2 r c) * weights x3 (Mix.grp j) (ix2 c (Mix.lane j)) := by
    intro g l hg hl
    subst hg hl
    exact product_apply _ _ r _
  unfold mixOf
  rw [mixAt_apply]
  by_cases h0 : j.val < 256
  · rw [dif_pos h0]
    exact e 0 _ (Fin.ext (by show 0 = j.val / 256; omega)) (Fin.ext (by show j.val = j.val % 256; omega))
  rw [dif_neg h0]
  by_cases h1 : j.val < 512
  · rw [dif_pos h1]
    exact e 1 _ (Fin.ext (by show 1 = j.val / 256; omega)) (Fin.ext (by show j.val - 256 = j.val % 256; omega))
  rw [dif_neg h1]
  by_cases h2 : j.val < 768
  · rw [dif_pos h2]
    exact e 2 _ (Fin.ext (by show 2 = j.val / 256; omega)) (Fin.ext (by show j.val - 512 = j.val % 256; omega))
  · rw [dif_neg h2]
    exact e 3 _ (Fin.ext (by show 3 = j.val / 256; omega)) (Fin.ext (by show j.val - 768 = j.val % 256; omega))

/-! ## Stores that cover a buffer piece by piece -/

/-- Where 64 rows of one matrix of a stack sit. -/
theorem block_emb (k o : ℕ) (hk : k < 4) (i) (r : Fin 64) (j : Fin 256) (ho : o + r.val < 256) :
    (Rect.unit (s := S4x256x256) ![k, o, 0] ![1, 64, 256] i).emb (ix3 0 r j) = ix3 ⟨k, hk⟩ ⟨o + r.val, ho⟩ j := by
  refine funext fun a => Fin.ext ((Rect.idx_unit_val _ _ _ _ _).trans ?_)
  fin_cases a
  · exact Nat.add_zero k
  · rfl
  · exact Nat.zero_add _

/-- Where 256 columns sit. -/
theorem cols_emb (o : ℕ) (i) (r : Fin 512) (j : Fin 256) (ho : o + j.val < 1024) :
    (Rect.unit (s := S512x1024) ![0, o] ![512, 256] i).emb (ix2 r j) = ix2 r ⟨o + j.val, ho⟩ := by
  refine funext fun a => Fin.ext ((Rect.idx_unit_val _ _ _ _ _).trans ?_)
  fin_cases a
  · exact Nat.zero_add _
  · rfl

/-- A store of 64 rows of one matrix of a stack, over earlier ones. -/
theorem peel (G : FVec Ideal S4x256x256 .f32) (k o : ℕ) (hk : k < 4) (ho : o + 64 ≤ 256) (i)
    (p : FVec Ideal S1x64x256 .f32) (L : List (View.Piece (Elt Ideal) S4x256x256 .f32)) (y : S4x256x256.Idx)
    (hp : ∀ (r : Fin 64) (j : Fin 256), p (ix3 0 r j) = G (ix3 ⟨k, hk⟩ ⟨o + r.val, by omega⟩ j))
    (hL : ¬((y 0).val = k ∧ o ≤ (y 1).val ∧ (y 1).val < o + 64) → View.canon (Val := Elt Ideal) (e := .f32) L y = G y) :
    View.canon (Val := Elt Ideal) (e := .f32) (⟨Rect.unit (s := S4x256x256) ![k, o, 0] ![1, 64, 256] i, p⟩ :: L) y = G y := by
  by_cases hy : y ∈ (Rect.unit (s := S4x256x256) ![k, o, 0] ![1, 64, 256] i).set
  · refine View.canon_append_of_piecesOf (Val := Elt Ideal) (e := .f32) G L
      [⟨Rect.unit (s := S4x256x256) ![k, o, 0] ![1, 64, 256] i, p⟩] ⟨?_, trivial⟩ y ⟨_, List.mem_cons_self, hy⟩
    intro z
    obtain ⟨u, r, j, rfl⟩ : ∃ (u : Fin 1) (r : Fin 64) (j : Fin 256), z = ix3 u r j :=
      ⟨z 0, z 1, z 2, by funext a; fin_cases a <;> rfl⟩
    obtain rfl : u = 0 := Subsingleton.elim _ _
    exact (hp r j).trans (congrArg G (block_emb k o hk i r j (by omega)).symm)
  · refine (View.canon_cons_of_not_mem (Val := Elt Ideal) (s := S4x256x256) (e := .f32)
      ⟨Rect.unit (s := S4x256x256) ![k, o, 0] ![1, 64, 256] i, p⟩ L hy).trans ?_
    refine hL fun h => hy (Rect.mem_set_unit.mpr fun a => ?_)
    fin_cases a
    · show k ≤ (y 0).val ∧ (y 0).val < k + 1
      omega
    · show o ≤ (y 1).val ∧ (y 1).val < o + 64
      omega
    · show 0 ≤ (y 2).val ∧ (y 2).val < 0 + 256
      have : (y 2).val < 256 := (y 2).isLt
      omega

/-- A store of 256 columns, over earlier ones. -/
theorem peelCols (G : FVec Ideal S512x1024 .bf16) (o : ℕ) (ho : o + 256 ≤ 1024) (i)
    (p : FVec Ideal S512x256 .bf16) (L : List (View.Piece (Elt Ideal) S512x1024 .bf16)) (y : S512x1024.Idx)
    (hp : ∀ (r : Fin 512) (j : Fin 256), p (ix2 r j) = G (ix2 r ⟨o + j.val, by omega⟩))
    (hL : ¬(o ≤ (y 1).val ∧ (y 1).val < o + 256) → View.canon (Val := Elt Ideal) (e := .bf16) L y = G y) :
    View.canon (Val := Elt Ideal) (e := .bf16) (⟨Rect.unit (s := S512x1024) ![0, o] ![512, 256] i, p⟩ :: L) y = G y := by
  by_cases hy : y ∈ (Rect.unit (s := S512x1024) ![0, o] ![512, 256] i).set
  · refine View.canon_append_of_piecesOf (Val := Elt Ideal) (e := .bf16) G L
      [⟨Rect.unit (s := S512x1024) ![0, o] ![512, 256] i, p⟩] ⟨?_, trivial⟩ y ⟨_, List.mem_cons_self, hy⟩
    intro z
    obtain ⟨r, j, rfl⟩ : ∃ (r : Fin 512) (j : Fin 256), z = ix2 r j :=
      ⟨z 0, z 1, by funext a; fin_cases a <;> rfl⟩
    exact (hp r j).trans (congrArg G (cols_emb o i r j (by omega)).symm)
  · refine (View.canon_cons_of_not_mem (Val := Elt Ideal) (s := S512x1024) (e := .bf16)
      ⟨Rect.unit (s := S512x1024) ![0, o] ![512, 256] i, p⟩ L hy).trans ?_
    refine hL fun h => hy (Rect.mem_set_unit.mpr fun a => ?_)
    fin_cases a
    · show 0 ≤ (y 0).val ∧ (y 0).val < 0 + 512
      have : (y 0).val < 512 := (y 0).isLt
      omega
    · show o ≤ (y 1).val ∧ (y 1).val < o + 256
      omega

/-! ## The values of a point -/

variable (m : (ℓ : Loc nD τ sig) → Buf (Elt Ideal) ℓ) (c : Dev nD)

/-- A point's rows of the gate's argument. -/
def zAt (t : Fin cfg0.N) : FVec Ideal S512x1024 .bf16 := iblk m c 2 t

/-- The gradient that comes back to a point's rows. -/
def daAt (t : Fin cfg0.N) : FVec Ideal S512x1024 .f32 := k0_pay17 (iblk m c 0 t) (iblk m c 5 t)

/-- A point's mixed rows. -/
def mixedAt (t : Fin cfg0.N) : FVec Ideal S512x1024 .f32 := mixOf (iblk m c 1 t) (iblk m c 3 t)

/-- The gradient of a point's mixed rows. -/
def dmAt (t : Fin cfg0.N) : FVec Ideal S512x1024 .bf16 := k0_pay31 (daAt m c t) (iblk m c 4 t) (iblk m c 2 t)

/-- The tile of the gate's gradient that a point writes. -/
def dzAt (t : Fin cfg0.N) : FVec Ideal S512x1024 .bf16 := fun y =>
  daAt m c t y * (mixedAt m c t y * iblk m c 4 t (ix2 0 (y 1))) * Mix.slope (zAt m c t y)

/-- The tile of the pooled rows' gradient that a point writes. -/
def dpAt (t : Fin cfg0.N) : FVec Ideal S512x1024 .bf16 := fun y =>
  ∑ k : Fin 256, dmAt m c t (ix2 (y 0) (Mix.col (Mix.grp (y 1)) k))
    * weights (iblk m c 3 t) (Mix.grp (y 1)) (ix2 (Mix.lane (y 1)) k)

/-- What a point adds to the scale's gradient. -/
def dsAt (t : Fin cfg0.N) : FVec Ideal S1x1024 .f32 := fun y =>
  ∑ r : Fin 512, daAt m c t (ix2 r (y 1)) * (zAt m c t (ix2 r (y 1)) * Ideal.logistic (zAt m c t (ix2 r (y 1))))
    * mixedAt m c t (ix2 r (y 1))

/-- What a point adds to the projection's gradient. -/
def doAt (t : Fin cfg0.N) : FVec Ideal S1024x1024 .f32 := fun y =>
  ∑ r : Fin 512, mixedAt m c t (ix2 r (y 0)) * iblk m c 4 t (ix2 0 (y 0))
    * (zAt m c t (ix2 r (y 0)) * Ideal.logistic (zAt m c t (ix2 r (y 0)))) * iblk m c 0 t (ix2 r (y 1))

/-- Which group row `q` of a stacked matrix belongs to. -/
def rowGrp (q : Fin 256) : Fin 4 := ⟨q.val / 64, by omega⟩

/-- Which row of the group's weights row `q` of matrix `k` of the stack is. -/
def rowOf (k : Fin 4) (q : Fin 256) : Fin 256 := ⟨64 * k.val + q.val % 64, by omega⟩

/-- What a point adds to the weights' gradient, in the stack's order of rows. -/
def dwAt (t : Fin cfg0.N) : FVec Ideal S4x256x256 .f32 := fun y =>
  ∑ r : Fin 512, cols (iblk m c 1 t) (rowGrp (y 1)) (ix2 r (rowOf (y 0) (y 1)))
    * dmAt m c t (ix2 r (Mix.col (rowGrp (y 1)) (y 2)))

end Cert.MixIdeal.Block

end
-- ==== Proof.MRef.lean ====
/-
  The mixing stage's reference, row by row.
-/
module

public import proofs.«01_k».proof.Proof.MPoint
public import proofs.«01_k».proof.Proof.Gen.MixReferenceIdeal.Read

@[expose] public section

set_option maxRecDepth 16384

noncomputable section

namespace Cert.MixReferenceIdeal.Block

open Idealize.ShloMosaic Cert.MixReferenceIdeal Cert.MixReferenceIdeal.Gen Cert.MixReferenceIdeal.Read
open Cert.MixIdeal.Block (rowGrp rowOf)

variable (dy : FVec Ideal (⟨2, ![8192, 1024]⟩ : Shape) .f32) (p z : FVec Ideal (⟨2, ![8192, 1024]⟩ : Shape) .bf16)
  (wm : FVec Ideal (⟨3, ![4, 256, 256]⟩ : Shape) .f32) (sc : FVec Ideal (⟨1, ![1024]⟩ : Shape) .f32)
  (wo : FVec Ideal (⟨2, ![1024, 1024]⟩ : Shape) .f32)

/-! ## The forward values -/

/-- Column `k` of group `a` in a row split into its groups. -/
theorem v2 (u : Fin 8192) (a : Fin 4) (k : Fin 256) :
    val_main_v2 (F := Ideal) p (ix3 u a k) = p (ix2 u (Mix.col a k)) := by
  rw [val_main_v2_apply]
  refine congrArg p (funext fun b => Fin.ext ?_)
  match b with
  | ⟨0, _⟩ =>
    show ((u.val * 4 + a.val) * 256 + k.val) / 1024 = u.val
    omega
  | ⟨1, _⟩ =>
    show ((u.val * 4 + a.val) * 256 + k.val) % 1024 = 256 * a.val + k.val
    omega

/-- The group and the place of a column, as the row's split reads them. -/
theorem split (u : Fin 8192) (j : Fin 1024) : idx_main_v5 (ix2 u j) = ix3 u (Mix.grp j) (Mix.lane j) := by
  refine funext fun b => Fin.ext ?_
  match b with
  | ⟨0, _⟩ =>
    show (u.val * 1024 + j.val) / 1024 = u.val
    omega
  | ⟨1, _⟩ =>
    show (u.val * 1024 + j.val) / 256 % 4 = j.val / 256
    omega
  | ⟨2, _⟩ =>
    show (u.val * 1024 + j.val) % 256 = j.val % 256
    omega

theorem v5 (u : Fin 8192) (j : Fin 1024) : val_main_v5 (F := Ideal) p wm (ix2 u j) = Mix.mixed p wm u j := by
  rw [val_main_v5_apply, split, val_main_v4_apply, val_main_v3_apply]
  refine Finset.sum_congr rfl fun k _ => ?_
  have e : ridx_main_v3 (idx_main_v4 (ix3 u (Mix.grp j) (Mix.lane j))) k = ix3 u (Mix.grp j) k := by blk_ext
  have e' : lidx_main_v3 (idx_main_v4 (ix3 u (Mix.grp j) (Mix.lane j))) k = ix3 (Mix.grp j) k (Mix.lane j) := by blk_ext
  rw [e, e', v2, mul_comm]

theorem v7 (u : Fin 8192) (j : Fin 1024) : val_main_v7 (F := Ideal) sc (ix2 u j) = sc (ix1 j) := by
  unfold val_main_v7 val_main_v6
  pointwise

theorem v21 (u : Fin 8192) (j : Fin 1024) : val_main_v21 (F := Ideal) sc (ix2 u j) = sc (ix1 j) := by
  unfold val_main_v21 val_main_v6
  pointwise

theorem v9_2 (u : Fin 8192) (j : Fin 1024) : val_main_v9_2 (F := Ideal) z (ix2 u j) = Ideal.logistic (z (ix2 u j)) := by
  have h : val_main_v9_2 (F := Ideal) z (ix2 u j) = Ideal.div (Ideal.ofBits .f32 0x3F800000#32)
      (Ideal.ofBits .f32 0x3F800000#32 + Ideal.exp (-z (ix2 u j))) := rfl
  rw [h, Ideal.ofBits_one_f32]
  rfl

theorem v9_1 (u : Fin 8192) (j : Fin 1024) : val_main_v9_1 (F := Ideal) z (ix2 u j)
    = Ideal.logistic (z (ix2 u j)) * (1 - Ideal.logistic (z (ix2 u j))) := by
  have h : val_main_v9_1 (F := Ideal) z (ix2 u j) = val_main_v9_2 (F := Ideal) z (ix2 u j)
      * (Ideal.ofBits .f32 0x3F800000#32 - val_main_v9_2 (F := Ideal) z (ix2 u j)) := rfl
  rw [h, v9_2, Ideal.ofBits_one_f32]

theorem v9_0 (u : Fin 8192) (j : Fin 1024) : val_main_v9_0 (F := Ideal) z (ix2 u j) = Mix.gate z u j :=
  congrArg (HMul.hMul (z (ix2 u j))) (v9_2 z u j)

theorem v8 (u : Fin 8192) (j : Fin 1024) : val_main_v8 (F := Ideal) p wm sc (ix2 u j) = Mix.mixed p wm u j * sc (ix1 j) :=
  congrArg₂ _ (v5 p wm u j) (v7 sc u j)

theorem v10 (u : Fin 8192) (j : Fin 1024) :
    val_main_v10 (F := Ideal) p z wm sc (ix2 u j) = Mix.mixed p wm u j * sc (ix1 j) * Mix.gate z u j :=
  congrArg₂ _ (v8 p wm sc u j) (v9_0 z u j)

/-! ## The gradients -/

theorem v14 (u : Fin 8192) (j : Fin 1024) : val_main_v14 (F := Ideal) dy wo (ix2 u j) = Mix.back dy wo u j := by
  rw [val_main_v14_apply]
  refine Finset.sum_congr rfl fun k _ => ?_
  have e : lidx_main_v14 (ix2 u j) k = ix2 u k := by blk_ext
  have e' : ridx_main_v14 (ix2 u j) k = ix2 j k := by blk_ext
  rw [e, e']

theorem v16 (u : Fin 8192) (j : Fin 1024) :
    val_main_v16 (F := Ideal) dy z wo (ix2 u j) = Mix.back dy wo u j * Mix.gate z u j :=
  congrArg₂ _ (v14 dy wo u j) (v9_0 z u j)

theorem v22 (u : Fin 8192) (j : Fin 1024) :
    val_main_v22 (F := Ideal) dy z sc wo (ix2 u j) = Mix.dmixed dy z sc wo u j :=
  congrArg₂ _ (v16 dy z wo u j) (v21 sc u j)

theorem v25 (a : Fin 4) (k : Fin 256) (u : Fin 8192) :
    val_main_v25 (F := Ideal) dy z sc wo (ix3 a k u) = Mix.dmixed dy z sc wo u (Mix.col a k) := by
  rw [val_main_v25_apply, val_main_v24_apply]
  refine (congrArg (val_main_v22 (F := Ideal) dy z sc wo) (funext fun b => Fin.ext ?_)).trans (v22 dy z sc wo u (Mix.col a k))
  match b with
  | ⟨0, _⟩ =>
    show ((u.val * 4 + a.val) * 256 + k.val) / 1024 = u.val
    omega
  | ⟨1, _⟩ =>
    show ((u.val * 4 + a.val) * 256 + k.val) % 1024 = 256 * a.val + k.val
    omega

/-- The first result. -/
theorem out_dp (u : Fin 8192) (j : Fin 1024) :
    val_main_v34 (F := Ideal) dy z wm sc wo (ix2 u j) = Mix.dpool dy z wm sc wo u j := by
  refine (val_main_v30_apply (F := Ideal) dy z wm sc wo (ix2 u j)).trans ?_
  rw [show idx_main_v30 (ix2 u j) = ix3 u (Mix.grp j) (Mix.lane j) from split u j, val_main_v27_apply, val_main_v26_apply]
  refine Finset.sum_congr rfl fun k _ => ?_
  have e : lidx_main_v26 (idx_main_v27 (ix3 u (Mix.grp j) (Mix.lane j))) k = ix3 (Mix.grp j) k u := by blk_ext
  have e' : ridx_main_v26 (idx_main_v27 (ix3 u (Mix.grp j) (Mix.lane j))) k = ix3 (Mix.grp j) (Mix.lane j) k := by blk_ext
  rw [e, e', v25]

/-- The gradient before the gate is real when every value it is made of is. -/
theorem real_back (hdy : ∀ i, Mix.Real (dy i)) (hp : ∀ i, Mix.Real (p i)) (hwm : ∀ i, Mix.Real (wm i))
    (hsc : ∀ i, Mix.Real (sc i)) (hwo : ∀ i, Mix.Real (wo i)) (u : Fin 8192) (j : Fin 1024) :
    Mix.Real (Mix.mixed p wm u j * sc (ix1 j) * Mix.back dy wo u j) :=
  ((Mix.Real.sum _ _ fun _ => (hp _).mul (hwm _)).mul (hsc _)).mul (Mix.Real.sum _ _ fun _ => (hdy _).mul (hwo _))

/-- The second result, for real values. -/
theorem out_dz (hdy : ∀ i, Mix.Real (dy i)) (hp : ∀ i, Mix.Real (p i)) (hwm : ∀ i, Mix.Real (wm i))
    (hsc : ∀ i, Mix.Real (sc i)) (hwo : ∀ i, Mix.Real (wo i)) (u : Fin 8192) (j : Fin 1024) :
    val_main_v35 (F := Ideal) dy p z wm sc wo (ix2 u j) = Mix.dgate dy p z wm sc wo u j := by
  have h : val_main_v35 (F := Ideal) dy p z wm sc wo (ix2 u j)
      = (val_main_v8 (F := Ideal) p wm sc (ix2 u j) * val_main_v14 (F := Ideal) dy wo (ix2 u j)) * val_main_v9_2 (F := Ideal) z (ix2 u j)
        + z (ix2 u j) * (val_main_v8 (F := Ideal) p wm sc (ix2 u j) * val_main_v14 (F := Ideal) dy wo (ix2 u j))
          * val_main_v9_1 (F := Ideal) z (ix2 u j) := rfl
  rw [h, v8, v14, v9_2, v9_1, Mix.product_rule _ _ (real_back dy p wm sc wo hdy hp hwm hsc hwo u j), mul_comm (_ * _) (Mix.back dy wo u j)]
  rfl

/-- The third result. -/
theorem out_do (k j : Fin 1024) :
    val_main_v36 (F := Ideal) dy p z wm sc (ix2 k j) = Mix.dproj dy p z wm sc k j := by
  refine (val_main_v13_apply (F := Ideal) dy p z wm sc (ix2 k j)).trans ?_
  rw [val_main_v12_apply]
  refine Finset.sum_congr rfl fun u _ => ?_
  have e : lidx_main_v12 (idx_main_v13 (ix2 k j)) u = ix2 u j := by blk_ext
  have e' : ridx_main_v12 (idx_main_v13 (ix2 k j)) u = ix2 u k := by blk_ext
  rw [e, e', v10, mul_comm]

theorem v29 (a : Fin 4) (r j : Fin 256) :
    val_main_v29 (F := Ideal) dy p z sc wo (ix3 a r j) = Mix.dweights dy p z sc wo a r j := by
  rw [val_main_v29_apply, val_main_v28_apply]
  refine Finset.sum_congr rfl fun u _ => ?_
  have e : lidx_main_v28 (idx_main_v29 (ix3 a r j)) u = ix3 a j u := by blk_ext
  have e' : ridx_main_v28 (idx_main_v29 (ix3 a r j)) u = ix3 u a r := by blk_ext
  rw [e, e', v25, v2, mul_comm]

/-- The fourth result: row `q` of matrix `k` of the stack. -/
theorem out_dw (k : Fin 4) (q j : Fin 256) :
    val_main_v37 (F := Ideal) dy p z sc wo (ix3 k q j) = Mix.dweights dy p z sc wo (rowGrp q) (rowOf k q) j := by
  refine (val_main_v33_apply (F := Ideal) dy p z sc wo (ix3 k q j)).trans ?_
  rw [val_main_v32_apply, val_main_v31_apply, ← v29]
  refine congrArg (val_main_v29 (F := Ideal) dy p z sc wo) (funext fun b => Fin.ext ?_)
  have e0 : ((k.val * 256 + q.val) * 256 + j.val) / 65536 = k.val := by omega
  have e1 : ((k.val * 256 + q.val) * 256 + j.val) / 16384 % 4 = q.val / 64 := by omega
  have e2 : ((k.val * 256 + q.val) * 256 + j.val) / 256 % 64 = q.val % 64 := by omega
  have e3 : ((k.val * 256 + q.val) * 256 + j.val) % 256 = j.val := by omega
  have e : idx_main_v32 (idx_main_v33 (ix3 k q j)) = ix4 (rowGrp q) k ⟨q.val % 64, by omega⟩ j := by
    refine funext fun b => Fin.ext ?_
    match b with
    | ⟨0, _⟩ => exact e1
    | ⟨1, _⟩ => exact e0
    | ⟨2, _⟩ => exact e2
    | ⟨3, _⟩ => exact e3
  rw [e]
  match b with
  | ⟨0, _⟩ =>
    show (((q.val / 64 * 4 + k.val) * 64 + q.val % 64) * 256 + j.val) / 65536 = q.val / 64
    omega
  | ⟨1, _⟩ =>
    show (((q.val / 64 * 4 + k.val) * 64 + q.val % 64) * 256 + j.val) / 256 % 256 = 64 * k.val + q.val % 64
    omega
  | ⟨2, _⟩ =>
    show (((q.val / 64 * 4 + k.val) * 64 + q.val % 64) * 256 + j.val) % 256 = j.val
    omega

/-- The fifth result. -/
theorem out_ds (j : Fin 1024) :
    val_main_v38 (F := Ideal) dy p z wm wo (ix2 0 j) = Mix.dscale dy p z wm wo j := by
  rw [val_main_v38_apply, val_main_v23_apply]
  refine (congrArg (· + _) (Ideal.ofBits_zero_f32 : val_main_cst_0 (F := Ideal) _ = 0)).trans ?_
  rw [zero_add, Fin.sum_univ_one, val_main_v20_apply, val_main_v19_apply]
  refine (congrArg (· + _) (Ideal.ofBits_zero_f32 : val_main_cst (F := Ideal) _ = 0)).trans ?_
  rw [zero_add]
  refine Finset.sum_congr rfl fun u _ => ?_
  have e : idx_main_v19 (idx_main_v20 (idx_main_v23 (idx_main_v38 (ix2 0 j)) 0)) u = ix2 u j := by
    refine funext fun b => Fin.ext ?_
    match b with
    | ⟨0, _⟩ => rfl
    | ⟨1, _⟩ =>
      show 0 * 1024 + j.val = j.val
      omega
  rw [e]
  refine (congrArg₂ (fun a b : EReal => a * b) (v5 p wm u j) (v16 dy z wo u j)).trans ?_
  exact mul_comm _ _

end Cert.MixReferenceIdeal.Block

end
-- ==== Proof.MOut.lean ====
/-
  What the mixing stage's buffers hold after each grid point: the gate's gradient, and the running sums of the scale's
  and the projection's.
-/
module

public import proofs.«01_k».proof.Proof.MPoint

@[expose] public section

set_option maxRecDepth 16384

noncomputable section

namespace Cert.MixIdeal.Block

open Idealize.ShloMosaic Idealize.SL.Sem Cert.MixIdeal Cert.MixIdeal.Gen

variable (m : (ℓ : Loc nD τ sig) → Buf (Elt Ideal) ℓ) (c : Dev nD)

theorem outs_dz (t : Fin cfg0.N) (r : Fin 512) (j : Fin 1024) :
    (outsAt0 m c t.val t.isLt).2.1 (ix2 r j) = dzAt m c t (ix2 r j) := by
  by_cases h0 : t.val % 16 = 0
  · rw [outsAt0_A m c t h0 (by omega)]; frame_out
    exact dgate_apply _ _ _ _ _ (daAt m c t) _ _ r j
  · by_cases h1 : t.val % 16 = 15
    · rw [outsAt0_C m c t h0 h1]; frame_out
      exact dgate_apply _ _ _ _ _ (daAt m c t) _ _ r j
    · rw [outsAt0_B m c t h0 h1]; frame_out
      exact dgate_apply _ _ _ _ _ (daAt m c t) _ _ r j

theorem outs_ds_reset (t : Fin cfg0.N) (h0 : t.val % 16 = 0) (j : Fin 1024) :
    (outsAt0 m c t.val t.isLt).2.2.2.2.1 (ix2 0 j) = 0 + dsAt m c t (ix2 0 j) := by
  rw [outsAt0_A m c t h0 (by omega)]; frame_out
  refine (dscale_apply _ _ _ _ _ (daAt m c t) _ j _).trans (congrArg (· + _) ?_)
  pointwise [k0_pay7, k0_pay8, k0_pay9]

theorem outs_ds_step (t : Fin cfg0.N) (h0 : ¬ t.val % 16 = 0) (j : Fin 1024) :
    (outsAt0 m c t.val t.isLt).2.2.2.2.1 (ix2 0 j)
      = (outsAt0 m c (t.val - 1) (Nat.lt_of_le_of_lt (Nat.sub_le _ _) t.isLt)).2.2.2.2.1 (ix2 0 j) + dsAt m c t (ix2 0 j) := by
  by_cases h1 : t.val % 16 = 15
  · rw [outsAt0_C m c t h0 h1]; frame_out
    exact dscale_apply _ _ _ _ _ (daAt m c t) _ j _
  · rw [outsAt0_B m c t h0 h1]; frame_out
    exact dscale_apply _ _ _ _ _ (daAt m c t) _ j _

theorem outs_do_reset (t : Fin cfg0.N) (h0 : t.val % 16 = 0) (k j : Fin 1024) :
    (outsAt0 m c t.val t.isLt).2.2.2.2.2.1 (ix2 k j) = 0 + doAt m c t (ix2 k j) := by
  rw [outsAt0_A m c t h0 (by omega)]; frame_out
  refine (dproj_apply _ _ _ _ _ _ _ j _ _ k).trans (congrArg (· + _) ?_)
  pointwise [k0_pay7, k0_pay8, k0_pay9]

theorem outs_do_step (t : Fin cfg0.N) (h0 : ¬ t.val % 16 = 0) (k j : Fin 1024) :
    (outsAt0 m c t.val t.isLt).2.2.2.2.2.1 (ix2 k j)
      = (outsAt0 m c (t.val - 1) (Nat.lt_of_le_of_lt (Nat.sub_le _ _) t.isLt)).2.2.2.2.2.1 (ix2 k j) + doAt m c t (ix2 k j) := by
  by_cases h1 : t.val % 16 = 15
  · rw [outsAt0_C m c t h0 h1]; frame_out
    rw [read_unread_whole]
    exact dproj_apply _ _ _ _ _ _ _ j _ _ k
  · rw [outsAt0_B m c t h0 h1]; frame_out
    rw [read_unread_whole]
    exact dproj_apply _ _ _ _ _ _ _ j _ _ k

theorem outs_do_last (t : Fin cfg0.N) (h1 : t.val % 16 = 15) (k j : Fin 1024) :
    (outsAt0 m c t.val t.isLt).2.2.1 (ix2 k j) = (outsAt0 m c t.val t.isLt).2.2.2.2.2.1 (ix2 k j) := by
  rw [outsAt0_C m c t (by omega) h1]
  frame_out
  generalize k0_pay27 (F := Ideal) _ _ _ _ _ _ _ _ _ _ = v
  pointwise [k0_pay5]

end Cert.MixIdeal.Block

end
-- ==== Proof.MCols.lean ====
/-
  What the mixing stage's tile of the pooled rows' gradient holds after each grid point.
-/
module

public import proofs.«01_k».proof.Proof.MPoint

@[expose] public section

set_option maxRecDepth 16384

noncomputable section

namespace Cert.MixIdeal.Block

open Idealize.ShloMosaic Idealize.SL.Sem Cert.MixIdeal Cert.MixIdeal.Gen

variable (m : (ℓ : Loc nD τ sig) → Buf (Elt Ideal) ℓ) (c : Dev nD)

set_option maxHeartbeats 1600000 in
theorem outs_dp (t : Fin cfg0.N) : (outsAt0 m c t.val t.isLt).1 = dpAt m c t := by
  have e : ∀ (g : Fin 4) (o : ℕ) (ho : o + 256 ≤ 1024) (h : S512x1024.Slices ![0, o] S512x256) (_ : o = 256 * g.val)
      (r : Fin 512) (j : Fin 256),
      truncf .bf16 (matmul dot_S512x256_S256x256_S512x256_1_1_0_0_n_n none (extractStridedSlice S512x256 ![0, o] (dmAt m c t) h)
        (weights (iblk m c 3 t) g) (constant (F := Ideal) S512x256 .f32 0x00000000#32)) bitsLt_bf16_f32 (ix2 r j)
        = dpAt m c t (ix2 r ⟨o + j.val, by omega⟩) := by
    intro g o ho h hg r j
    refine (dpool_apply o ho h (dmAt m c t) _ r j).trans (Finset.sum_congr rfl fun k _ => ?_)
    have eg : Mix.grp ⟨o + j.val, by omega⟩ = g := Fin.ext (by show (o + j.val) / 256 = g.val; omega)
    have el : Mix.lane ⟨o + j.val, by omega⟩ = j := Fin.ext (by show (o + j.val) % 256 = j.val; omega)
    refine congrArg₂ _ (congrArg (fun k => dmAt m c t (ix2 r k)) (Fin.ext ?_)) ?_
    · show o + k.val = 256 * ((o + j.val) / 256) + k.val
      omega
    · show _ = weights (iblk m c 3 t) (Mix.grp ⟨o + j.val, by omega⟩) (ix2 (Mix.lane ⟨o + j.val, by omega⟩) k)
      rw [eg, el]
  have last : ∀ y : S512x1024.Idx, ¬(0 ≤ (y 1).val ∧ (y 1).val < 0 + 256) → ¬(256 ≤ (y 1).val ∧ (y 1).val < 256 + 256) →
      ¬(512 ≤ (y 1).val ∧ (y 1).val < 512 + 256) → ¬(768 ≤ (y 1).val ∧ (y 1).val < 768 + 256) → False := by
    intro y
    have : (y 1).val < 1024 := (y 1).isLt
    omega
  funext y
  by_cases h0 : t.val % 16 = 0
  · rw [outsAt0_A m c t h0 (by omega)]; frame_out
    refine peelCols _ 768 (by omega) _ _ _ _ (e 3 768 (by omega) _ rfl) fun n3 => ?_
    refine peelCols _ 512 (by omega) _ _ _ _ (e 2 512 (by omega) _ rfl) fun n2 => ?_
    refine peelCols _ 256 (by omega) _ _ _ _ (e 1 256 (by omega) _ rfl) fun n1 => ?_
    refine peelCols _ 0 (by omega) _ _ _ _ (e 0 0 (by omega) _ rfl) fun n0 => (last y n0 n1 n2 n3).elim
  · by_cases h1 : t.val % 16 = 15
    · rw [outsAt0_C m c t h0 h1]; frame_out
      refine peelCols _ 768 (by omega) _ _ _ _ (e 3 768 (by omega) _ rfl) fun n3 => ?_
      refine peelCols _ 512 (by omega) _ _ _ _ (e 2 512 (by omega) _ rfl) fun n2 => ?_
      refine peelCols _ 256 (by omega) _ _ _ _ (e 1 256 (by omega) _ rfl) fun n1 => ?_
      refine peelCols _ 0 (by omega) _ _ _ _ (e 0 0 (by omega) _ rfl) fun n0 => (last y n0 n1 n2 n3).elim
    · rw [outsAt0_B m c t h0 h1]; frame_out
      refine peelCols _ 768 (by omega) _ _ _ _ (e 3 768 (by omega) _ rfl) fun n3 => ?_
      refine peelCols _ 512 (by omega) _ _ _ _ (e 2 512 (by omega) _ rfl) fun n2 => ?_
      refine peelCols _ 256 (by omega) _ _ _ _ (e 1 256 (by omega) _ rfl) fun n1 => ?_
      refine peelCols _ 0 (by omega) _ _ _ _ (e 0 0 (by omega) _ rfl) fun n0 => (last y n0 n1 n2 n3).elim

end Cert.MixIdeal.Block

end
-- ==== Proof.MBlocks.lean ====
/-
  The running sum of the mixing weights' gradient after each grid point of the mixing stage.
-/
module

public import proofs.«01_k».proof.Proof.MPoint

@[expose] public section

set_option maxRecDepth 16384

noncomputable section

namespace Cert.MixIdeal.Block

open Idealize.ShloMosaic Idealize.SL.Sem Cert.MixIdeal Cert.MixIdeal.Gen

variable (m : (ℓ : Loc nD τ sig) → Buf (Elt Ideal) ℓ) (c : Dev nD)

/-- Every row of the stack lies in a matrix and in a block of 64 rows of it. -/
theorem placed (a b : ℕ) (ha : a < 4) (hb : b < 256) : (a = 0 ∨ a = 1 ∨ a = 2 ∨ a = 3)
    ∧ (0 ≤ b ∧ b < 0 + 64 ∨ 64 ≤ b ∧ b < 64 + 64 ∨ 128 ≤ b ∧ b < 128 + 64 ∨ 192 ≤ b ∧ b < 192 + 64) := by
  constructor <;> omega

/-- `q` is the 64 rows of matrix `k` of a stack that start at row `o`. -/
def Holds (q : FVec Ideal S1x64x256 .f32) (Z : FVec Ideal S4x256x256 .f32) (k o : ℕ) : Prop :=
  ∀ (hk : k < 4) (r : Fin 64) (j : Fin 256) (ho : o + r.val < 256), q (ix3 0 r j) = Z (ix3 ⟨k, hk⟩ ⟨o + r.val, ho⟩ j)

/-- What sixteen stores leave, each of 64 rows of one matrix of the stack. -/
theorem blocks (G : FVec Ideal S4x256x256 .f32)
    (p00 p10 p20 p30 p01 p11 p21 p31 p02 p12 p22 p32 p03 p13 p23 p33 : FVec Ideal S1x64x256 .f32)
    (L : List (View.Piece (Elt Ideal) S4x256x256 .f32))
    (i00 i10 i20 i30 i01 i11 i21 i31 i02 i12 i22 i32 i03 i13 i23 i33)
    (h00 : Holds p00 G 0 0)
    (h10 : Holds p10 G 1 0)
    (h20 : Holds p20 G 2 0)
    (h30 : Holds p30 G 3 0)
    (h01 : Holds p01 G 0 64)
    (h11 : Holds p11 G 1 64)
    (h21 : Holds p21 G 2 64)
    (h31 : Holds p31 G 3 64)
    (h02 : Holds p02 G 0 128)
    (h12 : Holds p12 G 1 128)
    (h22 : Holds p22 G 2 128)
    (h32 : Holds p32 G 3 128)
    (h03 : Holds p03 G 0 192)
    (h13 : Holds p13 G 1 192)
    (h23 : Holds p23 G 2 192)
    (h33 : Holds p33 G 3 192) :
    View.canon (Val := Elt Ideal) (s := S4x256x256) (e := .f32)
      (⟨Rect.unit ![3, 192, 0] ![1, 64, 256] i33, p33⟩
        :: ⟨Rect.unit ![2, 192, 0] ![1, 64, 256] i23, p23⟩
        :: ⟨Rect.unit ![1, 192, 0] ![1, 64, 256] i13, p13⟩
        :: ⟨Rect.unit ![0, 192, 0] ![1, 64, 256] i03, p03⟩
        :: ⟨Rect.unit ![3, 128, 0] ![1, 64, 256] i32, p32⟩
        :: ⟨Rect.unit ![2, 128, 0] ![1, 64, 256] i22, p22⟩
        :: ⟨Rect.unit ![1, 128, 0] ![1, 64, 256] i12, p12⟩
        :: ⟨Rect.unit ![0, 128, 0] ![1, 64, 256] i02, p02⟩
        :: ⟨Rect.unit ![3, 64, 0] ![1, 64, 256] i31, p31⟩
        :: ⟨Rect.unit ![2, 64, 0] ![1, 64, 256] i21, p21⟩
        :: ⟨Rect.unit ![1, 64, 0] ![1, 64, 256] i11, p11⟩
        :: ⟨Rect.unit ![0, 64, 0] ![1, 64, 256] i01, p01⟩
        :: ⟨Rect.unit ![3, 0, 0] ![1, 64, 256] i30, p30⟩
        :: ⟨Rect.unit ![2, 0, 0] ![1, 64, 256] i20, p20⟩
        :: ⟨Rect.unit ![1, 0, 0] ![1, 64, 256] i10, p10⟩
        :: ⟨Rect.unit ![0, 0, 0] ![1, 64, 256] i00, p00⟩ :: L) = G := by
  funext y
  have hy0 : (y 0).val < 4 := (y 0).isLt
  have hy1 : (y 1).val < 256 := (y 1).isLt
  refine peel G 3 192 (by decide) (by decide) i33 _ _ y (fun r j => h33 _ r j _) fun a33 => ?_
  refine peel G 2 192 (by decide) (by decide) i23 _ _ y (fun r j => h23 _ r j _) fun a23 => ?_
  refine peel G 1 192 (by decide) (by decide) i13 _ _ y (fun r j => h13 _ r j _) fun a13 => ?_
  refine peel G 0 192 (by decide) (by decide) i03 _ _ y (fun r j => h03 _ r j _) fun a03 => ?_
  refine peel G 3 128 (by decide) (by decide) i32 _ _ y (fun r j => h32 _ r j _) fun a32 => ?_
  refine peel G 2 128 (by decide) (by decide) i22 _ _ y (fun r j => h22 _ r j _) fun a22 => ?_
  refine peel G 1 128 (by decide) (by decide) i12 _ _ y (fun r j => h12 _ r j _) fun a12 => ?_
  refine peel G 0 128 (by decide) (by decide) i02 _ _ y (fun r j => h02 _ r j _) fun a02 => ?_
  refine peel G 3 64 (by decide) (by decide) i31 _ _ y (fun r j => h31 _ r j _) fun a31 => ?_
  refine peel G 2 64 (by decide) (by decide) i21 _ _ y (fun r j => h21 _ r j _) fun a21 => ?_
  refine peel G 1 64 (by decide) (by decide) i11 _ _ y (fun r j => h11 _ r j _) fun a11 => ?_
  refine peel G 0 64 (by decide) (by decide) i01 _ _ y (fun r j => h01 _ r j _) fun a01 => ?_
  refine peel G 3 0 (by decide) (by decide) i30 _ _ y (fun r j => h30 _ r j _) fun a30 => ?_
  refine peel G 2 0 (by decide) (by decide) i20 _ _ y (fun r j => h20 _ r j _) fun a20 => ?_
  refine peel G 1 0 (by decide) (by decide) i10 _ _ y (fun r j => h10 _ r j _) fun a10 => ?_
  refine peel G 0 0 (by decide) (by decide) i00 _ _ y (fun r j => h00 _ r j _) fun a00 => ?_
  obtain ⟨u | u | u | u, v | v | v | v⟩ := placed (y 0).val (y 1).val hy0 hy1
  exacts [(a00 ⟨u, v⟩).elim, (a01 ⟨u, v⟩).elim, (a02 ⟨u, v⟩).elim, (a03 ⟨u, v⟩).elim, (a10 ⟨u, v⟩).elim, (a11 ⟨u, v⟩).elim, (a12 ⟨u, v⟩).elim, (a13 ⟨u, v⟩).elim, (a20 ⟨u, v⟩).elim, (a21 ⟨u, v⟩).elim, (a22 ⟨u, v⟩).elim, (a23 ⟨u, v⟩).elim, (a30 ⟨u, v⟩).elim, (a31 ⟨u, v⟩).elim, (a32 ⟨u, v⟩).elim, (a33 ⟨u, v⟩).elim]

/-- A block of 64 rows as it is stored: what was there and the block of the group's product that starts at row `n`. -/
def part (n o : ℕ) (h : S512x1024.Slices ![0, o] S512x256) (h' : S256x256.Slices ![n, 0] S64x256)
    (u : FVec Ideal S1x64x256 .f32) (v : FVec Ideal S512x1024 .bf16) (p : FVec Ideal S512x256 .bf16) :
    FVec Ideal S1x64x256 .f32 :=
  shapeCast S1x64x256 (addf (shapeCast S64x256 u shapeCasts_S1x64x256_S64x256) (extractStridedSlice S64x256 ![n, 0]
      (matmul dot_S512x256_S512x256_S256x256_0_0_1_1_n_n none p (extractStridedSlice S512x256 ![0, o] v h)
        (constant (F := Ideal) S256x256 .f32 0x00000000#32)) h')) shapeCasts_S64x256_S1x64x256

/-- A block as it is stored: the old sum's block and the point's part of it. -/
theorem part_step (t : Fin cfg0.N) (Z : FVec Ideal S4x256x256 .f32) (g : Fin 4) (k n o b : ℕ) (hk : k < 4) (hn : n = 64 * k)
    (ho : o = 256 * g.val) (hb : b = 64 * g.val) (h : S512x1024.Slices ![0, o] S512x256) (h' : S256x256.Slices ![n, 0] S64x256)
    (q : FVec Ideal S1x64x256 .f32)
    (hq : Holds q Z k b) :
    Holds (part n o h h' q (dmAt m c t) (cols (iblk m c 1 t) g)) (fun y => Z y + dwAt m c t y) k b := by
  intro _ r j hr
  refine (dweight_apply n o (by omega) (by omega) h h' q (dmAt m c t)
    (cols (iblk m c 1 t) g) r j).trans (congrArg₂ _ (hq hk r j hr) ?_)
  have eg : rowGrp ⟨b + r.val, by omega⟩ = g := Fin.ext (by show (b + r.val) / 64 = g.val; omega)
  have er : rowOf ⟨k, hk⟩ ⟨b + r.val, by omega⟩ = ⟨n + r.val, by omega⟩ :=
    Fin.ext (by show 64 * k + (b + r.val) % 64 = n + r.val; omega)
  refine Finset.sum_congr rfl fun s _ => ?_
  show _ = cols (iblk m c 1 t) (rowGrp ⟨b + r.val, by omega⟩) (ix2 s (rowOf ⟨k, hk⟩ ⟨b + r.val, by omega⟩))
    * dmAt m c t (ix2 s (Mix.col (rowGrp ⟨b + r.val, by omega⟩) j))
  rw [eg, er]
  subst ho
  rfl

/-- The point's stores onto what the blocks held leave the old sum and the point's part. -/
theorem blocks_step (t : Fin cfg0.N) (Z : FVec Ideal S4x256x256 .f32)
    (q00 q10 q20 q30 q01 q11 q21 q31 q02 q12 q22 q32 q03 q13 q23 q33 : FVec Ideal S1x64x256 .f32)
    (L : List (View.Piece (Elt Ideal) S4x256x256 .f32))
    (i00 i10 i20 i30 i01 i11 i21 i31 i02 i12 i22 i32 i03 i13 i23 i33)
    (h00 : Holds q00 Z 0 0)
    (h10 : Holds q10 Z 1 0)
    (h20 : Holds q20 Z 2 0)
    (h30 : Holds q30 Z 3 0)
    (h01 : Holds q01 Z 0 64)
    (h11 : Holds q11 Z 1 64)
    (h21 : Holds q21 Z 2 64)
    (h31 : Holds q31 Z 3 64)
    (h02 : Holds q02 Z 0 128)
    (h12 : Holds q12 Z 1 128)
    (h22 : Holds q22 Z 2 128)
    (h32 : Holds q32 Z 3 128)
    (h03 : Holds q03 Z 0 192)
    (h13 : Holds q13 Z 1 192)
    (h23 : Holds q23 Z 2 192)
    (h33 : Holds q33 Z 3 192) :
    View.canon (Val := Elt Ideal) (s := S4x256x256) (e := .f32)
      (⟨Rect.unit ![3, 192, 0] ![1, 64, 256] i33, part 192 768 slices_S512x1024_o0_768_S512x256
          slices_S256x256_o192_0_S64x256 q33 (dmAt m c t) (cols (iblk m c 1 t) 3)⟩
        :: ⟨Rect.unit ![2, 192, 0] ![1, 64, 256] i23, part 128 768 slices_S512x1024_o0_768_S512x256
          slices_S256x256_o128_0_S64x256 q23 (dmAt m c t) (cols (iblk m c 1 t) 3)⟩
        :: ⟨Rect.unit ![1, 192, 0] ![1, 64, 256] i13, part 64 768 slices_S512x1024_o0_768_S512x256
          slices_S256x256_o64_0_S64x256 q13 (dmAt m c t) (cols (iblk m c 1 t) 3)⟩
        :: ⟨Rect.unit ![0, 192, 0] ![1, 64, 256] i03, part 0 768 slices_S512x1024_o0_768_S512x256
          slices_S256x256_o0_0_S64x256 q03 (dmAt m c t) (cols (iblk m c 1 t) 3)⟩
        :: ⟨Rect.unit ![3, 128, 0] ![1, 64, 256] i32, part 192 512 slices_S512x1024_o0_512_S512x256
          slices_S256x256_o192_0_S64x256 q32 (dmAt m c t) (cols (iblk m c 1 t) 2)⟩
        :: ⟨Rect.unit ![2, 128, 0] ![1, 64, 256] i22, part 128 512 slices_S512x1024_o0_512_S512x256
          slices_S256x256_o128_0_S64x256 q22 (dmAt m c t) (cols (iblk m c 1 t) 2)⟩
        :: ⟨Rect.unit ![1, 128, 0] ![1, 64, 256] i12, part 64 512 slices_S512x1024_o0_512_S512x256
          slices_S256x256_o64_0_S64x256 q12 (dmAt m c t) (cols (iblk m c 1 t) 2)⟩
        :: ⟨Rect.unit ![0, 128, 0] ![1, 64, 256] i02, part 0 512 slices_S512x1024_o0_512_S512x256
          slices_S256x256_o0_0_S64x256 q02 (dmAt m c t) (cols (iblk m c 1 t) 2)⟩
        :: ⟨Rect.unit ![3, 64, 0] ![1, 64, 256] i31, part 192 256 slices_S512x1024_o0_256_S512x256
          slices_S256x256_o192_0_S64x256 q31 (dmAt m c t) (cols (iblk m c 1 t) 1)⟩
        :: ⟨Rect.unit ![2, 64, 0] ![1, 64, 256] i21, part 128 256 slices_S512x1024_o0_256_S512x256
          slices_S256x256_o128_0_S64x256 q21 (dmAt m c t) (cols (iblk m c 1 t) 1)⟩
        :: ⟨Rect.unit ![1, 64, 0] ![1, 64, 256] i11, part 64 256 slices_S512x1024_o0_256_S512x256
          slices_S256x256_o64_0_S64x256 q11 (dmAt m c t) (cols (iblk m c 1 t) 1)⟩
        :: ⟨Rect.unit ![0, 64, 0] ![1, 64, 256] i01, part 0 256 slices_S512x1024_o0_256_S512x256
          slices_S256x256_o0_0_S64x256 q01 (dmAt m c t) (cols (iblk m c 1 t) 1)⟩
        :: ⟨Rect.unit ![3, 0, 0] ![1, 64, 256] i30, part 192 0 slices_S512x1024_o0_0_S512x256
          slices_S256x256_o192_0_S64x256 q30 (dmAt m c t) (cols (iblk m c 1 t) 0)⟩
        :: ⟨Rect.unit ![2, 0, 0] ![1, 64, 256] i20, part 128 0 slices_S512x1024_o0_0_S512x256
          slices_S256x256_o128_0_S64x256 q20 (dmAt m c t) (cols (iblk m c 1 t) 0)⟩
        :: ⟨Rect.unit ![1, 0, 0] ![1, 64, 256] i10, part 64 0 slices_S512x1024_o0_0_S512x256
          slices_S256x256_o64_0_S64x256 q10 (dmAt m c t) (cols (iblk m c 1 t) 0)⟩
        :: ⟨Rect.unit ![0, 0, 0] ![1, 64, 256] i00, part 0 0 slices_S512x1024_o0_0_S512x256
          slices_S256x256_o0_0_S64x256 q00 (dmAt m c t) (cols (iblk m c 1 t) 0)⟩ :: L)
      = fun y => Z y + dwAt m c t y :=
  blocks _ _ _ _ _ _ _ _ _ _ _ _ _ _ _ _ _ L
    i00 i10 i20 i30 i01 i11 i21 i31 i02 i12 i22 i32 i03 i13 i23 i33
    (part_step m c t Z 0 0 0 0 0 (by decide) rfl rfl rfl _ _ q00 h00)
    (part_step m c t Z 0 1 64 0 0 (by decide) rfl rfl rfl _ _ q10 h10)
    (part_step m c t Z 0 2 128 0 0 (by decide) rfl rfl rfl _ _ q20 h20)
    (part_step m c t Z 0 3 192 0 0 (by decide) rfl rfl rfl _ _ q30 h30)
    (part_step m c t Z 1 0 0 256 64 (by decide) rfl rfl rfl _ _ q01 h01)
    (part_step m c t Z 1 1 64 256 64 (by decide) rfl rfl rfl _ _ q11 h11)
    (part_step m c t Z 1 2 128 256 64 (by decide) rfl rfl rfl _ _ q21 h21)
    (part_step m c t Z 1 3 192 256 64 (by decide) rfl rfl rfl _ _ q31 h31)
    (part_step m c t Z 2 0 0 512 128 (by decide) rfl rfl rfl _ _ q02 h02)
    (part_step m c t Z 2 1 64 512 128 (by decide) rfl rfl rfl _ _ q12 h12)
    (part_step m c t Z 2 2 128 512 128 (by decide) rfl rfl rfl _ _ q22 h22)
    (part_step m c t Z 2 3 192 512 128 (by decide) rfl rfl rfl _ _ q32 h32)
    (part_step m c t Z 3 0 0 768 192 (by decide) rfl rfl rfl _ _ q03 h03)
    (part_step m c t Z 3 1 64 768 192 (by decide) rfl rfl rfl _ _ q13 h13)
    (part_step m c t Z 3 2 128 768 192 (by decide) rfl rfl rfl _ _ q23 h23)
    (part_step m c t Z 3 3 192 768 192 (by decide) rfl rfl rfl _ _ q33 h33)

/-- A block of rows of the running sum, read out. -/
theorem ld_sum (Z : FVec Ideal S4x256x256 .f32) (k o : ℕ) (i) :
    Holds (View.ld (Val := Elt Ideal) (e' := .f32) Z (Rect.unit ![k, o, 0] ![1, 64, 256] i)) Z k o :=
  fun hk r j ho => congrArg Z (block_emb k o hk i r j ho)

/-- What the buffer of the running sum held before a point. -/
def before (t : Fin cfg0.N) : FVec Ideal S4x256x256 .f32 :=
  (outsAt0 m c (t.val - 1) (Nat.lt_of_le_of_lt (Nat.sub_le _ _) t.isLt)).2.2.2.2.2.2

theorem zero_off : ∀ k : Fin 3, (![0, 0, 0] : Fin 3 → ℕ) k = 0 := by decide

end Cert.MixIdeal.Block

end
-- ==== Proof.MRowsA.lean ====
/-
  The running sum of the mixing weights' gradient at the first grid point.
-/
module

public import proofs.«01_k».proof.Proof.MBlocks

@[expose] public section

set_option maxRecDepth 16384

noncomputable section

namespace Cert.MixIdeal.Block

open Idealize.ShloMosaic Idealize.SL.Sem Cert.MixIdeal Cert.MixIdeal.Gen

variable (m : (ℓ : Loc nD τ sig) → Buf (Elt Ideal) ℓ) (c : Dev nD)

set_option maxHeartbeats 4000000 in
/-- The first point starts the running sum from zero. -/
theorem outs_dw_reset (t : Fin cfg0.N) (h0 : t.val % 16 = 0) :
    (outsAt0 m c t.val t.isLt).2.2.2.2.2.2 = fun y => 0 + dwAt m c t y := by
  rw [outsAt0_A m c t h0 (by omega)]
  funext j
  frame_out
  refine (congrFun (blocks_step m c t k0_pay8 _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_) j).trans ?_
  on_goal 17 => exact congrArg (· + _) (by pointwise [k0_pay8])
  all_goals repeat rw [View.readCov_skip _ _ _ _ _ (by decide)]
  all_goals rw [View.readCov_fill _ _ _ _ _ zero_off]
  all_goals exact ld_sum _ _ _ _

end Cert.MixIdeal.Block

end
-- ==== Proof.MRowsB.lean ====
/-
  The running sum of the mixing weights' gradient at a grid point between the first and the last.
-/
module

public import proofs.«01_k».proof.Proof.MBlocks

@[expose] public section

set_option maxRecDepth 16384

noncomputable section

namespace Cert.MixIdeal.Block

open Idealize.ShloMosaic Idealize.SL.Sem Cert.MixIdeal Cert.MixIdeal.Gen

variable (m : (ℓ : Loc nD τ sig) → Buf (Elt Ideal) ℓ) (c : Dev nD)

set_option maxHeartbeats 4000000 in
theorem outs_dw_mid_step (t : Fin cfg0.N) (h0 : ¬ t.val % 16 = 0) (h1 : ¬ t.val % 16 = 15) :
    (outsAt0 m c t.val t.isLt).2.2.2.2.2.2 = fun y => before m c t y + dwAt m c t y := by
  rw [outsAt0_B m c t h0 h1]
  funext j
  frame_out
  refine congrFun (blocks_step m c t (before m c t) _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_) j
  all_goals rw [read_unread_whole]
  all_goals exact ld_sum _ _ _ _

end Cert.MixIdeal.Block

end
-- ==== Proof.MRowsC.lean ====
/-
  The running sum of the mixing weights' gradient at the last grid point.
-/
module

public import proofs.«01_k».proof.Proof.MBlocks

@[expose] public section

set_option maxRecDepth 16384

noncomputable section

namespace Cert.MixIdeal.Block

open Idealize.ShloMosaic Idealize.SL.Sem Cert.MixIdeal Cert.MixIdeal.Gen

variable (m : (ℓ : Loc nD τ sig) → Buf (Elt Ideal) ℓ) (c : Dev nD)

set_option maxHeartbeats 4000000 in
theorem outs_dw_last_step (t : Fin cfg0.N) (h1 : t.val % 16 = 15) :
    (outsAt0 m c t.val t.isLt).2.2.2.2.2.2 = fun y => before m c t y + dwAt m c t y := by
  rw [outsAt0_C m c t (by omega) h1]
  funext j
  frame_out
  refine congrFun (blocks_step m c t (before m c t) _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_) j
  all_goals rw [read_unread_whole]
  all_goals exact ld_sum _ _ _ _

/-- A running sum read whole and rounded. -/
theorem rounded (L : List (View.Piece (Elt Ideal) S4x256x256 .f32)) (h) (y : S4x256x256.Idx) :
    k0_pay6 (F := Ideal) ((View.whole cc0_scratch1).readCov L
      (Rect.unit (s := S4x256x256) ![0, 0, 0] ![4, 256, 256] h).toLoadRect) y = View.canon (Val := Elt Ideal) L y := by
  rw [View.readCov_eq_canon']
  refine Eq.trans (b := View.canon (Val := Elt Ideal) L
    ((Rect.unit (s := S4x256x256) ![0, 0, 0] ![4, 256, 256] h).idx y)) ?_ (congrArg _ ?_)
  · pointwise [k0_pay6]
  · refine funext fun k => Fin.ext ((Rect.idx_unit_val _ _ _ _ _).trans ?_)
    fin_cases k <;> simp

/-- At the last point the sum, rounded, is what is written out. -/
theorem outs_dw_last (t : Fin cfg0.N) (h1 : t.val % 16 = 15) (y : S4x256x256.Idx) :
    (outsAt0 m c t.val t.isLt).2.2.2.1 y = (outsAt0 m c t.val t.isLt).2.2.2.2.2.2 y := by
  rw [outsAt0_C m c t (by omega) h1]
  frame_out
  exact rounded _ _ y

end Cert.MixIdeal.Block

end
-- ==== Proof.MRows.lean ====
/-
  The running sum of the mixing weights' gradient after each grid point of the mixing stage.
-/
module

public import proofs.«01_k».proof.Proof.MRowsA
public import proofs.«01_k».proof.Proof.MRowsB
public import proofs.«01_k».proof.Proof.MRowsC

@[expose] public section

set_option maxRecDepth 16384

noncomputable section

namespace Cert.MixIdeal.Block

open Idealize.ShloMosaic Idealize.SL.Sem Cert.MixIdeal Cert.MixIdeal.Gen

variable (m : (ℓ : Loc nD τ sig) → Buf (Elt Ideal) ℓ) (c : Dev nD)

/-- Every point but the first adds its part to the running sum. -/
theorem outs_dw_step (t : Fin cfg0.N) (h0 : ¬ t.val % 16 = 0) :
    (outsAt0 m c t.val t.isLt).2.2.2.2.2.2 = fun y => before m c t y + dwAt m c t y := by
  by_cases h1 : t.val % 16 = 15
  · exact outs_dw_last_step m c t h1
  · exact outs_dw_mid_step m c t h0 h1

end Cert.MixIdeal.Block

end
-- ==== Proof.MArr.lean ====
/-
  The mixing stage's five results after the run, as arrays.
-/
module

public import proofs.«01_k».proof.Proof.MOut
public import proofs.«01_k».proof.Proof.MCols
public import proofs.«01_k».proof.Proof.MRows
public import proofs.«01_k».proof.Proof.ARows
public import Idealize.ShloMosaic.Lib.Claim

@[expose] public section

set_option maxRecDepth 16384

noncomputable section

namespace Cert.MixIdeal.Block

open Idealize.ShloMosaic Idealize.ShloMosaic.TcCoe Idealize.SL.Sem Cert.MixIdeal Cert.MixIdeal.Gen
open Idealize.ShloMosaic.Pipeline (Dat)

variable (m : (ℓ : Loc nD τ sig) → Buf (Elt Ideal) ℓ) (c : Dev nD)

/-- The blocks each window reads and writes at a point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![t.val, 0]
    ∧ win0_7.index t = ![t.val, 0] ∧ win0_8.index t = ![0, 0] ∧ win0_9.index t = ![0, 0, 0] ∧ win0_10.index t = ![0, 0]
    ∧ t.val < 16 :=
  (by decide +kernel : ∀ t : Fin grid0.N, _)

/-- There are sixteen points. -/
theorem lt16 (t : Fin cfg0.N) : t.val < 16 := (idx t).2.2.2.2.2.2.2.2.2.2.2

theorem row_lt (t : Fin cfg0.N) (r : Fin 512) : 512 * t.val + r.val < 8192 := by
  have := lt16 t
  omega

/-- Row `r` of point `t` among all rows. -/
abbrev row (t : Fin cfg0.N) (r : Fin 512) : Fin 8192 := ⟨512 * t.val + r.val, row_lt t r⟩

/-- The call's arguments on a device. -/
abbrev aDy : FVec Ideal S8192x1024 .f32 := m ((c : Thread nD τ).loc main_arg0)
abbrev aP : FVec Ideal S8192x1024 .bf16 := m ((c : Thread nD τ).loc main_arg1)
abbrev aZ : FVec Ideal S8192x1024 .bf16 := m ((c : Thread nD τ).loc main_arg2)
abbrev aWm : FVec Ideal S4x256x256 .f32 := m ((c : Thread nD τ).loc main_arg3)
abbrev aSc : FVec Ideal S1024 .f32 := m ((c : Thread nD τ).loc main_arg4)
abbrev aWo : FVec Ideal S1024x1024 .f32 := m ((c : Thread nD τ).loc main_arg5)

/-- The mixing weights as the call receives them: matrix `k` of the stack holds 64 rows of every group. -/
theorem laid (w : FVec Ideal S4x256x256 .f32) (k : Fin 4) (q j : Fin 256) :
    shapeCast S4x256x256 (transpose S4x4x64x256 [1, 0, 2, 3]
      (shapeCast S4x4x64x256 w shapeCasts_S4x256x256_S4x4x64x256) transposes_S4x4x64x256_S4x4x64x256_1_0_2_3)
      shapeCasts_S4x4x64x256_S4x256x256 (ix3 k q j) = w (ix3 (rowGrp q) (rowOf k q) j) := by
  have e1 : ∀ v : FVec Ideal S4x4x64x256 .f32, shapeCast S4x256x256 v shapeCasts_S4x4x64x256_S4x256x256 (ix3 k q j)
      = v (ix4 k (rowGrp q) ⟨q.val % 64, by omega⟩ j) := fun v =>
    shapeCast_apply v shapeCasts_S4x4x64x256_S4x256x256 (ix3 k q j) (ix4 k (rowGrp q) ⟨q.val % 64, by omega⟩ j) (by
      rewrite [Shape.rowMajor_val_four, Shape.rowMajor_val_three]
      show ((k.val * 4 + q.val / 64) * 64 + q.val % 64) * 256 + j.val = (k.val * 256 + q.val) * 256 + j.val
      omega)
  have e2 : ∀ v : FVec Ideal S4x4x64x256 .f32,
      transpose S4x4x64x256 [1, 0, 2, 3] v transposes_S4x4x64x256_S4x4x64x256_1_0_2_3 (ix4 k (rowGrp q) ⟨q.val % 64, by omega⟩ j)
        = v (ix4 (rowGrp q) k ⟨q.val % 64, by omega⟩ j) := fun v =>
    transpose_apply [1, 0, 2, 3] v transposes_S4x4x64x256_S4x4x64x256_1_0_2_3 _ (ix4 (rowGrp q) k ⟨q.val % 64, by omega⟩ j)
      (fun b => match b with | ⟨0, _⟩ => rfl | ⟨1, _⟩ => rfl | ⟨2, _⟩ => rfl | ⟨3, _⟩ => rfl)
  rw [e1, e2]
  refine shapeCast_apply w shapeCasts_S4x256x256_S4x4x64x256 (ix4 (rowGrp q) k ⟨q.val % 64, by omega⟩ j)
    (ix3 (rowGrp q) (rowOf k q) j) ?_
  rewrite [Shape.rowMajor_val_three, Shape.rowMajor_val_four]
  show (q.val / 64 * 256 + (64 * k.val + q.val % 64)) * 256 + j.val = ((q.val / 64 * 4 + k.val) * 64 + q.val % 64) * 256 + j.val
  omega

/-! ## What the call finds at a point -/

theorem dy_at (t : Fin cfg0.N) (r : Fin 512) (j : Fin 1024) :
    (iblk m c 0 t : FVec Ideal S512x1024 .f32) (ix2 r j) = aDy m c (ix2 (row t r) j) := by
  blk_point [iblk, V, idx t]

theorem p_at (t : Fin cfg0.N) (r : Fin 512) (j : Fin 1024) :
    (iblk m c 1 t : FVec Ideal S512x1024 .bf16) (ix2 r j) = aP m c (ix2 (row t r) j) := by
  blk_point [iblk, V, idx t]

theorem z_at (t : Fin cfg0.N) (r : Fin 512) (j : Fin 1024) :
    (iblk m c 2 t : FVec Ideal S512x1024 .bf16) (ix2 r j) = aZ m c (ix2 (row t r) j) := by
  blk_point [iblk, V, idx t]

theorem wm_at (t : Fin cfg0.N) (k : Fin 4) (q j : Fin 256) :
    (iblk m c 3 t : FVec Ideal S4x256x256 .bf16) (ix3 k q j) = aWm m c (ix3 (rowGrp q) (rowOf k q) j) := by
  blk_simp [iblk]
  entry_read
  have e : ((View.whole main_v3).slice (win0_3.rect t)).emb (ix3 k q j) = (ix3 k q j : S4x256x256.Idx) := by
    blk_ext [idx t]
  rw [e]
  exact laid (aWm m c) k q j

theorem sc_at (t : Fin cfg0.N) (j : Fin 1024) :
    (iblk m c 4 t : FVec Ideal S1x1024 .f32) (ix2 0 j) = aSc m c (ix1 j) := by
  blk_simp [iblk]
  entry_read
  have e : ((View.whole main_v4).slice (win0_4.rect t)).emb (ix2 0 j) = (ix2 0 j : S1x1024.Idx) := by
    blk_ext [idx t]
  rw [e]
  exact (by pointwise : broadcastInDim S1x1024 ![1] bcast_S1024_S1x1024_1 (aSc m c) (ix2 0 j) = aSc m c (ix1 j))

theorem wo_at (t : Fin cfg0.N) (k j : Fin 1024) :
    (iblk m c 5 t : FVec Ideal S1024x1024 .bf16) (ix2 k j) = aWo m c (ix2 k j) := by
  blk_simp [iblk]
  entry_read
  have e : ((View.whole main_v5).slice (win0_5.rect t)).emb (ix2 k j) = (ix2 k j : S1024x1024.Idx) := by
    blk_ext [idx t]
  rw [e]
  exact (by pointwise : truncf .bf16 (aWo m c) bitsLt_bf16_f32 (ix2 k j) = aWo m c (ix2 k j))

/-! ## A point's values over the arrays -/

theorem weights_at (t : Fin cfg0.N) (g : Fin 4) (r j : Fin 256) :
    weights (iblk m c 3 t) g (ix2 r j) = aWm m c (ix3 g r j) := by
  refine (weights_apply _ g r j).trans ((wm_at m c t _ _ j).trans ?_)
  refine congrArg₂ (fun a b => aWm m c (ix3 a b j)) (Fin.ext ?_) (Fin.ext ?_)
  · show (64 * g.val + r.val % 64) / 64 = g.val
    omega
  · show 64 * (r.val / 64) + (64 * g.val + r.val % 64) % 64 = r.val
    omega

theorem cols_at (t : Fin cfg0.N) (g : Fin 4) (r : Fin 512) (j : Fin 256) :
    cols (iblk m c 1 t) g (ix2 r j) = aP m c (ix2 (row t r) (Mix.col g j)) :=
  (cols_apply _ g r j).trans (p_at m c t r _)

theorem da_at (t : Fin cfg0.N) (r : Fin 512) (j : Fin 1024) :
    daAt m c t (ix2 r j) = Mix.back (aDy m c) (aWo m c) (row t r) j :=
  (back_apply _ _ r j).trans (Finset.sum_congr rfl fun d _ => congrArg₂ _ (dy_at m c t r d) (wo_at m c t j d))

theorem mixed_at (t : Fin cfg0.N) (r : Fin 512) (j : Fin 1024) :
    mixedAt m c t (ix2 r j) = Mix.mixed (aP m c) (aWm m c) (row t r) j :=
  (mixOf_apply _ _ r j).trans (Finset.sum_congr rfl fun d _ => congrArg₂ _ (cols_at m c t _ r d) (weights_at m c t _ d _))

theorem gate_at (t : Fin cfg0.N) (r : Fin 512) (j : Fin 1024) :
    zAt m c t (ix2 r j) * Ideal.logistic (zAt m c t (ix2 r j)) = Mix.gate (aZ m c) (row t r) j := by
  unfold zAt
  rw [z_at m c t r j]
  rfl

theorem dm_at (t : Fin cfg0.N) (r : Fin 512) (j : Fin 1024) :
    dmAt m c t (ix2 r j) = Mix.dmixed (aDy m c) (aZ m c) (aSc m c) (aWo m c) (row t r) j :=
  (dmixed_apply _ _ _ r j).trans (congrArg₂ _ (congrArg₂ _ (da_at m c t r j) (gate_at m c t r j)) (sc_at m c t j))

theorem dzAt_apply (t : Fin cfg0.N) (r : Fin 512) (j : Fin 1024) :
    dzAt m c t (ix2 r j) = Mix.dgate (aDy m c) (aP m c) (aZ m c) (aWm m c) (aSc m c) (aWo m c) (row t r) j :=
  congrArg₂ _ (congrArg₂ _ (da_at m c t r j) (congrArg₂ _ (mixed_at m c t r j) (sc_at m c t j)))
    (congrArg Mix.slope (z_at m c t r j))

theorem dpAt_apply (t : Fin cfg0.N) (r : Fin 512) (j : Fin 1024) :
    dpAt m c t (ix2 r j) = Mix.dpool (aDy m c) (aZ m c) (aWm m c) (aSc m c) (aWo m c) (row t r) j :=
  Finset.sum_congr rfl fun k _ => congrArg₂ _ (dm_at m c t r _) (weights_at m c t _ _ k)

theorem dsAt_apply (t : Fin cfg0.N) (j : Fin 1024) : dsAt m c t (ix2 0 j) = ∑ r : Fin 512,
    Mix.back (aDy m c) (aWo m c) (row t r) j * Mix.gate (aZ m c) (row t r) j * Mix.mixed (aP m c) (aWm m c) (row t r) j :=
  Finset.sum_congr rfl fun r _ => congrArg₂ _ (congrArg₂ _ (da_at m c t r j) (gate_at m c t r j)) (mixed_at m c t r j)

theorem doAt_apply (t : Fin cfg0.N) (k j : Fin 1024) : doAt m c t (ix2 k j) = ∑ r : Fin 512,
    Mix.mixed (aP m c) (aWm m c) (row t r) k * aSc m c (ix1 k) * Mix.gate (aZ m c) (row t r) k * aDy m c (ix2 (row t r) j) :=
  Finset.sum_congr rfl fun r _ => congrArg₂ _ (congrArg₂ _ (congrArg₂ _ (mixed_at m c t r k) (sc_at m c t k))
    (gate_at m c t r k)) (dy_at m c t r j)

theorem dwAt_apply (t : Fin cfg0.N) (k : Fin 4) (q j : Fin 256) : dwAt m c t (ix3 k q j) = ∑ r : Fin 512,
    aP m c (ix2 (row t r) (Mix.col (rowGrp q) (rowOf k q)))
      * Mix.dmixed (aDy m c) (aZ m c) (aSc m c) (aWo m c) (row t r) (Mix.col (rowGrp q) j) :=
  Finset.sum_congr rfl fun r _ => congrArg₂ _ (cols_at m c t _ r _) (dm_at m c t r _)

/-! ## The results -/

/-- The first result is the pooled rows' gradient. -/
theorem final_dp : (dats m 0 c).arrAt 6 (cfgs 0).N
    = fun y : S8192x1024.Idx => Mix.dpool (aDy m c) (aZ m c) (aWm m c) (aSc m c) (aWo m c) (y 0) (y 1) := by
  refine (dats m 0 c).arrAt_eq_of_covers 6 _ (by decide +kernel) fun t _ y => ?_
  blk_simp
  rw [after0_6, outs_dp]
  obtain ⟨r, j, rfl⟩ := AttnIn.at2 y
  refine (dpAt_apply m c t r j).trans ?_
  refine congrArg₂ _ (Fin.ext ?_) (Fin.ext ?_)
  · blk_simp [idx t]
    show 512 * t.val + r.val = t.val * 512 + r.val
    omega
  · blk_simp [idx t]

/-- The second result is the gradient of the gate's argument. -/
theorem final_dz : (dats m 0 c).arrAt 7 (cfgs 0).N
    = fun y : S8192x1024.Idx => Mix.dgate (aDy m c) (aP m c) (aZ m c) (aWm m c) (aSc m c) (aWo m c) (y 0) (y 1) := by
  refine (dats m 0 c).arrAt_eq_of_covers 7 _ (by decide +kernel) fun t _ y => ?_
  blk_simp
  rw [after0_7]
  obtain ⟨r, j, rfl⟩ := AttnIn.at2 y
  refine (outs_dz m c t r j).trans ((dzAt_apply m c t r j).trans ?_)
  refine congrArg₂ _ (Fin.ext ?_) (Fin.ext ?_)
  · blk_simp [idx t]
    show 512 * t.val + r.val = t.val * 512 + r.val
    omega
  · blk_simp [idx t]

/-- The third result is the gradient of the output projection's weights. -/
theorem final_do : (dats m 0 c).arrAt 8 (cfgs 0).N
    = fun y : S1024x1024.Idx => Mix.dproj (aDy m c) (aP m c) (aZ m c) (aWm m c) (aSc m c) (y 0) (y 1) := by
  refine (dats m 0 c).arrAt_eq_of_covers 8 _ (by decide +kernel) fun t hf y => ?_
  blk_simp
  rw [after0_8]
  have h15 : t.val % 16 = 15 := (flush0_8 t).mp hf
  have hq : t.val / 16 = 0 := Nat.div_eq_of_lt (lt16 t)
  obtain ⟨k, j, rfl⟩ := AttnIn.at2 y
  refine (outs_do_last m c t h15 k j).trans ?_
  refine (Pipeline.eq_sum_fin_of_reset_step_apply_of_flush (fun n h => (outsAt0 m c n h).2.2.2.2.2.1) 16 (fun _ => 0)
    (doAt m c) (fun t h y => by obtain ⟨k, j, rfl⟩ := AttnIn.at2 y; exact outs_do_reset m c t h k j)
    (fun t h y => by obtain ⟨k, j, rfl⟩ := AttnIn.at2 y; exact outs_do_step m c t h k j) t h15 (ix2 k j)).trans ?_
  refine (congrArg (0 + ·) (Finset.sum_congr rfl fun s _ => doAt_apply m c _ k j)).trans ?_
  refine (AttnIn.sum_points (fun u => Mix.mixed (aP m c) (aWm m c) u k * aSc m c (ix1 k) * Mix.gate (aZ m c) u k
    * aDy m c (ix2 u j)) _ hq _).trans ?_
  refine congrArg₂ (Mix.dproj _ _ _ _ _) (Fin.ext ?_) (Fin.ext ?_)
  · blk_simp [idx t]
  · blk_simp [idx t]

/-- The fourth result is the mixing weights' gradient, in the stack's order of rows. -/
theorem final_dw : (dats m 0 c).arrAt 9 (cfgs 0).N
    = fun y : S4x256x256.Idx => Mix.dweights (aDy m c) (aP m c) (aZ m c) (aSc m c) (aWo m c)
        (rowGrp (y 1)) (rowOf (y 0) (y 1)) (y 2) := by
  refine (dats m 0 c).arrAt_eq_of_covers 9 _ (by decide +kernel) fun t hf y => ?_
  blk_simp
  rw [after0_9]
  have h15 : t.val % 16 = 15 := (flush0_9 t).mp hf
  have hq : t.val / 16 = 0 := Nat.div_eq_of_lt (lt16 t)
  obtain ⟨k, q, j, rfl⟩ : ∃ (k : Fin 4) (q j : Fin 256), y = ix3 k q j :=
    ⟨y 0, y 1, y 2, by funext a; fin_cases a <;> rfl⟩
  refine (outs_dw_last m c t h15 (ix3 k q j)).trans ?_
  refine (Pipeline.eq_sum_fin_of_reset_step_apply_of_flush (fun n h => (outsAt0 m c n h).2.2.2.2.2.2) 16 (fun _ => 0)
    (dwAt m c) (fun t h y => congrFun (outs_dw_reset m c t h) y) (fun t h y => congrFun (outs_dw_step m c t h) y) t h15
    (ix3 k q j)).trans ?_
  refine (congrArg (0 + ·) (Finset.sum_congr rfl fun s _ => dwAt_apply m c _ k q j)).trans ?_
  refine (AttnIn.sum_points (fun u => aP m c (ix2 u (Mix.col (rowGrp q) (rowOf k q)))
    * Mix.dmixed (aDy m c) (aZ m c) (aSc m c) (aWo m c) u (Mix.col (rowGrp q) j)) _ hq _).trans ?_
  have e : ((View.whole main_v6_3).slice (win0_9.rect t)).emb (ix3 k q j) = (ix3 k q j : S4x256x256.Idx) := by
    blk_ext [idx t]
  exact (congrArg (fun y : S4x256x256.Idx => Mix.dweights (aDy m c) (aP m c) (aZ m c) (aSc m c) (aWo m c)
        (rowGrp (y 1)) (rowOf (y 0) (y 1)) (y 2)) e).symm

/-- The fifth result is the scale's gradient. -/
theorem final_ds : (dats m 0 c).arrAt 10 (cfgs 0).N
    = fun y : S1x1024.Idx => Mix.dscale (aDy m c) (aP m c) (aZ m c) (aWm m c) (aWo m c) (y 1) := by
  refine (dats m 0 c).arrAt_eq_of_covers 10 _ (by decide +kernel) fun t hf y => ?_
  blk_simp
  rw [after0_10]
  have h15 : t.val % 16 = 15 := (flush0_10 t).mp hf
  have hq : t.val / 16 = 0 := Nat.div_eq_of_lt (lt16 t)
  obtain ⟨u, j, rfl⟩ := AttnIn.at2 y
  obtain rfl : u = 0 := Subsingleton.elim _ _
  refine (Pipeline.eq_sum_fin_of_reset_step_apply_of_flush (fun n h => (outsAt0 m c n h).2.2.2.2.1) 16 (fun _ => 0)
    (dsAt m c) (fun t h y => by
      obtain ⟨u, j, rfl⟩ := AttnIn.at2 y; obtain rfl : u = 0 := Subsingleton.elim _ _; exact outs_ds_reset m c t h j)
    (fun t h y => by
      obtain ⟨u, j, rfl⟩ := AttnIn.at2 y; obtain rfl : u = 0 := Subsingleton.elim _ _; exact outs_ds_step m c t h j)
    t h15 (ix2 0 j)).trans ?_
  refine (congrArg (0 + ·) (Finset.sum_congr rfl fun s _ => dsAt_apply m c _ j)).trans ?_
  refine (AttnIn.sum_points (fun u => Mix.back (aDy m c) (aWo m c) u j * Mix.gate (aZ m c) u j * Mix.mixed (aP m c) (aWm m c) u j)
    _ hq _).trans ?_
  refine congrArg (Mix.dscale _ _ _ _ _) (Fin.ext ?_)
  blk_simp [idx t]

end Cert.MixIdeal.Block

end
-- ==== Proof.MEquation.lean ====
/-
  The mixing stage and its reference leave the same results from arguments that agree, when the values other than the
  gate's argument are finite.
-/
module

public import proofs.«01_k».proof.Proof.MRef
public import proofs.«01_k».proof.Proof.MArr
public import proofs.«01_k».proof.Proof.Consts
public import proofs.«01_k».proof.Proof.Gen.MixReferenceIdeal.Run
public import proofs.«01_k».proof.Proof.Gen.MixReferenceIdeal.Read
public import proofs.«01_k».proof.Proof.Gen.MixIdeal
public import proofs.«01_k».proof.Proof.Gen.MixIdeal.Frame
public import proofs.«01_k».proof.Defs
public import Idealize.ShloMosaic.Lib.Claim

@[expose] public section

set_option maxRecDepth 16384

noncomputable section

namespace Cert.MixEquation

open Idealize.ShloMosaic Idealize.SL.Sem

/-- The single precision pattern of infinity. -/
theorem ofBits_inf : Ideal.ofBits .f32 0x7F800000#32 = ⊤ := by
  simp [Ideal.ofBits, Ideal.ieee]

/-- The single precision pattern of minus infinity. -/
theorem ofBits_neg_inf : Ideal.ofBits .f32 0xFF800000#32 = ⊥ := by
  simp [Ideal.ofBits, Ideal.ieee]

/-- A value strictly between the infinities is real. -/
theorem real_of_between (x a b : EReal) (ha : a = ⊤) (hb : b = ⊥) (hlt : Ideal.cmp .olt x a = 1#1)
    (hgt : Ideal.cmp .ogt x b = 1#1) : Mix.Real x := by
  subst ha
  subst hb
  constructor
  · intro h
    rw [h] at hlt
    simp [Ideal.cmp] at hlt
  · intro h
    rw [h] at hgt
    simp [Ideal.cmp] at hgt

/-- The precondition says that the values other than the gate's argument are real numbers. -/
theorem real_of_pre [Cert.Pre_all_finite.Facts]
    (m : (ℓ : Loc Cert.MixIdeal.nD Cert.MixIdeal.τ Cert.MixIdeal.sig) → Buf (Elt Ideal) ℓ)
    (hpre : Cert.Pre_MixIdeal_all_finite m) (c : Dev Cert.MixIdeal.nD) :
    (∀ i, Mix.Real (Cert.MixIdeal.Block.aDy m c i)) ∧ (∀ i, Mix.Real (Cert.MixIdeal.Block.aP m c i))
      ∧ (∀ i, Mix.Real (Cert.MixIdeal.Block.aWm m c i)) ∧ (∀ i, Mix.Real (Cert.MixIdeal.Block.aSc m c i))
      ∧ (∀ i, Mix.Real (Cert.MixIdeal.Block.aWo m c i)) := by
  obtain ⟨h0, h1, h2, h3, h4, h5, h6, h7, h8, h9⟩ := hpre c
  exact ⟨fun i => real_of_between _ _ _ ofBits_inf ofBits_neg_inf (congrFun h0 i) (congrFun h1 i),
    fun i => real_of_between _ _ _ Pool.ofBits_inf Pool.ofBits_neg_inf (congrFun h2 i) (congrFun h3 i),
    fun i => real_of_between _ _ _ ofBits_inf ofBits_neg_inf (congrFun h4 i) (congrFun h5 i),
    fun i => real_of_between _ _ _ ofBits_inf ofBits_neg_inf (congrFun h6 i) (congrFun h7 i),
    fun i => real_of_between _ _ _ ofBits_inf ofBits_neg_inf (congrFun h8 i) (congrFun h9 i)⟩

set_option maxHeartbeats 1600000 in
/-- The kernel's results are the reference's. -/
theorem algebraic [Cert.Pre_all_finite.Facts] : Cert.algebraic_MixIdeal_MixReferenceIdeal_pre_all_finite := by
  pair_intro
  · run_from Cert.MixIdeal.Gen.run_main m g
  · run_from Cert.MixReferenceIdeal.Value.run m' g'
    · rw [Cert.MixIdeal.Block.final_dp m c]
      refine (Cert.MixReferenceIdeal.Read.val_main_v34_eq (F := Ideal) _ _ _ _ _).trans ?_
      funext y
      obtain ⟨u, j, rfl⟩ := AttnIn.at2 y
      exact Cert.MixReferenceIdeal.Block.out_dp _ _ _ _ _ u j
    · obtain ⟨hdy, hp, hwm, hsc, hwo⟩ := real_of_pre m hpre c
      rw [Cert.MixIdeal.Block.final_dz m c]
      refine (Cert.MixReferenceIdeal.Read.val_main_v35_eq (F := Ideal) _ _ _ _ _ _).trans ?_
      funext y
      obtain ⟨u, j, rfl⟩ := AttnIn.at2 y
      exact Cert.MixReferenceIdeal.Block.out_dz _ _ _ _ _ _ hdy hp hwm hsc hwo u j
    · rw [Cert.MixIdeal.Block.final_do m c]
      refine (Cert.MixReferenceIdeal.Read.val_main_v36_eq (F := Ideal) _ _ _ _ _).trans ?_
      funext y
      obtain ⟨k, j, rfl⟩ := AttnIn.at2 y
      exact Cert.MixReferenceIdeal.Block.out_do _ _ _ _ _ k j
    · rw [Cert.MixIdeal.Block.final_dw m c]
      refine (Cert.MixReferenceIdeal.Read.val_main_v37_eq (F := Ideal) _ _ _ _ _).trans ?_
      funext y
      obtain ⟨k, q, j, rfl⟩ : ∃ (k : Fin 4) (q j : Fin 256), y = ValueIdx.ix3 k q j :=
        ⟨y 0, y 1, y 2, by funext a; fin_cases a <;> rfl⟩
      exact Cert.MixReferenceIdeal.Block.out_dw _ _ _ _ _ k q j
    · rw [Cert.MixIdeal.Block.final_ds m c]
      refine (Cert.MixReferenceIdeal.Read.val_main_v38_eq (F := Ideal) _ _ _ _ _).trans ?_
      funext y
      obtain ⟨u, j, rfl⟩ := AttnIn.at2 y
      obtain rfl : u = 0 := Subsingleton.elim _ _
      exact Cert.MixReferenceIdeal.Block.out_ds _ _ _ _ _ j

end Cert.MixEquation

end
-- ==== Proof.ProjectFrame.lean ====
module

public import proofs.«01_k».proof.Defs
public import proofs.«01_k».proof.Proof.Gen.ProjectReferenceIdeal
public import proofs.«01_k».proof.Proof.Gen.ProjectReferenceIdeal.Run
public import Idealize.ShloMosaic.Lib.Claim
public import Idealize.ShloMosaic.Lib.Quiescent

@[expose] public section

noncomputable section

open Idealize.ShloMosaic Idealize.SL.Sem

namespace Cert.ProjectReferenceIdeal.Framed

/-- The reference leaves its arguments alone, and as it declares no semaphore every counter is zero at its end. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun _ h => ⟨fun c => (h c).2.2.2.2, sem_eq_zero_of_no_sems rfl _⟩)
    (Cert.ProjectReferenceIdeal.Value.run m g)

end Cert.ProjectReferenceIdeal.Framed

end
-- ==== Proof.QPart.lean ====
/-
  The attention mixer's projection forwards: what it is of the whole arrays, and one grid point of its kernel.
-/
module

public import proofs.«01_k».proof.Proof.ARows
public import proofs.«01_k».proof.Proof.Gen.ProjectIdeal.Skeleton

@[expose] public section

set_option maxRecDepth 16384

noncomputable section

namespace Project

open Idealize.ShloMosaic

variable (x : FVec Ideal ⟨2, ![8192, 1024]⟩ .f32) (g : FVec Ideal ⟨1, ![1024]⟩ .f32)
  (w : FVec Ideal ⟨2, ![1024, 2560]⟩ .f32)

/-- The normed row, with its gain, against a column of the weights. -/
def column (u : Fin 8192) (k : Fin 2560) : EReal := ∑ j : Fin 1024, Pool.normed x u j * g (ix1 j) * w (ix2 j k)

/-- The queries' columns, with their factor of one over the root of a head's width. -/
def query (k : Fin 1024) (u : Fin 8192) : EReal := column x g w u ⟨k.val, by omega⟩ * Ideal.ofBits .f32 0x3E000000#32

/-- The keys' and values' columns. -/
def keys (u : Fin 8192) (k : Fin 512) : EReal := column x g w u ⟨1024 + k.val, by omega⟩

/-- The gate's columns. -/
def gate (k : Fin 1024) (u : Fin 8192) : EReal := column x g w u ⟨1536 + k.val, by omega⟩

end Project

namespace Cert.ProjectIdeal.Block

open Idealize.ShloMosaic Cert.ProjectIdeal Cert.ProjectIdeal.Gen

/-- The normed rows with their gain. -/
theorem hidden_apply (x : FVec Ideal S512x1024 .f32) (g : FVec Ideal S1x1024 .f32) (r : Fin 512) (j : Fin 1024) :
    k0_pay2 (F := Ideal) x g (ix2 r j)
      = x (ix2 r j) * Pool.rstd Pool.eps (fun k => x (ix2 r k)) * g (ix2 0 j) := by
  pointwise [k0_pay2]
  rw [Pool.ofBits_1024, Pool.ofBits_eps]
  rfl

/-- The queries' columns. -/
theorem query_apply (x : FVec Ideal S512x1024 .f32) (g : FVec Ideal S1x1024 .f32) (w : FVec Ideal S1024x1024 .bf16)
    (k : Fin 1024) (r : Fin 512) : k0_pay3 (F := Ideal) x g w (ix2 k r)
      = (∑ j : Fin 1024, w (ix2 k j) * k0_pay2 (F := Ideal) x g (ix2 r j)) * Ideal.ofBits .f32 0x3E000000#32 := by
  unfold k0_pay3
  generalize k0_pay2 (F := Ideal) x g = h
  pointwise

/-- The gate's columns. -/
theorem gate_apply (x : FVec Ideal S512x1024 .f32) (g : FVec Ideal S1x1024 .f32) (w : FVec Ideal S1024x1024 .bf16)
    (k : Fin 1024) (r : Fin 512) : k0_pay4 (F := Ideal) x g w (ix2 k r)
      = ∑ j : Fin 1024, w (ix2 k j) * k0_pay2 (F := Ideal) x g (ix2 r j) := by
  unfold k0_pay4
  generalize k0_pay2 (F := Ideal) x g = h
  pointwise

/-- The keys' and values' columns, a column to a row. -/
theorem keys_apply (x : FVec Ideal S512x1024 .f32) (g : FVec Ideal S1x1024 .f32) (w : FVec Ideal S512x1024 .bf16)
    (k r : Fin 512) : k0_pay5 (F := Ideal) x g w (ix2 k r)
      = ∑ j : Fin 1024, w (ix2 k j) * k0_pay2 (F := Ideal) x g (ix2 r j) := by
  unfold k0_pay5
  generalize k0_pay2 (F := Ideal) x g = h
  pointwise

/-- The keys' and values' columns, row by row. -/
theorem rows_apply (h : FVec Ideal S512x1024 .bf16) (w : FVec Ideal S512x1024 .bf16) (r k : Fin 512) :
    k0_pay1 (F := Ideal) h w (ix2 r k) = ∑ j : Fin 1024, h (ix2 r j) * w (ix2 k j) := by
  pointwise [k0_pay1]

end Cert.ProjectIdeal.Block

end
-- ==== Proof.QRef.lean ====
/-
  The projection reference's four results, row by row.
-/
module

public import proofs.«01_k».proof.Proof.QPart
public import proofs.«01_k».proof.Proof.Gen.ProjectReferenceIdeal.Read

@[expose] public section

set_option maxRecDepth 16384

noncomputable section

namespace Cert.ProjectReferenceIdeal.Block

open Idealize.ShloMosaic Cert.ProjectReferenceIdeal Cert.ProjectReferenceIdeal.Gen Cert.ProjectReferenceIdeal.Read Pool

variable (x : FVec Ideal (⟨2, ![8192, 1024]⟩ : Shape) .f32) (g : FVec Ideal (⟨1, ![1024]⟩ : Shape) .f32)
  (w : FVec Ideal (⟨2, ![1024, 2560]⟩ : Shape) .f32)

/-! ## The norm and the projection -/

theorem v7 (u : Fin 8192) : val_main_v7 (F := Ideal) x (ix2 u 0) = inverse x u := by
  have h1 : val_main_v2 (F := Ideal) x (ix2 u 0) = ∑ k : Fin 1024, x (ix2 u k) * x (ix2 u k) := by
    rw [val_main_v2_apply, val_main_v1_apply]
    refine (congrArg (· + _) (Ideal.ofBits_zero_f32 : val_main_cst (F := Ideal) _ = 0)).trans ?_
    rw [zero_add]
    refine Finset.sum_congr rfl fun k _ => ?_
    have e : idx_main_v1 (idx_main_v2 (ix2 u 0)) k = ix2 u k := by blk_ext
    rw [e]; rfl
  have h2 : val_main_v3 (F := Ideal) (ix2 u 0) = ((1024 : ℝ) : EReal) := by
    rw [val_main_v3_apply]; exact ofBits_1024
  have h3 : val_main_v5 (F := Ideal) (ix2 u 0) = (eps : EReal) := by
    rw [val_main_v5_apply]; exact ofBits_eps
  show Ideal.rsqrt (Ideal.div (val_main_v2 (F := Ideal) x (ix2 u 0)) (val_main_v3 (F := Ideal) (ix2 u 0))
    + val_main_v5 (F := Ideal) (ix2 u 0)) = _
  rw [h1, h2, h3]
  rfl

theorem v12 (u : Fin 8192) (j : Fin 1024) : val_main_v12 (F := Ideal) x g (ix2 u j) = normed x u j * g (ix1 j) := by
  have h : val_main_v12 (F := Ideal) x g (ix2 u j) = x (ix2 u j) * val_main_v7 (F := Ideal) x (ix2 u 0) * g (ix1 j) := by
    unfold val_main_v12 val_main_v11 val_main_v10 val_main_v9 val_main_v8
    generalize val_main_v7 (F := Ideal) x = v
    pointwise
  rw [h, v7]; rfl

theorem v13 (u : Fin 8192) (k : Fin 2560) :
    val_main_v13 (F := Ideal) x g w (ix2 u k) = Project.column x g w u k := by
  rw [val_main_v13_apply]
  refine Finset.sum_congr rfl fun j _ => ?_
  have e : lidx_main_v13 (ix2 u k) j = ix2 u j := by blk_ext
  have e' : ridx_main_v13 (ix2 u k) j = ix2 j k := by blk_ext
  rw [e, e', v12]

/-! ## The results -/

theorem out_q (k : Fin 1024) (u : Fin 8192) :
    val_main_v20 (F := Ideal) x g w (ix2 k u) = Project.query x g w k u := by
  refine Eq.trans ?_ (congrArg (· * Ideal.ofBits .f32 0x3E000000#32) (v13 x g w u ⟨k.val, by omega⟩))
  unfold val_main_v20 val_main_v19 val_main_v18 val_main_v17 val_main_v14 val_main_cst_2
  generalize val_main_v13 (F := Ideal) x g w = v
  pointwise

theorem out_kv (u : Fin 8192) (k : Fin 512) :
    val_main_v21 (F := Ideal) x g w (ix2 u k) = Project.keys x g w u k := by
  refine Eq.trans ?_ (v13 x g w u ⟨1024 + k.val, by omega⟩)
  unfold val_main_v21 val_main_v15
  generalize val_main_v13 (F := Ideal) x g w = v
  pointwise

theorem out_kvT (k : Fin 512) (u : Fin 8192) :
    val_main_v23 (F := Ideal) x g w (ix2 k u) = Project.keys x g w u k := by
  refine Eq.trans ?_ (v13 x g w u ⟨1024 + k.val, by omega⟩)
  unfold val_main_v23 val_main_v22 val_main_v15
  generalize val_main_v13 (F := Ideal) x g w = v
  pointwise

theorem out_z (k : Fin 1024) (u : Fin 8192) :
    val_main_v25 (F := Ideal) x g w (ix2 k u) = Project.gate x g w k u := by
  refine Eq.trans ?_ (v13 x g w u ⟨1536 + k.val, by omega⟩)
  unfold val_main_v25 val_main_v24 val_main_v16
  generalize val_main_v13 (F := Ideal) x g w = v
  pointwise

end Cert.ProjectReferenceIdeal.Block

end
-- ==== Proof.QArr.lean ====
/-
  The projection kernel's four results after the run, as arrays.
-/
module

public import proofs.«01_k».proof.Proof.QPart
public import proofs.«01_k».proof.Proof.Gen.ProjectIdeal.Frame
public import Idealize.ShloMosaic.Lib.Claim

@[expose] public section

set_option maxRecDepth 16384

noncomputable section

namespace Cert.ProjectIdeal.Block

open Idealize.ShloMosaic Idealize.ShloMosaic.TcCoe Idealize.SL.Sem Cert.ProjectIdeal Cert.ProjectIdeal.Gen AttnIn
open Idealize.ShloMosaic.Pipeline (Dat)

variable (m : (ℓ : Loc nD τ sig) → Buf (Elt Ideal) ℓ) (c : Dev nD)

/-- The blocks each window reads and writes at a point. -/
theorem idx : ∀ t : Fin cfg0.N, win0_0.index t = ![t.val, 0] ∧ win0_1.index t = ![0, 0]
    ∧ win0_2.index t = ![0, 0] ∧ win0_3.index t = ![0, t.val] ∧ win0_4.index t = ![t.val, 0]
    ∧ win0_5.index t = ![0, t.val] ∧ win0_6.index t = ![0, t.val] ∧ t.val < 16 :=
  (by decide +kernel : ∀ t : Fin grid0.N, _)

/-- There are sixteen points. -/
theorem lt16 (t : Fin cfg0.N) : t.val < 16 := (idx t).2.2.2.2.2.2.2

/-- The call's arguments on a device. -/
abbrev aX : FVec Ideal S8192x1024 .f32 := m ((c : Thread nD τ).loc main_arg0)
abbrev aG : FVec Ideal S1024 .f32 := m ((c : Thread nD τ).loc main_arg1)
abbrev aW : FVec Ideal S1024x2560 .f32 := m ((c : Thread nD τ).loc main_arg2)

/-- The array's row that is a point's row `r`. -/
def row (t : Fin cfg0.N) (r : Fin 512) : Fin 8192 := ⟨512 * t.val + r.val, by have := lt16 t; omega⟩

/-! ## What the call finds at a point -/

theorem input (t : Fin cfg0.N) (r : Fin 512) (j : Fin 1024) :
    iblk m c 0 t (ix2 r j : S512x1024.Idx) = aX m c (ix2 (row t r) j) := by
  unfold row
  blk_point [iblk, V, idx t]

theorem gain (t : Fin cfg0.N) (j : Fin 1024) : iblk m c 1 t (ix2 0 j : S1x1024.Idx) = aG m c (ix1 j) := by
  blk_simp [iblk]
  entry_read
  have e : ((View.whole main_v0).slice (win0_1.rect t)).emb (ix2 0 j) = (ix2 0 j : S1x1024.Idx) := by
    blk_ext [idx t]
  rw [e]
  exact (by pointwise : broadcastInDim S1x1024 ![1] bcast_S1024_S1x1024_1 (aG m c) (ix2 0 j) = aG m c (ix1 j))

theorem weights (t : Fin cfg0.N) (k : Fin 2560) (j : Fin 1024) :
    iblk m c 2 t (ix2 k j : S2560x1024.Idx) = aW m c (ix2 j k) := by
  blk_simp [iblk]
  entry_read
  have e : ((View.whole main_v2).slice (win0_2.rect t)).emb (ix2 k j) = (ix2 k j : S2560x1024.Idx) := by
    blk_ext [idx t]
  rw [e]
  exact (by pointwise : truncf .bf16 (transpose S2560x1024 [1, 0] (aW m c) transposes_S1024x2560_S2560x1024_1_0)
    bitsLt_bf16_f32 (ix2 k j) = aW m c (ix2 j k))

theorem hidden_at (t : Fin cfg0.N) (r : Fin 512) (j : Fin 1024) :
    k0_pay2 (F := Ideal) (iblk m c 0 t) (iblk m c 1 t) (ix2 r j)
      = Pool.normed (aX m c) (row t r) j * aG m c (ix1 j) := by
  refine (hidden_apply _ _ r j).trans (congrArg₂ _ (congrArg₂ _ (input m c t r j) ?_) (gain m c t j))
  exact congrArg (Pool.rstd Pool.eps) (funext fun k => input m c t r k)

/-! ## A range of the weights' rows against a point's rows -/

/-- The product with the weights on the left is the product with the weights on the right. -/
theorem column_at (t : Fin cfg0.N) (r : Fin 512) (n off : ℕ) (hn : off + n ≤ 2560) (h) (k : Fin n) :
    (∑ j : Fin 1024, View.ld (Val := Elt Ideal) (e' := .bf16) (iblk m c 2 t)
        (Rect.unit (s := ⟨2, ![2560, 1024]⟩) ![off, 0] ![n, 1024] h) (ix2 k j)
      * k0_pay2 (F := Ideal) (iblk m c 0 t) (iblk m c 1 t) (ix2 r j))
      = Project.column (aX m c) (aG m c) (aW m c) (row t r) ⟨off + k.val, by omega⟩ := by
  refine Finset.sum_congr rfl fun j _ => ?_
  rw [hidden_at, mul_comm]
  refine congrArg (HMul.hMul _) ?_
  exact (ld_rows (iblk m c 2 t) off h k j ⟨off + k.val, by omega⟩ rfl).trans (weights m c t _ j)

theorem query_at (t : Fin cfg0.N) (k : Fin 1024) (r : Fin 512) :
    out0_3 (F := Ideal) (iblk m c 0 t) (iblk m c 1 t) (iblk m c 2 t) (ix2 k r)
      = Project.query (aX m c) (aG m c) (aW m c) k (row t r) := by
  unfold out0_3
  frame_out
  refine (query_apply _ _ _ k r).trans (congrArg (· * _) ?_)
  refine (column_at m c t r 1024 0 (by omega) _ k).trans (congrArg (Project.column _ _ _ _) (Fin.ext ?_))
  exact Nat.zero_add _

theorem gate_at (t : Fin cfg0.N) (k : Fin 1024) (r : Fin 512) :
    out0_6 (F := Ideal) (iblk m c 0 t) (iblk m c 1 t) (iblk m c 2 t) (ix2 k r)
      = Project.gate (aX m c) (aG m c) (aW m c) k (row t r) := by
  unfold out0_6
  frame_out
  exact (gate_apply _ _ _ k r).trans (column_at m c t r 1024 1536 (by omega) _ k)

theorem keys_at (t : Fin cfg0.N) (k r : Fin 512) :
    out0_5 (F := Ideal) (iblk m c 0 t) (iblk m c 1 t) (iblk m c 2 t) (ix2 k r)
      = Project.keys (aX m c) (aG m c) (aW m c) (row t r) k := by
  unfold out0_5
  frame_out
  exact (keys_apply _ _ _ k r).trans (column_at m c t r 512 1024 (by omega) _ k)

theorem rows_at (t : Fin cfg0.N) (r k : Fin 512) :
    out0_4 (F := Ideal) (iblk m c 0 t) (iblk m c 1 t) (iblk m c 2 t) (ix2 r k)
      = Project.keys (aX m c) (aG m c) (aW m c) (row t r) k := by
  unfold out0_4
  frame_out
  refine (rows_apply _ _ r k).trans (Eq.trans ?_ (column_at m c t r 512 1024 (by omega)
    inb_S2560x1024_S512x1024_1024_0 k))
  exact Finset.sum_congr rfl fun j _ => mul_comm _ _

/-! ## The results -/

/-- The queries, transposed. -/
theorem final_q : (dats m 0 c).arrAt 3 (cfgs 0).N
    = fun y : S1024x8192.Idx => Project.query (aX m c) (aG m c) (aW m c) (y 0) (y 1) := by
  refine (dats m 0 c).arrAt_eq_of_covers 3 _ (by decide +kernel) fun t _ y => ?_
  blk_simp
  rw [after0_3]
  obtain ⟨k, r, rfl⟩ := at2 y
  refine (query_at m c t k r).trans ?_
  refine congrArg₂ (Project.query _ _ _) (Fin.ext ?_) (Fin.ext ?_)
  · blk_simp [idx t]
  · blk_simp [idx t]
    show 512 * t.val + r.val = t.val * 512 + r.val
    omega

/-- The keys and values. -/
theorem final_kv : (dats m 0 c).arrAt 4 (cfgs 0).N
    = fun y : S8192x512.Idx => Project.keys (aX m c) (aG m c) (aW m c) (y 0) (y 1) := by
  refine (dats m 0 c).arrAt_eq_of_covers 4 _ (by decide +kernel) fun t _ y => ?_
  blk_simp
  rw [after0_4]
  obtain ⟨r, k, rfl⟩ := at2 y
  refine (rows_at m c t r k).trans ?_
  refine congrArg₂ (Project.keys _ _ _) (Fin.ext ?_) (Fin.ext ?_)
  · blk_simp [idx t]
    show 512 * t.val + r.val = t.val * 512 + r.val
    omega
  · blk_simp [idx t]

/-- The keys and values, transposed. -/
theorem final_kvT : (dats m 0 c).arrAt 5 (cfgs 0).N
    = fun y : S512x8192.Idx => Project.keys (aX m c) (aG m c) (aW m c) (y 1) (y 0) := by
  refine (dats m 0 c).arrAt_eq_of_covers 5 _ (by decide +kernel) fun t _ y => ?_
  blk_simp
  rw [after0_5]
  obtain ⟨k, r, rfl⟩ := at2 y
  refine (keys_at m c t k r).trans ?_
  refine congrArg₂ (Project.keys _ _ _) (Fin.ext ?_) (Fin.ext ?_)
  · blk_simp [idx t]
    show 512 * t.val + r.val = t.val * 512 + r.val
    omega
  · blk_simp [idx t]

/-- The gate's argument, transposed. -/
theorem final_z : (dats m 0 c).arrAt 6 (cfgs 0).N
    = fun y : S1024x8192.Idx => Project.gate (aX m c) (aG m c) (aW m c) (y 0) (y 1) := by
  refine (dats m 0 c).arrAt_eq_of_covers 6 _ (by decide +kernel) fun t _ y => ?_
  blk_simp
  rw [after0_6]
  obtain ⟨k, r, rfl⟩ := at2 y
  refine (gate_at m c t k r).trans ?_
  refine congrArg₂ (Project.gate _ _ _) (Fin.ext ?_) (Fin.ext ?_)
  · blk_simp [idx t]
  · blk_simp [idx t]
    show 512 * t.val + r.val = t.val * 512 + r.val
    omega

end Cert.ProjectIdeal.Block

end
-- ==== Proof.QEquation.lean ====
/-
  The projection kernel and its reference leave the same results from arguments that agree.
-/
module

public import proofs.«01_k».proof.Proof.QRef
public import proofs.«01_k».proof.Proof.QArr
public import proofs.«01_k».proof.Proof.Gen.ProjectReferenceIdeal.Run
public import proofs.«01_k».proof.Proof.Gen.ProjectReferenceIdeal.Read
public import proofs.«01_k».proof.Proof.Gen.ProjectIdeal
public import proofs.«01_k».proof.Proof.Gen.ProjectIdeal.Frame
public import proofs.«01_k».proof.Defs
public import Idealize.ShloMosaic.Lib.Claim

@[expose] public section

set_option maxRecDepth 16384

noncomputable section

namespace Cert.ProjectEquation

open Idealize.ShloMosaic Idealize.SL.Sem

set_option maxHeartbeats 1600000 in
/-- The kernel's results are the reference's. -/
theorem algebraic : Cert.algebraic_ProjectIdeal_ProjectReferenceIdeal := by
  pair_intro
  · run_from Cert.ProjectIdeal.Gen.run_main m g
  · run_from Cert.ProjectReferenceIdeal.Value.run m' g'
    · rw [Cert.ProjectIdeal.Block.final_q m c]
      refine (Cert.ProjectReferenceIdeal.Read.val_main_v20_eq (F := Ideal) _ _ _).trans ?_
      funext y
      obtain ⟨k, u, rfl⟩ := AttnIn.at2 y
      exact Cert.ProjectReferenceIdeal.Block.out_q _ _ _ k u
    · rw [Cert.ProjectIdeal.Block.final_kv m c]
      refine (Cert.ProjectReferenceIdeal.Read.val_main_v21_eq (F := Ideal) _ _ _).trans ?_
      funext y
      obtain ⟨u, k, rfl⟩ := AttnIn.at2 y
      exact Cert.ProjectReferenceIdeal.Block.out_kv _ _ _ u k
    · rw [Cert.ProjectIdeal.Block.final_kvT m c]
      refine (Cert.ProjectReferenceIdeal.Read.val_main_v23_eq (F := Ideal) _ _ _).trans ?_
      funext y
      obtain ⟨k, u, rfl⟩ := AttnIn.at2 y
      exact Cert.ProjectReferenceIdeal.Block.out_kvT _ _ _ k u
    · rw [Cert.ProjectIdeal.Block.final_z m c]
      refine (Cert.ProjectReferenceIdeal.Read.val_main_v25_eq (F := Ideal) _ _ _).trans ?_
      funext y
      obtain ⟨k, u, rfl⟩ := AttnIn.at2 y
      exact Cert.ProjectReferenceIdeal.Block.out_z _ _ _ k u

end Cert.ProjectEquation

end
-- ==== Proof.ForwardFrame.lean ====
module

public import proofs.«01_k».proof.Defs
public import proofs.«01_k».proof.Proof.Gen.ForwardReferenceIdeal
public import proofs.«01_k».proof.Proof.Gen.ForwardReferenceIdeal.Run
public import Idealize.ShloMosaic.Lib.Claim
public import Idealize.ShloMosaic.Lib.Quiescent

@[expose] public section

noncomputable section

open Idealize.ShloMosaic Idealize.SL.Sem

namespace Cert.ForwardReferenceIdeal.Framed

/-- The reference leaves its arguments alone, and as it declares no semaphore every counter is zero at its end. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono
    (fun _ h => ⟨fun c => (h c).2.2.2, sem_eq_zero_of_no_sems rfl _⟩)
    (Cert.ForwardReferenceIdeal.Value.run m g)

end Cert.ForwardReferenceIdeal.Framed

end
-- ==== Proof.FSpec.lean ====
/-
  The pooling mixer's layer, row by row: what its three results are of the whole arrays.
-/
module

public import proofs.«01_k».proof.Proof.MSpec

@[expose] public section

set_option maxRecDepth 16384

noncomputable section

namespace Forward

open Idealize.ShloMosaic

section

variable (x : FVec Ideal ⟨2, ![8192, 1024]⟩ .f32) (g : FVec Ideal ⟨1, ![1024]⟩ .f32)
  (w : FVec Ideal ⟨2, ![1024, 2048]⟩ .f32) (wm : FVec Ideal ⟨3, ![4, 256, 256]⟩ .f32)
  (sc : FVec Ideal ⟨1, ![1024]⟩ .f32) (wo : FVec Ideal ⟨2, ![1024, 1024]⟩ .f32)

/-- A column of the normed rows' projection: the first 1024 are the pooled stream's, the others the gate's. -/
def column (u : Fin 8192) (k : Fin 2048) : EReal := ∑ j : Fin 1024, Pool.normed x u j * g (ix1 j) * w (ix2 j k)

/-- The pooled stream with sixteen rows of zeros before its first row. -/
def lag (n : ℕ) (c : Fin 1024) : EReal :=
  if h : 16 ≤ n ∧ n - 16 < 8192 then column x g w ⟨n - 16, h.2⟩ ⟨c.val, by omega⟩ else 0

/-- The gate's argument. -/
def gateArg (u : Fin 8192) (c : Fin 1024) : EReal := column x g w u ⟨1024 + c.val, by omega⟩

/-- The mean of the rows of a column's window, less the row itself. -/
def pooled (u : Fin 8192) (c : Fin 1024) : EReal :=
  (∑ d ∈ Finset.range (Pool.window c), lag x g w (16 + u.val - d) c) * Pool.recip (Pool.window c) u.val
    - column x g w u ⟨c.val, by omega⟩

/-- The pooled rows mixed within their group. -/
def mixed (u : Fin 8192) (j : Fin 1024) : EReal :=
  ∑ c : Fin 256, pooled x g w u (Mix.col (Mix.grp j) c) * wm (ix3 (Mix.grp j) c (Mix.lane j))

/-- The layer's output: the input and the gated, mixed rows through the output projection. -/
def out (u : Fin 8192) (j : Fin 1024) : EReal :=
  x (ix2 u j) + ∑ k : Fin 1024, mixed x g w wm u k * sc (ix1 k)
    * (gateArg x g w u k * Ideal.logistic (gateArg x g w u k)) * wo (ix2 k j)

/-- Row `u` of the stream is row `16 + u` behind the zeros. -/
theorem lag_row (u : Fin 8192) (n : ℕ) (hn : n = 16 + u.val) (c : Fin 1024) :
    lag x g w n c = column x g w u ⟨c.val, by omega⟩ := by
  subst hn
  unfold lag
  rw [dif_pos (by have := u.isLt; omega)]
  exact congrArg (fun a => column x g w a _) (Fin.ext (by show 16 + u.val - 16 = u.val; omega))

/-- The first sixteen rows are zeros. -/
theorem lag_zero (n : ℕ) (hn : n < 16) (c : Fin 1024) : lag x g w n c = 0 := dif_neg (by omega)

/-! ## Real values -/

/-- A normed row is real: a row with an infinite value is scaled by zero. -/
theorem real_normed (u : Fin 8192) (j : Fin 1024) : Mix.Real (Pool.normed x u j) := by
  unfold Pool.normed Pool.inverse
  rcases Pool.rstd_cases Pool.eps Pool.eps_pos fun k => x (ix2 u k) with ⟨_, hr⟩ | ⟨m, ρ, _, _, _, hm, hr⟩
  · rw [hr, mul_zero]
    exact Mix.real_coe 0
  · rw [hr]
    refine Mix.Real.mul ?_ (Mix.real_coe ρ)
    by_contra hx
    have hsq : x (ix2 u j) * x (ix2 u j) = ⊤ := by
      have h : x (ix2 u j) = ⊤ ∨ x (ix2 u j) = ⊥ := by
        unfold Mix.Real at hx
        by_contra hc
        exact hx ⟨fun h => hc (Or.inl h), fun h => hc (Or.inr h)⟩
      rcases h with h | h <;> rw [h] <;> simp
    have hs : ∑ k : Fin 1024, x (ix2 u k) * x (ix2 u k) = ⊤ := by
      refine top_le_iff.1 (hsq ▸ ?_)
      exact Finset.single_le_sum (f := fun k : Fin 1024 => x (ix2 u k) * x (ix2 u k)) (fun k _ => Pool.sq_nonneg' _)
        (Finset.mem_univ j)
    have ht : Pool.meanSq Pool.eps (fun k => x (ix2 u k)) = ⊤ := by
      unfold Pool.meanSq
      rw [hs, Ideal.div_coe (by norm_num), EReal.top_mul_coe_of_pos (by norm_num), EReal.top_add_coe]
    rw [hm] at ht
    exact EReal.coe_ne_top m ht

theorem real_column (hg : ∀ i, Mix.Real (g i)) (hw : ∀ i, Mix.Real (w i)) (u : Fin 8192) (k : Fin 2048) :
    Mix.Real (column x g w u k) :=
  Mix.Real.sum _ _ fun _ => ((real_normed x u _).mul (hg _)).mul (hw _)

theorem real_lag (hg : ∀ i, Mix.Real (g i)) (hw : ∀ i, Mix.Real (w i)) (n : ℕ) (c : Fin 1024) :
    Mix.Real (lag x g w n c) := by
  unfold lag
  split_ifs
  · exact real_column x g w hg hw _ _
  · exact Mix.real_coe 0

end

/-! ## Windows as differences of running sums -/

/-- The sum of a window of real values is the difference of the running sums at its two ends. -/
theorem window_diff (f : ℕ → EReal) (hf : ∀ n, Mix.Real (f n)) (n k : ℕ) :
    (∑ i ∈ Finset.range (n + k), f i) - (∑ i ∈ Finset.range n, f i) = ∑ d ∈ Finset.range k, f (n + k - 1 - d) := by
  have e : ∀ i, f i = (((f i).toReal : ℝ) : EReal) := fun i => (EReal.coe_toReal (hf i).1 (hf i).2).symm
  rw [Finset.sum_congr rfl fun i _ => e i, Finset.sum_congr (s₁ := Finset.range n) rfl fun i _ => e i,
    Finset.sum_congr (s₁ := Finset.range k) rfl fun d _ => e (n + k - 1 - d), ← Pool.coe_sum, ← Pool.coe_sum,
    ← Pool.coe_sum, ← EReal.coe_sub]
  refine congrArg Real.toEReal ?_
  rw [Finset.sum_range_add, add_sub_cancel_left, ← Finset.sum_range_reflect]
  refine Finset.sum_congr rfl fun d hd => congrArg (fun i => (f i).toReal) ?_
  have := Finset.mem_range.1 hd
  omega

/-- The rows of a running sum that only the last of `N` windows' rows reach. -/
theorem running_sum (F : ℕ → EReal) (t : ℕ) (ht : t < 8192) :
    (∑ n : Fin 8192, if 8191 ≤ t + n.val then F (t + n.val - 8191) else 0) = ∑ i ∈ Finset.range (t + 1), F i := by
  rw [← Finset.sum_range (f := fun n => if 8191 ≤ t + n then F (t + n - 8191) else 0),
    show 8192 = (8191 - t) + (t + 1) by omega, Finset.sum_range_add]
  rw [Finset.sum_eq_zero, zero_add]
  · refine Finset.sum_congr rfl fun i _ => ?_
    rw [if_pos (by omega)]
    exact congrArg F (by omega)
  · intro i hi
    have := Finset.mem_range.1 hi
    exact if_neg (by omega)

end Forward

end
-- ==== Proof.FSum.lean ====
/-
  A running sum from the first row down, at an index.
-/
module

public import proofs.«01_k».proof.Proof.RefSum

@[expose] public section

set_option maxRecDepth 16384

noncomputable section

namespace Pool

open Idealize.ShloMosaic

/-- A sum over each window of `N` rows that ends at a row, the rows before the first one absent, is the sum of the
    rows up to there. -/
theorem head_sum {N Nm1 G K : ℕ} (x : (⟨3, ![N, G, K]⟩ : Shape).Idx → EReal)
    (h : (⟨3, ![N, G, K]⟩ : Shape).ReduceWindows (![N, 1, 1] : Fin 3 → ℕ) ![1, 1, 1] ![Nm1, 0, 0] ![0, 0, 0] ⟨3, ![N, G, K]⟩)
    (t : Fin N) (g : Fin G) (k : Fin K) :
    Ideal.hostReduceWindowAdd ![N, 1, 1] ![1, 1, 1] ![Nm1, 0, 0] ![0, 0, 0] h x 0 (ix3 t g k)
      = ∑ n : Fin N, if q : Nm1 ≤ t.val + n.val ∧ t.val + n.val - Nm1 < N
          then x (ix3 ⟨t.val + n.val - Nm1, q.2⟩ g k) else 0 := by
  unfold Ideal.hostReduceWindowAdd Host.reduceWindow
  refine (foldl_add _ _ _).trans ?_
  rw [zero_add, ← Fin.sum_univ_def]
  refine Fintype.sum_equiv ((⟨3, ![N, 1, 1]⟩ : Shape).rowMajor.symm.trans (rowsEquiv N).symm) _ _ fun i => ?_
  rw [Equiv.trans_apply]
  obtain ⟨n, hn⟩ := (rowsEquiv N).surjective ((⟨3, ![N, 1, 1]⟩ : Shape).rowMajor.symm i)
  have h0 : ((⟨3, ![N, 1, 1]⟩ : Shape).rowMajor.symm i 0).val = n.val := by rw [← hn]; rfl
  have h1 : ((⟨3, ![N, 1, 1]⟩ : Shape).rowMajor.symm i 1).val = 0 := by rw [← hn]; rfl
  have h2 : ((⟨3, ![N, 1, 1]⟩ : Shape).rowMajor.symm i 2).val = 0 := by rw [← hn]; rfl
  have e : (rowsEquiv N).symm ((⟨3, ![N, 1, 1]⟩ : Shape).rowMajor.symm i) = n := by
    rw [← hn, Equiv.symm_apply_apply]
  rw [e]
  by_cases q : Nm1 ≤ t.val + n.val ∧ t.val + n.val - Nm1 < N
  · rw [dif_pos q]
    refine (dif_pos ?_).trans (congrArg x (funext fun a => Fin.ext ?_))
    · intro a
      match a with
      | ⟨0, _⟩ =>
        show Nm1 ≤ t.val * 1 + ((⟨3, ![N, 1, 1]⟩ : Shape).rowMajor.symm i 0).val
          ∧ t.val * 1 + ((⟨3, ![N, 1, 1]⟩ : Shape).rowMajor.symm i 0).val - Nm1 < N
        omega
      | ⟨1, _⟩ =>
        show 0 ≤ g.val * 1 + ((⟨3, ![N, 1, 1]⟩ : Shape).rowMajor.symm i 1).val
          ∧ g.val * 1 + ((⟨3, ![N, 1, 1]⟩ : Shape).rowMajor.symm i 1).val - 0 < G
        have := g.isLt; omega
      | ⟨2, _⟩ =>
        show 0 ≤ k.val * 1 + ((⟨3, ![N, 1, 1]⟩ : Shape).rowMajor.symm i 2).val
          ∧ k.val * 1 + ((⟨3, ![N, 1, 1]⟩ : Shape).rowMajor.symm i 2).val - 0 < K
        have := k.isLt; omega
    · match a with
      | ⟨0, _⟩ =>
        show t.val * 1 + ((⟨3, ![N, 1, 1]⟩ : Shape).rowMajor.symm i 0).val - Nm1 = t.val + n.val - Nm1
        omega
      | ⟨1, _⟩ =>
        show g.val * 1 + ((⟨3, ![N, 1, 1]⟩ : Shape).rowMajor.symm i 1).val - 0 = g.val
        omega
      | ⟨2, _⟩ =>
        show k.val * 1 + ((⟨3, ![N, 1, 1]⟩ : Shape).rowMajor.symm i 2).val - 0 = k.val
        omega
  · rw [dif_neg q]
    refine dif_neg fun hin => q ?_
    have hh : Nm1 ≤ t.val * 1 + ((⟨3, ![N, 1, 1]⟩ : Shape).rowMajor.symm i 0).val
      ∧ t.val * 1 + ((⟨3, ![N, 1, 1]⟩ : Shape).rowMajor.symm i 0).val - Nm1 < N := hin 0
    omega

end Pool

end
-- ==== Proof.FRef.lean ====
/-
  The layer reference's three results, row by row.
-/
module

public import proofs.«01_k».proof.Proof.FSpec
public import proofs.«01_k».proof.Proof.FSum
public import proofs.«01_k».proof.Proof.RefDu
public import proofs.«01_k».proof.Proof.Gen.ForwardReferenceIdeal.Read

@[expose] public section

set_option maxRecDepth 16384

noncomputable section

namespace Cert.ForwardReferenceIdeal.Block

open Idealize.ShloMosaic Cert.ForwardReferenceIdeal Cert.ForwardReferenceIdeal.Gen Cert.ForwardReferenceIdeal.Read Pool

variable (x : FVec Ideal (⟨2, ![8192, 1024]⟩ : Shape) .f32) (g : FVec Ideal (⟨1, ![1024]⟩ : Shape) .f32)
  (w : FVec Ideal (⟨2, ![1024, 2048]⟩ : Shape) .f32) (wm : FVec Ideal (⟨3, ![4, 256, 256]⟩ : Shape) .f32)
  (sc : FVec Ideal (⟨1, ![1024]⟩ : Shape) .f32) (wo : FVec Ideal (⟨2, ![1024, 1024]⟩ : Shape) .f32)

/-! ## The norm and the projection -/

theorem v7 (u : Fin 8192) : val_main_v7 (F := Ideal) x (ix2 u 0) = inverse x u := by
  have h1 : val_main_v2 (F := Ideal) x (ix2 u 0) = ∑ k : Fin 1024, x (ix2 u k) * x (ix2 u k) := by
    rw [val_main_v2_apply, val_main_v1_apply]
    refine (congrArg (· + _) (Ideal.ofBits_zero_f32 : val_main_cst (F := Ideal) _ = 0)).trans ?_
    rw [zero_add]
    refine Finset.sum_congr rfl fun k _ => ?_
    have e : idx_main_v1 (idx_main_v2 (ix2 u 0)) k = ix2 u k := by blk_ext
    rw [e]; rfl
  have h2 : val_main_v3 (F := Ideal) (ix2 u 0) = ((1024 : ℝ) : EReal) := by
    rw [val_main_v3_apply]; exact ofBits_1024
  have h3 : val_main_v5 (F := Ideal) (ix2 u 0) = (eps : EReal) := by
    rw [val_main_v5_apply]; exact ofBits_eps
  show Ideal.rsqrt (Ideal.div (val_main_v2 (F := Ideal) x (ix2 u 0)) (val_main_v3 (F := Ideal) (ix2 u 0))
    + val_main_v5 (F := Ideal) (ix2 u 0)) = _
  rw [h1, h2, h3]
  rfl

theorem v12 (u : Fin 8192) (j : Fin 1024) : val_main_v12 (F := Ideal) x g (ix2 u j) = normed x u j * g (ix1 j) := by
  have h : val_main_v12 (F := Ideal) x g (ix2 u j) = x (ix2 u j) * val_main_v7 (F := Ideal) x (ix2 u 0) * g (ix1 j) := by
    unfold val_main_v12 val_main_v11 val_main_v10 val_main_v9 val_main_v8
    generalize val_main_v7 (F := Ideal) x = v
    pointwise
  rw [h, v7]; rfl

theorem v13 (u : Fin 8192) (k : Fin 2048) :
    val_main_v13 (F := Ideal) x g w (ix2 u k) = Forward.column x g w u k := by
  rw [val_main_v13_apply]
  refine Finset.sum_congr rfl fun j _ => ?_
  have e : lidx_main_v13 (ix2 u k) j = ix2 u j := by blk_ext
  have e' : ridx_main_v13 (ix2 u k) j = ix2 j k := by blk_ext
  rw [e, e', v12]

theorem v15 (u : Fin 8192) (k : Fin 1024) :
    val_main_v15 (F := Ideal) x g w (ix2 u k) = Forward.gateArg x g w u k := by
  refine Eq.trans ?_ (v13 x g w u ⟨1024 + k.val, by omega⟩)
  unfold val_main_v15
  generalize val_main_v13 (F := Ideal) x g w = v
  pointwise

theorem v16 (u : Fin 8192) (a : Fin 4) (k : Fin 256) :
    val_main_v16 (F := Ideal) x g w (ix3 u a k) = Forward.column x g w u ⟨256 * a.val + k.val, by omega⟩ := by
  refine Eq.trans ?_ (v13 x g w u ⟨256 * a.val + k.val, by omega⟩)
  unfold val_main_v16 val_main_v14
  generalize val_main_v13 (F := Ideal) x g w = v
  pointwise
  blk_ext

/-! ## The running sum -/

theorem v18 (t : Fin 8192) (a : Fin 4) (k : Fin 256) : val_main_v18 (F := Ideal) x g w (ix3 t a k)
    = ∑ i ∈ Finset.range (t.val + 1), Forward.lag x g w (16 + i) (Mix.col a k) := by
  rw [← Forward.running_sum _ t.val t.isLt]
  have hinit : val_main_call0_call0_v0 (F := Ideal) (Shape.Idx.first h_S_) = 0 :=
    (val_main_call0_call0_v0_apply (F := Ideal) _).trans Ideal.ofBits_zero_f32
  unfold val_main_v18 Host.reduceWindowAdd
  rw [Ideal.hostReduceWindowAdd_def, hinit]
  refine (head_sum _ _ t a k).trans (Finset.sum_congr rfl fun n _ => ?_)
  by_cases q : 8191 ≤ t.val + n.val
  · rw [if_pos q, dif_pos ⟨q, by omega⟩, v16]
    exact (Forward.lag_row x g w ⟨t.val + n.val - 8191, by omega⟩ _ rfl (Mix.col a k)).symm
  · rw [if_neg q, dif_neg fun h => q h.1]

theorem v19 (n : Fin 8193) (a : Fin 4) (k : Fin 256) : val_main_v19 (F := Ideal) x g w (ix3 n a k)
    = ∑ i ∈ Finset.range (16 + n.val), Forward.lag x g w i (Mix.col a k) := by
  have h : val_main_v19 (F := Ideal) x g w (ix3 n a k)
      = if h : n.val < 1 then val_main_v17 (F := Ideal) (ix3 ⟨n.val, h⟩ a k)
        else val_main_v18 (F := Ideal) x g w (ix3 ⟨n.val - 1, by omega⟩ a k) := by
    unfold val_main_v19
    generalize val_main_v18 (F := Ideal) x g w = v
    generalize val_main_v17 (F := Ideal) = v'
    pointwise
  have z : ∑ i ∈ Finset.range 16, Forward.lag x g w i (Mix.col a k) = 0 :=
    Finset.sum_eq_zero fun i hi => Forward.lag_zero x g w i (Finset.mem_range.1 hi) _
  rw [h]
  split_ifs with hn
  · rw [show 16 + n.val = 16 by omega, z, val_main_v17_apply]
    exact Ideal.ofBits_zero_f32
  · rw [v18, show 16 + n.val = 16 + (n.val - 1 + 1) by omega, Finset.sum_range_add _ 16, z, zero_add]

/-- The running sum past a row less the running sum a window's length before is the sum of the window. -/
theorem window (hg : ∀ i, Mix.Real (g i)) (hw : ∀ i, Mix.Real (w i)) (n M : ℕ) (hn0 : 0 < n) (hn : n ≤ 16)
    (hM : M + n = 8193) (a : Fin 4) (y : FVec Ideal S8193x256 .f32)
    (hy : ∀ (s : Fin 8193) (k : Fin 256), y (ix2 s k) = ∑ i ∈ Finset.range (16 + s.val), Forward.lag x g w i (Mix.col a k))
    (b : FVec Ideal S8192x256 .f32)
    (hb : ∀ (s : Fin 8192) (k : Fin 256), b (ix2 s k)
      = if h : s.val < n - 1 then 0 else y (ix2 ⟨s.val - (n - 1), by omega⟩ k))
    (t : Fin 8192) (k : Fin 256) :
    y (ix2 ⟨1 + t.val, by omega⟩ k) - b (ix2 t k)
      = ∑ d ∈ Finset.range n, Forward.lag x g w (16 + t.val - d) (Mix.col a k) := by
  have e := Forward.window_diff (fun i => Forward.lag x g w i (Mix.col a k))
    (fun i => Forward.real_lag x g w hg hw i _) (17 + t.val - n) n
  have e1 : b (ix2 t k) = ∑ i ∈ Finset.range (17 + t.val - n), Forward.lag x g w i (Mix.col a k) := by
    rw [hb]
    split_ifs with h
    · exact (Finset.sum_eq_zero fun i hi => Forward.lag_zero x g w i (by have := Finset.mem_range.1 hi; omega) _).symm
    · rw [hy]
      show ∑ i ∈ Finset.range (16 + (t.val - (n - 1))), _ = _
      rw [show 16 + (t.val - (n - 1)) = 17 + t.val - n by omega]
  rw [hy, e1]
  show (∑ i ∈ Finset.range (16 + (1 + t.val)), _) - _ = _
  rw [show 16 + (1 + t.val) = 17 + t.val - n + n by omega, e]
  exact Finset.sum_congr rfl fun d _ => congrArg (fun i => Forward.lag x g w i _) (by omega)

/-- A group's window sums over their counts, less the group's rows. -/
theorem mean (a : Fin 4) (n : ℕ) (hn0 : 0 < n) (hn : n ≤ 16) (hw : n = 2 ^ (a.val + 1)) (t : Fin 8192) (k : Fin 256)
    (s d r : EReal) (hs : s = ∑ d ∈ Finset.range n, Forward.lag x g w (16 + t.val - d) (Mix.col a k))
    (hd : d = FloatOps.sitofp (F := Ideal) FTy.f32 (IntOp.minsi (IntOp.addi 1#32 (BitVec.ofNat 32 t.val)) (BitVec.ofNat 32 n)))
    (hr : r = Forward.column x g w t ⟨256 * a.val + k.val, by omega⟩) :
    Ideal.div s d - r = Forward.pooled x g w t (Mix.col a k) := by
  have e : Pool.window (Mix.col a k) = n := by
    unfold Pool.window
    show 2 ^ ((256 * a.val + k.val) / 256 + 1) = _
    rw [show (256 * a.val + k.val) / 256 = a.val by omega, hw]
  unfold Forward.pooled
  rw [hs, hd, hr, Cert.ReferenceIdeal.Block.div_count t.val n t.isLt hn0 hn, e]
  rfl

/-! ## The four groups -/

theorem v38 (hg : ∀ i, Mix.Real (g i)) (hw : ∀ i, Mix.Real (w i)) (t : Fin 8192) (k : Fin 256) :
    val_main_v38 (F := Ideal) x g w (ix2 t k) = Forward.pooled x g w t (Mix.col 0 k) := by
  have hy : ∀ (s : Fin 8193) (k : Fin 256), val_main_v21 (F := Ideal) x g w (ix2 s k)
      = ∑ i ∈ Finset.range (16 + s.val), Forward.lag x g w i (Mix.col 0 k) := fun s k => by
    refine Eq.trans ?_ (v19 x g w s 0 k)
    unfold val_main_v21 val_main_v20
    generalize val_main_v19 (F := Ideal) x g w = v
    pointwise
    blk_ext
  have hb : ∀ (s : Fin 8192) (k : Fin 256), val_main_v24 (F := Ideal) x g w (ix2 s k)
      = if h : s.val < 1 then 0 else val_main_v21 (F := Ideal) x g w (ix2 ⟨s.val - 1, by omega⟩ k) := fun s k => by
    have hz : ∀ q : Fin 1, val_main_v22 (F := Ideal) (ix2 q k) = 0 := fun q =>
      (val_main_v22_apply (F := Ideal) _).trans Ideal.ofBits_zero_f32
    have h : val_main_v24 (F := Ideal) x g w (ix2 s k) = if h : s.val < 1 then val_main_v22 (F := Ideal) (ix2 ⟨s.val, h⟩ k)
        else val_main_v21 (F := Ideal) x g w (ix2 ⟨s.val - 1, by omega⟩ k) := by
      unfold val_main_v24 val_main_v23
      generalize val_main_v21 (F := Ideal) x g w = v
      generalize val_main_v22 (F := Ideal) = v'
      pointwise
    rw [h]
    split_ifs with hs
    · exact hz _
    · rfl
  have hd : val_main_v34 (F := Ideal) (ix2 t k)
      = FloatOps.sitofp (F := Ideal) FTy.f32 (IntOp.minsi (IntOp.addi 1#32 (BitVec.ofNat 32 t.val)) (BitVec.ofNat 32 2)) := by
    pointwise [val_main_v34, val_main_v31, val_main_v30, val_main_v29, val_main_v28, val_main_v27, val_main_v26,
      val_main_v25, val_main_c, val_main_c_4]
  have hs : val_main_v33 (F := Ideal) x g w (ix2 t k)
      = val_main_v21 (F := Ideal) x g w (ix2 ⟨1 + t.val, by omega⟩ k) - val_main_v24 (F := Ideal) x g w (ix2 t k) := by
    unfold val_main_v33 val_main_v32
    generalize val_main_v21 (F := Ideal) x g w = v
    generalize val_main_v24 (F := Ideal) x g w = v'
    pointwise
  have hr : val_main_v37 (F := Ideal) x g w (ix2 t k) = Forward.column x g w t ⟨256 * (0 : Fin 4).val + k.val, by omega⟩ := by
    refine Eq.trans ?_ (v16 x g w t 0 k)
    unfold val_main_v37 val_main_v36
    generalize val_main_v16 (F := Ideal) x g w = v
    pointwise
    blk_ext
  exact mean x g w 0 2 (by omega) (by omega) rfl t k _ _ _
    (hs.trans (window x g w hg hw 2 8191 (by omega) (by omega) (by omega) 0 _ hy _ hb t k)) hd hr

theorem v57 (hg : ∀ i, Mix.Real (g i)) (hw : ∀ i, Mix.Real (w i)) (t : Fin 8192) (k : Fin 256) :
    val_main_v57 (F := Ideal) x g w (ix2 t k) = Forward.pooled x g w t (Mix.col 1 k) := by
  have hy : ∀ (s : Fin 8193) (k : Fin 256), val_main_v40 (F := Ideal) x g w (ix2 s k)
      = ∑ i ∈ Finset.range (16 + s.val), Forward.lag x g w i (Mix.col 1 k) := fun s k => by
    refine Eq.trans ?_ (v19 x g w s 1 k)
    unfold val_main_v40 val_main_v39
    generalize val_main_v19 (F := Ideal) x g w = v
    pointwise
    blk_ext
  have hb : ∀ (s : Fin 8192) (k : Fin 256), val_main_v43 (F := Ideal) x g w (ix2 s k)
      = if h : s.val < 3 then 0 else val_main_v40 (F := Ideal) x g w (ix2 ⟨s.val - 3, by omega⟩ k) := fun s k => by
    have hz : ∀ q : Fin 3, val_main_v41 (F := Ideal) (ix2 q k) = 0 := fun q =>
      (val_main_v41_apply (F := Ideal) _).trans Ideal.ofBits_zero_f32
    have h : val_main_v43 (F := Ideal) x g w (ix2 s k) = if h : s.val < 3 then val_main_v41 (F := Ideal) (ix2 ⟨s.val, h⟩ k)
        else val_main_v40 (F := Ideal) x g w (ix2 ⟨s.val - 3, by omega⟩ k) := by
      unfold val_main_v43 val_main_v42
      generalize val_main_v40 (F := Ideal) x g w = v
      generalize val_main_v41 (F := Ideal) = v'
      pointwise
    rw [h]
    split_ifs with hs
    · exact hz _
    · rfl
  have hd : val_main_v53 (F := Ideal) (ix2 t k)
      = FloatOps.sitofp (F := Ideal) FTy.f32 (IntOp.minsi (IntOp.addi 1#32 (BitVec.ofNat 32 t.val)) (BitVec.ofNat 32 4)) := by
    pointwise [val_main_v53, val_main_v50, val_main_v49, val_main_v48, val_main_v47, val_main_v46, val_main_v45,
      val_main_v44, val_main_c_6, val_main_c_7]
  have hs : val_main_v52 (F := Ideal) x g w (ix2 t k)
      = val_main_v40 (F := Ideal) x g w (ix2 ⟨1 + t.val, by omega⟩ k) - val_main_v43 (F := Ideal) x g w (ix2 t k) := by
    unfold val_main_v52 val_main_v51
    generalize val_main_v40 (F := Ideal) x g w = v
    generalize val_main_v43 (F := Ideal) x g w = v'
    pointwise
  have hr : val_main_v56 (F := Ideal) x g w (ix2 t k) = Forward.column x g w t ⟨256 * (1 : Fin 4).val + k.val, by omega⟩ := by
    refine Eq.trans ?_ (v16 x g w t 1 k)
    unfold val_main_v56 val_main_v55
    generalize val_main_v16 (F := Ideal) x g w = v
    pointwise
    blk_ext
  exact mean x g w 1 4 (by omega) (by omega) rfl t k _ _ _
    (hs.trans (window x g w hg hw 4 8189 (by omega) (by omega) (by omega) 1 _ hy _ hb t k)) hd hr

theorem v76 (hg : ∀ i, Mix.Real (g i)) (hw : ∀ i, Mix.Real (w i)) (t : Fin 8192) (k : Fin 256) :
    val_main_v76 (F := Ideal) x g w (ix2 t k) = Forward.pooled x g w t (Mix.col 2 k) := by
  have hy : ∀ (s : Fin 8193) (k : Fin 256), val_main_v59 (F := Ideal) x g w (ix2 s k)
      = ∑ i ∈ Finset.range (16 + s.val), Forward.lag x g w i (Mix.col 2 k) := fun s k => by
    refine Eq.trans ?_ (v19 x g w s 2 k)
    unfold val_main_v59 val_main_v58
    generalize val_main_v19 (F := Ideal) x g w = v
    pointwise
    blk_ext
  have hb : ∀ (s : Fin 8192) (k : Fin 256), val_main_v62 (F := Ideal) x g w (ix2 s k)
      = if h : s.val < 7 then 0 else val_main_v59 (F := Ideal) x g w (ix2 ⟨s.val - 7, by omega⟩ k) := fun s k => by
    have hz : ∀ q : Fin 7, val_main_v60 (F := Ideal) (ix2 q k) = 0 := fun q =>
      (val_main_v60_apply (F := Ideal) _).trans Ideal.ofBits_zero_f32
    have h : val_main_v62 (F := Ideal) x g w (ix2 s k) = if h : s.val < 7 then val_main_v60 (F := Ideal) (ix2 ⟨s.val, h⟩ k)
        else val_main_v59 (F := Ideal) x g w (ix2 ⟨s.val - 7, by omega⟩ k) := by
      unfold val_main_v62 val_main_v61
      generalize val_main_v59 (F := Ideal) x g w = v
      generalize val_main_v60 (F := Ideal) = v'
      pointwise
    rw [h]
    split_ifs with hs
    · exact hz _
    · rfl
  have hd : val_main_v72 (F := Ideal) (ix2 t k)
      = FloatOps.sitofp (F := Ideal) FTy.f32 (IntOp.minsi (IntOp.addi 1#32 (BitVec.ofNat 32 t.val)) (BitVec.ofNat 32 8)) := by
    pointwise [val_main_v72, val_main_v69, val_main_v68, val_main_v67, val_main_v66, val_main_v65, val_main_v64,
      val_main_v63, val_main_c_9, val_main_c_10]
  have hs : val_main_v71 (F := Ideal) x g w (ix2 t k)
      = val_main_v59 (F := Ideal) x g w (ix2 ⟨1 + t.val, by omega⟩ k) - val_main_v62 (F := Ideal) x g w (ix2 t k) := by
    unfold val_main_v71 val_main_v70
    generalize val_main_v59 (F := Ideal) x g w = v
    generalize val_main_v62 (F := Ideal) x g w = v'
    pointwise
  have hr : val_main_v75 (F := Ideal) x g w (ix2 t k) = Forward.column x g w t ⟨256 * (2 : Fin 4).val + k.val, by omega⟩ := by
    refine Eq.trans ?_ (v16 x g w t 2 k)
    unfold val_main_v75 val_main_v74
    generalize val_main_v16 (F := Ideal) x g w = v
    pointwise
    blk_ext
  exact mean x g w 2 8 (by omega) (by omega) rfl t k _ _ _
    (hs.trans (window x g w hg hw 8 8185 (by omega) (by omega) (by omega) 2 _ hy _ hb t k)) hd hr

theorem v95 (hg : ∀ i, Mix.Real (g i)) (hw : ∀ i, Mix.Real (w i)) (t : Fin 8192) (k : Fin 256) :
    val_main_v95 (F := Ideal) x g w (ix2 t k) = Forward.pooled x g w t (Mix.col 3 k) := by
  have hy : ∀ (s : Fin 8193) (k : Fin 256), val_main_v78 (F := Ideal) x g w (ix2 s k)
      = ∑ i ∈ Finset.range (16 + s.val), Forward.lag x g w i (Mix.col 3 k) := fun s k => by
    refine Eq.trans ?_ (v19 x g w s 3 k)
    unfold val_main_v78 val_main_v77
    generalize val_main_v19 (F := Ideal) x g w = v
    pointwise
    blk_ext
  have hb : ∀ (s : Fin 8192) (k : Fin 256), val_main_v81 (F := Ideal) x g w (ix2 s k)
      = if h : s.val < 15 then 0 else val_main_v78 (F := Ideal) x g w (ix2 ⟨s.val - 15, by omega⟩ k) := fun s k => by
    have hz : ∀ q : Fin 15, val_main_v79 (F := Ideal) (ix2 q k) = 0 := fun q =>
      (val_main_v79_apply (F := Ideal) _).trans Ideal.ofBits_zero_f32
    have h : val_main_v81 (F := Ideal) x g w (ix2 s k) = if h : s.val < 15 then val_main_v79 (F := Ideal) (ix2 ⟨s.val, h⟩ k)
        else val_main_v78 (F := Ideal) x g w (ix2 ⟨s.val - 15, by omega⟩ k) := by
      unfold val_main_v81 val_main_v80
      generalize val_main_v78 (F := Ideal) x g w = v
      generalize val_main_v79 (F := Ideal) = v'
      pointwise
    rw [h]
    split_ifs with hs
    · exact hz _
    · rfl
  have hd : val_main_v91 (F := Ideal) (ix2 t k)
      = FloatOps.sitofp (F := Ideal) FTy.f32 (IntOp.minsi (IntOp.addi 1#32 (BitVec.ofNat 32 t.val)) (BitVec.ofNat 32 16)) := by
    pointwise [val_main_v91, val_main_v88, val_main_v87, val_main_v86, val_main_v85, val_main_v84, val_main_v83,
      val_main_v82, val_main_c_12, val_main_c_13]
  have hs : val_main_v90 (F := Ideal) x g w (ix2 t k)
      = val_main_v78 (F := Ideal) x g w (ix2 ⟨1 + t.val, by omega⟩ k) - val_main_v81 (F := Ideal) x g w (ix2 t k) := by
    unfold val_main_v90 val_main_v89
    generalize val_main_v78 (F := Ideal) x g w = v
    generalize val_main_v81 (F := Ideal) x g w = v'
    pointwise
  have hr : val_main_v94 (F := Ideal) x g w (ix2 t k) = Forward.column x g w t ⟨256 * (3 : Fin 4).val + k.val, by omega⟩ := by
    refine Eq.trans ?_ (v16 x g w t 3 k)
    unfold val_main_v94 val_main_v93
    generalize val_main_v16 (F := Ideal) x g w = v
    pointwise
    blk_ext
  exact mean x g w 3 16 (by omega) (by omega) rfl t k _ _ _
    (hs.trans (window x g w hg hw 16 8177 (by omega) (by omega) (by omega) 3 _ hy _ hb t k)) hd hr

/-! ## The pooled rows -/

/-- Four columns of one group each, one after the other. -/
theorem v100 (hg : ∀ i, Mix.Real (g i)) (hw : ∀ i, Mix.Real (w i)) (t : Fin 8192) (a : Fin 4) (k : Fin 256) :
    val_main_v100 (F := Ideal) x g w (ix3 t a k) = Forward.pooled x g w t (Mix.col a k) := by
  have h : val_main_v100 (F := Ideal) x g w (ix3 t a k)
      = if a.val < 1 then val_main_v38 (F := Ideal) x g w (ix2 t k)
        else if a.val < 2 then val_main_v57 (F := Ideal) x g w (ix2 t k)
        else if a.val < 3 then val_main_v76 (F := Ideal) x g w (ix2 t k)
        else val_main_v95 (F := Ideal) x g w (ix2 t k) := by
    unfold val_main_v100 val_main_v96 val_main_v97 val_main_v98 val_main_v99
    generalize val_main_v38 (F := Ideal) x g w = v0
    generalize val_main_v57 (F := Ideal) x g w = v1
    generalize val_main_v76 (F := Ideal) x g w = v2
    generalize val_main_v95 (F := Ideal) x g w = v3
    pointwise
    match a with
    | 0 => rfl
    | 1 => rfl
    | 2 => rfl
    | 3 => rfl
  rw [h, v38 x g w hg hw, v57 x g w hg hw, v76 x g w hg hw, v95 x g w hg hw]
  match a with
  | 0 => rfl
  | 1 => rfl
  | 2 => rfl
  | 3 => rfl

/-- The group and the place of a column, as the row's split reads them. -/
theorem split (u : Fin 8192) (j : Fin 1024) : idx_main_v111 (ix2 u j) = ix3 u (Mix.grp j) (Mix.lane j) := by
  refine funext fun b => Fin.ext ?_
  match b with
  | ⟨0, _⟩ =>
    show (u.val * 1024 + j.val) / 1024 = u.val
    omega
  | ⟨1, _⟩ =>
    show (u.val * 1024 + j.val) / 256 % 4 = j.val / 256
    omega
  | ⟨2, _⟩ =>
    show (u.val * 1024 + j.val) % 256 = j.val % 256
    omega

/-! ## The results -/

/-- The second result. -/
theorem out_p (hg : ∀ i, Mix.Real (g i)) (hw : ∀ i, Mix.Real (w i)) (u : Fin 8192) (j : Fin 1024) :
    val_main_v112 (F := Ideal) x g w (ix2 u j) = Forward.pooled x g w u j := by
  refine (val_main_v111_apply (F := Ideal) x g w (ix2 u j)).trans ?_
  rw [split, v100 x g w hg hw, Mix.col_grp]

/-- The third result. -/
theorem out_z (u : Fin 8192) (j : Fin 1024) : val_main_v113 (F := Ideal) x g w (ix2 u j) = Forward.gateArg x g w u j :=
  v15 x g w u j

theorem v103 (hg : ∀ i, Mix.Real (g i)) (hw : ∀ i, Mix.Real (w i)) (u : Fin 8192) (j : Fin 1024) :
    val_main_v103 (F := Ideal) x g w wm (ix2 u j) = Forward.mixed x g w wm u j := by
  rw [val_main_v103_apply, show idx_main_v103 (ix2 u j) = ix3 u (Mix.grp j) (Mix.lane j) from split u j,
    val_main_v102_apply, val_main_v101_apply]
  refine Finset.sum_congr rfl fun k _ => ?_
  have e : ridx_main_v101 (idx_main_v102 (ix3 u (Mix.grp j) (Mix.lane j))) k = ix3 u (Mix.grp j) k := by blk_ext
  have e' : lidx_main_v101 (idx_main_v102 (ix3 u (Mix.grp j) (Mix.lane j))) k = ix3 (Mix.grp j) k (Mix.lane j) := by blk_ext
  rw [e, e', v100 x g w hg hw, mul_comm]

theorem v105 (u : Fin 8192) (j : Fin 1024) : val_main_v105 (F := Ideal) sc (ix2 u j) = sc (ix1 j) := by
  unfold val_main_v105 val_main_v104
  pointwise

theorem v107 (u : Fin 8192) (j : Fin 1024) : val_main_v107 (F := Ideal) x g w (ix2 u j)
    = Forward.gateArg x g w u j * Ideal.logistic (Forward.gateArg x g w u j) := by
  have h : val_main_v107 (F := Ideal) x g w (ix2 u j) = val_main_v15 (F := Ideal) x g w (ix2 u j)
      * Ideal.div (Ideal.ofBits .f32 0x3F800000#32) (Ideal.ofBits .f32 0x3F800000#32
        + Ideal.exp (-val_main_v15 (F := Ideal) x g w (ix2 u j))) := rfl
  rw [h, Ideal.ofBits_one_f32, v15]
  rfl

/-- The first result. -/
theorem out_x (hg : ∀ i, Mix.Real (g i)) (hw : ∀ i, Mix.Real (w i)) (u : Fin 8192) (j : Fin 1024) :
    val_main_v110 (F := Ideal) x g w wm sc wo (ix2 u j) = Forward.out x g w wm sc wo u j := by
  refine congrArg (x (ix2 u j) + ·) ((val_main_v109_apply x g w wm sc wo (ix2 u j)).trans ?_)
  refine Finset.sum_congr rfl fun k _ => ?_
  have e : lidx_main_v109 (ix2 u j) k = ix2 u k := by blk_ext
  have e' : ridx_main_v109 (ix2 u j) k = ix2 k j := by blk_ext
  rw [e, e']
  exact congrArg (· * _) (congrArg₂ _ (congrArg₂ _ (v103 x g w wm hg hw u k) (v105 sc u k)) (v107 x g w u k))

end Cert.ForwardReferenceIdeal.Block

end
-- ==== Proof.FPart.lean ====
/-
  One grid point of the pooling mixer's layer: what each value its kernel computes holds.
-/
module

public import proofs.«01_k».proof.Proof.Gen.ForwardIdeal.Skeleton
public import proofs.«01_k».proof.Proof.FSpec
public import proofs.«01_k».proof.Proof.KDu
public import proofs.«01_k».proof.Proof.RefDu

@[expose] public section

set_option maxRecDepth 16384

noncomputable section

namespace Cert.ForwardIdeal.Block

open Idealize.ShloMosaic Cert.ForwardIdeal Cert.ForwardIdeal.Gen

/-! ## The norm and the projection -/

/-- The normed rows with their gain. -/
theorem hidden_apply (x : FVec Ideal S512x1024 .f32) (g : FVec Ideal S1x1024 .f32) (r : Fin 512) (j : Fin 1024) :
    k0_pay11 (F := Ideal) x g (ix2 r j)
      = x (ix2 r j) * Pool.rstd Pool.eps (fun k => x (ix2 r k)) * g (ix2 0 j) := by
  pointwise [k0_pay11]
  rw [Pool.ofBits_1024, Pool.ofBits_eps]
  rfl

/-- The normed rows against two chunks of the weights, side by side. -/
def columns (h : FVec Ideal S512x1024 .bf16) (a b : FVec Ideal S1x1024x512 .bf16) : FVec Ideal S512x1024 .f32 :=
  k0_pay14 h a b

theorem columns_apply (h : FVec Ideal S512x1024 .bf16) (a b : FVec Ideal S1x1024x512 .bf16) (r : Fin 512) (k : Fin 1024) :
    columns h a b (ix2 r k)
      = if hk : k.val < 512 then ∑ j : Fin 1024, h (ix2 r j) * a (ix3 0 j ⟨k.val, hk⟩)
        else ∑ j : Fin 1024, h (ix2 r j) * b (ix3 0 j ⟨k.val - 512, by omega⟩) := by
  pointwise [columns, k0_pay14]

/-- The rows before a tile's and the tile's, one after the other. -/
def extended (v : FVec Ideal S16x1024 .f32) (u : FVec Ideal S512x1024 .f32) : FVec Ideal S528x1024 .f32 :=
  concatenate S528x1024 0 [⟨S16x1024, v⟩, ⟨S512x1024, u⟩] concatenates_S16x1024_S512x1024_S528x1024_d0

theorem extended_apply (v : FVec Ideal S16x1024 .f32) (u : FVec Ideal S512x1024 .f32) (r : Fin 528) (k : Fin 1024) :
    extended v u (ix2 r k)
      = if h : r.val < 16 then v (ix2 ⟨r.val, h⟩ k) else u (ix2 ⟨r.val - 16, by omega⟩ k) := by
  pointwise [extended]

/-- The last sixteen rows of a tile. -/
def lastRows (u : FVec Ideal S512x1024 .f32) : FVec Ideal S16x1024 .f32 :=
  shapeCast S16x1024 (extractStridedSlice S16x1024 ![496, 0] u slices_S512x1024_o496_0_S16x1024) shapeCasts_S16x1024_S16x1024

theorem lastRows_apply (u : FVec Ideal S512x1024 .f32) (r : Fin 16) (k : Fin 1024) :
    lastRows u (ix2 r k) = u (ix2 ⟨496 + r.val, by omega⟩ k) := by
  pointwise [lastRows]

/-! ## Windows by doubling -/

/-- Every row with `k - 1` rows before it in the block holds the sum of `f` over the `k` rows that end there. -/
def Windows (f : ℕ → Fin 256 → EReal) (k : ℕ) (v : FVec Ideal S528x256 .f32) : Prop :=
  ∀ (r : Fin 528) (l : Fin 256), k ≤ r.val + 1 → v (ix2 r l) = ∑ j ∈ Finset.range k, f (r.val - j) l

/-- A block whose rows are `f` holds the windows of one row. -/
theorem Windows.one (f : ℕ → Fin 256 → EReal) (v : FVec Ideal S528x256 .f32)
    (h : ∀ (r : Fin 528) (l : Fin 256), v (ix2 r l) = f r.val l) : Windows f 1 v := fun r l _ => by
  rw [h]; simp

/-- A block added to itself rotated. -/
def roll (w : BitVec 32) (v : FVec Ideal S528x256 .f32) : FVec Ideal S528x256 .f32 :=
  addf v (dynamicRotate 0 w none v rotates_S528x256_d0)

/-- Adding a block of windows of `k` rows to itself rotated down by `k` rows doubles the windows. -/
theorem Windows.double {f : ℕ → Fin 256 → EReal} {k : ℕ} {v : FVec Ideal S528x256 .f32} (h : Windows f k v)
    (w : BitVec 32) (hk : 0 < k) (hk' : k < 528) (hw : w.toNat = k) : Windows f (k + k) (roll w v) := fun r l hr => by
  have key : roll w v (ix2 r l) = v (ix2 r l) + v (ix2 ⟨r.val - k, by omega⟩ l) := by
    pointwise [roll]
    exact congrArg (fun a => v (ix2 r l) + v (ix2 a l)) (Fin.ext (by
      show (r.val + 528 - w.toNat % 528) % 528 = r.val - k
      omega))
  rw [key, h r l (by omega), h _ l (by show k ≤ r.val - k + 1; omega), Finset.sum_range_add]
  exact congrArg _ (Finset.sum_congr rfl fun j _ => by rw [Nat.sub_sub])

/-! ## A group of columns -/

/-- A group's columns of the extended rows. -/
def cut (e : FVec Ideal S528x1024 .f32) (o : ℕ) (h : S528x1024.Slices ![0, o] S528x256) : FVec Ideal S528x256 .f32 :=
  extractStridedSlice S528x256 ![0, o] e h

theorem cut_apply (e : FVec Ideal S528x1024 .f32) (o : ℕ) (h) (r : Fin 528) (l : Fin 256) (ho : o + l.val < 1024) :
    cut e o h (ix2 r l) = e (ix2 r ⟨o + l.val, ho⟩) :=
  extractStridedSlice_apply ![0, o] e h (ix2 r l) (ix2 r ⟨o + l.val, ho⟩) (fun a => by
    fin_cases a
    · exact (Nat.zero_add _).symm
    · rfl)

/-- The tile's rows of a block. -/
def keep (v : FVec Ideal S528x256 .f32) : FVec Ideal S512x256 .f32 :=
  extractStridedSlice S512x256 ![16, 0] v slices_S528x256_o16_0_S512x256

theorem keep_apply (v : FVec Ideal S528x256 .f32) (r : Fin 512) (l : Fin 256) :
    keep v (ix2 r l) = v (ix2 ⟨16 + r.val, by omega⟩ l) := by
  pointwise [keep]

/-- The windows' means, less the rows. -/
def close (i w : BitVec 32) (s : FVec Ideal S512x256 .f32) (u : FVec Ideal S512x1024 .f32) (o : ℕ)
    (h : S512x1024.Slices ![0, o] S512x256) : FVec Ideal S512x256 .bf16 :=
  truncf .bf16 (subf (mulf s (broadcastTo S512x256 (divf (broadcast S512x1 (Scalar.ofBits .f32 0x3F800000#32))
    (sitofp .f32 (minsi (k0_pay22 i) (broadcast S512x1 w)))) broadcasts_S512x1_S512x256))
    (extractStridedSlice S512x256 ![0, o] u h)) bitsLt_bf16_f32

theorem close_apply (i w : ℕ) (hi : i < 16) (hw0 : 0 < w) (hw : w ≤ 16) (s : FVec Ideal S512x256 .f32)
    (u : FVec Ideal S512x1024 .f32) (o : ℕ) (h) (r : Fin 512) (l : Fin 256) (ho : o + l.val < 1024) :
    close (BitVec.ofNat 32 i) (BitVec.ofNat 32 w) s u o h (ix2 r l)
      = s (ix2 r l) * Pool.recip w (512 * i + r.val) - u (ix2 r ⟨o + l.val, ho⟩) := by
  have e : extractStridedSlice S512x256 ![0, o] u h (ix2 r l) = u (ix2 r ⟨o + l.val, ho⟩) :=
    extractStridedSlice_apply ![0, o] u h (ix2 r l) (ix2 r ⟨o + l.val, ho⟩) (fun a => by
      fin_cases a
      · exact (Nat.zero_add _).symm
      · rfl)
  have hd := Cert.ReferenceIdeal.Block.div_count (512 * i + r.val) w (by omega) hw0 hw 1
  rw [one_mul] at hd
  have hn : IntOp.addi (Cert.KernelIdeal.Block.rowWord i r.val) 1#32
      = IntOp.addi 1#32 (BitVec.ofNat 32 (512 * i + r.val)) := by
    have : Cert.KernelIdeal.Block.rowWord i r.val = BitVec.ofNat 32 (512 * i + r.val) := by
      apply BitVec.eq_of_toNat_eq
      rw [Cert.KernelIdeal.Block.rowWord_toNat i r.val hi (by omega), BitVec.toNat_ofNat]
      omega
    rw [this]
    exact BitVec.add_comm _ _
  rw [← hn] at hd
  rw [← e, ← hd]
  unfold close
  generalize extractStridedSlice S512x256 ![0, o] u h = u'
  pointwise [k0_pay22, Cert.KernelIdeal.Block.rowWord]

/-- The four groups' pooled columns. -/
def pooledOf (i : BitVec 32) (u : FVec Ideal S512x1024 .f32) (e : FVec Ideal S528x1024 .f32) :
    Fin 4 → FVec Ideal S512x256 .bf16 :=
  ![close i 2#32 (keep (roll 1#32 (cut e 0 slices_S528x1024_o0_0_S528x256))) u 0 slices_S512x1024_o0_0_S512x256,
    close i 4#32 (keep (roll 2#32 (roll 1#32 (cut e 256 slices_S528x1024_o0_256_S528x256)))) u 256
      slices_S512x1024_o0_256_S512x256,
    close i 8#32 (keep (roll 4#32 (roll 2#32 (roll 1#32 (cut e 512 slices_S528x1024_o0_512_S528x256))))) u 512
      slices_S512x1024_o0_512_S512x256,
    close i 16#32 (keep (roll 8#32 (roll 4#32 (roll 2#32 (roll 1#32 (cut e 768 slices_S528x1024_o0_768_S528x256)))))) u 768
      slices_S512x1024_o0_768_S512x256]

section

variable {x : FVec Ideal ⟨2, ![8192, 1024]⟩ .f32} {g : FVec Ideal ⟨1, ![1024]⟩ .f32}
  {w : FVec Ideal ⟨2, ![1024, 2048]⟩ .f32} {t : ℕ} {u : FVec Ideal S512x1024 .f32} {e : FVec Ideal S528x1024 .f32}

/-- The rows of a tile and those before it are the stream's. -/
structure Rows (x : FVec Ideal ⟨2, ![8192, 1024]⟩ .f32) (g : FVec Ideal ⟨1, ![1024]⟩ .f32)
    (w : FVec Ideal ⟨2, ![1024, 2048]⟩ .f32) (t : ℕ) (u : FVec Ideal S512x1024 .f32) (e : FVec Ideal S528x1024 .f32) :
    Prop where
  lt : t < 16
  tile : ∀ (r : Fin 512) (c : Fin 1024),
    u (ix2 r c) = Forward.column x g w ⟨512 * t + r.val, by omega⟩ ⟨c.val, by omega⟩
  rows : ∀ (r : Fin 528) (c : Fin 1024), e (ix2 r c) = Forward.lag x g w (512 * t + r.val) c

/-- A group's rows hold the stream's windows of one row. -/
theorem Rows.one (h : Rows x g w t u e) (o : ℕ) (ho : o + 256 ≤ 1024) (hs) :
    Windows (fun r l => Forward.lag x g w (512 * t + r) ⟨o + l.val, by omega⟩) 1 (cut e o hs) :=
  Windows.one _ _ fun r l => (cut_apply e o hs r l (by omega)).trans (h.rows r _)

/-- From the windows of a group's rows to its pooled columns. -/
theorem Rows.pooled (h : Rows x g w t u e) (k : Fin 4) (n : ℕ) (hn : n = 2 ^ (k.val + 1)) (o : ℕ) (ho : o = 256 * k.val)
    (ho' : o + 256 ≤ 1024) (v : FVec Ideal S528x256 .f32) (hs)
    (hv : Windows (fun r l => Forward.lag x g w (512 * t + r) ⟨o + l.val, by omega⟩) n v) (hn0 : 0 < n) (hn16 : n ≤ 16)
    (r : Fin 512) (l : Fin 256) :
    close (BitVec.ofNat 32 t) (BitVec.ofNat 32 n) (keep v) u o hs (ix2 r l)
      = Forward.pooled x g w ⟨512 * t + r.val, by have := h.lt; omega⟩ (Mix.col k l) := by
  subst ho
  have hw : Pool.window (Mix.col k l) = n := by
    rw [hn]
    exact Cert.KernelIdeal.Block.window_group k.val l _ rfl (by omega)
  rw [close_apply t n h.lt hn0 hn16 _ u _ hs r l (by omega), keep_apply, hv _ l (by show n ≤ 16 + r.val + 1; omega), h.tile]
  unfold Forward.pooled
  rw [hw]
  refine congrArg (fun a => a * _ - _) (Finset.sum_congr rfl fun d hd => ?_)
  have := Finset.mem_range.1 hd
  refine congrArg (fun n => Forward.lag x g w n _) ?_
  show 512 * t + (16 + r.val - d) = 16 + (512 * t + r.val) - d
  omega

/-- The four groups' pooled columns are the array's. -/
theorem Rows.pooledOf (h : Rows x g w t u e) (k : Fin 4) (r : Fin 512) (l : Fin 256) :
    pooledOf (BitVec.ofNat 32 t) u e k (ix2 r l)
      = Forward.pooled x g w ⟨512 * t + r.val, by have := h.lt; omega⟩ (Mix.col k l) := by
  match k with
  | 0 =>
    exact h.pooled 0 2 rfl 0 rfl (by omega) _ _ ((h.one 0 (by omega) _).double 1#32 (by omega) (by omega) rfl)
      (by omega) (by omega) r l
  | 1 =>
    exact h.pooled 1 4 rfl 256 rfl (by omega) _ _ (((h.one 256 (by omega) _).double 1#32 (by omega) (by omega) rfl).double
      2#32 (by omega) (by omega) rfl) (by omega) (by omega) r l
  | 2 =>
    exact h.pooled 2 8 rfl 512 rfl (by omega) _ _ ((((h.one 512 (by omega) _).double 1#32 (by omega) (by omega) rfl).double
      2#32 (by omega) (by omega) rfl).double 4#32 (by omega) (by omega) rfl) (by omega) (by omega) r l
  | 3 =>
    exact h.pooled 3 16 rfl 768 rfl (by omega) _ _ (((((h.one 768 (by omega) _).double 1#32 (by omega) (by omega) rfl).double
      2#32 (by omega) (by omega) rfl).double 4#32 (by omega) (by omega) rfl).double 8#32 (by omega) (by omega) rfl)
      (by omega) (by omega) r l

end

/-! ## The mixed rows and the output -/

/-- The gated rows through the output projection, onto the input. -/
theorem layer_apply (z mixed : FVec Ideal S512x1024 .f32) (s : FVec Ideal S1x1024 .f32) (wo : FVec Ideal S1024x1024 .bf16)
    (x : FVec Ideal S512x1024 .f32) (r : Fin 512) (j : Fin 1024) :
    k0_pay1 (F := Ideal) z mixed s wo x (ix2 r j)
      = x (ix2 r j) + ∑ k : Fin 1024, mixed (ix2 r k) * s (ix2 0 k)
          * (z (ix2 r k) * Ideal.logistic (z (ix2 r k))) * wo (ix2 k j) := by
  pointwise [k0_pay1]

end Cert.ForwardIdeal.Block

end
-- ==== Proof.FPoint.lean ====
/-
  The values of one grid point of the pooling mixer's layer.
-/
module

public import proofs.«01_k».proof.Proof.FPart
public import proofs.«01_k».proof.Proof.MPoint
public import proofs.«01_k».proof.Proof.KTile
public import proofs.«01_k».proof.Proof.Gen.ForwardIdeal.Frame

@[expose] public section

set_option maxRecDepth 16384

noncomputable section

namespace Cert.ForwardIdeal.Block

open Idealize.ShloMosaic Idealize.SL.Sem Cert.ForwardIdeal Cert.ForwardIdeal.Gen
open Cert.MixIdeal.Block (weights)

/-- The mixed rows of four groups of pooled columns. -/
def mixFrom (P : Fin 4 → FVec Ideal S512x256 .bf16) (x3 : FVec Ideal S4x256x256 .bf16) : FVec Ideal S512x1024 .f32 :=
  Cert.MixIdeal.Block.mixAt (weights x3 3) (Cert.MixIdeal.Gen.k0_pay18 (weights x3 0) (P 0))
    (Cert.MixIdeal.Gen.k0_pay18 (weights x3 1) (P 1)) (Cert.MixIdeal.Gen.k0_pay18 (weights x3 2) (P 2)) (P 3)

/-- Each column is its group's pooled columns against a column of the group's weights. -/
theorem mixFrom_apply (P : Fin 4 → FVec Ideal S512x256 .bf16) (x3 : FVec Ideal S4x256x256 .bf16) (r : Fin 512) (j : Fin 1024) :
    mixFrom P x3 (ix2 r j) = ∑ c : Fin 256, P (Mix.grp j) (ix2 r c) * weights x3 (Mix.grp j) (ix2 c (Mix.lane j)) := by
  have e : ∀ (g : Fin 4) (l : Fin 256), g = Mix.grp j → l = Mix.lane j →
      Cert.MixIdeal.Gen.k0_pay18 (F := Ideal) (weights x3 g) (P g) (ix2 r l)
        = ∑ c : Fin 256, P (Mix.grp j) (ix2 r c) * weights x3 (Mix.grp j) (ix2 c (Mix.lane j)) := by
    intro g l hg hl
    subst hg hl
    exact Cert.MixIdeal.Block.product_apply _ _ r _
  unfold mixFrom
  rw [Cert.MixIdeal.Block.mixAt_apply]
  by_cases h0 : j.val < 256
  · rw [dif_pos h0]
    exact e 0 _ (Fin.ext (by show 0 = j.val / 256; omega)) (Fin.ext (by show j.val = j.val % 256; omega))
  rw [dif_neg h0]
  by_cases h1 : j.val < 512
  · rw [dif_pos h1]
    exact e 1 _ (Fin.ext (by show 1 = j.val / 256; omega)) (Fin.ext (by show j.val - 256 = j.val % 256; omega))
  rw [dif_neg h1]
  by_cases h2 : j.val < 768
  · rw [dif_pos h2]
    exact e 2 _ (Fin.ext (by show 2 = j.val / 256; omega)) (Fin.ext (by show j.val - 512 = j.val % 256; omega))
  · rw [dif_neg h2]
    exact e 3 _ (Fin.ext (by show 3 = j.val / 256; omega)) (Fin.ext (by show j.val - 768 = j.val % 256; omega))

variable (m : (ℓ : Loc nD τ sig) → Buf (Elt Ideal) ℓ) (c : Dev nD)

/-- A point's normed rows. -/
def hAt (t : Fin cfg0.N) : FVec Ideal S512x1024 .bf16 := k0_pay11 (iblk m c 0 t) (iblk m c 1 t)

/-- A point's rows of the pooled stream. -/
def uAt (t : Fin cfg0.N) : FVec Ideal S512x1024 .f32 :=
  columns (hAt m c t) (Cert.KernelIdeal.Block.chunk (iblk m c 2 t) 0 inb_S4x1024x512_S1x1024x512_0_0_0)
    (Cert.KernelIdeal.Block.chunk (iblk m c 2 t) 1 inb_S4x1024x512_S1x1024x512_1_0_0)

/-- A point's rows of the gate's argument. -/
def zAt (t : Fin cfg0.N) : FVec Ideal S512x1024 .f32 :=
  columns (hAt m c t) (Cert.KernelIdeal.Block.chunk (iblk m c 2 t) 2 inb_S4x1024x512_S1x1024x512_2_0_0)
    (Cert.KernelIdeal.Block.chunk (iblk m c 2 t) 3 inb_S4x1024x512_S1x1024x512_3_0_0)

/-- A point's pooled columns, when the sixteen rows before its own are `v`. -/
def pAt (t : Fin cfg0.N) (v : FVec Ideal S16x1024 .f32) : Fin 4 → FVec Ideal S512x256 .bf16 :=
  pooledOf (BitVec.ofNat 32 (grid0.coords t 0).val) (uAt m c t) (extended v (uAt m c t))

/-- The tile of pooled rows that a point writes. -/
def pTile (t : Fin cfg0.N) (v : FVec Ideal S16x1024 .f32) : FVec Ideal S512x1024 .bf16 := fun y =>
  pAt m c t v (Mix.grp (y 1)) (ix2 (y 0) (Mix.lane (y 1)))

/-- The tile of the layer's output that a point writes. -/
def xTile (t : Fin cfg0.N) (v : FVec Ideal S16x1024 .f32) : FVec Ideal S512x1024 .f32 :=
  k0_pay1 (zAt m c t) (mixFrom (pAt m c t v) (iblk m c 3 t)) (iblk m c 4 t) (iblk m c 5 t) (iblk m c 0 t)

/-- A group's pooled columns are its columns of the tile. -/
theorem pTile_group (t : Fin cfg0.N) (v : FVec Ideal S16x1024 .f32) (g : Fin 4) (o : ℕ) (ho : o + 256 ≤ 1024)
    (hg : o = 256 * g.val) (q : FVec Ideal S512x256 .bf16) (hq : q = pAt m c t v g) (r : Fin 512) (j : Fin 256) :
    q (ix2 r j) = pTile m c t v (ix2 r ⟨o + j.val, by omega⟩) := by
  have eg : Mix.grp ⟨o + j.val, by omega⟩ = g := Fin.ext (by show (o + j.val) / 256 = g.val; omega)
  have el : Mix.lane ⟨o + j.val, by omega⟩ = j := Fin.ext (by show (o + j.val) % 256 = j.val; omega)
  show _ = pAt m c t v (Mix.grp ⟨o + j.val, by omega⟩) (ix2 r (Mix.lane ⟨o + j.val, by omega⟩))
  rw [eg, el, hq]

/-- A column lies in one of the four groups. -/
theorem some_group (n : ℕ) (h : n < 1024) (h0 : ¬(0 ≤ n ∧ n < 0 + 256)) (h1 : ¬(256 ≤ n ∧ n < 256 + 256))
    (h2 : ¬(512 ≤ n ∧ n < 512 + 256)) (h3 : ¬(768 ≤ n ∧ n < 768 + 256)) : False := by
  omega

end Cert.ForwardIdeal.Block

end
-- ==== Proof.FOutA.lean ====
/-
  What a grid point of the pooling mixer's layer leaves, at the first point.
-/
module

public import proofs.«01_k».proof.Proof.FPoint

@[expose] public section

set_option maxRecDepth 16384

noncomputable section

namespace Cert.ForwardIdeal.Block

open Idealize.ShloMosaic Idealize.SL.Sem Cert.ForwardIdeal Cert.ForwardIdeal.Gen
open Cert.MixIdeal.Block (peelCols)

variable (m : (ℓ : Loc nD τ sig) → Buf (Elt Ideal) ℓ) (c : Dev nD)

/-- The rows of the gate's argument. -/
theorem zA (t : Fin cfg0.N) (h0 : t.val % 16 = 0) : (outsAt0 m c t.val t.isLt).2.2.1 = zAt m c t := by
  rw [outsAt0_A m c t h0]; frame_out
  rfl

/-- The last sixteen rows of the pooled stream stay for the next point. -/
theorem carryA (t : Fin cfg0.N) (h0 : t.val % 16 = 0) : (outsAt0 m c t.val t.isLt).2.2.2 = lastRows (uAt m c t) := by
  rw [outsAt0_A m c t h0]; frame_out
  rfl

set_option maxHeartbeats 1600000 in
/-- The pooled rows. -/
theorem pA (t : Fin cfg0.N) (h0 : t.val % 16 = 0) :
    (outsAt0 m c t.val t.isLt).2.1 = pTile m c t k0_pay10 := by
  rw [outsAt0_A m c t h0]; frame_out
  funext y
  refine peelCols _ 768 (by omega) _ _ _ _ (pTile_group m c t k0_pay10 3 768 (by omega) rfl _ rfl) fun n3 => ?_
  refine peelCols _ 512 (by omega) _ _ _ _ (pTile_group m c t k0_pay10 2 512 (by omega) rfl _ rfl) fun n2 => ?_
  refine peelCols _ 256 (by omega) _ _ _ _ (pTile_group m c t k0_pay10 1 256 (by omega) rfl _ rfl) fun n1 => ?_
  exact peelCols _ 0 (by omega) _ _ _ _ (pTile_group m c t k0_pay10 0 0 (by omega) rfl _ rfl) fun n0 =>
    (some_group _ (y 1).isLt n0 n1 n2 n3).elim

set_option maxHeartbeats 1600000 in
/-- The layer's output. -/
theorem xA (t : Fin cfg0.N) (h0 : t.val % 16 = 0) :
    (outsAt0 m c t.val t.isLt).1 = xTile m c t k0_pay10 := by
  rw [outsAt0_A m c t h0]; frame_out
  rfl

end Cert.ForwardIdeal.Block

end
-- ==== Proof.FOutB.lean ====
/-
  What a grid point of the pooling mixer's layer leaves, at a point after the first.
-/
module

public import proofs.«01_k».proof.Proof.FPoint

@[expose] public section

set_option maxRecDepth 16384

noncomputable section

namespace Cert.ForwardIdeal.Block

open Idealize.ShloMosaic Idealize.SL.Sem Cert.ForwardIdeal Cert.ForwardIdeal.Gen
open Cert.MixIdeal.Block (peelCols)

variable (m : (ℓ : Loc nD τ sig) → Buf (Elt Ideal) ℓ) (c : Dev nD)

/-- The rows of the gate's argument. -/
theorem zB (t : Fin cfg0.N) (h0 : ¬t.val % 16 = 0) : (outsAt0 m c t.val t.isLt).2.2.1 = zAt m c t := by
  rw [outsAt0_B m c t h0]; frame_out
  rfl

/-- The last sixteen rows of the pooled stream stay for the next point. -/
theorem carryB (t : Fin cfg0.N) (h0 : ¬t.val % 16 = 0) : (outsAt0 m c t.val t.isLt).2.2.2 = lastRows (uAt m c t) := by
  rw [outsAt0_B m c t h0]; frame_out
  rfl

set_option maxHeartbeats 1600000 in
/-- The pooled rows. -/
theorem pB (t : Fin cfg0.N) (h0 : ¬t.val % 16 = 0) (v : FVec Ideal S16x1024 .f32)
    (hv : (outsAt0 m c (t.val - 1) (Nat.lt_of_le_of_lt (Nat.sub_le _ _) t.isLt)).2.2.2 = v) :
    (outsAt0 m c t.val t.isLt).2.1 = pTile m c t v := by
  rw [outsAt0_B m c t h0, hv]; frame_out
  rw [read_unread_whole]
  funext y
  refine peelCols _ 768 (by omega) _ _ _ _ (pTile_group m c t v 3 768 (by omega) rfl _ rfl) fun n3 => ?_
  refine peelCols _ 512 (by omega) _ _ _ _ (pTile_group m c t v 2 512 (by omega) rfl _ rfl) fun n2 => ?_
  refine peelCols _ 256 (by omega) _ _ _ _ (pTile_group m c t v 1 256 (by omega) rfl _ rfl) fun n1 => ?_
  exact peelCols _ 0 (by omega) _ _ _ _ (pTile_group m c t v 0 0 (by omega) rfl _ rfl) fun n0 =>
    (some_group _ (y 1).isLt n0 n1 n2 n3).elim

set_option maxHeartbeats 1600000 in
/-- The layer's output. -/
theorem xB (t : Fin cfg0.N) (h0 : ¬t.val % 16 = 0) (v : FVec Ideal S16x1024 .f32)
    (hv : (outsAt0 m c (t.val - 1) (Nat.lt_of_le_of_lt (Nat.sub_le _ _) t.isLt)).2.2.2 = v) :
    (outsAt0 m c t.val t.isLt).1 = xTile m c t v := by
  rw [outsAt0_B m c t h0, hv]; frame_out
  rw [read_unread_whole]
  rfl

end Cert.ForwardIdeal.Block

end
-- ==== Proof.FOut.lean ====
/-
  What every grid point of the pooling mixer's layer leaves, and the rows it finds kept from the point before.
-/
module

public import proofs.«01_k».proof.Proof.FOutA
public import proofs.«01_k».proof.Proof.FOutB

@[expose] public section

set_option maxRecDepth 16384

noncomputable section

namespace Cert.ForwardIdeal.Block

open Idealize.ShloMosaic Idealize.SL.Sem Cert.ForwardIdeal Cert.ForwardIdeal.Gen

variable (m : (ℓ : Loc nD τ sig) → Buf (Elt Ideal) ℓ) (c : Dev nD)

/-- The point before. -/
def prev (t : Fin cfg0.N) : Fin cfg0.N := ⟨t.val - 1, Nat.lt_of_le_of_lt (Nat.sub_le _ _) t.isLt⟩

/-- The sixteen rows a point finds before its own: zeros at the first point, else the last rows of the point before. -/
def before (t : Fin cfg0.N) : FVec Ideal S16x1024 .f32 :=
  if t.val % 16 = 0 then k0_pay10 else lastRows (uAt m c (prev t))

/-- Every point keeps its last sixteen rows. -/
theorem outs_carry (t : Fin cfg0.N) : (outsAt0 m c t.val t.isLt).2.2.2 = lastRows (uAt m c t) := by
  by_cases h0 : t.val % 16 = 0
  · exact carryA m c t h0
  · exact carryB m c t h0

/-- After the first point the rows kept are those of the point before. -/
theorem before_pos (t : Fin cfg0.N) (h0 : ¬t.val % 16 = 0) :
    (outsAt0 m c (t.val - 1) (Nat.lt_of_le_of_lt (Nat.sub_le _ _) t.isLt)).2.2.2 = before m c t :=
  (outs_carry m c (prev t)).trans (if_neg h0).symm

/-- The gate's argument. -/
theorem outs_z (t : Fin cfg0.N) : (outsAt0 m c t.val t.isLt).2.2.1 = zAt m c t := by
  by_cases h0 : t.val % 16 = 0
  · exact zA m c t h0
  · exact zB m c t h0

/-- The pooled rows. -/
theorem outs_p (t : Fin cfg0.N) : (outsAt0 m c t.val t.isLt).2.1 = pTile m c t (before m c t) := by
  by_cases h0 : t.val % 16 = 0
  · exact (pA m c t h0).trans (congrArg (pTile m c t) (if_pos h0).symm)
  · exact pB m c t h0 _ (before_pos m c t h0)

/-- The layer's output. -/
theorem outs_x (t : Fin cfg0.N) : (outsAt0 m c t.val t.isLt).1 = xTile m c t (before m c t) := by
  by_cases h0 : t.val % 16 = 0
  · exact (xA m c t h0).trans (congrArg (xTile m c t) (if_pos h0).symm)
  · exact xB m c t h0 _ (before_pos m c t h0)

end Cert.ForwardIdeal.Block

end
-- ==== Proof.FArr.lean ====
/-
  The three results of the pooling mixer's layer after the run, as arrays.
-/
module

public import proofs.«01_k».proof.Proof.FOut
public import Idealize.ShloMosaic.Lib.Claim

@[expose] public section

set_option maxRecDepth 16384

noncomputable section

namespace Cert.ForwardIdeal.Block

open Idealize.ShloMosaic Idealize.ShloMosaic.TcCoe Idealize.SL.Sem Cert.ForwardIdeal Cert.ForwardIdeal.Gen
open Idealize.ShloMosaic.Pipeline (Dat)
open Cert.MixIdeal.Block (weights weights_apply rowGrp rowOf)

variable (m : (ℓ : Loc nD τ sig) → Buf (Elt Ideal) ℓ) (c : Dev nD)

/-- The blocks each window reads and writes at a point. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![0, 0] ∧ win0_6.index t = ![t.val, 0]
    ∧ win0_7.index t = ![t.val, 0] ∧ win0_8.index t = ![t.val, 0] ∧ (grid0.coords t 0).val = t.val ∧ t.val < 16 :=
  (by decide +kernel : ∀ t : Fin grid0.N, _)

/-- There are sixteen points. -/
theorem lt16 (t : Fin cfg0.N) : t.val < 16 := (idx t).2.2.2.2.2.2.2.2.2.2

theorem row_lt (t : Fin cfg0.N) (r : Fin 512) : 512 * t.val + r.val < 8192 := by
  have := lt16 t
  omega

/-- Row `r` of point `t` among all rows. -/
abbrev row (t : Fin cfg0.N) (r : Fin 512) : Fin 8192 := ⟨512 * t.val + r.val, row_lt t r⟩

/-- The call's arguments on a device. -/
abbrev aX : FVec Ideal S8192x1024 .f32 := m ((c : Thread nD τ).loc main_arg0)
abbrev aG : FVec Ideal S1024 .f32 := m ((c : Thread nD τ).loc main_arg1)
abbrev aW : FVec Ideal S1024x2048 .f32 := m ((c : Thread nD τ).loc main_arg2)
abbrev aWm : FVec Ideal S4x256x256 .f32 := m ((c : Thread nD τ).loc main_arg3)
abbrev aSc : FVec Ideal S1024 .f32 := m ((c : Thread nD τ).loc main_arg4)
abbrev aWo : FVec Ideal S1024x1024 .f32 := m ((c : Thread nD τ).loc main_arg5)

/-! ## The arguments as the call receives them -/

/-- The weights cut into four chunks of columns. -/
theorem chunked (w : FVec Ideal S1024x2048 .f32) (a : Fin 4) (j : Fin 1024) (l : Fin 512) :
    truncf .bf16 (transpose S4x1024x512 [1, 0, 2] (shapeCast S1024x4x512 w shapeCasts_S1024x2048_S1024x4x512)
      transposes_S1024x4x512_S4x1024x512_1_0_2) bitsLt_bf16_f32 (ix3 a j l) = w (ix2 j ⟨512 * a.val + l.val, by omega⟩) := by
  pointwise
  blk_ext

/-- The mixing weights: matrix `k` of the stack holds 64 rows of every group. -/
theorem laid (w : FVec Ideal S4x256x256 .f32) (k : Fin 4) (q j : Fin 256) :
    shapeCast S4x256x256 (transpose S4x4x64x256 [1, 0, 2, 3]
      (shapeCast S4x4x64x256 w shapeCasts_S4x256x256_S4x4x64x256) transposes_S4x4x64x256_S4x4x64x256_1_0_2_3)
      shapeCasts_S4x4x64x256_S4x256x256 (ix3 k q j) = w (ix3 (rowGrp q) (rowOf k q) j) := by
  have e1 : ∀ v : FVec Ideal S4x4x64x256 .f32, shapeCast S4x256x256 v shapeCasts_S4x4x64x256_S4x256x256 (ix3 k q j)
      = v (ix4 k (rowGrp q) ⟨q.val % 64, by omega⟩ j) := fun v =>
    shapeCast_apply v shapeCasts_S4x4x64x256_S4x256x256 (ix3 k q j) (ix4 k (rowGrp q) ⟨q.val % 64, by omega⟩ j) (by
      rewrite [Shape.rowMajor_val_four, Shape.rowMajor_val_three]
      show ((k.val * 4 + q.val / 64) * 64 + q.val % 64) * 256 + j.val = (k.val * 256 + q.val) * 256 + j.val
      omega)
  have e2 : ∀ v : FVec Ideal S4x4x64x256 .f32,
      transpose S4x4x64x256 [1, 0, 2, 3] v transposes_S4x4x64x256_S4x4x64x256_1_0_2_3 (ix4 k (rowGrp q) ⟨q.val % 64, by omega⟩ j)
        = v (ix4 (rowGrp q) k ⟨q.val % 64, by omega⟩ j) := fun v =>
    transpose_apply [1, 0, 2, 3] v transposes_S4x4x64x256_S4x4x64x256_1_0_2_3 _ (ix4 (rowGrp q) k ⟨q.val % 64, by omega⟩ j)
      (fun b => match b with | ⟨0, _⟩ => rfl | ⟨1, _⟩ => rfl | ⟨2, _⟩ => rfl | ⟨3, _⟩ => rfl)
  rw [e1, e2]
  refine shapeCast_apply w shapeCasts_S4x256x256_S4x4x64x256 (ix4 (rowGrp q) k ⟨q.val % 64, by omega⟩ j)
    (ix3 (rowGrp q) (rowOf k q) j) ?_
  rewrite [Shape.rowMajor_val_three, Shape.rowMajor_val_four]
  show (q.val / 64 * 256 + (64 * k.val + q.val % 64)) * 256 + j.val = ((q.val / 64 * 4 + k.val) * 64 + q.val % 64) * 256 + j.val
  omega

/-! ## What the call finds at a point -/

theorem input (t : Fin cfg0.N) (r : Fin 512) (j : Fin 1024) :
    (iblk m c 0 t : FVec Ideal S512x1024 .f32) (ix2 r j) = aX m c (ix2 (row t r) j) := by
  blk_point [iblk, V, idx t]

theorem gain (t : Fin cfg0.N) (j : Fin 1024) :
    (iblk m c 1 t : FVec Ideal S1x1024 .f32) (ix2 0 j) = aG m c (ix1 j) := by
  blk_simp [iblk]
  entry_read
  have e : ((View.whole main_v7).slice (win0_1.rect t)).emb (ix2 0 j) = (ix2 0 j : S1x1024.Idx) := by
    blk_ext [idx t]
  rw [e]
  exact (by pointwise : broadcastInDim S1x1024 ![1] bcast_S1024_S1x1024_1 (aG m c) (ix2 0 j) = aG m c (ix1 j))

theorem win_at (t : Fin cfg0.N) (a : Fin 4) (j : Fin 1024) (l : Fin 512) :
    (iblk m c 2 t : FVec Ideal S4x1024x512 .bf16) (ix3 a j l) = aW m c (ix2 j ⟨512 * a.val + l.val, by omega⟩) := by
  blk_simp [iblk]
  entry_read
  have e : ((View.whole main_v2).slice (win0_2.rect t)).emb (ix3 a j l) = (ix3 a j l : S4x1024x512.Idx) := by
    blk_ext [idx t]
  rw [e]
  exact chunked (aW m c) a j l

theorem wm_at (t : Fin cfg0.N) (k : Fin 4) (q j : Fin 256) :
    (iblk m c 3 t : FVec Ideal S4x256x256 .bf16) (ix3 k q j) = aWm m c (ix3 (rowGrp q) (rowOf k q) j) := by
  blk_simp [iblk]
  entry_read
  have e : ((View.whole main_v6).slice (win0_3.rect t)).emb (ix3 k q j) = (ix3 k q j : S4x256x256.Idx) := by
    blk_ext [idx t]
  rw [e]
  exact laid (aWm m c) k q j

theorem sc_at (t : Fin cfg0.N) (j : Fin 1024) :
    (iblk m c 4 t : FVec Ideal S1x1024 .f32) (ix2 0 j) = aSc m c (ix1 j) := by
  blk_simp [iblk]
  entry_read
  have e : ((View.whole main_v8).slice (win0_4.rect t)).emb (ix2 0 j) = (ix2 0 j : S1x1024.Idx) := by
    blk_ext [idx t]
  rw [e]
  exact (by pointwise : broadcastInDim S1x1024 ![1] bcast_S1024_S1x1024_1 (aSc m c) (ix2 0 j) = aSc m c (ix1 j))

theorem wo_at (t : Fin cfg0.N) (k j : Fin 1024) :
    (iblk m c 5 t : FVec Ideal S1024x1024 .bf16) (ix2 k j) = aWo m c (ix2 k j) := by
  blk_simp [iblk]
  entry_read
  have e : ((View.whole main_v9).slice (win0_5.rect t)).emb (ix2 k j) = (ix2 k j : S1024x1024.Idx) := by
    blk_ext [idx t]
  rw [e]
  exact (by pointwise : truncf .bf16 (aWo m c) bitsLt_bf16_f32 (ix2 k j) = aWo m c (ix2 k j))

/-! ## A point's values over the arrays -/

theorem weights_at (t : Fin cfg0.N) (g : Fin 4) (r j : Fin 256) :
    weights (iblk m c 3 t) g (ix2 r j) = aWm m c (ix3 g r j) := by
  refine (weights_apply _ g r j).trans ((wm_at m c t _ _ j).trans ?_)
  refine congrArg₂ (fun a b => aWm m c (ix3 a b j)) (Fin.ext ?_) (Fin.ext ?_)
  · show (64 * g.val + r.val % 64) / 64 = g.val
    omega
  · show 64 * (r.val / 64) + (64 * g.val + r.val % 64) % 64 = r.val
    omega

theorem hidden_at (t : Fin cfg0.N) (r : Fin 512) (j : Fin 1024) :
    hAt m c t (ix2 r j) = Pool.normed (aX m c) (row t r) j * aG m c (ix1 j) := by
  refine (hidden_apply _ _ r j).trans (congrArg₂ _ (congrArg₂ _ (input m c t r j) ?_) (gain m c t j))
  exact congrArg (Pool.rstd Pool.eps) (funext fun k => input m c t r k)

/-- The rows against one chunk of the weights. -/
theorem chunk_at (t : Fin cfg0.N) (r : Fin 512) (a : Fin 4) (h) (l : Fin 512) :
    (∑ j : Fin 1024, hAt m c t (ix2 r j) * Cert.KernelIdeal.Block.chunk (iblk m c 2 t) a h (ix3 0 j l))
      = Forward.column (aX m c) (aG m c) (aW m c) (row t r) ⟨512 * a.val + l.val, by omega⟩ :=
  Finset.sum_congr rfl fun j _ => congrArg₂ _ (hidden_at m c t r j)
    ((Cert.KernelIdeal.Block.chunk_apply _ a h j l).trans (win_at m c t a j l))

/-- The pooled stream's rows. -/
theorem u_at (t : Fin cfg0.N) (r : Fin 512) (k : Fin 1024) :
    uAt m c t (ix2 r k) = Forward.column (aX m c) (aG m c) (aW m c) (row t r) ⟨k.val, by omega⟩ := by
  refine (columns_apply _ _ _ r k).trans ?_
  split
  · refine (chunk_at m c t r 0 _ _).trans (congrArg (Forward.column _ _ _ _) (Fin.ext ?_))
    show 512 * 0 + k.val = k.val
    omega
  · refine (chunk_at m c t r 1 _ _).trans (congrArg (Forward.column _ _ _ _) (Fin.ext ?_))
    show 512 * 1 + (k.val - 512) = k.val
    omega

/-- The gate's rows. -/
theorem z_at (t : Fin cfg0.N) (r : Fin 512) (k : Fin 1024) :
    zAt m c t (ix2 r k) = Forward.gateArg (aX m c) (aG m c) (aW m c) (row t r) k := by
  refine (columns_apply _ _ _ r k).trans ?_
  split
  · refine (chunk_at m c t r 2 _ _).trans (congrArg (Forward.column _ _ _ _) (Fin.ext ?_))
    show 512 * 2 + k.val = 1024 + k.val
    omega
  · refine (chunk_at m c t r 3 _ _).trans (congrArg (Forward.column _ _ _ _) (Fin.ext ?_))
    show 512 * 3 + (k.val - 512) = 1024 + k.val
    omega

/-- The zeros before the first row. -/
theorem zeros_apply (r : Fin 16) (k : Fin 1024) : (k0_pay10 (F := Ideal)) (ix2 r k) = 0 := by
  pointwise [k0_pay10]

/-- The sixteen rows before a point's own are the stream's, or zeros before its first row. -/
theorem before_at (t : Fin cfg0.N) (r : Fin 16) (k : Fin 1024) :
    before m c t (ix2 r k) = Forward.lag (aX m c) (aG m c) (aW m c) (512 * t.val + r.val) k := by
  have ht := lt16 t
  unfold before
  split
  · rw [zeros_apply, Forward.lag_zero _ _ _ _ (by omega)]
  · rw [lastRows_apply, u_at m c (prev t) _ k]
    refine (Forward.lag_row _ _ _ (row (prev t) ⟨496 + r.val, by omega⟩) _ ?_ k).symm
    show 512 * t.val + r.val = 16 + (512 * (t.val - 1) + (496 + r.val))
    omega

/-- A point's rows and the sixteen before them are the stream's. -/
theorem rows_at (t : Fin cfg0.N) :
    Rows (aX m c) (aG m c) (aW m c) t.val (uAt m c t) (extended (before m c t) (uAt m c t)) where
  lt := lt16 t
  tile := u_at m c t
  rows := fun r k => by
    rw [extended_apply]
    split
    · exact before_at m c t _ k
    · rw [u_at m c t _ k]
      refine (Forward.lag_row _ _ _ (row t ⟨r.val - 16, by omega⟩) _ ?_ k).symm
      show 512 * t.val + r.val = 16 + (512 * t.val + (r.val - 16))
      omega

/-- A group's pooled columns. -/
theorem p_at (t : Fin cfg0.N) (k : Fin 4) (r : Fin 512) (l : Fin 256) :
    pAt m c t (before m c t) k (ix2 r l) = Forward.pooled (aX m c) (aG m c) (aW m c) (row t r) (Mix.col k l) := by
  unfold pAt
  rw [(idx t).2.2.2.2.2.2.2.2.2.1]
  exact (rows_at m c t).pooledOf k r l

/-- The mixed rows. -/
theorem mixed_at (t : Fin cfg0.N) (r : Fin 512) (j : Fin 1024) :
    mixFrom (pAt m c t (before m c t)) (iblk m c 3 t) (ix2 r j)
      = Forward.mixed (aX m c) (aG m c) (aW m c) (aWm m c) (row t r) j :=
  (mixFrom_apply _ _ r j).trans (Finset.sum_congr rfl fun d _ => congrArg₂ _ (p_at m c t _ r d) (weights_at m c t _ d _))

theorem pTile_at (t : Fin cfg0.N) (r : Fin 512) (j : Fin 1024) :
    pTile m c t (before m c t) (ix2 r j) = Forward.pooled (aX m c) (aG m c) (aW m c) (row t r) j := by
  refine (p_at m c t (Mix.grp j) r (Mix.lane j)).trans (congrArg (Forward.pooled _ _ _ _) (Fin.ext ?_))
  show 256 * (j.val / 256) + j.val % 256 = j.val
  omega

theorem xTile_at (t : Fin cfg0.N) (r : Fin 512) (j : Fin 1024) :
    xTile m c t (before m c t) (ix2 r j)
      = Forward.out (aX m c) (aG m c) (aW m c) (aWm m c) (aSc m c) (aWo m c) (row t r) j := by
  refine (layer_apply _ _ _ _ _ r j).trans (congrArg₂ _ (input m c t r j) (Finset.sum_congr rfl fun k _ => ?_))
  rw [mixed_at, sc_at, z_at, wo_at]

/-! ## The results -/

/-- The layer's output. -/
theorem final_x : (dats m 0 c).arrAt 6 (cfgs 0).N
    = fun y : S8192x1024.Idx => Forward.out (aX m c) (aG m c) (aW m c) (aWm m c) (aSc m c) (aWo m c) (y 0) (y 1) := by
  refine (dats m 0 c).arrAt_eq_of_covers 6 _ (by decide +kernel) fun t _ y => ?_
  blk_simp
  rw [after0_6, outs_x]
  obtain ⟨r, j, rfl⟩ := AttnIn.at2 y
  refine (xTile_at m c t r j).trans ?_
  refine congrArg₂ (Forward.out _ _ _ _ _ _) (Fin.ext ?_) (Fin.ext ?_)
  · blk_simp [idx t]
    show 512 * t.val + r.val = t.val * 512 + r.val
    omega
  · blk_simp [idx t]

/-- The pooled rows. -/
theorem final_p : (dats m 0 c).arrAt 7 (cfgs 0).N
    = fun y : S8192x1024.Idx => Forward.pooled (aX m c) (aG m c) (aW m c) (y 0) (y 1) := by
  refine (dats m 0 c).arrAt_eq_of_covers 7 _ (by decide +kernel) fun t _ y => ?_
  blk_simp
  rw [after0_7, outs_p]
  obtain ⟨r, j, rfl⟩ := AttnIn.at2 y
  refine (pTile_at m c t r j).trans ?_
  refine congrArg₂ (Forward.pooled _ _ _) (Fin.ext ?_) (Fin.ext ?_)
  · blk_simp [idx t]
    show 512 * t.val + r.val = t.val * 512 + r.val
    omega
  · blk_simp [idx t]

/-- The gate's argument. -/
theorem final_z : (dats m 0 c).arrAt 8 (cfgs 0).N
    = fun y : S8192x1024.Idx => Forward.gateArg (aX m c) (aG m c) (aW m c) (y 0) (y 1) := by
  refine (dats m 0 c).arrAt_eq_of_covers 8 _ (by decide +kernel) fun t _ y => ?_
  blk_simp
  rw [after0_8, outs_z]
  obtain ⟨r, j, rfl⟩ := AttnIn.at2 y
  refine (z_at m c t r j).trans ?_
  refine congrArg₂ (Forward.gateArg _ _ _) (Fin.ext ?_) (Fin.ext ?_)
  · blk_simp [idx t]
    show 512 * t.val + r.val = t.val * 512 + r.val
    omega
  · blk_simp [idx t]

end Cert.ForwardIdeal.Block

end
-- ==== Proof.FEquation.lean ====
/-
  The pooling mixer's layer and its reference leave the same results from arguments that agree, when the gain and the
  input projection's weights are finite.
-/
module

public import proofs.«01_k».proof.Proof.FRef
public import proofs.«01_k».proof.Proof.FArr
public import proofs.«01_k».proof.Proof.MEquation
public import proofs.«01_k».proof.Proof.Gen.ForwardReferenceIdeal.Run
public import proofs.«01_k».proof.Proof.Gen.ForwardReferenceIdeal.Read
public import proofs.«01_k».proof.Proof.Gen.ForwardIdeal
public import proofs.«01_k».proof.Proof.Gen.ForwardIdeal.Frame
public import proofs.«01_k».proof.Defs
public import Idealize.ShloMosaic.Lib.Claim

@[expose] public section

set_option maxRecDepth 16384

noncomputable section

namespace Cert.ForwardEquation

open Idealize.ShloMosaic Idealize.SL.Sem
open Cert.MixEquation (real_of_between ofBits_inf ofBits_neg_inf)

/-- The precondition says that the gain and the input projection's weights are real numbers. -/
theorem real_of_pre [Cert.Pre_weights_finite.Facts]
    (m : (ℓ : Loc Cert.ForwardIdeal.nD Cert.ForwardIdeal.τ Cert.ForwardIdeal.sig) → Buf (Elt Ideal) ℓ)
    (hpre : Cert.Pre_ForwardIdeal_weights_finite m) (c : Dev Cert.ForwardIdeal.nD) :
    (∀ i, Mix.Real (Cert.ForwardIdeal.Block.aG m c i)) ∧ (∀ i, Mix.Real (Cert.ForwardIdeal.Block.aW m c i)) := by
  obtain ⟨h0, h1, h2, h3⟩ := hpre c
  exact ⟨fun i => real_of_between _ _ _ ofBits_inf ofBits_neg_inf (congrFun h0 i) (congrFun h1 i),
    fun i => real_of_between _ _ _ ofBits_inf ofBits_neg_inf (congrFun h2 i) (congrFun h3 i)⟩

set_option maxHeartbeats 1600000 in
/-- The kernel's results are the reference's. -/
theorem algebraic [Cert.Pre_weights_finite.Facts] :
    Cert.algebraic_ForwardIdeal_ForwardReferenceIdeal_pre_weights_finite := by
  pair_intro
  · run_from Cert.ForwardIdeal.Gen.run_main m g
  · run_from Cert.ForwardReferenceIdeal.Value.run m' g'
    · obtain ⟨h0, h1, h2, h3, h4, h5⟩ := hagree c
      obtain ⟨hg, hw⟩ := real_of_pre m hpre c
      rw [Cert.ForwardIdeal.Block.final_x m c]
      refine (Cert.ForwardReferenceIdeal.Read.val_main_v110_eq (F := Ideal) m' c).trans ?_
      rw [h0, h1, h2, h3, h4, h5]
      funext y
      obtain ⟨u, j, rfl⟩ := AttnIn.at2 y
      exact Cert.ForwardReferenceIdeal.Block.out_x _ _ _ _ _ _ hg hw u j
    · obtain ⟨h0, h1, h2, h3, h4, h5⟩ := hagree c
      obtain ⟨hg, hw⟩ := real_of_pre m hpre c
      rw [Cert.ForwardIdeal.Block.final_p m c]
      refine (Cert.ForwardReferenceIdeal.Read.val_main_v112_eq (F := Ideal) m' c).trans ?_
      rw [h0, h1, h2]
      funext y
      obtain ⟨u, j, rfl⟩ := AttnIn.at2 y
      exact Cert.ForwardReferenceIdeal.Block.out_p _ _ _ hg hw u j
    · rw [Cert.ForwardIdeal.Block.final_z m c]
      refine (Cert.ForwardReferenceIdeal.Read.val_main_v113_eq (F := Ideal) _ _ _).trans ?_
      funext y
      obtain ⟨u, j, rfl⟩ := AttnIn.at2 y
      exact Cert.ForwardReferenceIdeal.Block.out_z _ _ _ u j

end Cert.ForwardEquation

end
-- ==== Proof.lean ====
/- The claim about the kernels: the frames, that their idealizations are the kernels themselves, and their results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.RefFrame
public import proofs.«01_k».proof.Proof.Equation
public import proofs.«01_k».proof.Proof.Gen.ReferenceIdeal.Run
public import proofs.«01_k».proof.Proof.Gen.ReferenceIdeal.Read
public import proofs.«01_k».proof.Proof.AttnFrame
public import proofs.«01_k».proof.Proof.AEquation
public import proofs.«01_k».proof.Proof.AttnInputsFrame
public import proofs.«01_k».proof.Proof.IEquation
public import proofs.«01_k».proof.Proof.AttnWeightsFrame
public import proofs.«01_k».proof.Proof.WEquation
public import proofs.«01_k».proof.Proof.MixFrame
public import proofs.«01_k».proof.Proof.MEquation
public import proofs.«01_k».proof.Proof.ProjectFrame
public import proofs.«01_k».proof.Proof.QEquation
public import proofs.«01_k».proof.Proof.ForwardFrame
public import proofs.«01_k».proof.Proof.FEquation
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnReferenceIdeal.Run
public import proofs.«01_k».proof.Proof.Gen.AttnReferenceIdeal.Read
public import proofs.«01_k».proof.Proof.Gen.AttnReferenceIdeal
public import proofs.«01_k».proof.Proof.Gen.AttnInputs
public import proofs.«01_k».proof.Proof.Gen.AttnInputs.Frame
public import proofs.«01_k».proof.Proof.Gen.AttnInputsIdeal
public import proofs.«01_k».proof.Proof.Gen.AttnInputsIdeal.Frame
public import proofs.«01_k».proof.Proof.Gen.AttnInputsReferenceIdeal.Run
public import proofs.«01_k».proof.Proof.Gen.AttnInputsReferenceIdeal.Read
public import proofs.«01_k».proof.Proof.Gen.AttnInputsReferenceIdeal
public import proofs.«01_k».proof.Proof.Gen.AttnWeights
public import proofs.«01_k».proof.Proof.Gen.AttnWeights.Frame
public import proofs.«01_k».proof.Proof.Gen.AttnWeightsIdeal
public import proofs.«01_k».proof.Proof.Gen.AttnWeightsIdeal.Frame
public import proofs.«01_k».proof.Proof.Gen.AttnWeightsReferenceIdeal.Run
public import proofs.«01_k».proof.Proof.Gen.AttnWeightsReferenceIdeal.Read
public import proofs.«01_k».proof.Proof.Gen.AttnWeightsReferenceIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal.Run
public import proofs.«01_k».proof.Proof.Gen.MixReferenceIdeal.Read
public import proofs.«01_k».proof.Proof.Gen.MixReferenceIdeal
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectReferenceIdeal.Run
public import proofs.«01_k».proof.Proof.Gen.ProjectReferenceIdeal.Read
public import proofs.«01_k».proof.Proof.Gen.ProjectReferenceIdeal
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.ForwardReferenceIdeal.Run
public import proofs.«01_k».proof.Proof.Gen.ForwardReferenceIdeal.Read
public import proofs.«01_k».proof.Proof.Gen.ForwardReferenceIdeal

@[expose] public section

noncomputable section

namespace Cert.Proof

open Idealize.ShloMosaic Idealize.SL.Sem

/-- The facts of the first precondition's own operation. -/
theorem preFacts : Cert.Pre_dp_finite.Facts := ⟨by decide⟩

/-- The facts of the second precondition's own operations. -/
theorem allFacts : Cert.Pre_all_finite.Facts := ⟨by decide, by decide, by decide, by decide⟩

/-- The facts of the third precondition's own operations. -/
theorem weightsFacts : Cert.Pre_weights_finite.Facts := ⟨by decide, by decide⟩

/-- Every conjunct: the frames of the kernels, of their idealizations and of the references, the idealizations, and the
    equalities of the results. -/
theorem claim : Cert.Claim :=
  ⟨Cert.Kernel.Gen.facts, Cert.KernelIdeal.Gen.facts, Cert.ReferenceIdeal.Gen.facts,
    Cert.Attn.Gen.facts, Cert.AttnIdeal.Gen.facts,
    Cert.AttnReferenceIdeal.Gen.facts, Cert.AttnInputs.Gen.facts, Cert.AttnInputsIdeal.Gen.facts,
    Cert.AttnInputsReferenceIdeal.Gen.facts, Cert.AttnWeights.Gen.facts, Cert.AttnWeightsIdeal.Gen.facts,
    Cert.AttnWeightsReferenceIdeal.Gen.facts, Cert.Mix.Gen.facts, Cert.MixIdeal.Gen.facts, Cert.MixReferenceIdeal.Gen.facts,
    Cert.Project.Gen.facts, Cert.ProjectIdeal.Gen.facts, Cert.ProjectReferenceIdeal.Gen.facts,
    Cert.Forward.Gen.facts, Cert.ForwardIdeal.Gen.facts, Cert.ForwardReferenceIdeal.Gen.facts, preFacts, allFacts,
    weightsFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Framed.frame m ρ,
    fun m ρ _ => Cert.ReferenceIdeal.Framed.frame m ρ,
    fun m ρ _ => Cert.Attn.Gen.frame m ρ,
    fun m ρ _ => Cert.AttnIdeal.Gen.frame m ρ,
    fun m ρ _ => Cert.AttnReferenceIdeal.Framed.frame m ρ,
    fun m ρ _ => Cert.AttnInputs.Gen.frame m ρ,
    fun m ρ _ => Cert.AttnInputsIdeal.Gen.frame m ρ,
    fun m ρ _ => Cert.AttnInputsReferenceIdeal.Framed.frame m ρ,
    fun m ρ _ => Cert.AttnWeights.Gen.frame m ρ,
    fun m ρ _ => Cert.AttnWeightsIdeal.Gen.frame m ρ,
    fun m ρ _ => Cert.AttnWeightsReferenceIdeal.Framed.frame m ρ,
    fun m ρ _ => Cert.Mix.Gen.frame m ρ,
    fun m ρ _ => Cert.MixIdeal.Gen.frame m ρ,
    fun m ρ _ => Cert.MixIdeal.Gen.frame m ρ,
    fun m ρ _ => Cert.MixReferenceIdeal.Framed.frame m ρ,
    fun m ρ _ => Cert.MixReferenceIdeal.Framed.frame m ρ,
    fun m ρ _ => Cert.Project.Gen.frame m ρ,
    fun m ρ _ => Cert.ProjectIdeal.Gen.frame m ρ,
    fun m ρ _ => Cert.ProjectReferenceIdeal.Framed.frame m ρ,
    fun m ρ _ => Cert.Forward.Gen.frame m ρ,
    fun m ρ _ => Cert.ForwardIdeal.Gen.frame m ρ,
    fun m ρ _ => Cert.ForwardIdeal.Gen.frame m ρ,
    fun m ρ _ => Cert.ForwardReferenceIdeal.Framed.frame m ρ,
    fun m ρ _ => Cert.ForwardReferenceIdeal.Framed.frame m ρ,
    trivial,
    @Cert.Equation.algebraic preFacts,
    trivial,
    Cert.AttnEquation.algebraic,
    trivial,
    Cert.AttnInputsEquation.algebraic,
    trivial,
    Cert.AttnWeightsEquation.algebraic,
    trivial,
    @Cert.MixEquation.algebraic allFacts,
    trivial,
    Cert.ProjectEquation.algebraic,
    trivial,
    @Cert.ForwardEquation.algebraic weightsFacts⟩

end Cert.Proof

end
